-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_LateKernel (m : (ℓ : Loc Cert.LateKernel.nD Cert.LateKernel.τ Cert.LateKernel.sig) → Buf (Elt Bits) ℓ) : Prop :=
  True

def Pre_LateKernelIdeal (m : (ℓ : Loc Cert.LateKernelIdeal.nD Cert.LateKernelIdeal.τ Cert.LateKernelIdeal.sig) → Buf (Elt Ideal) ℓ) : Prop :=
  True

def Pre_LateReferenceIdeal (m : (ℓ : Loc Cert.LateReferenceIdeal.nD Cert.LateReferenceIdeal.τ Cert.LateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6)
      ∧ r.2.mem ((c.tc : Thread Cert.UpKernel.nD Cert.UpKernel.τ).loc Cert.UpKernel.main_arg7) = m ((c.tc : Thread Cert.UpKernel.nD Cert.UpKernel.τ).loc Cert.UpKernel.main_arg7)
      ∧ r.2.mem ((c.tc : Thread Cert.UpKernel.nD Cert.UpKernel.τ).loc Cert.UpKernel.main_arg8) = m ((c.tc : Thread Cert.UpKernel.nD Cert.UpKernel.τ).loc Cert.UpKernel.main_arg8))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
      ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
      ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8))
      ∧ r.2.sem = fun _ => 0)

def quiescent_LateKernel [hLateKernel : Cert.LateKernel.Facts] : Prop :=
  ∀ (m : (ℓ : Loc Cert.LateKernel.nD Cert.LateKernel.τ Cert.LateKernel.sig) → Buf (Elt Bits) ℓ) (g : Dev Cert.LateKernel.nD → PrngReg), Pre_LateKernel m →
    θ_run (Cert.LateKernel.defs (F := Bits)) (onTc (τ := Cert.LateKernel.τ) (Cert.LateKernel.main (F := Bits))) ⟨m, fun _ => 0, g⟩ (fun r => (∀ c : Dev Cert.LateKernel.nD,
      r.2.mem ((c.tc : Thread Cert.LateKernel.nD Cert.LateKernel.τ).loc Cert.LateKernel.main_arg0) = m ((c.tc : Thread Cert.LateKernel.nD Cert.LateKernel.τ).loc Cert.LateKernel.main_arg0)
      ∧ r.2.mem ((c.tc : Thread Cert.LateKernel.nD Cert.LateKernel.τ).loc Cert.LateKernel.main_arg1) = m ((c.tc : Thread Cert.LateKernel.nD Cert.LateKernel.τ).loc Cert.LateKernel.main_arg1)
      ∧ r.2.mem ((c.tc : Thread Cert.LateKernel.nD Cert.LateKernel.τ).loc Cert.LateKernel.main_arg2) = m ((c.tc : Thread Cert.LateKernel.nD Cert.LateKernel.τ).loc Cert.LateKernel.main_arg2)
      ∧ r.2.mem ((c.tc : Thread Cert.LateKernel.nD Cert.LateKernel.τ).loc Cert.LateKernel.main_arg3) = m ((c.tc : Thread Cert.LateKernel.nD Cert.LateKernel.τ).loc Cert.LateKernel.main_arg3)
      ∧ r.2.mem ((c.tc : Thread Cert.LateKernel.nD Cert.LateKernel.τ).loc Cert.LateKernel.main_arg4) = m ((c.tc : Thread Cert.LateKernel.nD Cert.LateKernel.τ).loc Cert.LateKernel.main_arg4)
      ∧ r.2.mem ((c.tc : Thread Cert.LateKernel.nD Cert.LateKernel.τ).loc Cert.LateKernel.main_arg5) = m ((c.tc : Thread Cert.LateKernel.nD Cert.LateKernel.τ).loc Cert.LateKernel.main_arg5)
      ∧ r.2.mem ((c.tc : Thread Cert.LateKernel.nD Cert.LateKernel.τ).loc Cert.LateKernel.main_arg6) = m ((c.tc : Thread Cert.LateKernel.nD Cert.LateKernel.τ).loc Cert.LateKernel.main_arg6)
      ∧ r.2.mem ((c.tc : Thread Cert.LateKernel.nD Cert.LateKernel.τ).loc Cert.LateKernel.main_arg7) = m ((c.tc : Thread Cert.LateKernel.nD Cert.LateKernel.τ).loc Cert.LateKernel.main_arg7))
      ∧ r.2.sem = fun _ => 0)

def quiescent_LateKernelIdeal [hLateKernelIdeal : Cert.LateKernelIdeal.Facts] : Prop :=
  ∀ (m : (ℓ : Loc Cert.LateKernelIdeal.nD Cert.LateKernelIdeal.τ Cert.LateKernelIdeal.sig) → Buf (Elt Ideal) ℓ) (g : Dev Cert.LateKernelIdeal.nD → PrngReg), Pre_LateKernelIdeal m →
    θ_run (Cert.LateKernelIdeal.defs (F := Ideal)) (onTc (τ := Cert.LateKernelIdeal.τ) (Cert.LateKernelIdeal.main (F := Ideal))) ⟨m, fun _ => 0, g⟩ (fun r => (∀ c : Dev Cert.LateKernelIdeal.nD,
      r.2.mem ((c.tc : Thread Cert.LateKernelIdeal.nD Cert.LateKernelIdeal.τ).loc Cert.LateKernelIdeal.main_arg0) = m ((c.tc : Thread Cert.LateKernelIdeal.nD Cert.LateKernelIdeal.τ).loc Cert.LateKernelIdeal.main_arg0)
      ∧ r.2.mem ((c.tc : Thread Cert.LateKernelIdeal.nD Cert.LateKernelIdeal.τ).loc Cert.LateKernelIdeal.main_arg1) = m ((c.tc : Thread Cert.LateKernelIdeal.nD Cert.LateKernelIdeal.τ).loc Cert.LateKernelIdeal.main_arg1)
      ∧ r.2.mem ((c.tc : Thread Cert.LateKernelIdeal.nD Cert.LateKernelIdeal.τ).loc Cert.LateKernelIdeal.main_arg2) = m ((c.tc : Thread Cert.LateKernelIdeal.nD Cert.LateKernelIdeal.τ).loc Cert.LateKernelIdeal.main_arg2)
      ∧ r.2.mem ((c.tc : Thread Cert.LateKernelIdeal.nD Cert.LateKernelIdeal.τ).loc Cert.LateKernelIdeal.main_arg3) = m ((c.tc : Thread Cert.LateKernelIdeal.nD Cert.LateKernelIdeal.τ).loc Cert.LateKernelIdeal.main_arg3)
      ∧ r.2.mem ((c.tc : Thread Cert.LateKernelIdeal.nD Cert.LateKernelIdeal.τ).loc Cert.LateKernelIdeal.main_arg4) = m ((c.tc : Thread Cert.LateKernelIdeal.nD Cert.LateKernelIdeal.τ).loc Cert.LateKernelIdeal.main_arg4)
      ∧ r.2.mem ((c.tc : Thread Cert.LateKernelIdeal.nD Cert.LateKernelIdeal.τ).loc Cert.LateKernelIdeal.main_arg5) = m ((c.tc : Thread Cert.LateKernelIdeal.nD Cert.LateKernelIdeal.τ).loc Cert.LateKernelIdeal.main_arg5)
      ∧ r.2.mem ((c.tc : Thread Cert.LateKernelIdeal.nD Cert.LateKernelIdeal.τ).loc Cert.LateKernelIdeal.main_arg6) = m ((c.tc : Thread Cert.LateKernelIdeal.nD Cert.LateKernelIdeal.τ).loc Cert.LateKernelIdeal.main_arg6)
      ∧ r.2.mem ((c.tc : Thread Cert.LateKernelIdeal.nD Cert.LateKernelIdeal.τ).loc Cert.LateKernelIdeal.main_arg7) = m ((c.tc : Thread Cert.LateKernelIdeal.nD Cert.LateKernelIdeal.τ).loc Cert.LateKernelIdeal.main_arg7))
      ∧ r.2.sem = fun _ => 0)

def quiescent_LateReferenceIdeal [hLateReferenceIdeal : Cert.LateReferenceIdeal.Facts] : Prop :=
  ∀ (m : (ℓ : Loc Cert.LateReferenceIdeal.nD Cert.LateReferenceIdeal.τ Cert.LateReferenceIdeal.sig) → Buf (Elt Ideal) ℓ) (g : Dev Cert.LateReferenceIdeal.nD → PrngReg), Pre_LateReferenceIdeal m →
    θ_run (Cert.LateReferenceIdeal.defs (F := Ideal)) (onTc (τ := Cert.LateReferenceIdeal.τ) (Cert.LateReferenceIdeal.main (F := Ideal))) ⟨m, fun _ => 0, g⟩ (fun r => (∀ c : Dev Cert.LateReferenceIdeal.nD,
      r.2.mem ((c.tc : Thread Cert.LateReferenceIdeal.nD Cert.LateReferenceIdeal.τ).loc Cert.LateReferenceIdeal.main_arg0) = m ((c.tc : Thread Cert.LateReferenceIdeal.nD Cert.LateReferenceIdeal.τ).loc Cert.LateReferenceIdeal.main_arg0)
      ∧ r.2.mem ((c.tc : Thread Cert.LateReferenceIdeal.nD Cert.LateReferenceIdeal.τ).loc Cert.LateReferenceIdeal.main_arg1) = m ((c.tc : Thread Cert.LateReferenceIdeal.nD Cert.LateReferenceIdeal.τ).loc Cert.LateReferenceIdeal.main_arg1)
      ∧ r.2.mem ((c.tc : Thread Cert.LateReferenceIdeal.nD Cert.LateReferenceIdeal.τ).loc Cert.LateReferenceIdeal.main_arg2) = m ((c.tc : Thread Cert.LateReferenceIdeal.nD Cert.LateReferenceIdeal.τ).loc Cert.LateReferenceIdeal.main_arg2)
      ∧ r.2.mem ((c.tc : Thread Cert.LateReferenceIdeal.nD Cert.LateReferenceIdeal.τ).loc Cert.LateReferenceIdeal.main_arg3) = m ((c.tc : Thread Cert.LateReferenceIdeal.nD Cert.LateReferenceIdeal.τ).loc Cert.LateReferenceIdeal.main_arg3)
      ∧ r.2.mem ((c.tc : Thread Cert.LateReferenceIdeal.nD Cert.LateReferenceIdeal.τ).loc Cert.LateReferenceIdeal.main_arg4) = m ((c.tc : Thread Cert.LateReferenceIdeal.nD Cert.LateReferenceIdeal.τ).loc Cert.LateReferenceIdeal.main_arg4)
      ∧ r.2.mem ((c.tc : Thread Cert.LateReferenceIdeal.nD Cert.LateReferenceIdeal.τ).loc Cert.LateReferenceIdeal.main_arg5) = m ((c.tc : Thread Cert.LateReferenceIdeal.nD Cert.LateReferenceIdeal.τ).loc Cert.LateReferenceIdeal.main_arg5)
      ∧ r.2.mem ((c.tc : Thread Cert.LateReferenceIdeal.nD Cert.LateReferenceIdeal.τ).loc Cert.LateReferenceIdeal.main_arg6) = m ((c.tc : Thread Cert.LateReferenceIdeal.nD Cert.LateReferenceIdeal.τ).loc Cert.LateReferenceIdeal.main_arg6)
      ∧ r.2.mem ((c.tc : Thread Cert.LateReferenceIdeal.nD Cert.LateReferenceIdeal.τ).loc Cert.LateReferenceIdeal.main_arg7) = m ((c.tc : Thread Cert.LateReferenceIdeal.nD Cert.LateReferenceIdeal.τ).loc Cert.LateReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v9)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v9) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v25) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)) →
    ∃ (v0 : (c : Dev Cert.InKernelIdeal.nD) → Buf (Elt Ideal) ((c.tc : Thread Cert.InKernelIdeal.nD Cert.InKernelIdeal.τ).loc Cert.InKernelIdeal.main_v23_0)) (v1 : (c : Dev Cert.InKernelIdeal.nD) → Buf (Elt Ideal) ((c.tc : Thread Cert.InKernelIdeal.nD Cert.InKernelIdeal.τ).loc Cert.InKernelIdeal.main_v23_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v23_0) = v0 c
          ∧ r.2.mem ((c.tc : Thread Cert.InKernelIdeal.nD Cert.InKernelIdeal.τ).loc Cert.InKernelIdeal.main_v23_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v189) = v0 c
          ∧ r.2.mem ((c.tc : Thread Cert.InReferenceIdeal.nD Cert.InReferenceIdeal.τ).loc Cert.InReferenceIdeal.main_v191) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)) →
    ∃ (v0 : (c : Dev Cert.MidKernelIdeal.nD) → Buf (Elt Ideal) ((c.tc : Thread Cert.MidKernelIdeal.nD Cert.MidKernelIdeal.τ).loc Cert.MidKernelIdeal.main_v11)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v11) = v0 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v30) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)
      ∧ m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6)
      ∧ m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7)
      ∧ m' ((c.tc : Thread Cert.UpReferenceIdeal.nD Cert.UpReferenceIdeal.τ).loc Cert.UpReferenceIdeal.main_arg8) = m ((c.tc : Thread Cert.UpKernelIdeal.nD Cert.UpKernelIdeal.τ).loc Cert.UpKernelIdeal.main_arg8)) →
    ∃ (v0 : (c : Dev Cert.UpKernelIdeal.nD) → Buf (Elt Ideal) ((c.tc : Thread Cert.UpKernelIdeal.nD Cert.UpKernelIdeal.τ).loc Cert.UpKernelIdeal.main_v43_0)) (v1 : (c : Dev Cert.UpKernelIdeal.nD) → Buf (Elt Ideal) ((c.tc : Thread Cert.UpKernelIdeal.nD Cert.UpKernelIdeal.τ).loc Cert.UpKernelIdeal.main_v43_1)) (v2 : (c : Dev Cert.UpKernelIdeal.nD) → Buf (Elt Ideal) ((c.tc : Thread Cert.UpKernelIdeal.nD Cert.UpKernelIdeal.τ).loc Cert.UpKernelIdeal.main_v43_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v43_0) = v0 c
          ∧ r.2.mem ((c.tc : Thread Cert.UpKernelIdeal.nD Cert.UpKernelIdeal.τ).loc Cert.UpKernelIdeal.main_v43_1) = v1 c
          ∧ r.2.mem ((c.tc : Thread Cert.UpKernelIdeal.nD Cert.UpKernelIdeal.τ).loc Cert.UpKernelIdeal.main_v43_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
          ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
          ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v165) = v0 c
          ∧ r.2.mem ((c.tc : Thread Cert.UpReferenceIdeal.nD Cert.UpReferenceIdeal.τ).loc Cert.UpReferenceIdeal.main_v167) = v1 c
          ∧ r.2.mem ((c.tc : Thread Cert.UpReferenceIdeal.nD Cert.UpReferenceIdeal.τ).loc Cert.UpReferenceIdeal.main_v168) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7)
          ∧ r.2.mem ((c.tc : Thread Cert.UpReferenceIdeal.nD Cert.UpReferenceIdeal.τ).loc Cert.UpReferenceIdeal.main_arg8) = m' ((c.tc : Thread Cert.UpReferenceIdeal.nD Cert.UpReferenceIdeal.τ).loc Cert.UpReferenceIdeal.main_arg8))

def preserves_LateKernel_LateKernelIdeal : Prop :=
  True

def algebraic_LateKernelIdeal_LateReferenceIdeal [hLateKernelIdeal : Cert.LateKernelIdeal.Facts] [hLateReferenceIdeal : Cert.LateReferenceIdeal.Facts] : Prop :=
  ∀ (m : (ℓ : Loc Cert.LateKernelIdeal.nD Cert.LateKernelIdeal.τ Cert.LateKernelIdeal.sig) → Buf (Elt Ideal) ℓ) (g : Dev Cert.LateKernelIdeal.nD → PrngReg)
    (m' : (ℓ : Loc Cert.LateReferenceIdeal.nD Cert.LateReferenceIdeal.τ Cert.LateReferenceIdeal.sig) → Buf (Elt Ideal) ℓ) (g' : Dev Cert.LateReferenceIdeal.nD → PrngReg), Pre_LateKernelIdeal m →
    (∀ c : Dev Cert.LateKernelIdeal.nD,
      m' ((c.tc : Thread Cert.LateReferenceIdeal.nD Cert.LateReferenceIdeal.τ).loc Cert.LateReferenceIdeal.main_arg0) = m ((c.tc : Thread Cert.LateKernelIdeal.nD Cert.LateKernelIdeal.τ).loc Cert.LateKernelIdeal.main_arg0)
      ∧ m' ((c.tc : Thread Cert.LateReferenceIdeal.nD Cert.LateReferenceIdeal.τ).loc Cert.LateReferenceIdeal.main_arg1) = m ((c.tc : Thread Cert.LateKernelIdeal.nD Cert.LateKernelIdeal.τ).loc Cert.LateKernelIdeal.main_arg1)
      ∧ m' ((c.tc : Thread Cert.LateReferenceIdeal.nD Cert.LateReferenceIdeal.τ).loc Cert.LateReferenceIdeal.main_arg2) = m ((c.tc : Thread Cert.LateKernelIdeal.nD Cert.LateKernelIdeal.τ).loc Cert.LateKernelIdeal.main_arg2)
      ∧ m' ((c.tc : Thread Cert.LateReferenceIdeal.nD Cert.LateReferenceIdeal.τ).loc Cert.LateReferenceIdeal.main_arg3) = m ((c.tc : Thread Cert.LateKernelIdeal.nD Cert.LateKernelIdeal.τ).loc Cert.LateKernelIdeal.main_arg3)
      ∧ m' ((c.tc : Thread Cert.LateReferenceIdeal.nD Cert.LateReferenceIdeal.τ).loc Cert.LateReferenceIdeal.main_arg4) = m ((c.tc : Thread Cert.LateKernelIdeal.nD Cert.LateKernelIdeal.τ).loc Cert.LateKernelIdeal.main_arg4)
      ∧ m' ((c.tc : Thread Cert.LateReferenceIdeal.nD Cert.LateReferenceIdeal.τ).loc Cert.LateReferenceIdeal.main_arg5) = m ((c.tc : Thread Cert.LateKernelIdeal.nD Cert.LateKernelIdeal.τ).loc Cert.LateKernelIdeal.main_arg5)
      ∧ m' ((c.tc : Thread Cert.LateReferenceIdeal.nD Cert.LateReferenceIdeal.τ).loc Cert.LateReferenceIdeal.main_arg6) = m ((c.tc : Thread Cert.LateKernelIdeal.nD Cert.LateKernelIdeal.τ).loc Cert.LateKernelIdeal.main_arg6)
      ∧ m' ((c.tc : Thread Cert.LateReferenceIdeal.nD Cert.LateReferenceIdeal.τ).loc Cert.LateReferenceIdeal.main_arg7) = m ((c.tc : Thread Cert.LateKernelIdeal.nD Cert.LateKernelIdeal.τ).loc Cert.LateKernelIdeal.main_arg7)) →
    ∃ (v0 : (c : Dev Cert.LateKernelIdeal.nD) → Buf (Elt Ideal) ((c.tc : Thread Cert.LateKernelIdeal.nD Cert.LateKernelIdeal.τ).loc Cert.LateKernelIdeal.main_v21_0)) (v1 : (c : Dev Cert.LateKernelIdeal.nD) → Buf (Elt Ideal) ((c.tc : Thread Cert.LateKernelIdeal.nD Cert.LateKernelIdeal.τ).loc Cert.LateKernelIdeal.main_v21_1)),
      θ_run (Cert.LateKernelIdeal.defs (F := Ideal)) (onTc (τ := Cert.LateKernelIdeal.τ) (Cert.LateKernelIdeal.main (F := Ideal))) ⟨m, fun _ => 0, g⟩ (fun r => ∀ c : Dev Cert.LateKernelIdeal.nD,
          r.2.mem ((c.tc : Thread Cert.LateKernelIdeal.nD Cert.LateKernelIdeal.τ).loc Cert.LateKernelIdeal.main_v21_0) = v0 c
          ∧ r.2.mem ((c.tc : Thread Cert.LateKernelIdeal.nD Cert.LateKernelIdeal.τ).loc Cert.LateKernelIdeal.main_v21_1) = v1 c
          ∧ r.2.mem ((c.tc : Thread Cert.LateKernelIdeal.nD Cert.LateKernelIdeal.τ).loc Cert.LateKernelIdeal.main_arg0) = m ((c.tc : Thread Cert.LateKernelIdeal.nD Cert.LateKernelIdeal.τ).loc Cert.LateKernelIdeal.main_arg0)
          ∧ r.2.mem ((c.tc : Thread Cert.LateKernelIdeal.nD Cert.LateKernelIdeal.τ).loc Cert.LateKernelIdeal.main_arg1) = m ((c.tc : Thread Cert.LateKernelIdeal.nD Cert.LateKernelIdeal.τ).loc Cert.LateKernelIdeal.main_arg1)
          ∧ r.2.mem ((c.tc : Thread Cert.LateKernelIdeal.nD Cert.LateKernelIdeal.τ).loc Cert.LateKernelIdeal.main_arg2) = m ((c.tc : Thread Cert.LateKernelIdeal.nD Cert.LateKernelIdeal.τ).loc Cert.LateKernelIdeal.main_arg2)
          ∧ r.2.mem ((c.tc : Thread Cert.LateKernelIdeal.nD Cert.LateKernelIdeal.τ).loc Cert.LateKernelIdeal.main_arg3) = m ((c.tc : Thread Cert.LateKernelIdeal.nD Cert.LateKernelIdeal.τ).loc Cert.LateKernelIdeal.main_arg3)
          ∧ r.2.mem ((c.tc : Thread Cert.LateKernelIdeal.nD Cert.LateKernelIdeal.τ).loc Cert.LateKernelIdeal.main_arg4) = m ((c.tc : Thread Cert.LateKernelIdeal.nD Cert.LateKernelIdeal.τ).loc Cert.LateKernelIdeal.main_arg4)
          ∧ r.2.mem ((c.tc : Thread Cert.LateKernelIdeal.nD Cert.LateKernelIdeal.τ).loc Cert.LateKernelIdeal.main_arg5) = m ((c.tc : Thread Cert.LateKernelIdeal.nD Cert.LateKernelIdeal.τ).loc Cert.LateKernelIdeal.main_arg5)
          ∧ r.2.mem ((c.tc : Thread Cert.LateKernelIdeal.nD Cert.LateKernelIdeal.τ).loc Cert.LateKernelIdeal.main_arg6) = m ((c.tc : Thread Cert.LateKernelIdeal.nD Cert.LateKernelIdeal.τ).loc Cert.LateKernelIdeal.main_arg6)
          ∧ r.2.mem ((c.tc : Thread Cert.LateKernelIdeal.nD Cert.LateKernelIdeal.τ).loc Cert.LateKernelIdeal.main_arg7) = m ((c.tc : Thread Cert.LateKernelIdeal.nD Cert.LateKernelIdeal.τ).loc Cert.LateKernelIdeal.main_arg7))
      ∧ θ_run (Cert.LateReferenceIdeal.defs (F := Ideal)) (onTc (τ := Cert.LateReferenceIdeal.τ) (Cert.LateReferenceIdeal.main (F := Ideal))) ⟨m', fun _ => 0, g'⟩ (fun r => ∀ c : Dev Cert.LateReferenceIdeal.nD,
          r.2.mem ((c.tc : Thread Cert.LateReferenceIdeal.nD Cert.LateReferenceIdeal.τ).loc Cert.LateReferenceIdeal.main_v193) = v0 c
          ∧ r.2.mem ((c.tc : Thread Cert.LateReferenceIdeal.nD Cert.LateReferenceIdeal.τ).loc Cert.LateReferenceIdeal.main_v195) = v1 c
          ∧ r.2.mem ((c.tc : Thread Cert.LateReferenceIdeal.nD Cert.LateReferenceIdeal.τ).loc Cert.LateReferenceIdeal.main_arg0) = m' ((c.tc : Thread Cert.LateReferenceIdeal.nD Cert.LateReferenceIdeal.τ).loc Cert.LateReferenceIdeal.main_arg0)
          ∧ r.2.mem ((c.tc : Thread Cert.LateReferenceIdeal.nD Cert.LateReferenceIdeal.τ).loc Cert.LateReferenceIdeal.main_arg1) = m' ((c.tc : Thread Cert.LateReferenceIdeal.nD Cert.LateReferenceIdeal.τ).loc Cert.LateReferenceIdeal.main_arg1)
          ∧ r.2.mem ((c.tc : Thread Cert.LateReferenceIdeal.nD Cert.LateReferenceIdeal.τ).loc Cert.LateReferenceIdeal.main_arg2) = m' ((c.tc : Thread Cert.LateReferenceIdeal.nD Cert.LateReferenceIdeal.τ).loc Cert.LateReferenceIdeal.main_arg2)
          ∧ r.2.mem ((c.tc : Thread Cert.LateReferenceIdeal.nD Cert.LateReferenceIdeal.τ).loc Cert.LateReferenceIdeal.main_arg3) = m' ((c.tc : Thread Cert.LateReferenceIdeal.nD Cert.LateReferenceIdeal.τ).loc Cert.LateReferenceIdeal.main_arg3)
          ∧ r.2.mem ((c.tc : Thread Cert.LateReferenceIdeal.nD Cert.LateReferenceIdeal.τ).loc Cert.LateReferenceIdeal.main_arg4) = m' ((c.tc : Thread Cert.LateReferenceIdeal.nD Cert.LateReferenceIdeal.τ).loc Cert.LateReferenceIdeal.main_arg4)
          ∧ r.2.mem ((c.tc : Thread Cert.LateReferenceIdeal.nD Cert.LateReferenceIdeal.τ).loc Cert.LateReferenceIdeal.main_arg5) = m' ((c.tc : Thread Cert.LateReferenceIdeal.nD Cert.LateReferenceIdeal.τ).loc Cert.LateReferenceIdeal.main_arg5)
          ∧ r.2.mem ((c.tc : Thread Cert.LateReferenceIdeal.nD Cert.LateReferenceIdeal.τ).loc Cert.LateReferenceIdeal.main_arg6) = m' ((c.tc : Thread Cert.LateReferenceIdeal.nD Cert.LateReferenceIdeal.τ).loc Cert.LateReferenceIdeal.main_arg6)
          ∧ r.2.mem ((c.tc : Thread Cert.LateReferenceIdeal.nD Cert.LateReferenceIdeal.τ).loc Cert.LateReferenceIdeal.main_arg7) = m' ((c.tc : Thread Cert.LateReferenceIdeal.nD Cert.LateReferenceIdeal.τ).loc Cert.LateReferenceIdeal.main_arg7))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hMidKernel : Cert.MidKernel.Facts) (hMidKernelIdeal : Cert.MidKernelIdeal.Facts) (hMidReferenceIdeal : Cert.MidReferenceIdeal.Facts) (hUpKernel : Cert.UpKernel.Facts) (hUpKernelIdeal : Cert.UpKernelIdeal.Facts) (hUpReferenceIdeal : Cert.UpReferenceIdeal.Facts) (hLateKernel : Cert.LateKernel.Facts) (hLateKernelIdeal : Cert.LateKernelIdeal.Facts) (hLateReferenceIdeal : Cert.LateReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_LateKernel (hLateKernel := hLateKernel)
    ∧ quiescent_LateKernelIdeal (hLateKernelIdeal := hLateKernelIdeal)
    ∧ quiescent_LateReferenceIdeal (hLateReferenceIdeal := hLateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_MidKernel_MidKernelIdeal
    ∧ algebraic_MidKernelIdeal_MidReferenceIdeal (hMidKernelIdeal := hMidKernelIdeal) (hMidReferenceIdeal := hMidReferenceIdeal)
    ∧ preserves_UpKernel_UpKernelIdeal
    ∧ algebraic_UpKernelIdeal_UpReferenceIdeal (hUpKernelIdeal := hUpKernelIdeal) (hUpReferenceIdeal := hUpReferenceIdeal)
    ∧ preserves_LateKernel_LateKernelIdeal
    ∧ algebraic_LateKernelIdeal_LateReferenceIdeal (hLateKernelIdeal := hLateKernelIdeal) (hLateReferenceIdeal := hLateReferenceIdeal)
-- ==== Pre_finite.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S2x256x8x128 : Shape := ⟨4, ![2, 256, 8, 128]⟩
abbrev S2x256x64 : Shape := ⟨3, ![2, 256, 64]⟩
abbrev S2x4096x1024 : Shape := ⟨3, ![2, 4096, 1024]⟩
abbrev S_ : Shape := ⟨0, ![]⟩

class Facts : Prop where
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  h_S_ : 0 < S_.numel
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_
  bcast_S_S2x256x8x128 : S_.BroadcastsInDim S2x256x8x128 (![] : Fin 0 → Fin S2x256x8x128.rank)
  reducesTo_S2x256x8x128_S_d0_1_2_3 : S2x256x8x128.ReducesTo [0, 1, 2, 3] S_
  bcast_S_S2x256x64 : S_.BroadcastsInDim S2x256x64 (![] : Fin 0 → Fin S2x256x64.rank)
  reducesTo_S2x256x64_S_d0_1_2 : S2x256x64.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part2 {F : FTy → Type} [FloatOps F] (main_arg7 : FVec F S2x256x8x128 .bf16) (main_arg8 : FVec F S2x4096x1024 .bf16) (main_v33 : IVec S_ 1) : IVec S_ 1 :=
  let main_v34 : FVec F S2x256x8x128 .bf16 := Host.absf main_arg7
  let main_cst_12 : FVec F S_ .bf16 := constant S_ .bf16 0x7F80#16
  let main_v35 : FVec F S2x256x8x128 .bf16 := broadcastInDim S2x256x8x128 ![] bcast_S_S2x256x8x128 main_cst_12
  let main_v36 : IVec S2x256x8x128 1 := cmpf .olt main_v34 main_v35
  let main_c_13 : IVec S_ 1 := constantI S_ 1 1#1
  let main_v37 : IVec S_ 1 := (fun x v => Host.reduce IntOp.andi x v reducesTo_S2x256x8x128_S_d0_1_2_3 h_S_) main_v36 main_c_13
  let main_v38 : IVec S_ 1 := andi main_v33 main_v37
  let main_v39 : FVec F S2x4096x1024 .bf16 := Host.absf main_arg8
  let main_cst_14 : FVec F S_ .bf16 := constant S_ .bf16 0x7F80#16
  let main_v40 : FVec F S2x4096x1024 .bf16 := broadcastInDim S2x4096x1024 ![] bcast_S_S2x4096x1024 main_cst_14
  let main_v41 : IVec S2x4096x1024 1 := cmpf .olt main_v39 main_v40
  let main_c_15 : IVec S_ 1 := constantI S_ 1 1#1
  let main_v42 : IVec S_ 1 := (fun x v => Host.reduce IntOp.andi x v reducesTo_S2x4096x1024_S_d0_1_2 h_S_) main_v41 main_c_15
  let main_v43 : IVec S_ 1 := andi main_v38 main_v42
  main_v43

def fn_part1 {F : FTy → Type} [FloatOps F] (main_arg4 : FVec F S2x4096x8x128 .bf16) (main_arg5 : FVec F S2x256x8x128 .bf16) (main_arg6 : FVec F S2x256x64 .bf16) (main_arg7 : FVec F S2x256x8x128 .bf16) (main_arg8 : FVec F S2x4096x1024 .bf16) (main_v13 : IVec S_ 1) (main_v16 : IVec S2x4096x64 1) : IVec S_ 1 :=
  let main_c_5 : IVec S_ 1 := constantI S_ 1 1#1
  let main_v17 : IVec S_ 1 := (fun x v => Host.reduce IntOp.andi x v reducesTo_S2x4096x64_S_d0_1_2 h_S_) main_v16 main_c_5
  let main_v18 : IVec S_ 1 := andi main_v13 main_v17
  let main_v19 : FVec F S2x4096x8x128 .bf16 := Host.absf main_arg4
  let main_cst_6 : FVec F S_ .bf16 := constant S_ .bf16 0x7F80#16
  let main_v20 : FVec F S2x4096x8x128 .bf16 := broadcastInDim S2x4096x8x128 ![] bcast_S_S2x4096x8x128 main_cst_6
  let main_v21 : IVec S2x4096x8x128 1 := cmpf .olt main_v19 main_v20
  let main_c_7 : IVec S_ 1 := constantI S_ 1 1#1
  let main_v22 : IVec S_ 1 := (fun x v => Host.reduce IntOp.andi x v reducesTo_S2x4096x8x128_S_d0_1_2_3 h_S_) main_v21 main_c_7
  let main_v23 : IVec S_ 1 := andi main_v18 main_v22
  let main_v24 : FVec F S2x256x8x128 .bf16 := Host.absf main_arg5
  let main_cst_8 : FVec F S_ .bf16 := constant S_ .bf16 0x7F80#16
  let main_v25 : FVec F S2x256x8x128 .bf16 := broadcastInDim S2x256x8x128 ![] bcast_S_S2x256x8x128 main_cst_8
  let main_v26 : IVec S2x256x8x128 1 := cmpf .olt main_v24 main_v25
  let main_c_9 : IVec S_ 1 := constantI S_ 1 1#1
  let main_v27 : IVec S_ 1 := (fun x v => Host.reduce IntOp.andi x v reducesTo_S2x256x8x128_S_d0_1_2_3 h_S_) main_v26 main_c_9
  let main_v28 : IVec S_ 1 := andi main_v23 main_v27
  let main_v29 : FVec F S2x256x64 .bf16 := Host.absf main_arg6
  let main_cst_10 : FVec F S_ .bf16 := constant S_ .bf16 0x7F80#16
  let main_v30 : FVec F S2x256x64 .bf16 := broadcastInDim S2x256x64 ![] bcast_S_S2x256x64 main_cst_10
  let main_v31 : IVec S2x256x64 1 := cmpf .olt main_v29 main_v30
  let main_c_11 : IVec S_ 1 := constantI S_ 1 1#1
  let main_v32 : IVec S_ 1 := (fun x v => Host.reduce IntOp.andi x v reducesTo_S2x256x64_S_d0_1_2 h_S_) main_v31 main_c_11
  let main_v33 : IVec S_ 1 := andi main_v28 main_v32
  fn_part2 (F := F) main_arg7 main_arg8 main_v33

def fn {F : FTy → Type} [FloatOps F] (main_arg0 : FVec F S2x4096x8x128 .bf16) (main_arg1 : FVec F S2x4096x8x64 .bf16) (main_arg2 : FVec F S2x4096x8x128 .bf16) (main_arg3 : FVec F S2x4096x64 .bf16) (main_arg4 : FVec F S2x4096x8x128 .bf16) (main_arg5 : FVec F S2x256x8x128 .bf16) (main_arg6 : FVec F S2x256x64 .bf16) (main_arg7 : FVec F S2x256x8x128 .bf16) (main_arg8 : FVec F S2x4096x1024 .bf16) : IVec S_ 1 :=
  let main_v0 : FVec F S2x4096x8x128 .bf16 := Host.absf main_arg0
  let main_cst : FVec F S_ .bf16 := constant S_ .bf16 0x7F80#16
  let main_v1 : FVec F S2x4096x8x128 .bf16 := broadcastInDim S2x4096x8x128 ![] bcast_S_S2x4096x8x128 main_cst
  let main_v2 : IVec S2x4096x8x128 1 := cmpf .olt main_v0 main_v1
  let main_c : IVec S_ 1 := constantI S_ 1 1#1
  let main_v3 : IVec S_ 1 := (fun x v => Host.reduce IntOp.andi x v reducesTo_S2x4096x8x128_S_d0_1_2_3 h_S_) main_v2 main_c
  let main_v4 : FVec F S2x4096x8x64 .bf16 := Host.absf main_arg1
  let main_cst_0 : FVec F S_ .bf16 := constant S_ .bf16 0x7F80#16
  let main_v5 : FVec F S2x4096x8x64 .bf16 := broadcastInDim S2x4096x8x64 ![] bcast_S_S2x4096x8x64 main_cst_0
  let main_v6 : IVec S2x4096x8x64 1 := cmpf .olt main_v4 main_v5
  let main_c_1 : IVec S_ 1 := constantI S_ 1 1#1
  let main_v7 : IVec S_ 1 := (fun x v => Host.reduce IntOp.andi x v reducesTo_S2x4096x8x64_S_d0_1_2_3 h_S_) main_v6 main_c_1
  let main_v8 : IVec S_ 1 := andi main_v3 main_v7
  let main_v9 : FVec F S2x4096x8x128 .bf16 := Host.absf main_arg2
  let main_cst_2 : FVec F S_ .bf16 := constant S_ .bf16 0x7F80#16
  let main_v10 : FVec F S2x4096x8x128 .bf16 := broadcastInDim S2x4096x8x128 ![] bcast_S_S2x4096x8x128 main_cst_2
  let main_v11 : IVec S2x4096x8x128 1 := cmpf .olt main_v9 main_v10
  let main_c_3 : IVec S_ 1 := constantI S_ 1 1#1
  let main_v12 : IVec S_ 1 := (fun x v => Host.reduce IntOp.andi x v reducesTo_S2x4096x8x128_S_d0_1_2_3 h_S_) main_v11 main_c_3
  let main_v13 : IVec S_ 1 := andi main_v8 main_v12
  let main_v14 : FVec F S2x4096x64 .bf16 := Host.absf main_arg3
  let main_cst_4 : FVec F S_ .bf16 := constant S_ .bf16 0x7F80#16
  let main_v15 : FVec F S2x4096x64 .bf16 := broadcastInDim S2x4096x64 ![] bcast_S_S2x4096x64 main_cst_4
  let main_v16 : IVec S2x4096x64 1 := cmpf .olt main_v14 main_v15
  fn_part1 (F := F) main_arg4 main_arg5 main_arg6 main_arg7 main_arg8 main_v13 main_v16
-- ==== Kernel.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S2x256x8x128 : Shape := ⟨4, ![2, 256, 8, 128]⟩
abbrev S2x256x64 : Shape := ⟨3, ![2, 256, 64]⟩
abbrev S2x4096x1024 : Shape := ⟨3, ![2, 4096, 1024]⟩
abbrev S_ : Shape := ⟨0, ![]⟩
abbrev S8192x8x128 : Shape := ⟨3, ![8192, 8, 128]⟩
abbrev S8x8192x128 : Shape := ⟨3, ![8, 8192, 128]⟩
abbrev S8192x4x128 : Shape := ⟨3, ![8192, 4, 128]⟩
abbrev S4x8192x128 : Shape := ⟨3, ![4, 8192, 128]⟩
abbrev S4x1x8192x128 : Shape := ⟨4, ![4, 1, 8192, 128]⟩
abbrev S4x2x8192x128 : Shape := ⟨4, ![4, 2, 8192, 128]⟩
abbrev S8x8192x256 : Shape := ⟨3, ![8, 8192, 256]⟩
abbrev S8x512x256 : Shape := ⟨3, ![8, 512, 256]⟩
abbrev S8x8704x256 : Shape := ⟨3, ![8, 8704, 256]⟩
abbrev S512x8x128 : Shape := ⟨3, ![512, 8, 128]⟩
abbrev S8704x8x128 : Shape := ⟨3, ![8704, 8, 128]⟩
abbrev S8192x64 : Shape := ⟨2, ![8192, 64]⟩
abbrev S512x64 : Shape := ⟨2, ![512, 64]⟩
abbrev S8704x64 : Shape := ⟨2, ![8704, 64]⟩
abbrev S8704x128 : Shape := ⟨2, ![8704, 128]⟩
abbrev S1x8704x128 : Shape := ⟨3, ![1, 8704, 128]⟩
abbrev S2x8704x128 : Shape := ⟨3, ![2, 8704, 128]⟩
abbrev S1x2x8704x128 : Shape := ⟨4, ![1, 2, 8704, 128]⟩
abbrev S4x2x8704x128 : Shape := ⟨4, ![4, 2, 8704, 128]⟩
abbrev S8x8704x128 : Shape := ⟨3, ![8, 8704, 128]⟩
abbrev S34x256x8x128 : Shape := ⟨4, ![34, 256, 8, 128]⟩
abbrev S8x34x128x256 : Shape := ⟨4, ![8, 34, 128, 256]⟩
abbrev S8x34x1x256 : Shape := ⟨4, ![8, 34, 1, 256]⟩
abbrev S8x34x15x256 : Shape := ⟨4, ![8, 34, 15, 256]⟩
abbrev S8x34x144x256 : Shape := ⟨4, ![8, 34, 144, 256]⟩
abbrev S8192x1024 : Shape := ⟨2, ![8192, 1024]⟩
abbrev S8704x4352 : Shape := ⟨2, ![8704, 4352]⟩
abbrev S1x2048x256 : Shape := ⟨3, ![1, 2048, 256]⟩
abbrev S1x4096x256 : Shape := ⟨3, ![1, 4096, 256]⟩
abbrev S1x16x144x256 : Shape := ⟨4, ![1, 16, 144, 256]⟩
abbrev S1x256x256 : Shape := ⟨3, ![1, 256, 256]⟩
abbrev S1x1x144x256 : Shape := ⟨4, ![1, 1, 144, 256]⟩
abbrev S2048x128 : Shape := ⟨2, ![2048, 128]⟩
abbrev S1x512x256 : Shape := ⟨3, ![1, 512, 256]⟩
abbrev S512x256 : Shape := ⟨2, ![512, 256]⟩
abbrev S144x256 : Shape := ⟨2, ![144, 256]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S256x128 : Shape := ⟨2, ![256, 128]⟩

abbrev nBuf : Space → Nat
  | .hbm => 66
  | .vmem => 14
  | .smem => 0
  | _ => 0

abbrev bufTy : (tb : Table) → Fin (tcTables nBuf tb) → BufTy
  | .hbm, ⟨0, _⟩ => ⟨S2x4096x8x128, .bf16⟩
  | .hbm, ⟨1, _⟩ => ⟨S2x4096x8x64, .bf16⟩
  | .hbm, ⟨2, _⟩ => ⟨S2x4096x8x128, .bf16⟩
  | .hbm, ⟨3, _⟩ => ⟨S2x4096x64, .bf16⟩
  | .hbm, ⟨4, _⟩ => ⟨S2x4096x8x128, .bf16⟩
  | .hbm, ⟨5, _⟩ => ⟨S2x256x8x128, .bf16⟩
  | .hbm, ⟨6, _⟩ => ⟨S2x256x64, .bf16⟩
  | .hbm, ⟨7, _⟩ => ⟨S2x256x8x128, .bf16⟩
  | .hbm, ⟨8, _⟩ => ⟨S2x4096x1024, .bf16⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x4096x8x128, .f32⟩
  | .hbm, ⟨15, _⟩ => ⟨S2x4096x8x128, .f32⟩
  | .hbm, ⟨16, _⟩ => ⟨S2x4096x8x128, .f32⟩
  | .hbm, ⟨17, _⟩ => ⟨S2x4096x8x128, .bf16⟩
  | .hbm, ⟨18, _⟩ => ⟨S8192x8x128, .bf16⟩
  | .hbm, ⟨19, _⟩ => ⟨S8x8192x128, .bf16⟩
  | .hbm, ⟨20, _⟩ => ⟨S2x4096x8x64, .f32⟩
  | .hbm, ⟨21, _⟩ => ⟨S2x4096x8x64, .f32⟩
  | .hbm, ⟨22, _⟩ => ⟨S2x4096x8x64, .f32⟩
  | .hbm, ⟨23, _⟩ => ⟨S2x4096x8x64, .bf16⟩
  | .hbm, ⟨24, _⟩ => ⟨S8192x4x128, .bf16⟩
  | .hbm, ⟨25, _⟩ => ⟨S4x8192x128, .bf16⟩
  | .hbm, ⟨26, _⟩ => ⟨S4x1x8192x128, .bf16⟩
  | .hbm, ⟨27, _⟩ => ⟨S4x2x8192x128, .bf16⟩
  | .hbm, ⟨28, _⟩ => ⟨S8x8192x128, .bf16⟩
  | .hbm, ⟨29, _⟩ => ⟨S8x8192x256, .bf16⟩
  | .hbm, ⟨30, _⟩ => ⟨S_, .bf16⟩
  | .hbm, ⟨31, _⟩ => ⟨S8x512x256, .bf16⟩
  | .hbm, ⟨32, _⟩ => ⟨S8x8704x256, .bf16⟩
  | .hbm, ⟨33, _⟩ => ⟨S8192x8x128, .bf16⟩
  | .hbm, ⟨34, _⟩ => ⟨S512x8x128, .bf16⟩
  | .hbm, ⟨35, _⟩ => ⟨S8704x8x128, .bf16⟩
  | .hbm, ⟨36, _⟩ => ⟨S8192x64, .bf16⟩
  | .hbm, ⟨37, _⟩ => ⟨S512x64, .bf16⟩
  | .hbm, ⟨38, _⟩ => ⟨S8704x64, .bf16⟩
  | .hbm, ⟨39, _⟩ => ⟨S_, .bf16⟩
  | .hbm, ⟨40, _⟩ => ⟨S8704x64, .bf16⟩
  | .hbm, ⟨41, _⟩ => ⟨S8704x128, .bf16⟩
  | .hbm, ⟨42, _⟩ => ⟨S8704x128, .bf16⟩
  | .hbm, ⟨43, _⟩ => ⟨S1x8704x128, .bf16⟩
  | .hbm, ⟨44, _⟩ => ⟨S1x8704x128, .bf16⟩
  | .hbm, ⟨45, _⟩ => ⟨S2x8704x128, .bf16⟩
  | .hbm, ⟨46, _⟩ => ⟨S1x2x8704x128, .bf16⟩
  | .hbm, ⟨47, _⟩ => ⟨S4x2x8704x128, .bf16⟩
  | .hbm, ⟨48, _⟩ => ⟨S8x8704x128, .bf16⟩
  | .hbm, ⟨49, _⟩ => ⟨S8x8704x128, .bf16⟩
  | .hbm, ⟨50, _⟩ => ⟨S8x8704x256, .bf16⟩
  | .hbm, ⟨51, _⟩ => ⟨S8192x8x128, .bf16⟩
  | .hbm, ⟨52, _⟩ => ⟨S512x8x128, .bf16⟩
  | .hbm, ⟨53, _⟩ => ⟨S8704x8x128, .bf16⟩
  | .hbm, ⟨54, _⟩ => ⟨S34x256x8x128, .bf16⟩
  | .hbm, ⟨55, _⟩ => ⟨S8x34x128x256, .bf16⟩
  | .hbm, ⟨56, _⟩ => ⟨S_, .bf16⟩
  | .hbm, ⟨57, _⟩ => ⟨S8x34x1x256, .bf16⟩
  | .hbm, ⟨58, _⟩ => ⟨S_, .bf16⟩
  | .hbm, ⟨59, _⟩ => ⟨S8x34x15x256, .bf16⟩
  | .hbm, ⟨60, _⟩ => ⟨S8x34x144x256, .bf16⟩
  | .hbm, ⟨61, _⟩ => ⟨S8192x1024, .bf16⟩
  | .hbm, ⟨62, _⟩ => ⟨S_, .i32⟩
  | .hbm, ⟨63, _⟩ => ⟨S_, .bf16⟩
  | .hbm, ⟨64, _⟩ => ⟨S8704x4352, .bf16⟩
  | .hbm, ⟨65, _⟩ => ⟨S8192x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x16x144x256, .bf16⟩
  | .local _ .vmem, ⟨5, _⟩ => ⟨S1x16x144x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x1x144x256, .bf16⟩
  | .local _ .vmem, ⟨9, _⟩ => ⟨S1x1x144x256, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S2x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call0_v0 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  ![arg1.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S2x256x8x128 : Shape := ⟨4, ![2, 256, 8, 128]⟩
abbrev S2x256x64 : Shape := ⟨3, ![2, 256, 64]⟩
abbrev S2x4096x1024 : Shape := ⟨3, ![2, 4096, 1024]⟩
abbrev S2x8x4096x4096 : Shape := ⟨4, ![2, 8, 4096, 4096]⟩
abbrev S2x4096x4096x8 : Shape := ⟨4, ![2, 4096, 4096, 8]⟩
abbrev S2x8x4096x256 : Shape := ⟨4, ![2, 8, 4096, 256]⟩
abbrev S2x256x4096x8 : Shape := ⟨4, ![2, 256, 4096, 8]⟩
abbrev S2x8x4096x4352 : Shape := ⟨4, ![2, 8, 4096, 4352]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S8192x1024 : Shape := ⟨2, ![8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x8x128, .bf16⟩
  | .hbm, ⟨1, _⟩ => ⟨S2x4096x8x64, .bf16⟩
  | .hbm, ⟨2, _⟩ => ⟨S2x4096x8x128, .bf16⟩
  | .hbm, ⟨3, _⟩ => ⟨S2x4096x64, .bf16⟩
  | .hbm, ⟨4, _⟩ => ⟨S2x4096x8x128, .bf16⟩
  | .hbm, ⟨5, _⟩ => ⟨S2x256x8x128, .bf16⟩
  | .hbm, ⟨6, _⟩ => ⟨S2x256x64, .bf16⟩
  | .hbm, ⟨7, _⟩ => ⟨S2x256x8x128, .bf16⟩
  | .hbm, ⟨8, _⟩ => ⟨S2x4096x1024, .bf16⟩
  | .hbm, ⟨9, _⟩ => ⟨S2x8x4096x4096, .f32⟩
  | .hbm, ⟨10, _⟩ => ⟨S2x8x4096x4096, .bf16⟩
  | .hbm, ⟨11, _⟩ => ⟨S2x4096x4096x8, .f32⟩
  | .hbm, ⟨12, _⟩ => ⟨S2x8x4096x4096, .f32⟩
  | .hbm, ⟨13, _⟩ => ⟨S2x8x4096x4096, .bf16⟩
  | .hbm, ⟨14, _⟩ => ⟨S2x8x4096x4096, .bf16⟩
  | .hbm, ⟨15, _⟩ => ⟨S2x8x4096x256, .f32⟩
  | .hbm, ⟨16, _⟩ => ⟨S2x8x4096x256, .bf16⟩
  | .hbm, ⟨17, _⟩ => ⟨S2x256x4096x8, .f32⟩
  | .hbm, ⟨18, _⟩ => ⟨S2x8x4096x256, .f32⟩
  | .hbm, ⟨19, _⟩ => ⟨S2x8x4096x256, .bf16⟩
  | .hbm, ⟨20, _⟩ => ⟨S2x8x4096x256, .bf16⟩
  | .hbm, ⟨21, _⟩ => ⟨S2x8x4096x4352, .bf16⟩
  | .hbm, ⟨22, _⟩ => ⟨S2x8x4096x4352, .f32⟩
  | .hbm, ⟨23, _⟩ => ⟨S_, .f32⟩
  | .hbm, ⟨24, _⟩ => ⟨S_, .f32⟩
  | .hbm, ⟨25, _⟩ => ⟨S2x8x4096x4352, .f32⟩
  | .hbm, ⟨26, _⟩ => ⟨S2x8x4096x4352, .f32⟩
  | .hbm, ⟨27, _⟩ => ⟨S_, .f32⟩
  | .hbm, ⟨28, _⟩ => ⟨S2x8x4096, .f32⟩
  | .hbm, ⟨29, _⟩ => ⟨S_, .f32⟩
  | .hbm, ⟨30, _⟩ => ⟨S2x8x4096, .f32⟩
  | .hbm, ⟨31, _⟩ => ⟨S2x8x4096, .f32⟩
  | .hbm, ⟨32, _⟩ => ⟨S2x8x4096x1, .f32⟩
  | .hbm, ⟨33, _⟩ => ⟨S2x8x4096x4352, .f32⟩
  | .hbm, ⟨34, _⟩ => ⟨S2x8x4096x4352, .f32⟩
  | .hbm, ⟨35, _⟩ => ⟨S2x8x4096x4352, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x4352, .f32⟩
  | .hbm, ⟨40, _⟩ => ⟨S2x8x4096x4352, .f32⟩
  | .hbm, ⟨41, _⟩ => ⟨S2x8x4096x4352, .bf16⟩
  | .hbm, ⟨42, _⟩ => ⟨S2x8x4096x4096, .bf16⟩
  | .hbm, ⟨43, _⟩ => ⟨S2x8x128x4096, .f32⟩
  | .hbm, ⟨44, _⟩ => ⟨S2x4096x8x128, .f32⟩
  | .hbm, ⟨45, _⟩ => ⟨S2x4096x8x128, .bf16⟩
  | .hbm, ⟨46, _⟩ => ⟨S2x8x4096x256, .bf16⟩
  | .hbm, ⟨47, _⟩ => ⟨S2x8x128x4096, .f32⟩
  | .hbm, ⟨48, _⟩ => ⟨S2x4096x8x128, .f32⟩
  | .hbm, ⟨49, _⟩ => ⟨S2x4096x8x128, .bf16⟩
  | .hbm, ⟨50, _⟩ => ⟨S2x4096x8x128, .bf16⟩
  | .hbm, ⟨51, _⟩ => ⟨S2x4096x1024, .bf16⟩
  | .hbm, ⟨52, _⟩ => ⟨S2x4096x1024, .bf16⟩
  | .hbm, ⟨53, _⟩ => ⟨S2x4096x1024, .bf16⟩
  | .hbm, ⟨54, _⟩ => ⟨S_, .bf16⟩
  | .hbm, ⟨55, _⟩ => ⟨S2x4096x1024, .bf16⟩
  | .hbm, ⟨56, _⟩ => ⟨S2x4096x1024, .bf16⟩
  | .hbm, ⟨57, _⟩ => ⟨S_, .bf16⟩
  | .hbm, ⟨58, _⟩ => ⟨S2x4096x1024, .bf16⟩
  | .hbm, ⟨59, _⟩ => ⟨S2x4096x1024, .bf16⟩
  | .hbm, ⟨60, _⟩ => ⟨S2x4096x1024, .bf16⟩
  | .hbm, ⟨61, _⟩ => ⟨S2x4096x1024, .bf16⟩
  | .hbm, ⟨62, _⟩ => ⟨S8192x1024, .bf16⟩
  | _, _ => ⟨S2x4096x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== OutKernel.lean ====
abbrev S2x4096x512 : Shape := ⟨3, ![2, 4096, 512]⟩
abbrev S2x4096x1024 : Shape := ⟨3, ![2, 4096, 1024]⟩
abbrev S2x4096x2048 : Shape := ⟨3, ![2, 4096, 2048]⟩
abbrev S2x6144 : Shape := ⟨2, ![2, 6144]⟩
abbrev S2x2048x2048 : Shape := ⟨3, ![2, 2048, 2048]⟩
abbrev S2048 : Shape := ⟨1, ![2048]⟩
abbrev S8192x512 : Shape := ⟨2, ![8192, 512]⟩
abbrev S8192x1024 : Shape := ⟨2, ![8192, 1024]⟩
abbrev S8192x2048 : Shape := ⟨2, ![8192, 2048]⟩
abbrev S_ : Shape := ⟨0, ![]⟩
abbrev S6x6144 : Shape := ⟨2, ![6, 6144]⟩
abbrev S8x6144 : Shape := ⟨2, ![8, 6144]⟩
abbrev S4096x2048 : Shape := ⟨2, ![4096, 2048]⟩
abbrev S8x1x6144 : Shape := ⟨3, ![8, 1, 6144]⟩
abbrev S1x2048 : Shape := ⟨2, ![1, 2048]⟩
abbrev S512x512 : Shape := ⟨2, ![512, 512]⟩
abbrev S512x1024 : Shape := ⟨2, ![512, 1024]⟩
abbrev S512x2048 : Shape := ⟨2, ![512, 2048]⟩
abbrev S2048x2048 : Shape := ⟨2, ![2048, 2048]⟩
abbrev S1x1x6144 : Shape := ⟨3, ![1, 1, 6144]⟩
abbrev S256x2048 : Shape := ⟨2, ![256, 2048]⟩
abbrev S1x1x2048 : Shape := ⟨3, ![1, 1, 2048]⟩
abbrev S1024x512 : Shape := ⟨2, ![1024, 512]⟩
abbrev S1x512 : Shape := ⟨2, ![1, 512]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S2x4096x512, .bf16⟩
  | .hbm, ⟨1, _⟩ => ⟨S2x4096x1024, .bf16⟩
  | .hbm, ⟨2, _⟩ => ⟨S2x4096x512, .bf16⟩
  | .hbm, ⟨3, _⟩ => ⟨S2x4096x2048, .f32⟩
  | .hbm, ⟨4, _⟩ => ⟨S2x6144, .f32⟩
  | .hbm, ⟨5, _⟩ => ⟨S2x2048x2048, .f32⟩
  | .hbm, ⟨6, _⟩ => ⟨S2048, .f32⟩
  | .hbm, ⟨7, _⟩ => ⟨S8192x512, .bf16⟩
  | .hbm, ⟨8, _⟩ => ⟨S8192x1024, .bf16⟩
  | .hbm, ⟨9, _⟩ => ⟨S8192x512, .bf16⟩
  | .hbm, ⟨10, _⟩ => ⟨S8192x2048, .f32⟩
  | .hbm, ⟨11, _⟩ => ⟨S_, .f32⟩
  | .hbm, ⟨12, _⟩ => ⟨S6x6144, .f32⟩
  | .hbm, ⟨13, _⟩ => ⟨S8x6144, .f32⟩
  | .hbm, ⟨14, _⟩ => ⟨S4096x2048, .f32⟩
  | .hbm, ⟨15, _⟩ => ⟨S8x1x6144, .f32⟩
  | .hbm, ⟨16, _⟩ => ⟨S1x2048, .f32⟩
  | .hbm, ⟨17, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .f32⟩
  | .local _ .vmem, ⟨9, _⟩ => ⟨S1x1x6144, .f32⟩
  | .local _ .vmem, ⟨10, _⟩ => ⟨S1x1x6144, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S2048x2048, .bf16⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_59 : BitVec 32 := 0#32
  let c8_i32 : BitVec 32 := 8#32
  let v86 : BitVec 32 := Scalar.addi c0_i32_59 c8_i32
  let c1_i32 : BitVec 32 := 1#32
  ⟨c0_i32_59, v86, c1_i32⟩
def k0_mult1 (k0_t1 : Fin k0_t1_loop.trips) : BitVec 32 :=
  let c0_i32_59 : BitVec 32 := 0#32
  let c1_i32 : BitVec 32 := 1#32
  let arg10 : BitVec 32 := Scf.iv c0_i32_59 c1_i32 k0_t1
  let c256_i32 : BitVec 32 := 256#32
  let v87 : BitVec 32 := Scalar.muli arg10 c256_i32
  v87
def k0_off1 (k0_t1 : Fin k0_t1_loop.trips) : Fin 2 → Nat :=
  let c0_i32_59 : BitVec 32 := 0#32
  let c1_i32 : BitVec 32 := 1#32
  let arg10 : BitVec 32 := Scf.iv c0_i32_59 c1_i32 k0_t1
  let c256_i32 : BitVec 32 := 256#32
  let v87 : BitVec 32 := Scalar.muli arg10 c256_i32
  let v88 : BitVec 32 := v87
  let v89 : Index := Scalar.indexCast v88
  let c0_61 : Index := 0#32
  ![v89.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S2x4096x512 : Shape := ⟨3, ![2, 4096, 512]⟩
abbrev S2x4096x1024 : Shape := ⟨3, ![2, 4096, 1024]⟩
abbrev S2x4096x2048 : Shape := ⟨3, ![2, 4096, 2048]⟩
abbrev S2x6144 : Shape := ⟨2, ![2, 6144]⟩
abbrev S2x2048x2048 : Shape := ⟨3, ![2, 2048, 2048]⟩
abbrev S2048 : Shape := ⟨1, ![2048]⟩
abbrev S2x2048 : Shape := ⟨2, ![2, 2048]⟩
abbrev S1x2048x2048 : Shape := ⟨3, ![1, 2048, 2048]⟩
abbrev S2048x2048 : Shape := ⟨2, ![2048, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S2x4096x1024, .bf16⟩
  | .hbm, ⟨2, _⟩ => ⟨S2x4096x512, .bf16⟩
  | .hbm, ⟨3, _⟩ => ⟨S2x4096x2048, .f32⟩
  | .hbm, ⟨4, _⟩ => ⟨S2x6144, .f32⟩
  | .hbm, ⟨5, _⟩ => ⟨S2x2048x2048, .f32⟩
  | .hbm, ⟨6, _⟩ => ⟨S2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x4096x2048, .bf16⟩
  | .hbm, ⟨11, _⟩ => ⟨S2x4096x2048, .f32⟩
  | .hbm, ⟨12, _⟩ => ⟨S1x2048x2048, .f32⟩
  | .hbm, ⟨13, _⟩ => ⟨S2048x2048, .f32⟩
  | .hbm, ⟨14, _⟩ => ⟨S2x4096x2048, .f32⟩
  | .hbm, ⟨15, _⟩ => ⟨S2x1x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S8192x2048, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== InKernel.lean ====
abbrev S2x4096x2048 : Shape := ⟨3, ![2, 4096, 2048]⟩
abbrev S2x256x2048 : Shape := ⟨3, ![2, 256, 2048]⟩
abbrev S2x6144 : Shape := ⟨2, ![2, 6144]⟩
abbrev S6144 : Shape := ⟨1, ![6144]⟩
abbrev S2048 : Shape := ⟨1, ![2048]⟩
abbrev S2048x5696 : Shape := ⟨2, ![2048, 5696]⟩
abbrev S512 : Shape := ⟨1, ![512]⟩
abbrev S4x128x128 : Shape := ⟨3, ![4, 128, 128]⟩
abbrev S4x128 : Shape := ⟨2, ![4, 128]⟩
abbrev S8192x2048 : Shape := ⟨2, ![8192, 2048]⟩
abbrev S512x2048 : Shape := ⟨2, ![512, 2048]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S5696x2048 : Shape := ⟨2, ![5696, 2048]⟩
abbrev S64x2048 : Shape := ⟨2, ![64, 2048]⟩
abbrev S16x2048 : Shape := ⟨2, ![16, 2048]⟩
abbrev S2560x2048 : Shape := ⟨2, ![2560, 2048]⟩
abbrev S3072x2048 : Shape := ⟨2, ![3072, 2048]⟩
abbrev S5888x2048 : Shape := ⟨2, ![5888, 2048]⟩
abbrev S128x4 : Shape := ⟨2, ![128, 4]⟩
abbrev S128x4x128 : Shape := ⟨3, ![128, 4, 128]⟩
abbrev S128x512 : Shape := ⟨2, ![128, 512]⟩
abbrev S8x1x6144 : Shape := ⟨3, ![8, 1, 6144]⟩
abbrev S1x2048 : Shape := ⟨2, ![1, 2048]⟩
abbrev S1x512 : Shape := ⟨2, ![1, 512]⟩
abbrev S8704x4352 : Shape := ⟨2, ![8704, 4352]⟩
abbrev S8704x512 : Shape := ⟨2, ![8704, 512]⟩
abbrev S1x1x6144 : Shape := ⟨3, ![1, 1, 6144]⟩
abbrev S512x4352 : Shape := ⟨2, ![512, 4352]⟩
abbrev S512x512 : Shape := ⟨2, ![512, 512]⟩
abbrev S1x1x2048 : Shape := ⟨3, ![1, 1, 2048]⟩
abbrev S512x1 : Shape := ⟨2, ![512, 1]⟩
abbrev S1x128x128 : Shape := ⟨3, ![1, 128, 128]⟩
abbrev S128x128 : Shape := ⟨2, ![128, 128]⟩
abbrev S256x2048 : Shape := ⟨2, ![256, 2048]⟩
abbrev S512x256 : Shape := ⟨2, ![512, 256]⟩

abbrev nBuf : Space → Nat
  | .hbm => 35
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x6144, .f32⟩
  | .hbm, ⟨3, _⟩ => ⟨S6144, .f32⟩
  | .hbm, ⟨4, _⟩ => ⟨S2048, .f32⟩
  | .hbm, ⟨5, _⟩ => ⟨S2048x5696, .f32⟩
  | .hbm, ⟨6, _⟩ => ⟨S512, .f32⟩
  | .hbm, ⟨7, _⟩ => ⟨S4x128x128, .f32⟩
  | .hbm, ⟨8, _⟩ => ⟨S4x128, .f32⟩
  | .hbm, ⟨9, _⟩ => ⟨S8192x2048, .f32⟩
  | .hbm, ⟨10, _⟩ => ⟨S512x2048, .f32⟩
  | .hbm, ⟨11, _⟩ => ⟨S1x6144, .f32⟩
  | .hbm, ⟨12, _⟩ => ⟨S_, .f32⟩
  | .hbm, ⟨13, _⟩ => ⟨S5x6144, .f32⟩
  | .hbm, ⟨14, _⟩ => ⟨S8x6144, .f32⟩
  | .hbm, ⟨15, _⟩ => ⟨S5696x2048, .f32⟩
  | .hbm, ⟨16, _⟩ => ⟨S64x2048, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S16x2048, .f32⟩
  | .hbm, ⟨21, _⟩ => ⟨S64x2048, .f32⟩
  | .hbm, ⟨22, _⟩ => ⟨S2560x2048, .f32⟩
  | .hbm, ⟨23, _⟩ => ⟨S3072x2048, .f32⟩
  | .hbm, ⟨24, _⟩ => ⟨S5888x2048, .f32⟩
  | .hbm, ⟨25, _⟩ => ⟨S5888x2048, .bf16⟩
  | .hbm, ⟨26, _⟩ => ⟨S4x128x128, .bf16⟩
  | .hbm, ⟨27, _⟩ => ⟨S128x4, .f32⟩
  | .hbm, ⟨28, _⟩ => ⟨S128x4x128, .f32⟩
  | .hbm, ⟨29, _⟩ => ⟨S128x512, .f32⟩
  | .hbm, ⟨30, _⟩ => ⟨S8x1x6144, .f32⟩
  | .hbm, ⟨31, _⟩ => ⟨S1x2048, .f32⟩
  | .hbm, ⟨32, _⟩ => ⟨S1x512, .f32⟩
  | .hbm, ⟨33, _⟩ => ⟨S8704x4352, .bf16⟩
  | .hbm, ⟨34, _⟩ => ⟨S8704x512, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x1x6144, .f32⟩
  | .local _ .vmem, ⟨4, _⟩ => ⟨S1x1x6144, .f32⟩
  | .local _ .vmem, ⟨5, _⟩ => ⟨S1x2048, .f32⟩
  | .local _ .vmem, ⟨6, _⟩ => ⟨S5888x2048, .bf16⟩
  | .local _ .vmem, ⟨7, _⟩ => ⟨S1x512, .f32⟩
  | .local _ .vmem, ⟨8, _⟩ => ⟨S4x128x128, .bf16⟩
  | .local _ .vmem, ⟨9, _⟩ => ⟨S128x512, .f32⟩
  | .local _ .vmem, ⟨10, _⟩ => ⟨S512x4352, .bf16⟩
  | .local _ .vmem, ⟨11, _⟩ => ⟨S512x4352, .bf16⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5888x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4352 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InReferenceIdeal.lean ====
abbrev S2x4096x2048 : Shape := ⟨3, ![2, 4096, 2048]⟩
abbrev S2x256x2048 : Shape := ⟨3, ![2, 256, 2048]⟩
abbrev S2x6144 : Shape := ⟨2, ![2, 6144]⟩
abbrev S6144 : Shape := ⟨1, ![6144]⟩
abbrev S2048 : Shape := ⟨1, ![2048]⟩
abbrev S2048x5696 : Shape := ⟨2, ![2048, 5696]⟩
abbrev S512 : Shape := ⟨1, ![512]⟩
abbrev S4x128x128 : Shape := ⟨3, ![4, 128, 128]⟩
abbrev S4x128 : Shape := ⟨2, ![4, 128]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x5696 : Shape := ⟨3, ![2, 4096, 5696]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S2x4096x16 : Shape := ⟨3, ![2, 4096, 16]⟩
abbrev S2x4096x4352 : Shape := ⟨3, ![2, 4096, 4352]⟩
abbrev S1x1x512 : Shape := ⟨3, ![1, 1, 512]⟩
abbrev S2x32x128x4x128 : Shape := ⟨5, ![2, 32, 128, 4, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S8192x4352 : Shape := ⟨2, ![8192, 4352]⟩
abbrev S8192x512 : Shape := ⟨2, ![8192, 512]⟩
abbrev S2x256 : Shape := ⟨2, ![2, 256]⟩
abbrev S2x256x1 : Shape := ⟨3, ![2, 256, 1]⟩
abbrev S2x256x5696 : Shape := ⟨3, ![2, 256, 5696]⟩
abbrev S2x256x512 : Shape := ⟨3, ![2, 256, 512]⟩
abbrev S2x256x64 : Shape := ⟨3, ![2, 256, 64]⟩
abbrev S2x256x1024 : Shape := ⟨3, ![2, 256, 1024]⟩
abbrev S2x256x16 : Shape := ⟨3, ![2, 256, 16]⟩
abbrev S2x256x4352 : Shape := ⟨3, ![2, 256, 4352]⟩
abbrev S2x2x128x4x128 : Shape := ⟨5, ![2, 2, 128, 4, 128]⟩
abbrev S4x2x2x128x128 : Shape := ⟨5, ![4, 2, 2, 128, 128]⟩
abbrev S512x4352 : Shape := ⟨2, ![512, 4352]⟩
abbrev S512x512 : Shape := ⟨2, ![512, 512]⟩
abbrev S8704x4352 : Shape := ⟨2, ![8704, 4352]⟩
abbrev S8704x512 : Shape := ⟨2, ![8704, 512]⟩

abbrev nBuf : Space → Nat
  | .hbm => 247
  | .vmem => 0
  | .smem => 0
  | _ => 0

abbrev hbmTy0_0 (i : Nat) : BufTy := match i % 128 with
  | 0 => ⟨S2x4096x2048, .f32⟩
  | 1 => ⟨S2x256x2048, .f32⟩
  | 2 => ⟨S2x6144, .f32⟩
  | 3 => ⟨S6144, .f32⟩
  | 4 => ⟨S2048, .f32⟩
  | 5 => ⟨S2048x5696, .f32⟩
  | 6 => ⟨S512, .f32⟩
  | 7 => ⟨S4x128x128, .f32⟩
  | 8 => ⟨S4x128, .f32⟩
  | 9 => ⟨S2x2048, .f32⟩
  | 10 => ⟨S2x2048, .f32⟩
  | 11 => ⟨S2x2048, .f32⟩
  | 12 => ⟨S2048, .f32⟩
  | 13 => ⟨S2048, .f32⟩
  | 14 => ⟨S2048, .f32⟩
  | 15 => ⟨S2x4096x2048, .f32⟩
  | 16 => ⟨S_, .f32⟩
  | 17 => ⟨S2x4096, .f32⟩
  | 18 => ⟨S2x4096x1, .f32⟩
  | 19 => ⟨S_, .f32⟩
  | 20 => ⟨S2x4096x1, .f32⟩
  | 21 => ⟨S2x4096x1, .f32⟩
  | 22 => ⟨S_, .f32⟩
  | 23 => ⟨S2x4096x1, .f32⟩
  | 24 => ⟨S2x4096x1, .f32⟩
  | 25 => ⟨S2x4096x1, .f32⟩
  | 26 => ⟨S2x4096x2048, .f32⟩
  | 27 => ⟨S2x4096x2048, .f32⟩
  | 28 => ⟨S1x1x2048, .f32⟩
  | 29 => ⟨S2x4096x2048, .f32⟩
  | 30 => ⟨S2x4096x2048, .f32⟩
  | 31 => ⟨S2x1x2048, .f32⟩
  | 32 => ⟨S_, .f32⟩
  | 33 => ⟨S2x1x2048, .f32⟩
  | 34 => ⟨S2x1x2048, .f32⟩
  | 35 => ⟨S2x4096x2048, .f32⟩
  | 36 => ⟨S2x4096x2048, .f32⟩
  | 37 => ⟨S2x1x2048, .f32⟩
  | 38 => ⟨S2x4096x2048, .f32⟩
  | 39 => ⟨S2x4096x2048, .f32⟩
  | 40 => ⟨S2x4096x5696, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S2x4096x64, .f32⟩
  | 47 => ⟨S2x4096x1024, .f32⟩
  | 48 => ⟨S2x4096x512, .f32⟩
  | 49 => ⟨S2x4096x512, .f32⟩
  | 50 => ⟨S2x4096x512, .f32⟩
  | 51 => ⟨S2x4096x512, .f32⟩
  | 52 => ⟨S2x4096x16, .f32⟩
  | 53 => ⟨S2x4096x16, .f32⟩
  | 54 => ⟨S2x4096x16, .f32⟩
  | 55 => ⟨S2x4096x16, .f32⟩
  | 56 => ⟨S2x4096x64, .f32⟩
  | 57 => ⟨S2x4096x4352, .f32⟩
  | 58 => ⟨S2x4096x512, .f32⟩
  | 59 => ⟨S2x4096x512, .f32⟩
  | 60 => ⟨S_, .f32⟩
  | 61 => ⟨S2x4096x512, .f32⟩
  | 62 => ⟨S2x4096x512, .f32⟩
  | 63 => ⟨S2x4096x512, .f32⟩
  | 64 => ⟨S_, .f32⟩
  | 65 => ⟨S2x4096x512, .f32⟩
  | 66 => ⟨S2x4096x512, .f32⟩
  | 67 => ⟨S2x4096x512, .f32⟩
  | 68 => ⟨S_, .f32⟩
  | 69 => ⟨S2x4096x512, .f32⟩
  | 70 => ⟨S2x4096x512, .f32⟩
  | 71 => ⟨S_, .f32⟩
  | 72 => ⟨S2x4096x512, .f32⟩
  | 73 => ⟨S2x4096x512, .f32⟩
  | 74 => ⟨S2x4096x512, .f32⟩
  | 75 => ⟨S2x4096x512, .f32⟩
  | 76 => ⟨S_, .f32⟩
  | 77 => ⟨S2x4096, .f32⟩
  | 78 => ⟨S2x4096x1, .f32⟩
  | 79 => ⟨S_, .f32⟩
  | 80 => ⟨S2x4096x1, .f32⟩
  | 81 => ⟨S2x4096x1, .f32⟩
  | 82 => ⟨S_, .f32⟩
  | 83 => ⟨S2x4096x1, .f32⟩
  | 84 => ⟨S2x4096x1, .f32⟩
  | 85 => ⟨S2x4096x1, .f32⟩
  | 86 => ⟨S2x4096x512, .f32⟩
  | 87 => ⟨S2x4096x512, .f32⟩
  | 88 => ⟨S1x1x512, .f32⟩
  | 89 => ⟨S2x4096x512, .f32⟩
  | 90 => ⟨S2x4096x512, .f32⟩
  | 91 => ⟨S2x32x128x4x128, .f32⟩
  | 92 => ⟨S4x2x32x128x128, .f32⟩
  | 93 => ⟨S2x32x128x4x128, .f32⟩
  | 94 => ⟨S128x4, .f32⟩
  | 95 => ⟨S1x1x128x4x1, .f32⟩
  | 96 => ⟨S2x32x128x4x128, .f32⟩
  | 97 => ⟨S2x32x128x4x128, .f32⟩
  | 98 => ⟨S2x4096x512, .f32⟩
  | 99 => ⟨S2x4096x512, .f32⟩
  | 100 => ⟨S_, .f32⟩
  | 101 => ⟨S2x4096x512, .f32⟩
  | 102 => ⟨S2x4096x512, .f32⟩
  | 103 => ⟨S2x4096x512, .f32⟩
  | 104 => ⟨S_, .f32⟩
  | 105 => ⟨S2x4096x512, .f32⟩
  | 106 => ⟨S2x4096x512, .f32⟩
  | 107 => ⟨S2x4096x512, .f32⟩
  | 108 => ⟨S_, .f32⟩
  | 109 => ⟨S2x4096x512, .f32⟩
  | 110 => ⟨S2x4096x512, .f32⟩
  | 111 => ⟨S_, .f32⟩
  | 112 => ⟨S2x4096x512, .f32⟩
  | 113 => ⟨S2x4096x512, .f32⟩
  | 114 => ⟨S2x4096x512, .f32⟩
  | 115 => ⟨S2x4096x512, .f32⟩
  | 116 => ⟨S2x4096x512, .f32⟩
  | 117 => ⟨S2x4096x512, .f32⟩
  | 118 => ⟨S2x4096x512, .f32⟩
  | 119 => ⟨S_, .f32⟩
  | 120 => ⟨S2x4096x512, .f32⟩
  | 121 => ⟨S2x4096x512, .f32⟩
  | 122 => ⟨S_, .f32⟩
  | 123 => ⟨S2x4096x512, .f32⟩
  | 124 => ⟨S2x4096x512, .f32⟩
  | 125 => ⟨S2x4096x512, .f32⟩
  | 126 => ⟨S2x4096x512, .f32⟩
  | 127 => ⟨S8192x4352, .f32⟩
  | _ => ⟨S2x4096x2048, .f32⟩

abbrev hbmTy0_1 (i : Nat) : BufTy := match i % 128 with
  | 0 => ⟨S8192x512, .f32⟩
  | 1 => ⟨S2x256x2048, .f32⟩
  | 2 => ⟨S_, .f32⟩
  | 3 => ⟨S2x256, .f32⟩
  | 4 => ⟨S2x256x1, .f32⟩
  | 5 => ⟨S_, .f32⟩
  | 6 => ⟨S2x256x1, .f32⟩
  | 7 => ⟨S2x256x1, .f32⟩
  | 8 => ⟨S_, .f32⟩
  | 9 => ⟨S2x256x1, .f32⟩
  | 10 => ⟨S2x256x1, .f32⟩
  | 11 => ⟨S2x256x1, .f32⟩
  | 12 => ⟨S2x256x2048, .f32⟩
  | 13 => ⟨S2x256x2048, .f32⟩
  | 14 => ⟨S1x1x2048, .f32⟩
  | 15 => ⟨S2x256x2048, .f32⟩
  | 16 => ⟨S2x256x2048, .f32⟩
  | 17 => ⟨S_, .f32⟩
  | 18 => ⟨S2048, .f32⟩
  | 19 => ⟨S2048, .f32⟩
  | 20 => ⟨S1x1x2048, .f32⟩
  | 21 => ⟨S2x256x2048, .f32⟩
  | 22 => ⟨S2x256x2048, .f32⟩
  | 23 => ⟨S1x1x2048, .f32⟩
  | 24 => ⟨S2x256x2048, .f32⟩
  | 25 => ⟨S2x256x2048, .f32⟩
  | 26 => ⟨S2x256x5696, .f32⟩
  | 27 => ⟨S2x256x512, .f32⟩
  | 28 => ⟨S2x256x512, .f32⟩
  | 29 => ⟨S2x256x512, .f32⟩
  | 30 => ⟨S2x256x512, .f32⟩
  | 31 => ⟨S2x256x512, .f32⟩
  | 32 => ⟨S2x256x64, .f32⟩
  | 33 => ⟨S2x256x1024, .f32⟩
  | 34 => ⟨S2x256x512, .f32⟩
  | 35 => ⟨S2x256x512, .f32⟩
  | 36 => ⟨S2x256x512, .f32⟩
  | 37 => ⟨S2x256x512, .f32⟩
  | 38 => ⟨S2x256x16, .f32⟩
  | 39 => ⟨S2x256x16, .f32⟩
  | 40 => ⟨S2x256x16, .f32⟩
  | 41 => ⟨S2x256x16, .f32⟩
  | 42 => ⟨S2x256x64, .f32⟩
  | 43 => ⟨S2x256x4352, .f32⟩
  | 44 => ⟨S2x256x512, .f32⟩
  | 45 => ⟨S2x256x512, .f32⟩
  | 46 => ⟨S_, .f32⟩
  | 47 => ⟨S2x256x512, .f32⟩
  | 48 => ⟨S2x256x512, .f32⟩
  | 49 => ⟨S2x256x512, .f32⟩
  | 50 => ⟨S_, .f32⟩
  | 51 => ⟨S2x256x512, .f32⟩
  | 52 => ⟨S2x256x512, .f32⟩
  | 53 => ⟨S2x256x512, .f32⟩
  | 54 => ⟨S_, .f32⟩
  | 55 => ⟨S2x256x512, .f32⟩
  | 56 => ⟨S2x256x512, .f32⟩
  | 57 => ⟨S_, .f32⟩
  | 58 => ⟨S2x256x512, .f32⟩
  | 59 => ⟨S2x256x512, .f32⟩
  | 60 => ⟨S2x256x512, .f32⟩
  | 61 => ⟨S2x256x512, .f32⟩
  | 62 => ⟨S_, .f32⟩
  | 63 => ⟨S2x256, .f32⟩
  | 64 => ⟨S2x256x1, .f32⟩
  | 65 => ⟨S_, .f32⟩
  | 66 => ⟨S2x256x1, .f32⟩
  | 67 => ⟨S2x256x1, .f32⟩
  | 68 => ⟨S_, .f32⟩
  | 69 => ⟨S2x256x1, .f32⟩
  | 70 => ⟨S2x256x1, .f32⟩
  | 71 => ⟨S2x256x1, .f32⟩
  | 72 => ⟨S2x256x512, .f32⟩
  | 73 => ⟨S2x256x512, .f32⟩
  | 74 => ⟨S1x1x512, .f32⟩
  | 75 => ⟨S2x256x512, .f32⟩
  | 76 => ⟨S2x256x512, .f32⟩
  | 77 => ⟨S2x2x128x4x128, .f32⟩
  | 78 => ⟨S4x2x2x128x128, .f32⟩
  | 79 => ⟨S2x2x128x4x128, .f32⟩
  | 80 => ⟨S128x4, .f32⟩
  | 81 => ⟨S1x1x128x4x1, .f32⟩
  | 82 => ⟨S2x2x128x4x128, .f32⟩
  | 83 => ⟨S2x2x128x4x128, .f32⟩
  | 84 => ⟨S2x256x512, .f32⟩
  | 85 => ⟨S2x256x512, .f32⟩
  | 86 => ⟨S_, .f32⟩
  | 87 => ⟨S2x256x512, .f32⟩
  | 88 => ⟨S2x256x512, .f32⟩
  | 89 => ⟨S2x256x512, .f32⟩
  | 90 => ⟨S_, .f32⟩
  | 91 => ⟨S2x256x512, .f32⟩
  | 92 => ⟨S2x256x512, .f32⟩
  | 93 => ⟨S2x256x512, .f32⟩
  | 94 => ⟨S_, .f32⟩
  | 95 => ⟨S2x256x512, .f32⟩
  | 96 => ⟨S2x256x512, .f32⟩
  | 97 => ⟨S_, .f32⟩
  | 98 => ⟨S2x256x512, .f32⟩
  | 99 => ⟨S2x256x512, .f32⟩
  | 100 => ⟨S2x256x512, .f32⟩
  | 101 => ⟨S2x256x512, .f32⟩
  | 102 => ⟨S2x256x512, .f32⟩
  | 103 => ⟨S2x256x512, .f32⟩
  | 104 => ⟨S2x256x512, .f32⟩
  | 105 => ⟨S_, .f32⟩
  | 106 => ⟨S2x256x512, .f32⟩
  | 107 => ⟨S2x256x512, .f32⟩
  | 108 => ⟨S_, .f32⟩
  | 109 => ⟨S2x256x512, .f32⟩
  | 110 => ⟨S2x256x512, .f32⟩
  | 111 => ⟨S2x256x512, .f32⟩
  | 112 => ⟨S2x256x512, .f32⟩
  | 113 => ⟨S512x4352, .f32⟩
  | 114 => ⟨S512x512, .f32⟩
  | 115 => ⟨S8704x4352, .f32⟩
  | 116 => ⟨S8704x4352, .bf16⟩
  | 117 => ⟨S8704x512, .f32⟩
  | 118 => ⟨S8704x512, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_11 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_call0_v0 : Ref sig .tc := ⟨.hbm, 117, rfl⟩
abbrev main_call0_v1 : Ref sig .tc := ⟨.hbm, 118, rfl⟩
abbrev main_call0_cst : Ref sig .tc := ⟨.hbm, 119, rfl⟩
abbrev main_call0_v2 : Ref sig .tc := ⟨.hbm, 120, rfl⟩
abbrev main_call0_v3 : Ref sig .tc := ⟨.hbm, 121, rfl⟩
abbrev main_call0_cst_0 : Ref sig .tc := ⟨.hbm, 122, rfl⟩
abbrev main_call0_v4 : Ref sig .tc := ⟨.hbm, 123, rfl⟩
abbrev main_call0_v5 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_14 : Ref sig .tc := ⟨.hbm, 130, rfl⟩
abbrev main_v98 : Ref sig .tc := ⟨.hbm, 131, rfl⟩
abbrev main_v99 : Ref sig .tc := ⟨.hbm, 132, rfl⟩
abbrev main_cst_15 : Ref sig .tc := ⟨.hbm, 133, rfl⟩
abbrev main_v100 : Ref sig .tc := ⟨.hbm, 134, rfl⟩
abbrev main_v101 : Ref sig .tc := ⟨.hbm, 135, rfl⟩
abbrev main_cst_16 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_17 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_18 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_19 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_20 : Ref sig .tc := ⟨.hbm, 182, rfl⟩
abbrev main_v144 : Ref sig .tc := ⟨.hbm, 183, rfl⟩
abbrev main_v145 : Ref sig .tc := ⟨.hbm, 184, rfl⟩
abbrev main_cst_21 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_22 : Ref sig .tc := ⟨.hbm, 190, rfl⟩
abbrev main_v150 : Ref sig .tc := ⟨.hbm, 191, rfl⟩
abbrev main_v151 : Ref sig .tc := ⟨.hbm, 192, rfl⟩
abbrev main_cst_23 : Ref sig .tc := ⟨.hbm, 193, rfl⟩
abbrev main_v152 : Ref sig .tc := ⟨.hbm, 194, rfl⟩
abbrev main_v153 : Ref sig .tc := ⟨.hbm, 195, rfl⟩
abbrev main_cst_24 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_25 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_26 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_27 : Ref sig .tc := ⟨.hbm, 222, rfl⟩
abbrev main_v177 : Ref sig .tc := ⟨.hbm, 223, rfl⟩
abbrev main_v178 : Ref sig .tc := ⟨.hbm, 224, rfl⟩
abbrev main_cst_28 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_call1_v0 : Ref sig .tc := ⟨.hbm, 231, rfl⟩
abbrev main_call1_v1 : Ref sig .tc := ⟨.hbm, 232, rfl⟩
abbrev main_call1_cst : Ref sig .tc := ⟨.hbm, 233, rfl⟩
abbrev main_call1_v2 : Ref sig .tc := ⟨.hbm, 234, rfl⟩
abbrev main_call1_v3 : Ref sig .tc := ⟨.hbm, 235, rfl⟩
abbrev main_call1_cst_0 : Ref sig .tc := ⟨.hbm, 236, rfl⟩
abbrev main_call1_v4 : Ref sig .tc := ⟨.hbm, 237, rfl⟩
abbrev main_call1_v5 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩

abbrev nD : Nat := 1
abbrev τ : Topo := Topo.v7x

variable {F : FTy → Type} [FloatOps F]
-- ==== MidKernel.lean ====
abbrev S8704x512 : Shape := ⟨2, ![8704, 512]⟩
abbrev S2x4096x1024 : Shape := ⟨3, ![2, 4096, 1024]⟩
abbrev S2x256x1024 : Shape := ⟨3, ![2, 256, 1024]⟩
abbrev S2x4096x512 : Shape := ⟨3, ![2, 4096, 512]⟩
abbrev S2x256x512 : Shape := ⟨3, ![2, 256, 512]⟩
abbrev S2x4096x2048 : Shape := ⟨3, ![2, 4096, 2048]⟩
abbrev S2x256x2048 : Shape := ⟨3, ![2, 256, 2048]⟩
abbrev S2x6144 : Shape := ⟨2, ![2, 6144]⟩
abbrev S6144 : Shape := ⟨1, ![6144]⟩
abbrev S2x2048x2048 : Shape := ⟨3, ![2, 2048, 2048]⟩
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩
abbrev S8192x2048 : Shape := ⟨2, ![8192, 2048]⟩
abbrev S512x2048 : Shape := ⟨2, ![512, 2048]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S4096x2048 : Shape := ⟨2, ![4096, 2048]⟩
abbrev S8x1x6144 : Shape := ⟨3, ![8, 1, 6144]⟩
abbrev S8704x2048 : Shape := ⟨2, ![8704, 2048]⟩
abbrev S2048x2048 : Shape := ⟨2, ![2048, 2048]⟩
abbrev S1x1x6144 : Shape := ⟨3, ![1, 1, 6144]⟩
abbrev S256x2048 : Shape := ⟨2, ![256, 2048]⟩
abbrev S1x1x2048 : Shape := ⟨3, ![1, 1, 2048]⟩
abbrev S1x2048 : Shape := ⟨2, ![1, 2048]⟩
abbrev S1024x512 : Shape := ⟨2, ![1024, 512]⟩
abbrev S1x512 : Shape := ⟨2, ![1, 512]⟩

abbrev nBuf : Space → Nat
  | .hbm => 23
  | .vmem => 17
  | .smem => 0
  | _ => 0

abbrev bufTy : (tb : Table) → Fin (tcTables nBuf tb) → BufTy
  | .hbm, ⟨0, _⟩ => ⟨S8704x512, .bf16⟩
  | .hbm, ⟨1, _⟩ => ⟨S2x4096x1024, .bf16⟩
  | .hbm, ⟨2, _⟩ => ⟨S2x256x1024, .bf16⟩
  | .hbm, ⟨3, _⟩ => ⟨S2x4096x512, .bf16⟩
  | .hbm, ⟨4, _⟩ => ⟨S2x256x512, .bf16⟩
  | .hbm, ⟨5, _⟩ => ⟨S2x4096x2048, .f32⟩
  | .hbm, ⟨6, _⟩ => ⟨S2x256x2048, .f32⟩
  | .hbm, ⟨7, _⟩ => ⟨S2x6144, .f32⟩
  | .hbm, ⟨8, _⟩ => ⟨S6144, .f32⟩
  | .hbm, ⟨9, _⟩ => ⟨S2x2048x2048, .f32⟩
  | .hbm, ⟨10, _⟩ => ⟨S8192x1024, .bf16⟩
  | .hbm, ⟨11, _⟩ => ⟨S512x1024, .bf16⟩
  | .hbm, ⟨12, _⟩ => ⟨S8192x512, .bf16⟩
  | .hbm, ⟨13, _⟩ => ⟨S512x512, .bf16⟩
  | .hbm, ⟨14, _⟩ => ⟨S8192x2048, .f32⟩
  | .hbm, ⟨15, _⟩ => ⟨S512x2048, .f32⟩
  | .hbm, ⟨16, _⟩ => ⟨S1x6144, .f32⟩
  | .hbm, ⟨17, _⟩ => ⟨S_, .f32⟩
  | .hbm, ⟨18, _⟩ => ⟨S5x6144, .f32⟩
  | .hbm, ⟨19, _⟩ => ⟨S8x6144, .f32⟩
  | .hbm, ⟨20, _⟩ => ⟨S4096x2048, .f32⟩
  | .hbm, ⟨21, _⟩ => ⟨S8x1x6144, .f32⟩
  | .hbm, ⟨22, _⟩ => ⟨S8704x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S2048x2048, .f32⟩
  | .local _ .vmem, ⟨12, _⟩ => ⟨S1x1x6144, .f32⟩
  | .local _ .vmem, ⟨13, _⟩ => ⟨S1x1x6144, .f32⟩
  | .local _ .vmem, ⟨14, _⟩ => ⟨S512x2048, .f32⟩
  | .local _ .vmem, ⟨15, _⟩ => ⟨S512x2048, .f32⟩
  | .local _ .vmem, ⟨16, _⟩ => ⟨S2048x2048, .bf16⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_58 : BitVec 32 := 0#32
  let c8_i32 : BitVec 32 := 8#32
  let v80 : BitVec 32 := Scalar.addi c0_i32_58 c8_i32
  let c1_i32 : BitVec 32 := 1#32
  ⟨c0_i32_58, v80, c1_i32⟩
def k0_mult1 (k0_t1 : Fin k0_t1_loop.trips) : BitVec 32 :=
  let c0_i32_58 : BitVec 32 := 0#32
  let c1_i32 : BitVec 32 := 1#32
  let arg12 : BitVec 32 := Scf.iv c0_i32_58 c1_i32 k0_t1
  let c256_i32 : BitVec 32 := 256#32
  let v81 : BitVec 32 := Scalar.muli arg12 c256_i32
  v81
def k0_off1 (k0_t1 : Fin k0_t1_loop.trips) : Fin 2 → Nat :=
  let c0_i32_58 : BitVec 32 := 0#32
  let c1_i32 : BitVec 32 := 1#32
  let arg12 : BitVec 32 := Scf.iv c0_i32_58 c1_i32 k0_t1
  let c256_i32 : BitVec 32 := 256#32
  let v81 : BitVec 32 := Scalar.muli arg12 c256_i32
  let v82 : BitVec 32 := v81
  let v83 : Index := Scalar.indexCast v82
  let c0_60 : Index := 0#32
  ![v83.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MidReferenceIdeal.lean ====
abbrev S8704x512 : Shape := ⟨2, ![8704, 512]⟩
abbrev S2x4096x1024 : Shape := ⟨3, ![2, 4096, 1024]⟩
abbrev S2x256x1024 : Shape := ⟨3, ![2, 256, 1024]⟩
abbrev S2x4096x512 : Shape := ⟨3, ![2, 4096, 512]⟩
abbrev S2x256x512 : Shape := ⟨3, ![2, 256, 512]⟩
abbrev S2x4096x2048 : Shape := ⟨3, ![2, 4096, 2048]⟩
abbrev S2x256x2048 : Shape := ⟨3, ![2, 256, 2048]⟩
abbrev S2x6144 : Shape := ⟨2, ![2, 6144]⟩
abbrev S6144 : Shape := ⟨1, ![6144]⟩
abbrev S2x2048x2048 : Shape := ⟨3, ![2, 2048, 2048]⟩
abbrev S8192x512 : Shape := ⟨2, ![8192, 512]⟩
abbrev S512x512 : Shape := ⟨2, ![512, 512]⟩
abbrev S2x2048 : Shape := ⟨2, ![2, 2048]⟩
abbrev S2048 : Shape := ⟨1, ![2048]⟩
abbrev S1x2048x2048 : Shape := ⟨3, ![1, 2048, 2048]⟩
abbrev S2048x2048 : Shape := ⟨2, ![2048, 2048]⟩
abbrev S2x1x2048 : Shape := ⟨3, ![2, 1, 2048]⟩
abbrev S8192x2048 : Shape := ⟨2, ![8192, 2048]⟩
abbrev S1x1x2048 : Shape := ⟨3, ![1, 1, 2048]⟩
abbrev S512x2048 : Shape := ⟨2, ![512, 2048]⟩
abbrev S8704x2048 : Shape := ⟨2, ![8704, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S2x4096x1024, .bf16⟩
  | .hbm, ⟨2, _⟩ => ⟨S2x256x1024, .bf16⟩
  | .hbm, ⟨3, _⟩ => ⟨S2x4096x512, .bf16⟩
  | .hbm, ⟨4, _⟩ => ⟨S2x256x512, .bf16⟩
  | .hbm, ⟨5, _⟩ => ⟨S2x4096x2048, .f32⟩
  | .hbm, ⟨6, _⟩ => ⟨S2x256x2048, .f32⟩
  | .hbm, ⟨7, _⟩ => ⟨S2x6144, .f32⟩
  | .hbm, ⟨8, _⟩ => ⟨S6144, .f32⟩
  | .hbm, ⟨9, _⟩ => ⟨S2x2048x2048, .f32⟩
  | .hbm, ⟨10, _⟩ => ⟨S8192x512, .bf16⟩
  | .hbm, ⟨11, _⟩ => ⟨S2x4096x512, .bf16⟩
  | .hbm, ⟨12, _⟩ => ⟨S512x512, .bf16⟩
  | .hbm, ⟨13, _⟩ => ⟨S2x256x512, .bf16⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2x4096x2048, .bf16⟩
  | .hbm, ⟨21, _⟩ => ⟨S2x4096x2048, .f32⟩
  | .hbm, ⟨22, _⟩ => ⟨S1x2048x2048, .f32⟩
  | .hbm, ⟨23, _⟩ => ⟨S2048x2048, .f32⟩
  | .hbm, ⟨24, _⟩ => ⟨S2x4096x2048, .f32⟩
  | .hbm, ⟨25, _⟩ => ⟨S2x256x2048, .bf16⟩
  | .hbm, ⟨26, _⟩ => ⟨S2x256x2048, .f32⟩
  | .hbm, ⟨27, _⟩ => ⟨S1x2048x2048, .f32⟩
  | .hbm, ⟨28, _⟩ => ⟨S2048x2048, .f32⟩
  | .hbm, ⟨29, _⟩ => ⟨S2x256x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S8192x2048, .f32⟩
  | .hbm, ⟨35, _⟩ => ⟨S1x1x2048, .f32⟩
  | .hbm, ⟨36, _⟩ => ⟨S2x256x2048, .f32⟩
  | .hbm, ⟨37, _⟩ => ⟨S2x256x2048, .f32⟩
  | .hbm, ⟨38, _⟩ => ⟨S2x256x2048, .f32⟩
  | .hbm, ⟨39, _⟩ => ⟨S512x2048, .f32⟩
  | .hbm, ⟨40, _⟩ => ⟨S8704x2048, .f32⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== UpKernel.lean ====
abbrev S8704x512 : Shape := ⟨2, ![8704, 512]⟩
abbrev S8704x64 : Shape := ⟨2, ![8704, 64]⟩
abbrev S4096x16 : Shape := ⟨2, ![4096, 16]⟩
abbrev S512 : Shape := ⟨1, ![512]⟩
abbrev S512x1536 : Shape := ⟨2, ![512, 1536]⟩
abbrev S512x2048 : Shape := ⟨2, ![512, 2048]⟩
abbrev S4096x64 : Shape := ⟨2, ![4096, 64]⟩
abbrev S_ : Shape := ⟨0, ![]⟩
abbrev S512x64 : Shape := ⟨2, ![512, 64]⟩
abbrev S4608x64 : Shape := ⟨2, ![4608, 64]⟩
abbrev S4608x128 : Shape := ⟨2, ![4608, 128]⟩
abbrev S8704x16 : Shape := ⟨2, ![8704, 16]⟩
abbrev S8704x3072 : Shape := ⟨2, ![8704, 3072]⟩
abbrev S8704x4352 : Shape := ⟨2, ![8704, 4352]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x8x16 : Shape := ⟨3, ![512, 8, 16]⟩
abbrev S512x512 : Shape := ⟨2, ![512, 512]⟩
abbrev S512x8x256 : Shape := ⟨3, ![512, 8, 256]⟩
abbrev S1x512 : Shape := ⟨2, ![1, 512]⟩
abbrev S8x8704x256 : Shape := ⟨3, ![8, 8704, 256]⟩
abbrev S8x34x144x256 : Shape := ⟨4, ![8, 34, 144, 256]⟩
abbrev S512x256 : Shape := ⟨2, ![512, 256]⟩
abbrev S512x128 : Shape := ⟨2, ![512, 128]⟩
abbrev S8x512x256 : Shape := ⟨3, ![8, 512, 256]⟩
abbrev S8x2x144x256 : Shape := ⟨4, ![8, 2, 144, 256]⟩
abbrev S512x1 : Shape := ⟨2, ![512, 1]⟩
abbrev S1x512x128 : Shape := ⟨3, ![1, 512, 128]⟩
abbrev S16x256 : Shape := ⟨2, ![16, 256]⟩
abbrev S256x128 : Shape := ⟨2, ![256, 128]⟩
abbrev S128x256 : Shape := ⟨2, ![128, 256]⟩
abbrev S1x1x128x256 : Shape := ⟨4, ![1, 1, 128, 256]⟩
abbrev S1x1x16x256 : Shape := ⟨4, ![1, 1, 16, 256]⟩

abbrev nBuf : Space → Nat
  | .hbm => 58
  | .vmem => 20
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x64, .bf16⟩
  | .hbm, ⟨3, _⟩ => ⟨S4096x16, .f32⟩
  | .hbm, ⟨4, _⟩ => ⟨S4096x16, .f32⟩
  | .hbm, ⟨5, _⟩ => ⟨S512, .f32⟩
  | .hbm, ⟨6, _⟩ => ⟨S512, .f32⟩
  | .hbm, ⟨7, _⟩ => ⟨S512x1536, .f32⟩
  | .hbm, ⟨8, _⟩ => ⟨S512x2048, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x64, .f32⟩
  | .hbm, ⟨14, _⟩ => ⟨S4096x16, .f32⟩
  | .hbm, ⟨15, _⟩ => ⟨S4096x16, .f32⟩
  | .hbm, ⟨16, _⟩ => ⟨S4096x64, .f32⟩
  | .hbm, ⟨17, _⟩ => ⟨S_, .f32⟩
  | .hbm, ⟨18, _⟩ => ⟨S512x64, .f32⟩
  | .hbm, ⟨19, _⟩ => ⟨S4608x64, .f32⟩
  | .hbm, ⟨20, _⟩ => ⟨S_, .f32⟩
  | .hbm, ⟨21, _⟩ => ⟨S512x64, .f32⟩
  | .hbm, ⟨22, _⟩ => ⟨S4608x64, .f32⟩
  | .hbm, ⟨23, _⟩ => ⟨S4608x128, .f32⟩
  | .hbm, ⟨24, _⟩ => ⟨S4608x128, .f32⟩
  | .hbm, ⟨25, _⟩ => ⟨S8704x16, .bf16⟩
  | .hbm, ⟨26, _⟩ => ⟨S8704x16, .bf16⟩
  | .hbm, ⟨27, _⟩ => ⟨S8704x16, .bf16⟩
  | .hbm, ⟨28, _⟩ => ⟨S8704x16, .bf16⟩
  | .hbm, ⟨29, _⟩ => ⟨S8704x64, .bf16⟩
  | .hbm, ⟨30, _⟩ => ⟨S_, .bf16⟩
  | .hbm, ⟨31, _⟩ => ⟨S8704x3072, .bf16⟩
  | .hbm, ⟨32, _⟩ => ⟨S8704x4352, .bf16⟩
  | .hbm, ⟨33, _⟩ => ⟨S512x8x192, .f32⟩
  | .hbm, ⟨34, _⟩ => ⟨S512x8x128, .f32⟩
  | .hbm, ⟨35, _⟩ => ⟨S512x1024, .f32⟩
  | .hbm, ⟨36, _⟩ => ⟨S512x8x64, .f32⟩
  | .hbm, ⟨37, _⟩ => ⟨S512x8x16, .f32⟩
  | .hbm, ⟨38, _⟩ => ⟨S512x8x16, .f32⟩
  | .hbm, ⟨39, _⟩ => ⟨S512x8x16, .f32⟩
  | .hbm, ⟨40, _⟩ => ⟨S512x8x16, .f32⟩
  | .hbm, ⟨41, _⟩ => ⟨S512x8x64, .f32⟩
  | .hbm, ⟨42, _⟩ => ⟨S512x512, .f32⟩
  | .hbm, ⟨43, _⟩ => ⟨S512x512, .f32⟩
  | .hbm, ⟨44, _⟩ => ⟨S512x2048, .f32⟩
  | .hbm, ⟨45, _⟩ => ⟨S512x2048, .bf16⟩
  | .hbm, ⟨46, _⟩ => ⟨S512x8x256, .f32⟩
  | .hbm, ⟨47, _⟩ => ⟨S512x8x128, .f32⟩
  | .hbm, ⟨48, _⟩ => ⟨S512x1024, .f32⟩
  | .hbm, ⟨49, _⟩ => ⟨S512x8x128, .f32⟩
  | .hbm, ⟨50, _⟩ => ⟨S512x1024, .f32⟩
  | .hbm, ⟨51, _⟩ => ⟨S512x2048, .f32⟩
  | .hbm, ⟨52, _⟩ => ⟨S512x2048, .bf16⟩
  | .hbm, ⟨53, _⟩ => ⟨S1x512, .f32⟩
  | .hbm, ⟨54, _⟩ => ⟨S1x512, .f32⟩
  | .hbm, ⟨55, _⟩ => ⟨S8x8704x256, .bf16⟩
  | .hbm, ⟨56, _⟩ => ⟨S8x8704x256, .bf16⟩
  | .hbm, ⟨57, _⟩ => ⟨S8x34x144x256, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | .local _ .vmem, ⟨14, _⟩ => ⟨S8x512x256, .bf16⟩
  | .local _ .vmem, ⟨15, _⟩ => ⟨S8x512x256, .bf16⟩
  | .local _ .vmem, ⟨16, _⟩ => ⟨S8x512x256, .bf16⟩
  | .local _ .vmem, ⟨17, _⟩ => ⟨S8x512x256, .bf16⟩
  | .local _ .vmem, ⟨18, _⟩ => ⟨S8x2x144x256, .bf16⟩
  | .local _ .vmem, ⟨19, _⟩ => ⟨S8x2x144x256, .bf16⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2x144x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== UpReferenceIdeal.lean ====
abbrev S8704x512 : Shape := ⟨2, ![8704, 512]⟩
abbrev S8704x64 : Shape := ⟨2, ![8704, 64]⟩
abbrev S4096x16 : Shape := ⟨2, ![4096, 16]⟩
abbrev S512 : Shape := ⟨1, ![512]⟩
abbrev S512x1536 : Shape := ⟨2, ![512, 1536]⟩
abbrev S512x2048 : Shape := ⟨2, ![512, 2048]⟩
abbrev S_ : Shape := ⟨0, ![]⟩
abbrev S8704 : Shape := ⟨1, ![8704]⟩
abbrev S8704x1 : Shape := ⟨2, ![8704, 1]⟩
abbrev S1x512 : Shape := ⟨2, ![1, 512]⟩
abbrev S8704x1536 : Shape := ⟨2, ![8704, 1536]⟩
abbrev S8704x8x192 : Shape := ⟨3, ![8704, 8, 192]⟩
abbrev S8704x2048 : Shape := ⟨2, ![8704, 2048]⟩
abbrev S8704x8x256 : Shape := ⟨3, ![8704, 8, 256]⟩
abbrev S8704x8x128 : Shape := ⟨3, ![8704, 8, 128]⟩
abbrev S8704x8x64 : Shape := ⟨3, ![8704, 8, 64]⟩
abbrev S8192x8x64 : Shape := ⟨3, ![8192, 8, 64]⟩
abbrev S2x4096x8x64 : Shape := ⟨4, ![2, 4096, 8, 64]⟩
abbrev S2x4096x8x32 : Shape := ⟨4, ![2, 4096, 8, 32]⟩
abbrev S4096x1x16 : Shape := ⟨3, ![4096, 1, 16]⟩
abbrev S2x4096x8x16 : Shape := ⟨4, ![2, 4096, 8, 16]⟩
abbrev S1x4096x1x16 : Shape := ⟨4, ![1, 4096, 1, 16]⟩
abbrev S512x8x64 : Shape := ⟨3, ![512, 8, 64]⟩
abbrev S8704x1x64 : Shape := ⟨3, ![8704, 1, 64]⟩
abbrev S8192x1x64 : Shape := ⟨3, ![8192, 1, 64]⟩
abbrev S2x4096x1x64 : Shape := ⟨4, ![2, 4096, 1, 64]⟩
abbrev S2x4096x1x32 : Shape := ⟨4, ![2, 4096, 1, 32]⟩
abbrev S2x4096x1x16 : Shape := ⟨4, ![2, 4096, 1, 16]⟩
abbrev S512x1x64 : Shape := ⟨3, ![512, 1, 64]⟩
abbrev S8704x4x1x128 : Shape := ⟨4, ![8704, 4, 1, 128]⟩
abbrev S8704x4x2x128 : Shape := ⟨4, ![8704, 4, 2, 128]⟩
abbrev S8704x128 : Shape := ⟨2, ![8704, 128]⟩
abbrev S8704x1x128 : Shape := ⟨3, ![8704, 1, 128]⟩
abbrev S8704x2x128 : Shape := ⟨3, ![8704, 2, 128]⟩
abbrev S8704x1x2x128 : Shape := ⟨4, ![8704, 1, 2, 128]⟩
abbrev S34x256x8x128 : Shape := ⟨4, ![34, 256, 8, 128]⟩
abbrev S8x34x128x256 : Shape := ⟨4, ![8, 34, 128, 256]⟩
abbrev S8x34x1x256 : Shape := ⟨4, ![8, 34, 1, 256]⟩
abbrev S8x34x15x256 : Shape := ⟨4, ![8, 34, 15, 256]⟩
abbrev S8x34x144x256 : Shape := ⟨4, ![8, 34, 144, 256]⟩
abbrev S8x8704x256 : Shape := ⟨3, ![8, 8704, 256]⟩

abbrev nBuf : Space → Nat
  | .hbm => 188
  | .vmem => 0
  | .smem => 0
  | _ => 0

abbrev hbmTy0_0 (i : Nat) : BufTy := match i % 128 with
  | 0 => ⟨S8704x512, .bf16⟩
  | 1 => ⟨S8704x512, .bf16⟩
  | 2 => ⟨S8704x64, .bf16⟩
  | 3 => ⟨S4096x16, .f32⟩
  | 4 => ⟨S4096x16, .f32⟩
  | 5 => ⟨S512, .f32⟩
  | 6 => ⟨S512, .f32⟩
  | 7 => ⟨S512x1536, .f32⟩
  | 8 => ⟨S512x2048, .f32⟩
  | 9 => ⟨S8704x512, .f32⟩
  | 10 => ⟨S8704x512, .f32⟩
  | 11 => ⟨S_, .f32⟩
  | 12 => ⟨S8704, .f32⟩
  | 13 => ⟨S8704x1, .f32⟩
  | 14 => ⟨S_, .f32⟩
  | 15 => ⟨S8704x1, .f32⟩
  | 16 => ⟨S8704x1, .f32⟩
  | 17 => ⟨S_, .f32⟩
  | 18 => ⟨S8704x1, .f32⟩
  | 19 => ⟨S8704x1, .f32⟩
  | 20 => ⟨S8704x1, .f32⟩
  | 21 => ⟨S8704x512, .f32⟩
  | 22 => ⟨S8704x512, .f32⟩
  | 23 => ⟨S1x512, .f32⟩
  | 24 => ⟨S8704x512, .f32⟩
  | 25 => ⟨S8704x512, .f32⟩
  | 26 => ⟨S8704x1536, .f32⟩
  | 27 => ⟨S8704x8x192, .f32⟩
  | 28 => ⟨S8704x512, .f32⟩
  | 29 => ⟨S8704x512, .f32⟩
  | 30 => ⟨S_, .f32⟩
  | 31 => ⟨S8704, .f32⟩
  | 32 => ⟨S8704x1, .f32⟩
  | 33 => ⟨S_, .f32⟩
  | 34 => ⟨S8704x1, .f32⟩
  | 35 => ⟨S8704x1, .f32⟩
  | 36 => ⟨S_, .f32⟩
  | 37 => ⟨S8704x1, .f32⟩
  | 38 => ⟨S8704x1, .f32⟩
  | 39 => ⟨S8704x1, .f32⟩
  | 40 => ⟨S8704x512, .f32⟩
  | 41 => ⟨S8704x512, .f32⟩
  | 42 => ⟨S1x512, .f32⟩
  | 43 => ⟨S8704x512, .f32⟩
  | 44 => ⟨S8704x512, .f32⟩
  | 45 => ⟨S8704x2048, .f32⟩
  | 46 => ⟨S8704x8x256, .f32⟩
  | 47 => ⟨S8704x8x128, .f32⟩
  | 48 => ⟨S8704x8x64, .f32⟩
  | 49 => ⟨S8192x8x64, .f32⟩
  | 50 => ⟨S2x4096x8x64, .f32⟩
  | 51 => ⟨S2x4096x8x32, .f32⟩
  | 52 => ⟨S4096x1x16, .f32⟩
  | 53 => ⟨S2x4096x8x16, .f32⟩
  | 54 => ⟨S2x4096x8x16, .f32⟩
  | 55 => ⟨S4096x1x16, .f32⟩
  | 56 => ⟨S1x4096x1x16, .f32⟩
  | 57 => ⟨S2x4096x8x16, .f32⟩
  | 58 => ⟨S2x4096x8x16, .f32⟩
  | 59 => ⟨S4096x1x16, .f32⟩
  | 60 => ⟨S1x4096x1x16, .f32⟩
  | 61 => ⟨S2x4096x8x16, .f32⟩
  | 62 => ⟨S2x4096x8x16, .f32⟩
  | 63 => ⟨S2x4096x8x16, .f32⟩
  | 64 => ⟨S4096x1x16, .f32⟩
  | 65 => ⟨S1x4096x1x16, .f32⟩
  | 66 => ⟨S2x4096x8x16, .f32⟩
  | 67 => ⟨S2x4096x8x16, .f32⟩
  | 68 => ⟨S4096x1x16, .f32⟩
  | 69 => ⟨S1x4096x1x16, .f32⟩
  | 70 => ⟨S2x4096x8x16, .f32⟩
  | 71 => ⟨S2x4096x8x16, .f32⟩
  | 72 => ⟨S2x4096x8x16, .f32⟩
  | 73 => ⟨S2x4096x8x32, .f32⟩
  | 74 => ⟨S2x4096x8x32, .f32⟩
  | 75 => ⟨S4096x1x16, .f32⟩
  | 76 => ⟨S2x4096x8x16, .f32⟩
  | 77 => ⟨S2x4096x8x16, .f32⟩
  | 78 => ⟨S4096x1x16, .f32⟩
  | 79 => ⟨S1x4096x1x16, .f32⟩
  | 80 => ⟨S2x4096x8x16, .f32⟩
  | 81 => ⟨S2x4096x8x16, .f32⟩
  | 82 => ⟨S4096x1x16, .f32⟩
  | 83 => ⟨S1x4096x1x16, .f32⟩
  | 84 => ⟨S2x4096x8x16, .f32⟩
  | 85 => ⟨S2x4096x8x16, .f32⟩
  | 86 => ⟨S2x4096x8x16, .f32⟩
  | 87 => ⟨S4096x1x16, .f32⟩
  | 88 => ⟨S1x4096x1x16, .f32⟩
  | 89 => ⟨S2x4096x8x16, .f32⟩
  | 90 => ⟨S2x4096x8x16, .f32⟩
  | 91 => ⟨S4096x1x16, .f32⟩
  | 92 => ⟨S1x4096x1x16, .f32⟩
  | 93 => ⟨S2x4096x8x16, .f32⟩
  | 94 => ⟨S2x4096x8x16, .f32⟩
  | 95 => ⟨S2x4096x8x16, .f32⟩
  | 96 => ⟨S2x4096x8x32, .f32⟩
  | 97 => ⟨S2x4096x8x64, .f32⟩
  | 98 => ⟨S8192x8x64, .f32⟩
  | 99 => ⟨S512x8x64, .f32⟩
  | 100 => ⟨S8704x8x64, .f32⟩
  | 101 => ⟨S8704x8x128, .f32⟩
  | 102 => ⟨S8704x8x128, .f32⟩
  | 103 => ⟨S8704x64, .f32⟩
  | 104 => ⟨S8704x1x64, .f32⟩
  | 105 => ⟨S8192x1x64, .f32⟩
  | 106 => ⟨S2x4096x1x64, .f32⟩
  | 107 => ⟨S2x4096x1x32, .f32⟩
  | 108 => ⟨S4096x1x16, .f32⟩
  | 109 => ⟨S2x4096x1x16, .f32⟩
  | 110 => ⟨S2x4096x1x16, .f32⟩
  | 111 => ⟨S4096x1x16, .f32⟩
  | 112 => ⟨S1x4096x1x16, .f32⟩
  | 113 => ⟨S2x4096x1x16, .f32⟩
  | 114 => ⟨S2x4096x1x16, .f32⟩
  | 115 => ⟨S4096x1x16, .f32⟩
  | 116 => ⟨S1x4096x1x16, .f32⟩
  | 117 => ⟨S2x4096x1x16, .f32⟩
  | 118 => ⟨S2x4096x1x16, .f32⟩
  | 119 => ⟨S2x4096x1x16, .f32⟩
  | 120 => ⟨S4096x1x16, .f32⟩
  | 121 => ⟨S1x4096x1x16, .f32⟩
  | 122 => ⟨S2x4096x1x16, .f32⟩
  | 123 => ⟨S2x4096x1x16, .f32⟩
  | 124 => ⟨S4096x1x16, .f32⟩
  | 125 => ⟨S1x4096x1x16, .f32⟩
  | 126 => ⟨S2x4096x1x16, .f32⟩
  | 127 => ⟨S2x4096x1x16, .f32⟩
  | _ => ⟨S8704x512, .bf16⟩

abbrev hbmTy0_1 (i : Nat) : BufTy := match i % 128 with
  | 0 => ⟨S2x4096x1x16, .f32⟩
  | 1 => ⟨S2x4096x1x32, .f32⟩
  | 2 => ⟨S2x4096x1x32, .f32⟩
  | 3 => ⟨S4096x1x16, .f32⟩
  | 4 => ⟨S2x4096x1x16, .f32⟩
  | 5 => ⟨S2x4096x1x16, .f32⟩
  | 6 => ⟨S4096x1x16, .f32⟩
  | 7 => ⟨S1x4096x1x16, .f32⟩
  | 8 => ⟨S2x4096x1x16, .f32⟩
  | 9 => ⟨S2x4096x1x16, .f32⟩
  | 10 => ⟨S4096x1x16, .f32⟩
  | 11 => ⟨S1x4096x1x16, .f32⟩
  | 12 => ⟨S2x4096x1x16, .f32⟩
  | 13 => ⟨S2x4096x1x16, .f32⟩
  | 14 => ⟨S2x4096x1x16, .f32⟩
  | 15 => ⟨S4096x1x16, .f32⟩
  | 16 => ⟨S1x4096x1x16, .f32⟩
  | 17 => ⟨S2x4096x1x16, .f32⟩
  | 18 => ⟨S2x4096x1x16, .f32⟩
  | 19 => ⟨S4096x1x16, .f32⟩
  | 20 => ⟨S1x4096x1x16, .f32⟩
  | 21 => ⟨S2x4096x1x16, .f32⟩
  | 22 => ⟨S2x4096x1x16, .f32⟩
  | 23 => ⟨S2x4096x1x16, .f32⟩
  | 24 => ⟨S2x4096x1x32, .f32⟩
  | 25 => ⟨S2x4096x1x64, .f32⟩
  | 26 => ⟨S8192x1x64, .f32⟩
  | 27 => ⟨S512x1x64, .f32⟩
  | 28 => ⟨S8704x1x64, .f32⟩
  | 29 => ⟨S8704x64, .f32⟩
  | 30 => ⟨S8704x4x1x128, .f32⟩
  | 31 => ⟨S8704x4x2x128, .f32⟩
  | 32 => ⟨S8704x8x128, .f32⟩
  | 33 => ⟨S8704x8x256, .f32⟩
  | 34 => ⟨S_, .f32⟩
  | 35 => ⟨S8704x8x256, .f32⟩
  | 36 => ⟨S8704x8x256, .f32⟩
  | 37 => ⟨S_, .f32⟩
  | 38 => ⟨S8704x64, .f32⟩
  | 39 => ⟨S8704x128, .f32⟩
  | 40 => ⟨S8704x128, .f32⟩
  | 41 => ⟨S8704x1x128, .f32⟩
  | 42 => ⟨S8704x1x128, .f32⟩
  | 43 => ⟨S8704x2x128, .f32⟩
  | 44 => ⟨S8704x1x2x128, .f32⟩
  | 45 => ⟨S8704x4x2x128, .f32⟩
  | 46 => ⟨S8704x8x128, .f32⟩
  | 47 => ⟨S8704x8x256, .f32⟩
  | 48 => ⟨S34x256x8x128, .f32⟩
  | 49 => ⟨S8x34x128x256, .f32⟩
  | 50 => ⟨S_, .f32⟩
  | 51 => ⟨S8x34x1x256, .f32⟩
  | 52 => ⟨S_, .f32⟩
  | 53 => ⟨S8x34x15x256, .f32⟩
  | 54 => ⟨S8x34x144x256, .f32⟩
  | 55 => ⟨S8x8704x256, .f32⟩
  | 56 => ⟨S8x8704x256, .bf16⟩
  | 57 => ⟨S8x8704x256, .f32⟩
  | 58 => ⟨S8x8704x256, .bf16⟩
  | 59 => ⟨S8x34x144x256, .bf16⟩
  | _ => ⟨S8704x512, .bf16⟩

abbrev hbmTy (i : Nat) : BufTy := match i / 128 with
  | 0 => hbmTy0_0 i
  | 1 => hbmTy0_1 i
  | _ => ⟨S8704x512, .bf16⟩

abbrev bufTy : (tb : Table) → Fin (tcTables nBuf tb) → BufTy
  | .hbm, ⟨i, _⟩ => hbmTy i
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_cst_5 : Ref sig .tc := ⟨.hbm, 162, rfl⟩
abbrev main_v147 : Ref sig .tc := ⟨.hbm, 163, rfl⟩
abbrev main_v148 : Ref sig .tc := ⟨.hbm, 164, rfl⟩
abbrev main_cst_6 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_cst_7 : Ref sig .tc := ⟨.hbm, 178, rfl⟩
abbrev main_v161 : Ref sig .tc := ⟨.hbm, 179, rfl⟩
abbrev main_cst_8 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩

abbrev nD : Nat := 1
abbrev τ : Topo := Topo.v7x

variable {F : FTy → Type} [FloatOps F]
-- ==== LateKernel.lean ====
abbrev S8704x2048 : Shape := ⟨2, ![8704, 2048]⟩
abbrev S2x6144 : Shape := ⟨2, ![2, 6144]⟩
abbrev S6144 : Shape := ⟨1, ![6144]⟩
abbrev S2048 : Shape := ⟨1, ![2048]⟩
abbrev S2048x5696 : Shape := ⟨2, ![2048, 5696]⟩
abbrev S512 : Shape := ⟨1, ![512]⟩
abbrev S4x128x128 : Shape := ⟨3, ![4, 128, 128]⟩
abbrev S4x128 : Shape := ⟨2, ![4, 128]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S5696x2048 : Shape := ⟨2, ![5696, 2048]⟩
abbrev S64x2048 : Shape := ⟨2, ![64, 2048]⟩
abbrev S16x2048 : Shape := ⟨2, ![16, 2048]⟩
abbrev S2560x2048 : Shape := ⟨2, ![2560, 2048]⟩
abbrev S3072x2048 : Shape := ⟨2, ![3072, 2048]⟩
abbrev S5888x2048 : Shape := ⟨2, ![5888, 2048]⟩
abbrev S128x4 : Shape := ⟨2, ![128, 4]⟩
abbrev S128x4x128 : Shape := ⟨3, ![128, 4, 128]⟩
abbrev S128x512 : Shape := ⟨2, ![128, 512]⟩
abbrev S8x1x6144 : Shape := ⟨3, ![8, 1, 6144]⟩
abbrev S1x2048 : Shape := ⟨2, ![1, 2048]⟩
abbrev S1x512 : Shape := ⟨2, ![1, 512]⟩
abbrev S8704x4352 : Shape := ⟨2, ![8704, 4352]⟩
abbrev S8704x512 : Shape := ⟨2, ![8704, 512]⟩
abbrev S512x2048 : Shape := ⟨2, ![512, 2048]⟩
abbrev S1x1x6144 : Shape := ⟨3, ![1, 1, 6144]⟩
abbrev S512x4352 : Shape := ⟨2, ![512, 4352]⟩
abbrev S512x512 : Shape := ⟨2, ![512, 512]⟩
abbrev S1x1x2048 : Shape := ⟨3, ![1, 1, 2048]⟩
abbrev S512x1 : Shape := ⟨2, ![512, 1]⟩
abbrev S1x128x128 : Shape := ⟨3, ![1, 128, 128]⟩
abbrev S128x128 : Shape := ⟨2, ![128, 128]⟩
abbrev S256x2048 : Shape := ⟨2, ![256, 2048]⟩
abbrev S512x256 : Shape := ⟨2, ![512, 256]⟩

abbrev nBuf : Space → Nat
  | .hbm => 32
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S2x6144, .f32⟩
  | .hbm, ⟨2, _⟩ => ⟨S6144, .f32⟩
  | .hbm, ⟨3, _⟩ => ⟨S2048, .f32⟩
  | .hbm, ⟨4, _⟩ => ⟨S2048x5696, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S1x6144, .f32⟩
  | .hbm, ⟨9, _⟩ => ⟨S_, .f32⟩
  | .hbm, ⟨10, _⟩ => ⟨S5x6144, .f32⟩
  | .hbm, ⟨11, _⟩ => ⟨S8x6144, .f32⟩
  | .hbm, ⟨12, _⟩ => ⟨S5696x2048, .f32⟩
  | .hbm, ⟨13, _⟩ => ⟨S64x2048, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S64x2048, .f32⟩
  | .hbm, ⟨19, _⟩ => ⟨S2560x2048, .f32⟩
  | .hbm, ⟨20, _⟩ => ⟨S3072x2048, .f32⟩
  | .hbm, ⟨21, _⟩ => ⟨S5888x2048, .f32⟩
  | .hbm, ⟨22, _⟩ => ⟨S5888x2048, .bf16⟩
  | .hbm, ⟨23, _⟩ => ⟨S4x128x128, .bf16⟩
  | .hbm, ⟨24, _⟩ => ⟨S128x4, .f32⟩
  | .hbm, ⟨25, _⟩ => ⟨S128x4x128, .f32⟩
  | .hbm, ⟨26, _⟩ => ⟨S128x512, .f32⟩
  | .hbm, ⟨27, _⟩ => ⟨S8x1x6144, .f32⟩
  | .hbm, ⟨28, _⟩ => ⟨S1x2048, .f32⟩
  | .hbm, ⟨29, _⟩ => ⟨S1x512, .f32⟩
  | .hbm, ⟨30, _⟩ => ⟨S8704x4352, .bf16⟩
  | .hbm, ⟨31, _⟩ => ⟨S8704x512, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x1x6144, .f32⟩
  | .local _ .vmem, ⟨4, _⟩ => ⟨S1x1x6144, .f32⟩
  | .local _ .vmem, ⟨5, _⟩ => ⟨S1x2048, .f32⟩
  | .local _ .vmem, ⟨6, _⟩ => ⟨S5888x2048, .bf16⟩
  | .local _ .vmem, ⟨7, _⟩ => ⟨S1x512, .f32⟩
  | .local _ .vmem, ⟨8, _⟩ => ⟨S4x128x128, .bf16⟩
  | .local _ .vmem, ⟨9, _⟩ => ⟨S128x512, .f32⟩
  | .local _ .vmem, ⟨10, _⟩ => ⟨S512x4352, .bf16⟩
  | .local _ .vmem, ⟨11, _⟩ => ⟨S512x4352, .bf16⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let c0_i32_0 : BitVec 32 := 0#32
  ![c16_i32.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5888x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4352 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LateReferenceIdeal.lean ====
abbrev S8704x2048 : Shape := ⟨2, ![8704, 2048]⟩
abbrev S2x6144 : Shape := ⟨2, ![2, 6144]⟩
abbrev S6144 : Shape := ⟨1, ![6144]⟩
abbrev S2048 : Shape := ⟨1, ![2048]⟩
abbrev S2048x5696 : Shape := ⟨2, ![2048, 5696]⟩
abbrev S512 : Shape := ⟨1, ![512]⟩
abbrev S4x128x128 : Shape := ⟨3, ![4, 128, 128]⟩
abbrev S4x128 : Shape := ⟨2, ![4, 128]⟩
abbrev S8192x2048 : Shape := ⟨2, ![8192, 2048]⟩
abbrev S2x4096x2048 : Shape := ⟨3, ![2, 4096, 2048]⟩
abbrev S512x2048 : Shape := ⟨2, ![512, 2048]⟩
abbrev S2x256x2048 : Shape := ⟨3, ![2, 256, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x5696 : Shape := ⟨3, ![2, 4096, 5696]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S2x4096x16 : Shape := ⟨3, ![2, 4096, 16]⟩
abbrev S2x4096x4352 : Shape := ⟨3, ![2, 4096, 4352]⟩
abbrev S1x1x512 : Shape := ⟨3, ![1, 1, 512]⟩
abbrev S2x32x128x4x128 : Shape := ⟨5, ![2, 32, 128, 4, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S8192x4352 : Shape := ⟨2, ![8192, 4352]⟩
abbrev S8192x512 : Shape := ⟨2, ![8192, 512]⟩
abbrev S2x256 : Shape := ⟨2, ![2, 256]⟩
abbrev S2x256x1 : Shape := ⟨3, ![2, 256, 1]⟩
abbrev S2x256x5696 : Shape := ⟨3, ![2, 256, 5696]⟩
abbrev S2x256x512 : Shape := ⟨3, ![2, 256, 512]⟩
abbrev S2x256x64 : Shape := ⟨3, ![2, 256, 64]⟩
abbrev S2x256x1024 : Shape := ⟨3, ![2, 256, 1024]⟩
abbrev S2x256x16 : Shape := ⟨3, ![2, 256, 16]⟩
abbrev S2x256x4352 : Shape := ⟨3, ![2, 256, 4352]⟩
abbrev S2x2x128x4x128 : Shape := ⟨5, ![2, 2, 128, 4, 128]⟩
abbrev S4x2x2x128x128 : Shape := ⟨5, ![4, 2, 2, 128, 128]⟩
abbrev S512x4352 : Shape := ⟨2, ![512, 4352]⟩
abbrev S512x512 : Shape := ⟨2, ![512, 512]⟩
abbrev S8704x4352 : Shape := ⟨2, ![8704, 4352]⟩
abbrev S8704x512 : Shape := ⟨2, ![8704, 512]⟩

abbrev nBuf : Space → Nat
  | .hbm => 250
  | .vmem => 0
  | .smem => 0
  | _ => 0

abbrev hbmTy0_0 (i : Nat) : BufTy := match i % 128 with
  | 0 => ⟨S8704x2048, .f32⟩
  | 1 => ⟨S2x6144, .f32⟩
  | 2 => ⟨S6144, .f32⟩
  | 3 => ⟨S2048, .f32⟩
  | 4 => ⟨S2048x5696, .f32⟩
  | 5 => ⟨S512, .f32⟩
  | 6 => ⟨S4x128x128, .f32⟩
  | 7 => ⟨S4x128, .f32⟩
  | 8 => ⟨S8192x2048, .f32⟩
  | 9 => ⟨S2x4096x2048, .f32⟩
  | 10 => ⟨S512x2048, .f32⟩
  | 11 => ⟨S2x256x2048, .f32⟩
  | 12 => ⟨S2x2048, .f32⟩
  | 13 => ⟨S2x2048, .f32⟩
  | 14 => ⟨S2x2048, .f32⟩
  | 15 => ⟨S2048, .f32⟩
  | 16 => ⟨S2048, .f32⟩
  | 17 => ⟨S2048, .f32⟩
  | 18 => ⟨S2x4096x2048, .f32⟩
  | 19 => ⟨S_, .f32⟩
  | 20 => ⟨S2x4096, .f32⟩
  | 21 => ⟨S2x4096x1, .f32⟩
  | 22 => ⟨S_, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x1, .f32⟩
  | 29 => ⟨S2x4096x2048, .f32⟩
  | 30 => ⟨S2x4096x2048, .f32⟩
  | 31 => ⟨S1x1x2048, .f32⟩
  | 32 => ⟨S2x4096x2048, .f32⟩
  | 33 => ⟨S2x4096x2048, .f32⟩
  | 34 => ⟨S2x1x2048, .f32⟩
  | 35 => ⟨S_, .f32⟩
  | 36 => ⟨S2x1x2048, .f32⟩
  | 37 => ⟨S2x1x2048, .f32⟩
  | 38 => ⟨S2x4096x2048, .f32⟩
  | 39 => ⟨S2x4096x2048, .f32⟩
  | 40 => ⟨S2x1x2048, .f32⟩
  | 41 => ⟨S2x4096x2048, .f32⟩
  | 42 => ⟨S2x4096x2048, .f32⟩
  | 43 => ⟨S2x4096x5696, .f32⟩
  | 44 => ⟨S2x4096x512, .f32⟩
  | 45 => ⟨S2x4096x512, .f32⟩
  | 46 => ⟨S2x4096x512, .f32⟩
  | 47 => ⟨S2x4096x512, .f32⟩
  | 48 => ⟨S2x4096x512, .f32⟩
  | 49 => ⟨S2x4096x64, .f32⟩
  | 50 => ⟨S2x4096x1024, .f32⟩
  | 51 => ⟨S2x4096x512, .f32⟩
  | 52 => ⟨S2x4096x512, .f32⟩
  | 53 => ⟨S2x4096x512, .f32⟩
  | 54 => ⟨S2x4096x512, .f32⟩
  | 55 => ⟨S2x4096x16, .f32⟩
  | 56 => ⟨S2x4096x16, .f32⟩
  | 57 => ⟨S2x4096x16, .f32⟩
  | 58 => ⟨S2x4096x16, .f32⟩
  | 59 => ⟨S2x4096x64, .f32⟩
  | 60 => ⟨S2x4096x4352, .f32⟩
  | 61 => ⟨S2x4096x512, .f32⟩
  | 62 => ⟨S2x4096x512, .f32⟩
  | 63 => ⟨S_, .f32⟩
  | 64 => ⟨S2x4096x512, .f32⟩
  | 65 => ⟨S2x4096x512, .f32⟩
  | 66 => ⟨S2x4096x512, .f32⟩
  | 67 => ⟨S_, .f32⟩
  | 68 => ⟨S2x4096x512, .f32⟩
  | 69 => ⟨S2x4096x512, .f32⟩
  | 70 => ⟨S2x4096x512, .f32⟩
  | 71 => ⟨S_, .f32⟩
  | 72 => ⟨S2x4096x512, .f32⟩
  | 73 => ⟨S2x4096x512, .f32⟩
  | 74 => ⟨S_, .f32⟩
  | 75 => ⟨S2x4096x512, .f32⟩
  | 76 => ⟨S2x4096x512, .f32⟩
  | 77 => ⟨S2x4096x512, .f32⟩
  | 78 => ⟨S2x4096x512, .f32⟩
  | 79 => ⟨S_, .f32⟩
  | 80 => ⟨S2x4096, .f32⟩
  | 81 => ⟨S2x4096x1, .f32⟩
  | 82 => ⟨S_, .f32⟩
  | 83 => ⟨S2x4096x1, .f32⟩
  | 84 => ⟨S2x4096x1, .f32⟩
  | 85 => ⟨S_, .f32⟩
  | 86 => ⟨S2x4096x1, .f32⟩
  | 87 => ⟨S2x4096x1, .f32⟩
  | 88 => ⟨S2x4096x1, .f32⟩
  | 89 => ⟨S2x4096x512, .f32⟩
  | 90 => ⟨S2x4096x512, .f32⟩
  | 91 => ⟨S1x1x512, .f32⟩
  | 92 => ⟨S2x4096x512, .f32⟩
  | 93 => ⟨S2x4096x512, .f32⟩
  | 94 => ⟨S2x32x128x4x128, .f32⟩
  | 95 => ⟨S4x2x32x128x128, .f32⟩
  | 96 => ⟨S2x32x128x4x128, .f32⟩
  | 97 => ⟨S128x4, .f32⟩
  | 98 => ⟨S1x1x128x4x1, .f32⟩
  | 99 => ⟨S2x32x128x4x128, .f32⟩
  | 100 => ⟨S2x32x128x4x128, .f32⟩
  | 101 => ⟨S2x4096x512, .f32⟩
  | 102 => ⟨S2x4096x512, .f32⟩
  | 103 => ⟨S_, .f32⟩
  | 104 => ⟨S2x4096x512, .f32⟩
  | 105 => ⟨S2x4096x512, .f32⟩
  | 106 => ⟨S2x4096x512, .f32⟩
  | 107 => ⟨S_, .f32⟩
  | 108 => ⟨S2x4096x512, .f32⟩
  | 109 => ⟨S2x4096x512, .f32⟩
  | 110 => ⟨S2x4096x512, .f32⟩
  | 111 => ⟨S_, .f32⟩
  | 112 => ⟨S2x4096x512, .f32⟩
  | 113 => ⟨S2x4096x512, .f32⟩
  | 114 => ⟨S_, .f32⟩
  | 115 => ⟨S2x4096x512, .f32⟩
  | 116 => ⟨S2x4096x512, .f32⟩
  | 117 => ⟨S2x4096x512, .f32⟩
  | 118 => ⟨S2x4096x512, .f32⟩
  | 119 => ⟨S2x4096x512, .f32⟩
  | 120 => ⟨S2x4096x512, .f32⟩
  | 121 => ⟨S2x4096x512, .f32⟩
  | 122 => ⟨S_, .f32⟩
  | 123 => ⟨S2x4096x512, .f32⟩
  | 124 => ⟨S2x4096x512, .f32⟩
  | 125 => ⟨S_, .f32⟩
  | 126 => ⟨S2x4096x512, .f32⟩
  | 127 => ⟨S2x4096x512, .f32⟩
  | _ => ⟨S8704x2048, .f32⟩

abbrev hbmTy0_1 (i : Nat) : BufTy := match i % 128 with
  | 0 => ⟨S2x4096x512, .f32⟩
  | 1 => ⟨S2x4096x512, .f32⟩
  | 2 => ⟨S8192x4352, .f32⟩
  | 3 => ⟨S8192x512, .f32⟩
  | 4 => ⟨S2x256x2048, .f32⟩
  | 5 => ⟨S_, .f32⟩
  | 6 => ⟨S2x256, .f32⟩
  | 7 => ⟨S2x256x1, .f32⟩
  | 8 => ⟨S_, .f32⟩
  | 9 => ⟨S2x256x1, .f32⟩
  | 10 => ⟨S2x256x1, .f32⟩
  | 11 => ⟨S_, .f32⟩
  | 12 => ⟨S2x256x1, .f32⟩
  | 13 => ⟨S2x256x1, .f32⟩
  | 14 => ⟨S2x256x1, .f32⟩
  | 15 => ⟨S2x256x2048, .f32⟩
  | 16 => ⟨S2x256x2048, .f32⟩
  | 17 => ⟨S1x1x2048, .f32⟩
  | 18 => ⟨S2x256x2048, .f32⟩
  | 19 => ⟨S2x256x2048, .f32⟩
  | 20 => ⟨S_, .f32⟩
  | 21 => ⟨S2048, .f32⟩
  | 22 => ⟨S2048, .f32⟩
  | 23 => ⟨S1x1x2048, .f32⟩
  | 24 => ⟨S2x256x2048, .f32⟩
  | 25 => ⟨S2x256x2048, .f32⟩
  | 26 => ⟨S1x1x2048, .f32⟩
  | 27 => ⟨S2x256x2048, .f32⟩
  | 28 => ⟨S2x256x2048, .f32⟩
  | 29 => ⟨S2x256x5696, .f32⟩
  | 30 => ⟨S2x256x512, .f32⟩
  | 31 => ⟨S2x256x512, .f32⟩
  | 32 => ⟨S2x256x512, .f32⟩
  | 33 => ⟨S2x256x512, .f32⟩
  | 34 => ⟨S2x256x512, .f32⟩
  | 35 => ⟨S2x256x64, .f32⟩
  | 36 => ⟨S2x256x1024, .f32⟩
  | 37 => ⟨S2x256x512, .f32⟩
  | 38 => ⟨S2x256x512, .f32⟩
  | 39 => ⟨S2x256x512, .f32⟩
  | 40 => ⟨S2x256x512, .f32⟩
  | 41 => ⟨S2x256x16, .f32⟩
  | 42 => ⟨S2x256x16, .f32⟩
  | 43 => ⟨S2x256x16, .f32⟩
  | 44 => ⟨S2x256x16, .f32⟩
  | 45 => ⟨S2x256x64, .f32⟩
  | 46 => ⟨S2x256x4352, .f32⟩
  | 47 => ⟨S2x256x512, .f32⟩
  | 48 => ⟨S2x256x512, .f32⟩
  | 49 => ⟨S_, .f32⟩
  | 50 => ⟨S2x256x512, .f32⟩
  | 51 => ⟨S2x256x512, .f32⟩
  | 52 => ⟨S2x256x512, .f32⟩
  | 53 => ⟨S_, .f32⟩
  | 54 => ⟨S2x256x512, .f32⟩
  | 55 => ⟨S2x256x512, .f32⟩
  | 56 => ⟨S2x256x512, .f32⟩
  | 57 => ⟨S_, .f32⟩
  | 58 => ⟨S2x256x512, .f32⟩
  | 59 => ⟨S2x256x512, .f32⟩
  | 60 => ⟨S_, .f32⟩
  | 61 => ⟨S2x256x512, .f32⟩
  | 62 => ⟨S2x256x512, .f32⟩
  | 63 => ⟨S2x256x512, .f32⟩
  | 64 => ⟨S2x256x512, .f32⟩
  | 65 => ⟨S_, .f32⟩
  | 66 => ⟨S2x256, .f32⟩
  | 67 => ⟨S2x256x1, .f32⟩
  | 68 => ⟨S_, .f32⟩
  | 69 => ⟨S2x256x1, .f32⟩
  | 70 => ⟨S2x256x1, .f32⟩
  | 71 => ⟨S_, .f32⟩
  | 72 => ⟨S2x256x1, .f32⟩
  | 73 => ⟨S2x256x1, .f32⟩
  | 74 => ⟨S2x256x1, .f32⟩
  | 75 => ⟨S2x256x512, .f32⟩
  | 76 => ⟨S2x256x512, .f32⟩
  | 77 => ⟨S1x1x512, .f32⟩
  | 78 => ⟨S2x256x512, .f32⟩
  | 79 => ⟨S2x256x512, .f32⟩
  | 80 => ⟨S2x2x128x4x128, .f32⟩
  | 81 => ⟨S4x2x2x128x128, .f32⟩
  | 82 => ⟨S2x2x128x4x128, .f32⟩
  | 83 => ⟨S128x4, .f32⟩
  | 84 => ⟨S1x1x128x4x1, .f32⟩
  | 85 => ⟨S2x2x128x4x128, .f32⟩
  | 86 => ⟨S2x2x128x4x128, .f32⟩
  | 87 => ⟨S2x256x512, .f32⟩
  | 88 => ⟨S2x256x512, .f32⟩
  | 89 => ⟨S_, .f32⟩
  | 90 => ⟨S2x256x512, .f32⟩
  | 91 => ⟨S2x256x512, .f32⟩
  | 92 => ⟨S2x256x512, .f32⟩
  | 93 => ⟨S_, .f32⟩
  | 94 => ⟨S2x256x512, .f32⟩
  | 95 => ⟨S2x256x512, .f32⟩
  | 96 => ⟨S2x256x512, .f32⟩
  | 97 => ⟨S_, .f32⟩
  | 98 => ⟨S2x256x512, .f32⟩
  | 99 => ⟨S2x256x512, .f32⟩
  | 100 => ⟨S_, .f32⟩
  | 101 => ⟨S2x256x512, .f32⟩
  | 102 => ⟨S2x256x512, .f32⟩
  | 103 => ⟨S2x256x512, .f32⟩
  | 104 => ⟨S2x256x512, .f32⟩
  | 105 => ⟨S2x256x512, .f32⟩
  | 106 => ⟨S2x256x512, .f32⟩
  | 107 => ⟨S2x256x512, .f32⟩
  | 108 => ⟨S_, .f32⟩
  | 109 => ⟨S2x256x512, .f32⟩
  | 110 => ⟨S2x256x512, .f32⟩
  | 111 => ⟨S_, .f32⟩
  | 112 => ⟨S2x256x512, .f32⟩
  | 113 => ⟨S2x256x512, .f32⟩
  | 114 => ⟨S2x256x512, .f32⟩
  | 115 => ⟨S2x256x512, .f32⟩
  | 116 => ⟨S512x4352, .f32⟩
  | 117 => ⟨S512x512, .f32⟩
  | 118 => ⟨S8704x4352, .f32⟩
  | 119 => ⟨S8704x4352, .bf16⟩
  | 120 => ⟨S8704x512, .f32⟩
  | 121 => ⟨S8704x512, .bf16⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_12 : Ref sig .tc := ⟨.hbm, 111, rfl⟩
abbrev main_v90 : Ref sig .tc := ⟨.hbm, 112, rfl⟩
abbrev main_v91 : Ref sig .tc := ⟨.hbm, 113, rfl⟩
abbrev main_cst_13 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_14 : Ref sig .tc := ⟨.hbm, 133, rfl⟩
abbrev main_v102 : Ref sig .tc := ⟨.hbm, 134, rfl⟩
abbrev main_v103 : Ref sig .tc := ⟨.hbm, 135, rfl⟩
abbrev main_cst_15 : Ref sig .tc := ⟨.hbm, 136, rfl⟩
abbrev main_v104 : Ref sig .tc := ⟨.hbm, 137, rfl⟩
abbrev main_v105 : Ref sig .tc := ⟨.hbm, 138, rfl⟩
abbrev main_cst_16 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_17 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_18 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_19 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_20 : Ref sig .tc := ⟨.hbm, 185, rfl⟩
abbrev main_v148 : Ref sig .tc := ⟨.hbm, 186, rfl⟩
abbrev main_v149 : Ref sig .tc := ⟨.hbm, 187, rfl⟩
abbrev main_cst_21 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_22 : Ref sig .tc := ⟨.hbm, 193, rfl⟩
abbrev main_v154 : Ref sig .tc := ⟨.hbm, 194, rfl⟩
abbrev main_v155 : Ref sig .tc := ⟨.hbm, 195, rfl⟩
abbrev main_cst_23 : Ref sig .tc := ⟨.hbm, 196, rfl⟩
abbrev main_v156 : Ref sig .tc := ⟨.hbm, 197, rfl⟩
abbrev main_v157 : Ref sig .tc := ⟨.hbm, 198, rfl⟩
abbrev main_cst_24 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_25 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_26 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_27 : Ref sig .tc := ⟨.hbm, 225, rfl⟩
abbrev main_v181 : Ref sig .tc := ⟨.hbm, 226, rfl⟩
abbrev main_v182 : Ref sig .tc := ⟨.hbm, 227, rfl⟩
abbrev main_cst_28 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_call1_v0 : Ref sig .tc := ⟨.hbm, 234, rfl⟩
abbrev main_call1_v1 : Ref sig .tc := ⟨.hbm, 235, rfl⟩
abbrev main_call1_cst : Ref sig .tc := ⟨.hbm, 236, rfl⟩
abbrev main_call1_v2 : Ref sig .tc := ⟨.hbm, 237, rfl⟩
abbrev main_call1_v3 : Ref sig .tc := ⟨.hbm, 238, rfl⟩
abbrev main_call1_cst_0 : Ref sig .tc := ⟨.hbm, 239, rfl⟩
abbrev main_call1_v4 : Ref sig .tc := ⟨.hbm, 240, rfl⟩
abbrev main_call1_v5 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩

abbrev nD : Nat := 1
abbrev τ : Topo := Topo.v7x

variable {F : FTy → Type} [FloatOps F]
-- ==== Proof.Tile.lean ====
/- The arithmetic one group of 256 queries meets in a grid point of the latent attention: eight
   chunks of 512 keys, one chunk of 256 context keys, a running maximum and a running weighted sum,
   and the division at the end. First the operations as the program writes them, then what they
   compute when every entry is a real number. -/
module

public import proofs.«01_k».proof.Proof.Gen.KernelIdeal
public import Idealize.ShloMosaic.PureOps.Ideal
public import Idealize.ShloMosaic.Lib.Pointwise
public import Idealize.ShloMosaic.Lib.IdealHost

@[expose] public section

set_option maxRecDepth 16384

noncomputable section

namespace Cert.Mla

open Idealize.ShloMosaic Cert.KernelIdeal Cert.KernelIdeal.Gen Idealize.SL.Sem

section Ops
variable {F : FTy → Type} [FloatOps F]

/-- The scores of a chunk of 512 keys against the 256 queries of a group. -/
def score (k : FVec F S512x256 .bf16) (q : FVec F S256x256 .bf16) : FVec F S512x256 .f32 :=
  matmul dot_S512x256_S256x256_S512x256_1_1_0_0_n_n none k q (constant S512x256 .f32 0x00000000#32)

/-- The largest score of a chunk, for each query. -/
def top (s : FVec F S512x256 .f32) : FVec F S1x256 .f32 :=
  shapeCast S1x256 (multiReduction .maximumf [0] S256 s 0xFF800000#32 reduces_S512x256_S256 (.inl rfl) rfl)
    shapeCasts_S256_S1x256

/-- The weights of 256 keys, relative to the maximum `m`. -/
def weights (s : FVec F S256x256 .f32) (m : FVec F S1x256 .f32) : FVec F S256x256 .bf16 :=
  truncf .bf16 (exp2 (subf s (broadcastTo S256x256 m broadcasts_S1x256_S256x256))) bitsLt_bf16_f32

/-- Weighted sum of the values of 256 keys. -/
def mix (v : FVec F S144x256 .bf16) (p : FVec F S256x256 .bf16) : FVec F S144x256 .f32 :=
  matmul dot_S144x256_S256x256_S144x256_1_0_0_1_n_n none v p (constant S144x256 .f32 0x00000000#32)

/-- Weighted sum of the values of a chunk of 512 keys. -/
def weigh (va vb : FVec F S144x256 .bf16) (s : FVec F S512x256 .f32) (m : FVec F S1x256 .f32) :
    FVec F S144x256 .f32 :=
  addf (mix va (weights (extractStridedSlice S256x256 ![0, 0] s slices_S512x256_o0_0_S256x256) m))
    (mix vb (weights (extractStridedSlice S256x256 ![256, 0] s slices_S512x256_o256_0_S256x256) m))

/-- The running sum brought to a new maximum. -/
def rescale (m m' : FVec F S1x256 .f32) (a : FVec F S144x256 .f32) : FVec F S144x256 .f32 :=
  mulf (broadcastTo S144x256 (exp2 (subf m m')) broadcasts_S1x256_S144x256) a

/-- The maximum after one more chunk. -/
def nextM (k : FVec F S512x256 .bf16) (q : FVec F S256x256 .bf16) (m : FVec F S1x256 .f32) : FVec F S1x256 .f32 :=
  maximumf m (top (score k q))

/-- The weighted sum after one more chunk. -/
def nextA (k : FVec F S512x256 .bf16) (va vb : FVec F S144x256 .bf16) (q : FVec F S256x256 .bf16)
    (m : FVec F S1x256 .f32) (a : FVec F S144x256 .f32) : FVec F S144x256 .f32 :=
  addf (rescale m (nextM k q m) a) (weigh va vb (score k q) (nextM k q m))

/-- The scores of the context's 256 keys. -/
def scoreC (k : FVec F S256x256 .bf16) (q : FVec F S256x256 .bf16) : FVec F S256x256 .f32 :=
  matmul dot_S256x256_S256x256_S256x256_1_1_0_0_n_n none k q (constant S256x256 .f32 0x00000000#32)

/-- The largest score of the context's keys. -/
def topC (s : FVec F S256x256 .f32) : FVec F S1x256 .f32 :=
  shapeCast S1x256 (multiReduction .maximumf [0] S256 s 0xFF800000#32 reduces_S256x256_S256 (.inl rfl) rfl)
    shapeCasts_S256_S1x256

/-- The maximum after the context's keys. -/
def lastM (k : FVec F S256x256 .bf16) (q : FVec F S256x256 .bf16) (m : FVec F S1x256 .f32) : FVec F S1x256 .f32 :=
  maximumf m (topC (scoreC k q))

/-- The weighted sum after the context's keys. -/
def lastA (k : FVec F S256x256 .bf16) (v : FVec F S144x256 .bf16) (q : FVec F S256x256 .bf16)
    (m : FVec F S1x256 .f32) (a : FVec F S144x256 .f32) : FVec F S144x256 .f32 :=
  addf (rescale m (lastM k q m) a) (mix v (weights (scoreC k q) (lastM k q m)))

/-- The first 128 rows over the row of ones' sum. -/
def ratio (a : FVec F S144x256 .f32) : FVec F S128x256 .f32 :=
  divf (extractStridedSlice S128x256 ![0, 0] a slices_S144x256_o0_0_S128x256)
    (broadcastTo S128x256 (extractStridedSlice S1x256 ![128, 0] a slices_S144x256_o128_0_S1x256)
      broadcasts_S1x256_S128x256)

/-- The stored block: queries along the rows, gated. -/
def gated (o : FVec F S128x256 .f32) (g : FVec F S256x128 .f32) : FVec F S256x128 .bf16 :=
  truncf .bf16 (mulf (transpose S256x128 [1, 0] o transposes_S128x256_p1_0_S256x128) (mulf g (logistic g)))
    bitsLt_bf16_f32

/-- The running maximum after chunk `j`. -/
def runM (k : ℕ → FVec F S512x256 .bf16) (q : FVec F S256x256 .bf16) : ℕ → FVec F S1x256 .f32
  | 0 => top (score (k 0) q)
  | j + 1 => nextM (k (j + 1)) q (runM k q j)

/-- The running weighted sum after chunk `j`. -/
def runA (k : ℕ → FVec F S512x256 .bf16) (v : ℕ → FVec F S144x256 .bf16) (q : FVec F S256x256 .bf16) :
    ℕ → FVec F S144x256 .f32
  | 0 => weigh (v 0) (v 1) (score (k 0) q) (runM k q 0)
  | j + 1 => nextA (k (j + 1)) (v (2 * (j + 1))) (v (2 * (j + 1) + 1)) q (runM k q j) (runA k v q j)

/-- One group's stored block. -/
def group (k : ℕ → FVec F S512x256 .bf16) (v : ℕ → FVec F S144x256 .bf16) (kc : FVec F S256x256 .bf16)
    (vc : FVec F S144x256 .bf16) (q : FVec F S256x256 .bf16) (g : FVec F S256x128 .f32) : FVec F S256x128 .bf16 :=
  gated (ratio (lastA kc vc q (runM k q 7) (runA k v q 7))) g

end Ops

/-! ## What the operations compute on real entries -/

/-- A power of two. -/
def e2 (x : ℝ) : ℝ := Real.rpow 2 x

theorem e2_pos (x : ℝ) : 0 < e2 x := Real.rpow_pos_of_pos (by norm_num) x
theorem e2_add (x y : ℝ) : e2 (x + y) = e2 x * e2 y := Real.rpow_add (by norm_num) x y
theorem e2_sub (x y : ℝ) : e2 (x - y) = e2 x * e2 (-y) := by rw [sub_eq_add_neg, e2_add]

theorem exp2_real (φ : FTy) (x : ℝ) : FloatOps.exp2 (F := Ideal) (φ := φ) (x : EReal) = ((e2 x : ℝ) : EReal) :=
  Ideal.exp2_coe x

theorem sum_coe {ι : Type} [Fintype ι] (f : ι → ℝ) : ∑ i, ((f i : ℝ) : EReal) = ((∑ i, f i : ℝ) : EReal) := by
  induction (Finset.univ : Finset ι) using Finset.cons_induction with
  | empty => simp
  | cons a s h ih => rw [Finset.sum_cons, Finset.sum_cons, ih, EReal.coe_add]

theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many reals, at least one, is a real. -/
theorem fold_max_coe {n : ℕ} (f : Fin (n + 1) → ℝ) :
    ∃ μ : ℝ, (Finset.univ : Finset (Fin (n + 1))).fold max (⊥ : EReal) (fun i => ((f i : ℝ) : EReal)) = (μ : EReal) := by
  have h : ∀ s : Finset (Fin (n + 1)), s = ∅ ∨ ∃ μ : ℝ, s.fold max (⊥ : EReal) (fun i => ((f i : ℝ) : EReal)) = (μ : EReal) := by
    intro s
    induction s using Finset.cons_induction with
    | empty => exact .inl rfl
    | cons a s h ih =>
      right
      rw [Finset.fold_cons]
      rcases ih with rfl | ⟨μ, hμ⟩
      · exact ⟨f a, by simp⟩
      · exact ⟨max (f a) μ, by rw [hμ, max_coe]⟩
  rcases h Finset.univ with h | h
  · exact absurd h (Finset.univ_nonempty.ne_empty)
  · exact h

theorem neg_inf_f32 : Ideal.ofBits .f32 0xFF800000#32 = ⊥ := by
  simp [Ideal.ofBits, Ideal.ieee]

/-- Dot products of keys and queries. -/
def dots {n : ℕ} (K : Fin n → Fin 256 → ℝ) (Q : Fin 256 → Fin 256 → ℝ) (x : Fin n) (r : Fin 256) : ℝ :=
  ∑ c, K x c * Q r c

theorem score_real {k : FVec Ideal S512x256 .bf16} {q : FVec Ideal S256x256 .bf16} {K : Fin 512 → Fin 256 → ℝ}
    {Q : Fin 256 → Fin 256 → ℝ} (hk : ∀ x c, k (ix2 x c) = ((K x c : ℝ) : EReal))
    (hq : ∀ r c, q (ix2 r c) = ((Q r c : ℝ) : EReal)) (x : Fin 512) (r : Fin 256) :
    score k q (ix2 x r) = ((dots K Q x r : ℝ) : EReal) := by
  pointwise [score]
  simp only [hk, hq, ← EReal.coe_mul, sum_coe, dots]

theorem scoreC_real {k : FVec Ideal S256x256 .bf16} {q : FVec Ideal S256x256 .bf16} {K : Fin 256 → Fin 256 → ℝ}
    {Q : Fin 256 → Fin 256 → ℝ} (hk : ∀ x c, k (ix2 x c) = ((K x c : ℝ) : EReal))
    (hq : ∀ r c, q (ix2 r c) = ((Q r c : ℝ) : EReal)) (x : Fin 256) (r : Fin 256) :
    scoreC k q (ix2 x r) = ((dots K Q x r : ℝ) : EReal) := by
  pointwise [scoreC]
  simp only [hk, hq, ← EReal.coe_mul, sum_coe, dots]

theorem top_real {s : FVec Ideal S512x256 .f32} {S : Fin 512 → Fin 256 → ℝ}
    (hs : ∀ x r, s (ix2 x r) = ((S x r : ℝ) : EReal)) (r : Fin 256) : ∃ μ : ℝ, top s (ix2 0 r) = (μ : EReal) := by
  obtain ⟨μ, h⟩ := fold_max_coe (n := 511) (fun x => S x r)
  refine ⟨μ, ?_⟩
  pointwise [top]
  simp only [hs, neg_inf_f32]
  exact h

theorem topC_real {s : FVec Ideal S256x256 .f32} {S : Fin 256 → Fin 256 → ℝ}
    (hs : ∀ x r, s (ix2 x r) = ((S x r : ℝ) : EReal)) (r : Fin 256) : ∃ μ : ℝ, topC s (ix2 0 r) = (μ : EReal) := by
  obtain ⟨μ, h⟩ := fold_max_coe (n := 255) (fun x => S x r)
  refine ⟨μ, ?_⟩
  pointwise [topC]
  simp only [hs, neg_inf_f32]
  exact h

theorem mix_real {v : FVec Ideal S144x256 .bf16} {s : FVec Ideal S256x256 .f32} {m : FVec Ideal S1x256 .f32}
    {V : Fin 144 → Fin 256 → ℝ} {S : Fin 256 → Fin 256 → ℝ} {μ : Fin 256 → ℝ}
    (hv : ∀ y x, v (ix2 y x) = ((V y x : ℝ) : EReal)) (hs : ∀ x r, s (ix2 x r) = ((S x r : ℝ) : EReal))
    (hm : ∀ r, m (ix2 0 r) = ((μ r : ℝ) : EReal)) (y : Fin 144) (r : Fin 256) :
    mix v (weights s m) (ix2 y r) = (((∑ x, V y x * e2 (S x r)) * e2 (-μ r) : ℝ) : EReal) := by
  pointwise [mix, weights]
  simp only [hv, hs, hm, ← EReal.coe_sub, exp2_real, ← EReal.coe_mul, sum_coe, e2_sub, Finset.sum_mul, mul_assoc]

theorem low_read (s : FVec Ideal S512x256 .f32) (x r : Fin 256) :
    extractStridedSlice S256x256 ![0, 0] s slices_S512x256_o0_0_S256x256 (ix2 x r) = s (ix2 ⟨x, by omega⟩ r) := by
  pointwise

theorem high_read (s : FVec Ideal S512x256 .f32) (x r : Fin 256) :
    extractStridedSlice S256x256 ![256, 0] s slices_S512x256_o256_0_S256x256 (ix2 x r)
      = s (ix2 ⟨256 + x, by omega⟩ r) := by
  pointwise

/-- Weighted sum of one chunk of 512 keys, before any maximum is taken out. -/
def part (Va Vb : Fin 144 → Fin 256 → ℝ) (S : Fin 512 → Fin 256 → ℝ) (y : Fin 144) (r : Fin 256) : ℝ :=
  (∑ x : Fin 256, Va y x * e2 (S ⟨x, by omega⟩ r)) + ∑ x : Fin 256, Vb y x * e2 (S ⟨256 + x, by omega⟩ r)

theorem weigh_real {va vb : FVec Ideal S144x256 .bf16} {s : FVec Ideal S512x256 .f32} {m : FVec Ideal S1x256 .f32}
    {Va Vb : Fin 144 → Fin 256 → ℝ} {S : Fin 512 → Fin 256 → ℝ} {μ : Fin 256 → ℝ}
    (ha : ∀ y x, va (ix2 y x) = ((Va y x : ℝ) : EReal)) (hb : ∀ y x, vb (ix2 y x) = ((Vb y x : ℝ) : EReal))
    (hs : ∀ x r, s (ix2 x r) = ((S x r : ℝ) : EReal))
    (hm : ∀ r, m (ix2 0 r) = ((μ r : ℝ) : EReal)) (y : Fin 144) (r : Fin 256) :
    weigh va vb s m (ix2 y r) = ((part Va Vb S y r * e2 (-μ r) : ℝ) : EReal) := by
  have h1 := mix_real (s := extractStridedSlice S256x256 ![0, 0] s slices_S512x256_o0_0_S256x256)
    (S := fun x r => S ⟨x, by omega⟩ r) ha (fun x r => by rw [low_read, hs]) hm y r
  have h2 := mix_real (s := extractStridedSlice S256x256 ![256, 0] s slices_S512x256_o256_0_S256x256)
    (S := fun x r => S ⟨256 + x, by omega⟩ r) hb (fun x r => by rw [high_read, hs]) hm y r
  show _ + _ = _
  rw [h1, h2, ← EReal.coe_add, ← add_mul]
  rfl

/-- A maximum `m` and a sum `a` that stand for the sum `T` of the weighted values so far: `a` is `T` with the
    maximum taken out of the exponents. -/
def Holds (m : FVec Ideal S1x256 .f32) (a : FVec Ideal S144x256 .f32) (T : Fin 144 → Fin 256 → ℝ) : Prop :=
  ∃ μ : Fin 256 → ℝ, (∀ r, m (ix2 0 r) = ((μ r : ℝ) : EReal))
    ∧ ∀ y r, a (ix2 y r) = ((T y r * e2 (-μ r) : ℝ) : EReal)

theorem rescale_real {m m' : FVec Ideal S1x256 .f32} {a : FVec Ideal S144x256 .f32} {T : Fin 144 → Fin 256 → ℝ}
    {μ μ' : Fin 256 → ℝ} (hm : ∀ r, m (ix2 0 r) = ((μ r : ℝ) : EReal)) (hm' : ∀ r, m' (ix2 0 r) = ((μ' r : ℝ) : EReal))
    (ha : ∀ y r, a (ix2 y r) = ((T y r * e2 (-μ r) : ℝ) : EReal)) (y : Fin 144) (r : Fin 256) :
    rescale m m' a (ix2 y r) = ((T y r * e2 (-μ' r) : ℝ) : EReal) := by
  pointwise [rescale]
  rw [hm, hm', ha, ← EReal.coe_sub, exp2_real, ← EReal.coe_mul]
  congr 1
  have h : e2 (μ r) * e2 (-μ r) = 1 := by rw [← e2_add]; simp [e2]
  rw [e2_sub]
  linear_combination (T y r * e2 (-μ' r)) * h

theorem maxi_real {m t : FVec Ideal S1x256 .f32} {μ : Fin 256 → ℝ} (hm : ∀ r, m (ix2 0 r) = ((μ r : ℝ) : EReal))
    (ht : ∀ r, ∃ ν : ℝ, t (ix2 0 r) = (ν : EReal)) :
    ∃ μ' : Fin 256 → ℝ, ∀ r, maximumf m t (ix2 0 r) = ((μ' r : ℝ) : EReal) := by
  choose ν h using ht
  refine ⟨fun r => max (μ r) (ν r), fun r => ?_⟩
  show max _ _ = _
  rw [hm, h, max_coe]

theorem first_holds {k : FVec Ideal S512x256 .bf16} {va vb : FVec Ideal S144x256 .bf16} {q : FVec Ideal S256x256 .bf16}
    {K : Fin 512 → Fin 256 → ℝ} {Q : Fin 256 → Fin 256 → ℝ} {Va Vb : Fin 144 → Fin 256 → ℝ}
    (hk : ∀ x c, k (ix2 x c) = ((K x c : ℝ) : EReal)) (hq : ∀ r c, q (ix2 r c) = ((Q r c : ℝ) : EReal))
    (ha : ∀ y x, va (ix2 y x) = ((Va y x : ℝ) : EReal)) (hb : ∀ y x, vb (ix2 y x) = ((Vb y x : ℝ) : EReal)) :
    Holds (top (score k q)) (weigh va vb (score k q) (top (score k q))) (part Va Vb (dots K Q)) := by
  have hs := score_real hk hq
  choose μ hμ using top_real hs
  exact ⟨μ, hμ, weigh_real ha hb hs hμ⟩

theorem next_holds {k : FVec Ideal S512x256 .bf16} {va vb : FVec Ideal S144x256 .bf16} {q : FVec Ideal S256x256 .bf16}
    {K : Fin 512 → Fin 256 → ℝ} {Q : Fin 256 → Fin 256 → ℝ} {Va Vb : Fin 144 → Fin 256 → ℝ}
    (hk : ∀ x c, k (ix2 x c) = ((K x c : ℝ) : EReal)) (hq : ∀ r c, q (ix2 r c) = ((Q r c : ℝ) : EReal))
    (ha : ∀ y x, va (ix2 y x) = ((Va y x : ℝ) : EReal)) (hb : ∀ y x, vb (ix2 y x) = ((Vb y x : ℝ) : EReal))
    {m : FVec Ideal S1x256 .f32} {a : FVec Ideal S144x256 .f32} {T : Fin 144 → Fin 256 → ℝ} (h : Holds m a T) :
    Holds (nextM k q m) (nextA k va vb q m a) (fun y r => T y r + part Va Vb (dots K Q) y r) := by
  obtain ⟨μ, hm, hT⟩ := h
  have hs := score_real hk hq
  obtain ⟨μ', hm'⟩ := maxi_real hm (top_real hs)
  change ∀ r, nextM k q m (ix2 0 r) = _ at hm'
  refine ⟨μ', hm', fun y r => ?_⟩
  show _ + _ = _
  rw [rescale_real hm hm' hT, weigh_real ha hb hs hm', ← EReal.coe_add, ← add_mul]

theorem last_holds {k : FVec Ideal S256x256 .bf16} {v : FVec Ideal S144x256 .bf16} {q : FVec Ideal S256x256 .bf16}
    {K : Fin 256 → Fin 256 → ℝ} {Q : Fin 256 → Fin 256 → ℝ} {V : Fin 144 → Fin 256 → ℝ}
    (hk : ∀ x c, k (ix2 x c) = ((K x c : ℝ) : EReal)) (hq : ∀ r c, q (ix2 r c) = ((Q r c : ℝ) : EReal))
    (hv : ∀ y x, v (ix2 y x) = ((V y x : ℝ) : EReal))
    {m : FVec Ideal S1x256 .f32} {a : FVec Ideal S144x256 .f32} {T : Fin 144 → Fin 256 → ℝ} (h : Holds m a T) :
    Holds (lastM k q m) (lastA k v q m a) (fun y r => T y r + ∑ x, V y x * e2 (dots K Q x r)) := by
  obtain ⟨μ, hm, hT⟩ := h
  have hs := scoreC_real hk hq
  obtain ⟨μ', hm'⟩ := maxi_real hm (topC_real hs)
  change ∀ r, lastM k q m (ix2 0 r) = _ at hm'
  refine ⟨μ', hm', fun y r => ?_⟩
  show _ + _ = _
  rw [rescale_real hm hm' hT, mix_real hv hs hm', ← EReal.coe_add, ← add_mul]

theorem run_holds {k : ℕ → FVec Ideal S512x256 .bf16} {v : ℕ → FVec Ideal S144x256 .bf16} {q : FVec Ideal S256x256 .bf16}
    {K : ℕ → Fin 512 → Fin 256 → ℝ} {Q : Fin 256 → Fin 256 → ℝ} {V : ℕ → Fin 144 → Fin 256 → ℝ} (n : ℕ)
    (hk : ∀ j ≤ n, ∀ x c, k j (ix2 x c) = ((K j x c : ℝ) : EReal)) (hq : ∀ r c, q (ix2 r c) = ((Q r c : ℝ) : EReal))
    (hv : ∀ j ≤ 2 * n + 1, ∀ y x, v j (ix2 y x) = ((V j y x : ℝ) : EReal)) :
    Holds (runM k q n) (runA k v q n)
      (fun y r => ∑ j ∈ Finset.range (n + 1), part (V (2 * j)) (V (2 * j + 1)) (dots (K j) Q) y r) := by
  induction n with
  | zero => simpa [runM, runA] using first_holds (hk 0 le_rfl) hq (hv 0 (by omega)) (hv 1 (by omega))
  | succ n ih =>
    have := next_holds (hk (n + 1) le_rfl) hq (hv (2 * (n + 1)) (by omega)) (hv (2 * (n + 1) + 1) (by omega))
      (ih (fun j h => hk j (by omega)) (fun j h => hv j (by omega)))
    simp only [Finset.sum_range_succ _ (n + 1)]
    exact this

theorem ratio_read (a : FVec Ideal S144x256 .f32) (d : Fin 128) (r : Fin 256) :
    ratio a (ix2 d r) = Ideal.div (a (ix2 ⟨d, by omega⟩ r)) (a (ix2 ⟨128, by omega⟩ r)) := by
  pointwise [ratio]

theorem gated_read (o : FVec Ideal S128x256 .f32) (g : FVec Ideal S256x128 .f32) (r : Fin 256) (d : Fin 128) :
    gated o g (ix2 r d) = o (ix2 d r) * (g (ix2 r d) * Ideal.logistic (g (ix2 r d))) := by
  pointwise [gated]

/-- The sum over a group's keys of the values times the powers of two. -/
def total (K : ℕ → Fin 512 → Fin 256 → ℝ) (V : ℕ → Fin 144 → Fin 256 → ℝ) (Kc : Fin 256 → Fin 256 → ℝ)
    (Vc : Fin 144 → Fin 256 → ℝ) (Q : Fin 256 → Fin 256 → ℝ) (y : Fin 144) (r : Fin 256) : ℝ :=
  (∑ j ∈ Finset.range 8, part (V (2 * j)) (V (2 * j + 1)) (dots (K j) Q) y r) + ∑ x, Vc y x * e2 (dots Kc Q x r)

/-- What a group stores: the weighted sum over the sum of the weights, gated. -/
theorem group_real {k : ℕ → FVec Ideal S512x256 .bf16} {v : ℕ → FVec Ideal S144x256 .bf16}
    {kc : FVec Ideal S256x256 .bf16} {vc : FVec Ideal S144x256 .bf16} {q : FVec Ideal S256x256 .bf16}
    {g : FVec Ideal S256x128 .f32}
    {K : ℕ → Fin 512 → Fin 256 → ℝ} {V : ℕ → Fin 144 → Fin 256 → ℝ} {Kc : Fin 256 → Fin 256 → ℝ}
    {Vc : Fin 144 → Fin 256 → ℝ} {Q : Fin 256 → Fin 256 → ℝ} {G : Fin 256 → Fin 128 → ℝ}
    (hk : ∀ j ≤ 7, ∀ x c, k j (ix2 x c) = ((K j x c : ℝ) : EReal))
    (hv : ∀ j ≤ 15, ∀ y x, v j (ix2 y x) = ((V j y x : ℝ) : EReal))
    (hkc : ∀ x c, kc (ix2 x c) = ((Kc x c : ℝ) : EReal)) (hvc : ∀ y x, vc (ix2 y x) = ((Vc y x : ℝ) : EReal))
    (hq : ∀ r c, q (ix2 r c) = ((Q r c : ℝ) : EReal)) (hg : ∀ r d, g (ix2 r d) = ((G r d : ℝ) : EReal))
    (r : Fin 256) (d : Fin 128) (h0 : total K V Kc Vc Q ⟨128, by omega⟩ r ≠ 0) :
    group k v kc vc q g (ix2 r d)
      = ((total K V Kc Vc Q ⟨d, by omega⟩ r / total K V Kc Vc Q ⟨128, by omega⟩ r
          * (G r d * (1 + Real.exp (-G r d))⁻¹) : ℝ) : EReal) := by
  obtain ⟨μ, hm, hT⟩ := last_holds hkc hq hvc (run_holds 7 hk hq hv)
  change ∀ y r, _ = ((total K V Kc Vc Q y r * e2 (-μ r) : ℝ) : EReal) at hT
  have he := (e2_pos (-μ r)).ne'
  rw [group, gated_read, ratio_read, hT, hT, hg, Ideal.div_coe (mul_ne_zero h0 he), Ideal.logistic_coe,
    ← EReal.coe_mul, ← EReal.coe_mul, ← EReal.coe_mul]
  congr 2
  show total K V Kc Vc Q ⟨d, by omega⟩ r * e2 (-μ r) * (1 / (total K V Kc Vc Q ⟨128, by omega⟩ r * e2 (-μ r))) = _
  field_simp

end Cert.Mla
-- ==== Proof.Block.lean ====
/- The block a grid point writes, as eight groups of 256 queries: each stored tile is `Mla.group` of the
   loaded queries, keys, values and gates. -/
module

public import proofs.«01_k».proof.Proof.Tile
public import proofs.«01_k».proof.Proof.Gen.KernelIdeal.Value
public import Idealize.ShloMosaic.Lib.Pipeline.ValueKit

@[expose] public section

set_option maxRecDepth 16384

noncomputable section

namespace Cert.Mla

open Idealize.ShloMosaic Cert.KernelIdeal Cert.KernelIdeal.Gen Idealize.SL.Sem Idealize.ShloMosaic.Pipeline

variable {F : FTy → Type} [FloatOps F]

/-- Chunk `j` of the block of keys. -/
def kAt (x1 : Vec F S1x4096x256 .bf16) (j : ℕ) : FVec F S512x256 .bf16 :=
  if h : j ≤ 7 then
    shapeCast S512x256 (fun i : S1x512x256.Idx => x1 ((Rect.unit (s := S1x4096x256) ![0, 512 * j, 0] S1x512x256.size
      (by intro a; fin_cases a <;> simp [Shape.size] <;> omega)).idx i)) shapeCasts_S1x512x256_S512x256
  else constant S512x256 .bf16 0x0000#16

/-- Chunk `j` of the block of values. -/
def vAt (x2 : Vec F S1x16x144x256 .bf16) (j : ℕ) : FVec F S144x256 .bf16 :=
  if h : j ≤ 15 then
    shapeCast S144x256 (fun i : S1x1x144x256.Idx => x2 ((Rect.unit (s := S1x16x144x256) ![0, j, 0, 0] S1x1x144x256.size
      (by intro a; fin_cases a <;> simp [Shape.size] <;> omega)).idx i)) shapeCasts_S1x1x144x256_S144x256
  else constant S144x256 .bf16 0x0000#16

/-- Query group `p` of the block of queries. -/
def qAt (x0 : Vec F S1x2048x256 .bf16) (p : ℕ) : FVec F S256x256 .bf16 :=
  if h : p ≤ 7 then
    shapeCast S256x256 (fun i : S1x256x256.Idx => x0 ((Rect.unit (s := S1x2048x256) ![0, 256 * p, 0] S1x256x256.size
      (by intro a; fin_cases a <;> simp [Shape.size] <;> omega)).idx i)) shapeCasts_S1x256x256_S256x256
  else constant S256x256 .bf16 0x0000#16

/-- The gates of query group `p`. -/
def gAt (x5 : Vec F S2048x128 .bf16) (p : ℕ) : FVec F S256x128 .f32 :=
  if h : p ≤ 7 then
    extf .f32 (shapeCast S256x128 (fun i : S256x128.Idx => x5 ((Rect.unit (s := S2048x128) ![256 * p, 0] S256x128.size
      (by intro a; fin_cases a <;> simp [Shape.size] <;> omega)).idx i)) shapeCasts_S256x128_S256x128) bitsLt_bf16_f32
  else constant S256x128 .f32 0x00000000#32

/-- The block a grid point writes. -/
def block (x0 : Vec F S1x2048x256 .bf16) (x1 : Vec F S1x4096x256 .bf16) (x2 : Vec F S1x16x144x256 .bf16)
    (x3 : Vec F S1x256x256 .bf16) (x4 : Vec F S1x1x144x256 .bf16) (x5 : Vec F S2048x128 .bf16) (p : ℕ) :
    FVec F S256x128 .bf16 :=
  group (kAt x1) (vAt x2) (shapeCast S256x256 x3 shapeCasts_S1x256x256_S256x256)
    (shapeCast S144x256 x4 shapeCasts_S1x1x144x256_S144x256) (qAt x0 p) (gAt x5 p)

theorem block_at (x0 : Vec F S1x2048x256 .bf16) (x1 : Vec F S1x4096x256 .bf16) (x2 : Vec F S1x16x144x256 .bf16)
    (x3 : Vec F S1x256x256 .bf16) (x4 : Vec F S1x1x144x256 .bf16) (x5 : Vec F S2048x128 .bf16) (p : ℕ)
    (y : S2048x128.Idx) (x : S256x128.Idx) (h0 : (y 0 : ℕ) = 256 * p + (x 0 : ℕ)) (h1 : (y 1 : ℕ) = (x 1 : ℕ)) :
    block x0 x1 x2 x3 x4 x5 p x
      = block x0 x1 x2 x3 x4 x5 ((y 0 : ℕ) / 256) (ix2 ⟨(y 0 : ℕ) % 256, Nat.mod_lt _ (by norm_num)⟩ (y 1)) := by
  obtain ⟨a, b, rfl⟩ : ∃ (a : Fin 256) (b : Fin 128), x = ix2 a b := ⟨x 0, x 1, eq_ix2 x⟩
  change (y 0 : ℕ) = 256 * p + (a : ℕ) at h0
  change (y 1 : ℕ) = (b : ℕ) at h1
  have e : (y 0 : ℕ) / 256 = p := by omega
  rw [e]
  congr 1
  refine (ix2_inj ..).2 ⟨Fin.ext ?_, Fin.ext h1.symm⟩
  show (a : ℕ) = (y 0 : ℕ) % 256
  omega

/-- What the stores of a grid point leave in the output block. -/
theorem out_at (c : Dev nD) (i : grid0.Coords) (arg3 : Memref sig .tc .vmem S1x2048x256 .bf16) (harg3 : arg3.IsWhole) (arg4 : Memref sig .tc .vmem S1x4096x256 .bf16) (harg4 : arg4.IsWhole) (arg5 : Memref sig .tc .vmem S1x16x144x256 .bf16) (harg5 : arg5.IsWhole) (arg6 : Memref sig .tc .vmem S1x256x256 .bf16) (harg6 : arg6.IsWhole) (arg7 : Memref sig .tc .vmem S1x1x144x256 .bf16) (harg7 : arg7.IsWhole) (arg8 : Memref sig .tc .vmem S2048x128 .bf16) (harg8 : arg8.IsWhole) (arg9 : Memref sig .tc .vmem S2048x128 .bf16) (harg9 : arg9.IsWhole)
    (x0 : Vec F S1x2048x256 .bf16) (x1 : Vec F S1x4096x256 .bf16) (x2 : Vec F S1x16x144x256 .bf16) (x3 : Vec F S1x256x256 .bf16) (x4 : Vec F S1x1x144x256 .bf16) (x5 : Vec F S2048x128 .bf16) (y : S2048x128.Idx) :
    out0_A_6 c i arg3 harg3 arg4 harg4 arg5 harg5 arg6 harg6 arg7 harg7 arg8 harg8 arg9 harg9 x0 x1 x2 x3 x4 x5 y
      = block x0 x1 x2 x3 x4 x5 ((y 0 : ℕ) / 256) (ix2 ⟨(y 0 : ℕ) % 256, Nat.mod_lt _ (by norm_num)⟩ (y 1)) := by
  frame_out
  canon_tiles x h
  case piece0 =>
    refine Eq.trans ?_ (block_at x0 x1 x2 x3 x4 x5 7 y x (by simpa using h0) (by simpa using h1))
    sl_kernel_rfl
  case piece1 =>
    refine Eq.trans ?_ (block_at x0 x1 x2 x3 x4 x5 6 y x (by simpa using h0) (by simpa using h1))
    sl_kernel_rfl
  case piece2 =>
    refine Eq.trans ?_ (block_at x0 x1 x2 x3 x4 x5 5 y x (by simpa using h0) (by simpa using h1))
    sl_kernel_rfl
  case piece3 =>
    refine Eq.trans ?_ (block_at x0 x1 x2 x3 x4 x5 4 y x (by simpa using h0) (by simpa using h1))
    sl_kernel_rfl
  case piece4 =>
    refine Eq.trans ?_ (block_at x0 x1 x2 x3 x4 x5 3 y x (by simpa using h0) (by simpa using h1))
    sl_kernel_rfl
  case piece5 =>
    refine Eq.trans ?_ (block_at x0 x1 x2 x3 x4 x5 2 y x (by simpa using h0) (by simpa using h1))
    sl_kernel_rfl
  case piece6 =>
    refine Eq.trans ?_ (block_at x0 x1 x2 x3 x4 x5 1 y x (by simpa using h0) (by simpa using h1))
    sl_kernel_rfl
  case piece7 =>
    refine Eq.trans ?_ (block_at x0 x1 x2 x3 x4 x5 0 y x (by simpa using h0) (by simpa using h1))
    sl_kernel_rfl

theorem kAt_read (x1 : Vec F S1x4096x256 .bf16) (j : ℕ) (h : j ≤ 7) (x : Fin 512) (c : Fin 256) :
    kAt x1 j (ix2 x c) = x1 (ix3 0 ⟨512 * j + x, by omega⟩ c) := by
  rw [kAt, dif_pos h]
  pointwise

theorem vAt_read (x2 : Vec F S1x16x144x256 .bf16) (j : ℕ) (h : j ≤ 15) (y : Fin 144) (x : Fin 256) :
    vAt x2 j (ix2 y x) = x2 (ix4 0 ⟨j, by omega⟩ y x) := by
  rw [vAt, dif_pos h]
  pointwise

theorem qAt_read (x0 : Vec F S1x2048x256 .bf16) (p : ℕ) (h : p ≤ 7) (r : Fin 256) (c : Fin 256) :
    qAt x0 p (ix2 r c) = x0 (ix3 0 ⟨256 * p + r, by omega⟩ c) := by
  rw [qAt, dif_pos h]
  pointwise

theorem gAt_read (x5 : Vec Ideal S2048x128 .bf16) (p : ℕ) (h : p ≤ 7) (r : Fin 256) (d : Fin 128) :
    gAt x5 p (ix2 r d) = x5 (ix2 ⟨256 * p + r, by omega⟩ d) := by
  rw [gAt, dif_pos h]
  pointwise

theorem kc_read (x3 : Vec F S1x256x256 .bf16) (x c : Fin 256) :
    shapeCast S256x256 x3 shapeCasts_S1x256x256_S256x256 (ix2 x c) = x3 (ix3 0 x c) := by
  pointwise

theorem vc_read (x4 : Vec F S1x1x144x256 .bf16) (y : Fin 144) (x : Fin 256) :
    shapeCast S144x256 x4 shapeCasts_S1x1x144x256_S144x256 (ix2 y x) = x4 (ix4 0 0 y x) := by
  pointwise

end Cert.Mla
-- ==== Proof.Pack.lean ====
/- The arrays the host prepares for the attention call, as functions of the arguments. -/
module

public import proofs.«01_k».proof.Proof.Block

@[expose] public section

set_option maxRecDepth 16384

noncomputable section

namespace Cert.Mla

open Idealize.ShloMosaic Cert.KernelIdeal Cert.KernelIdeal.Gen Idealize.SL.Sem Idealize.ShloMosaic.Pipeline Idealize.ShloMosaic.TcCoe

section Ops
variable {F : FTy → Type} [FloatOps F]

/-- The factor the queries carry. -/
def factor : FVec F S_ .f32 :=
  Host.divf (Host.rsqrt (constant S_ .f32 0x43400000#32)) (Host.log (constant S_ .f32 0x40000000#32))

/-- The queries as the call takes them: scaled, head first, the rotary pair beside the rest. -/
def queries (qn : FVec F S2x4096x8x128 .bf16) (qr : FVec F S2x4096x8x64 .bf16) : FVec F S8x8704x256 .bf16 :=
  let n := transpose S8x8192x128 [1, 0, 2] (shapeCast S8192x8x128
    (truncf .bf16 (mulf (extf .f32 qn bitsLt_bf16_f32) (broadcastInDim S2x4096x8x128 ![] bcast_S_S2x4096x8x128 factor))
      bitsLt_bf16_f32 : FVec F S2x4096x8x128 .bf16) shapeCasts_S2x4096x8x128_S8192x8x128) transposes_S8192x8x128_S8x8192x128_1_0_2
  let r := transpose S4x8192x128 [1, 0, 2] (shapeCast S8192x4x128
    (truncf .bf16 (mulf (extf .f32 qr bitsLt_bf16_f32) (broadcastInDim S2x4096x8x64 ![] bcast_S_S2x4096x8x64 factor))
      bitsLt_bf16_f32 : FVec F S2x4096x8x64 .bf16) shapeCasts_S2x4096x8x64_S8192x4x128) transposes_S8192x4x128_S4x8192x128_1_0_2
  let rr := shapeCast S8x8192x128 (broadcastInDim S4x2x8192x128 ![0, 1, 2, 3] bcast_S4x1x8192x128_S4x2x8192x128_0_1_2_3
    (broadcastInDim S4x1x8192x128 ![0, 2, 3] bcast_S4x8192x128_S4x1x8192x128_0_2_3 r)) shapeCasts_S4x2x8192x128_S8x8192x128
  concatenate S8x8704x256 1 [⟨S8x8192x256, concatenate S8x8192x256 2 [⟨S8x8192x128, n⟩, ⟨S8x8192x128, rr⟩]
      concatenates_S8x8192x128_S8x8192x128_S8x8192x256_d2⟩,
    ⟨S8x512x256, broadcastInDim S8x512x256 ![] bcast_S_S8x512x256 (constant S_ .bf16 0x0000#16)⟩]
    concatenates_S8x8192x256_S8x512x256_S8x8704x256_d1

/-- The shared rotary keys, latent then context. -/
def rotary (kr : FVec F S2x4096x64 .bf16) (krc : FVec F S2x256x64 .bf16) : FVec F S8704x64 .bf16 :=
  concatenate S8704x64 0 [⟨S8192x64, shapeCast S8192x64 kr shapeCasts_S2x4096x64_S8192x64⟩,
    ⟨S512x64, shapeCast S512x64 krc shapeCasts_S2x256x64_S512x64⟩] concatenates_S8192x64_S512x64_S8704x64_d0

/-- The keys as the call takes them: an even head's rotary part before 64 zeros, an odd head's after. -/
def keys (kn : FVec F S2x4096x8x128 .bf16) (kr : FVec F S2x4096x64 .bf16) (knc : FVec F S2x256x8x128 .bf16)
    (krc : FVec F S2x256x64 .bf16) : FVec F S8x8704x256 .bf16 :=
  let z : FVec F S8704x64 .bf16 := broadcastInDim S8704x64 ![] bcast_S_S8704x64 (constant S_ .bf16 0x0000#16)
  let a := concatenate S8704x128 1 [⟨S8704x64, rotary kr krc⟩, ⟨S8704x64, z⟩] concatenates_S8704x64_S8704x64_S8704x128_d1
  let b := concatenate S8704x128 1 [⟨S8704x64, z⟩, ⟨S8704x64, rotary kr krc⟩] concatenates_S8704x64_S8704x64_S8704x128_d1
  let ab := concatenate S2x8704x128 0 [⟨S1x8704x128, broadcastInDim S1x8704x128 ![1, 2] bcast_S8704x128_S1x8704x128_1_2 a⟩,
    ⟨S1x8704x128, broadcastInDim S1x8704x128 ![1, 2] bcast_S8704x128_S1x8704x128_1_2 b⟩] concatenates_S1x8704x128_S1x8704x128_S2x8704x128_d0
  let rr := shapeCast S8x8704x128 (broadcastInDim S4x2x8704x128 ![0, 1, 2, 3] bcast_S1x2x8704x128_S4x2x8704x128_0_1_2_3
    (broadcastInDim S1x2x8704x128 ![1, 2, 3] bcast_S2x8704x128_S1x2x8704x128_1_2_3 ab)) shapeCasts_S4x2x8704x128_S8x8704x128
  concatenate S8x8704x256 2 [⟨S8x8704x128, transpose S8x8704x128 [1, 0, 2]
      (concatenate S8704x8x128 0 [⟨S8192x8x128, shapeCast S8192x8x128 kn shapeCasts_S2x4096x8x128_S8192x8x128⟩,
        ⟨S512x8x128, shapeCast S512x8x128 knc shapeCasts_S2x256x8x128_S512x8x128⟩] concatenates_S8192x8x128_S512x8x128_S8704x8x128_d0)
      transposes_S8704x8x128_S8x8704x128_1_0_2⟩, ⟨S8x8704x128, rr⟩] concatenates_S8x8704x128_S8x8704x128_S8x8704x256_d2

/-- The values as the call takes them: transposed in chunks of 256 keys over a row of ones. -/
def values (v : FVec F S2x4096x8x128 .bf16) (vc : FVec F S2x256x8x128 .bf16) : FVec F S8x34x144x256 .bf16 :=
  let t := transpose S8x34x128x256 [2, 0, 3, 1] (shapeCast S34x256x8x128
    (concatenate S8704x8x128 0 [⟨S8192x8x128, shapeCast S8192x8x128 v shapeCasts_S2x4096x8x128_S8192x8x128⟩,
      ⟨S512x8x128, shapeCast S512x8x128 vc shapeCasts_S2x256x8x128_S512x8x128⟩] concatenates_S8192x8x128_S512x8x128_S8704x8x128_d0)
    shapeCasts_S8704x8x128_S34x256x8x128) transposes_S34x256x8x128_S8x34x128x256_2_0_3_1
  concatenate S8x34x144x256 2 [⟨S8x34x128x256, t⟩,
    ⟨S8x34x1x256, broadcastInDim S8x34x1x256 ![] bcast_S_S8x34x1x256 (constant S_ .bf16 0x3F80#16)⟩,
    ⟨S8x34x15x256, broadcastInDim S8x34x15x256 ![] bcast_S_S8x34x15x256 (constant S_ .bf16 0x0000#16)⟩]
    concatenates_S8x34x128x256_S8x34x1x256_S8x34x15x256_S8x34x144x256_d2

/-- The gates as the call takes them: 1024 columns from column 1024 on. -/
def gates (g : FVec F S2x4096x1024 .bf16) : FVec F S8704x4352 .bf16 :=
  pad S8704x4352 ![0, 1024] ![512, 2304] ![0, 0] (shapeCast S8192x1024 g shapeCasts_S2x4096x1024_S8192x1024)
    (sitofp .bf16 (constantI S_ 32 0#32)) pads_S8192x1024_S8704x4352_05120_102423040 h_S_

end Ops

end Cert.Mla
-- ==== Proof.Entry.lean ====
/- What the attention call's operands hold when it starts: the packed arrays of `Pack.lean`. -/
module

public import proofs.«01_k».proof.Proof.Pack

@[expose] public section

set_option maxRecDepth 16384

noncomputable section

namespace Cert.Mla

open Idealize.ShloMosaic Cert.KernelIdeal Cert.KernelIdeal.Gen Idealize.SL.Sem Idealize.ShloMosaic.Pipeline Idealize.ShloMosaic.TcCoe

section Ops
variable {F : FTy → Type} [FloatOps F]

variable (m : (ℓ : Loc nD τ sig) → Buf (Elt F) ℓ)

theorem entry_q (c : Dev nD) : V m c main_v20
    = queries (m ((c : Thread nD τ).loc main_arg0)) (m ((c : Thread nD τ).loc main_arg1)) := by
  sl_kernel_rfl

theorem entry_k (c : Dev nD) : V m c main_v37
    = keys (m ((c : Thread nD τ).loc main_arg2)) (m ((c : Thread nD τ).loc main_arg3))
        (m ((c : Thread nD τ).loc main_arg5)) (m ((c : Thread nD τ).loc main_arg6)) := by
  sl_kernel_rfl

theorem entry_v (c : Dev nD) : V m c main_v45
    = values (m ((c : Thread nD τ).loc main_arg4)) (m ((c : Thread nD τ).loc main_arg7)) := by
  sl_kernel_rfl

theorem entry_g (c : Dev nD) : V m c main_v47 = gates (m ((c : Thread nD τ).loc main_arg8)) := by
  sl_kernel_rfl

end Ops

end Cert.Mla
-- ==== Proof.Attend.lean ====
/- The attention over the real numbers: what both programs compute, and the packed form of it the kernel uses. -/
module

public import proofs.«01_k».proof.Proof.Tile

@[expose] public section

noncomputable section

namespace Cert.Mla

/-- Real argument arrays. -/
structure Reals where
  qn : Fin 2 → Fin 4096 → Fin 8 → Fin 128 → ℝ
  qr : Fin 2 → Fin 4096 → Fin 8 → Fin 64 → ℝ
  kn : Fin 2 → Fin 4096 → Fin 8 → Fin 128 → ℝ
  kr : Fin 2 → Fin 4096 → Fin 64 → ℝ
  v : Fin 2 → Fin 4096 → Fin 8 → Fin 128 → ℝ
  knc : Fin 2 → Fin 256 → Fin 8 → Fin 128 → ℝ
  krc : Fin 2 → Fin 256 → Fin 64 → ℝ
  vc : Fin 2 → Fin 256 → Fin 8 → Fin 128 → ℝ
  g : Fin 2 → Fin 4096 → Fin 1024 → ℝ

namespace Reals
variable (A : Reals)

/-- Key `k` of a batch, latent keys before context keys: the part of its own head. -/
def keyN (b : Fin 2) (h : Fin 8) (k : ℕ) (x : Fin 128) : ℝ :=
  if e : k < 4096 then A.kn b ⟨k, e⟩ h x else if e' : k - 4096 < 256 then A.knc b ⟨k - 4096, e'⟩ h x else 0

/-- The rotary part of key `k`, one for all heads. -/
def keyR (b : Fin 2) (k : ℕ) (x : Fin 64) : ℝ :=
  if e : k < 4096 then A.kr b ⟨k, e⟩ x else if e' : k - 4096 < 256 then A.krc b ⟨k - 4096, e'⟩ x else 0

/-- The value of key `k`. -/
def val (b : Fin 2) (h : Fin 8) (k : ℕ) (d : Fin 128) : ℝ :=
  if e : k < 4096 then A.v b ⟨k, e⟩ h d else if e' : k - 4096 < 256 then A.vc b ⟨k - 4096, e'⟩ h d else 0

/-- The score of query `i` against key `k` before scaling. -/
def dot (b : Fin 2) (h : Fin 8) (i : Fin 4096) (k : ℕ) : ℝ :=
  ∑ x, A.qn b i h x * A.keyN b h k x + ∑ x, A.qr b i h x * A.keyR b k x

/-- The scaled score. -/
def logit (b : Fin 2) (h : Fin 8) (i : Fin 4096) (k : ℕ) : ℝ := A.dot b h i k * (√192)⁻¹

/-- The gated attention. -/
def result (b : Fin 2) (h : Fin 8) (i : Fin 4096) (d : Fin 128) (e : Fin 1024) : ℝ :=
  (∑ k ∈ Finset.range 4352, A.val b h k d * Real.exp (A.logit b h i k))
      / (∑ k ∈ Finset.range 4352, Real.exp (A.logit b h i k))
    * (A.g b i e * (1 + Real.exp (-A.g b i e))⁻¹)

/-- The factor the packed queries carry. -/
def factor : ℝ := (√192)⁻¹ * (1 / Real.log 2)

/-- A packed query: its own part, then the rotary parts of the two heads of its pair. -/
def packQ (b : Fin 2) (h : Fin 8) (i : Fin 4096) (c : Fin 256) : ℝ :=
  if e : (c : ℕ) < 128 then A.qn b i h ⟨c, e⟩ * factor
  else A.qr b i ⟨(h : ℕ) / 2 * 2 + ((c : ℕ) - 128) / 64, by omega⟩ ⟨((c : ℕ) - 128) % 64, by omega⟩ * factor

/-- A packed key: its own part, then its rotary part in the half of its head and zeros in the other. -/
def packK (b : Fin 2) (h : Fin 8) (k : ℕ) (c : Fin 256) : ℝ :=
  if e : (c : ℕ) < 128 then A.keyN b h k ⟨c, e⟩
  else if (h : ℕ) % 2 < 1 then
    if e : (c : ℕ) - 128 < 64 then A.keyR b k ⟨(c : ℕ) - 128, e⟩ else 0
  else if e : (c : ℕ) - 128 < 64 then 0 else A.keyR b k ⟨(c : ℕ) - 128 - 64, by omega⟩

/-- A packed value: its 128 entries, a one, zeros. -/
def packV (b : Fin 2) (h : Fin 8) (k : ℕ) (y : Fin 144) : ℝ :=
  if e : (y : ℕ) < 128 then A.val b h k ⟨y, e⟩ else if (y : ℕ) - 128 < 1 then 1 else 0

theorem e2_factor (x : ℝ) : e2 (x * factor) = Real.exp (x * (√192)⁻¹) := by
  have h : Real.log 2 ≠ 0 := (Real.log_pos (by norm_num)).ne'
  show (2 : ℝ) ^ (x * factor) = _
  rw [Real.rpow_def_of_pos (by norm_num), factor]
  congr 1
  field_simp

theorem sum_256 (f : Fin 256 → ℝ) :
    ∑ c, f c = ∑ x : Fin 128, f ⟨x, by omega⟩ + (∑ x : Fin 64, f ⟨128 + x, by omega⟩ + ∑ x : Fin 64, f ⟨192 + x, by omega⟩) := by
  have h := Fin.sum_univ_add (a := 128) (b := 128) f
  have h' := Fin.sum_univ_add (a := 64) (b := 64) (fun x : Fin 128 => f ⟨128 + x, by omega⟩)
  refine h.trans (congrArg₂ (· + ·) rfl (h'.trans (congrArg₂ (· + ·) rfl ?_)))
  refine Finset.sum_congr rfl fun x _ => congrArg f (Fin.ext ?_)
  show 128 + (64 + (x : ℕ)) = 192 + x
  omega

/-- The packed product is the score times the factor. -/
theorem pack_dot (b : Fin 2) (h : Fin 8) (i : Fin 4096) (k : ℕ) :
    ∑ c, A.packK b h k c * A.packQ b h i c = A.dot b h i k * factor := by
  rw [sum_256, dot, add_mul, Finset.sum_mul, Finset.sum_mul]
  refine congrArg₂ (· + ·) (Finset.sum_congr rfl fun x _ => ?_) ?_
  · simp only [packK, packQ, x.isLt, dite_true]
    ring
  · by_cases e : (h : ℕ) % 2 < 1
    · have z : ∑ x : Fin 64, A.packK b h k ⟨192 + x, by omega⟩ * A.packQ b h i ⟨192 + x, by omega⟩ = 0 := by
        refine Finset.sum_eq_zero fun x _ => ?_
        have h1 : ¬ 192 + (x : ℕ) < 128 := by omega
        have h2 : ¬ 192 + (x : ℕ) - 128 < 64 := by omega
        simp only [packK, h1, h2, e, dite_false, if_true, zero_mul]
      rw [z, add_zero]
      refine Finset.sum_congr rfl fun x _ => ?_
      have h1 : ¬ 128 + (x : ℕ) < 128 := by omega
      have h2 : 128 + (x : ℕ) - 128 < 64 := by omega
      simp only [packK, packQ, h1, h2, e, dite_false, dite_true, if_true]
      have e1 : (⟨128 + (x : ℕ) - 128, h2⟩ : Fin 64) = x := Fin.ext (by show 128 + (x : ℕ) - 128 = x; omega)
      have e2 : (⟨(h : ℕ) / 2 * 2 + (128 + (x : ℕ) - 128) / 64, by omega⟩ : Fin 8) = h :=
        Fin.ext (by show (h : ℕ) / 2 * 2 + (128 + (x : ℕ) - 128) / 64 = h; omega)
      have e3 : (⟨(128 + (x : ℕ) - 128) % 64, by omega⟩ : Fin 64) = x :=
        Fin.ext (by show (128 + (x : ℕ) - 128) % 64 = x; omega)
      rw [e1, e2, e3]
      ring
    · have z : ∑ x : Fin 64, A.packK b h k ⟨128 + x, by omega⟩ * A.packQ b h i ⟨128 + x, by omega⟩ = 0 := by
        refine Finset.sum_eq_zero fun x _ => ?_
        have h1 : ¬ 128 + (x : ℕ) < 128 := by omega
        have h2 : 128 + (x : ℕ) - 128 < 64 := by omega
        simp only [packK, h1, h2, e, dite_false, dite_true, if_false, zero_mul]
      rw [z, zero_add]
      refine Finset.sum_congr rfl fun x _ => ?_
      have h1 : ¬ 192 + (x : ℕ) < 128 := by omega
      have h2 : ¬ 192 + (x : ℕ) - 128 < 64 := by omega
      simp only [packK, packQ, h1, h2, e, dite_false, if_false]
      have e1 : (⟨192 + (x : ℕ) - 128 - 64, by omega⟩ : Fin 64) = x :=
        Fin.ext (by show 192 + (x : ℕ) - 128 - 64 = x; omega)
      have e2 : (⟨(h : ℕ) / 2 * 2 + (192 + (x : ℕ) - 128) / 64, by omega⟩ : Fin 8) = h :=
        Fin.ext (by show (h : ℕ) / 2 * 2 + (192 + (x : ℕ) - 128) / 64 = h; omega)
      have e3 : (⟨(192 + (x : ℕ) - 128) % 64, by omega⟩ : Fin 64) = x :=
        Fin.ext (by show (192 + (x : ℕ) - 128) % 64 = x; omega)
      rw [e1, e2, e3]
      ring

end Reals

theorem sum_chunks (f : ℕ → ℝ) (n : ℕ) :
    ∑ j ∈ Finset.range n, (∑ x : Fin 256, f (512 * j + x) + ∑ x : Fin 256, f (512 * j + (256 + x)))
      = ∑ k ∈ Finset.range (512 * n), f k := by
  induction n with
  | zero => simp
  | succ n ih =>
    rw [Finset.sum_range_succ, ih, show 512 * (n + 1) = 512 * n + (256 + 256) by omega, Finset.sum_range_add,
      Finset.sum_range_add]
    rw [Fin.sum_univ_eq_sum_range (fun x => f (512 * n + x)) 256,
      Fin.sum_univ_eq_sum_range (fun x => f (512 * n + (256 + x))) 256]

/-- The sum over eight double chunks and the context chunk is the sum over all keys. -/
theorem total_packed (PK : ℕ → Fin 256 → ℝ) (PV : ℕ → Fin 144 → ℝ) (Q : Fin 256 → Fin 256 → ℝ) (y : Fin 144)
    (r : Fin 256) :
    total (fun j x c => PK (512 * j + x) c) (fun j y x => PV (256 * j + x) y) (fun x c => PK (4096 + x) c)
        (fun y x => PV (4096 + x) y) Q y r
      = ∑ k ∈ Finset.range 4352, PV k y * e2 (∑ c, PK k c * Q r c) := by
  have h := sum_chunks (fun k => PV k y * e2 (∑ c, PK k c * Q r c)) 8
  rw [show 4352 = 512 * 8 + 256 from rfl, Finset.sum_range_add, ← h]
  refine congrArg₂ (· + ·) (Finset.sum_congr rfl fun j _ => congrArg₂ (· + ·) ?_ ?_) ?_
  · refine Finset.sum_congr rfl fun x _ => ?_
    show PV (256 * (2 * j) + x) y * e2 (∑ c, PK (512 * j + x) c * Q r c) = _
    rw [show 256 * (2 * j) + (x : ℕ) = 512 * j + x by omega]
  · refine Finset.sum_congr rfl fun x _ => ?_
    show PV (256 * (2 * j + 1) + x) y * e2 (∑ c, PK (512 * j + (256 + x)) c * Q r c) = _
    rw [show 256 * (2 * j + 1) + (x : ℕ) = 512 * j + (256 + x) by omega]
  · rw [← Fin.sum_univ_eq_sum_range (fun x => PV (512 * 8 + x) y * e2 (∑ c, PK (512 * 8 + x) c * Q r c)) 256]
    rfl

theorem denominator_pos (A : Reals) (b : Fin 2) (h : Fin 8) (i : Fin 4096) :
    0 < ∑ k ∈ Finset.range 4352, Real.exp (A.logit b h i k) :=
  Finset.sum_pos (fun _ _ => Real.exp_pos _) ⟨0, Finset.mem_range.2 (by norm_num)⟩

/-- A row of packed sums: the numerators. -/
theorem packed_row (A : Reals) (b : Fin 2) (h : Fin 8) (i : Fin 4096) (d : Fin 128) :
    ∑ k ∈ Finset.range 4352, A.packV b h k ⟨d, by omega⟩ * e2 (∑ c, A.packK b h k c * A.packQ b h i c)
      = ∑ k ∈ Finset.range 4352, A.val b h k d * Real.exp (A.logit b h i k) := by
  refine Finset.sum_congr rfl fun k _ => ?_
  rw [A.pack_dot, Reals.e2_factor, Reals.packV, dif_pos d.isLt]
  rfl

/-- The row of ones: the denominator. -/
theorem packed_ones (A : Reals) (b : Fin 2) (h : Fin 8) (i : Fin 4096) :
    ∑ k ∈ Finset.range 4352, A.packV b h k ⟨128, by omega⟩ * e2 (∑ c, A.packK b h k c * A.packQ b h i c)
      = ∑ k ∈ Finset.range 4352, Real.exp (A.logit b h i k) := by
  refine Finset.sum_congr rfl fun k _ => ?_
  rw [A.pack_dot, Reals.e2_factor, Reals.packV, dif_neg (by norm_num), if_pos (by norm_num), one_mul]
  rfl

end Cert.Mla
-- ==== Proof.PackRead.lean ====
/- The entries of the packed arrays when the arguments are real. -/
module

public import proofs.«01_k».proof.Proof.Pack
public import proofs.«01_k».proof.Proof.Attend

@[expose] public section

set_option maxRecDepth 16384

noncomputable section

namespace Cert.Mla

open Idealize.ShloMosaic Cert.KernelIdeal Cert.KernelIdeal.Gen Idealize.SL.Sem Idealize.ShloMosaic.Pipeline Idealize.ShloMosaic.TcCoe

theorem const_192 : Ideal.ofBits .f32 0x43400000#32 = ((192 : ℝ) : EReal) := by
  simp [Ideal.ofBits, Ideal.ieee, -EReal.coe_mul]; norm_num

theorem const_2 : Ideal.ofBits .f32 0x40000000#32 = ((2 : ℝ) : EReal) := by
  simp [Ideal.ofBits, Ideal.ieee, -EReal.coe_mul]; norm_num

theorem rsqrt_192 : Ideal.rsqrt (Ideal.ofBits .f32 0x43400000#32) = (((√192)⁻¹ : ℝ) : EReal) := by
  rw [const_192, Ideal.rsqrt_coe, if_neg (by norm_num), if_neg (by norm_num)]

theorem factor_real : factor (F := Ideal) ix0 = ((Reals.factor : ℝ) : EReal) := by
  have h : Real.log 2 ≠ 0 := (Real.log_pos (by norm_num)).ne'
  pointwise [factor]
  rw [rsqrt_192, const_2, Ideal.log_coe, if_neg (by norm_num), Ideal.div_coe h, ← EReal.coe_mul]
  rfl

set_option maxHeartbeats 4000000 in
/-- Real arguments, as arrays. -/
structure Holding (A : Reals) (qn : FVec Ideal S2x4096x8x128 .bf16) (qr : FVec Ideal S2x4096x8x64 .bf16)
    (kn : FVec Ideal S2x4096x8x128 .bf16) (kr : FVec Ideal S2x4096x64 .bf16) (v : FVec Ideal S2x4096x8x128 .bf16)
    (knc : FVec Ideal S2x256x8x128 .bf16) (krc : FVec Ideal S2x256x64 .bf16) (vc : FVec Ideal S2x256x8x128 .bf16)
    (g : FVec Ideal S2x4096x1024 .bf16) : Prop where
  qn : ∀ b i h d, qn (ix4 b i h d) = ((A.qn b i h d : ℝ) : EReal)
  qr : ∀ b i h d, qr (ix4 b i h d) = ((A.qr b i h d : ℝ) : EReal)
  kn : ∀ b i h d, kn (ix4 b i h d) = ((A.kn b i h d : ℝ) : EReal)
  kr : ∀ b i d, kr (ix3 b i d) = ((A.kr b i d : ℝ) : EReal)
  v : ∀ b i h d, v (ix4 b i h d) = ((A.v b i h d : ℝ) : EReal)
  knc : ∀ b i h d, knc (ix4 b i h d) = ((A.knc b i h d : ℝ) : EReal)
  krc : ∀ b i d, krc (ix3 b i d) = ((A.krc b i d : ℝ) : EReal)
  vc : ∀ b i h d, vc (ix4 b i h d) = ((A.vc b i h d : ℝ) : EReal)
  g : ∀ b i d, g (ix3 b i d) = ((A.g b i d : ℝ) : EReal)

set_option maxHeartbeats 4000000 in
theorem queries_real {A : Reals} {qn : FVec Ideal S2x4096x8x128 .bf16} {qr : FVec Ideal S2x4096x8x64 .bf16}
    (hqn : ∀ b i h d, qn (ix4 b i h d) = ((A.qn b i h d : ℝ) : EReal))
    (hqr : ∀ b i h d, qr (ix4 b i h d) = ((A.qr b i h d : ℝ) : EReal))
    (h : Fin 8) (n : Fin 8704) (d : Fin 256) (b : Fin 2) (i : Fin 4096) (e : (n : ℕ) = 4096 * b + i) :
    queries qn qr (ix3 h n d) = ((A.packQ b h i d : ℝ) : EReal) := by
  pointwise [queries]
  have h1 : (n : ℕ) < 8192 := by omega
  have eb : (⟨(n : ℕ) / 4096, by omega⟩ : Fin 2) = b := Fin.ext (by show (n : ℕ) / 4096 = b; omega)
  have ei : (⟨(n : ℕ) % 4096, by omega⟩ : Fin 4096) = i := Fin.ext (by show (n : ℕ) % 4096 = i; omega)
  simp only [dif_pos h1, Reals.packQ, factor_real, eb, ei, hqn, hqr]
  by_cases h2 : (d : ℕ) < 128
  · simp only [dif_pos h2, EReal.coe_mul]
  · simp only [dif_neg h2, EReal.coe_mul]

/-- The row of key `k` of batch `b` among all keys. -/
def keyRow (b : Fin 2) (k : ℕ) : ℕ := if k < 4096 then 4096 * b + k else 8192 + 256 * b + (k - 4096)

theorem keys_real {A : Reals} {kn : FVec Ideal S2x4096x8x128 .bf16} {kr : FVec Ideal S2x4096x64 .bf16}
    {knc : FVec Ideal S2x256x8x128 .bf16} {krc : FVec Ideal S2x256x64 .bf16}
    (hkn : ∀ b i h d, kn (ix4 b i h d) = ((A.kn b i h d : ℝ) : EReal))
    (hkr : ∀ b i d, kr (ix3 b i d) = ((A.kr b i d : ℝ) : EReal))
    (hknc : ∀ b i h d, knc (ix4 b i h d) = ((A.knc b i h d : ℝ) : EReal))
    (hkrc : ∀ b i d, krc (ix3 b i d) = ((A.krc b i d : ℝ) : EReal))
    (h : Fin 8) (n : Fin 8704) (d : Fin 256) (b : Fin 2) (k : ℕ) (hk : k < 4352) (e : (n : ℕ) = keyRow b k) :
    keys kn kr knc krc (ix3 h n d) = ((A.packK b h k d : ℝ) : EReal) := by
  pointwise [keys, rotary]
  rw [keyRow] at e
  by_cases h1 : k < 4096
  · rw [if_pos h1] at e
    have hn : (n : ℕ) < 8192 := by omega
    have eb : (⟨(n : ℕ) / 4096, by omega⟩ : Fin 2) = b := Fin.ext (by show (n : ℕ) / 4096 = b; omega)
    have ei : (⟨(n : ℕ) % 4096, by omega⟩ : Fin 4096) = ⟨k, h1⟩ := Fin.ext (by show (n : ℕ) % 4096 = k; omega)
    simp only [dif_pos hn, eb, ei, hkn, hkr, Reals.packK, Reals.keyN, Reals.keyR, dif_pos h1]
    by_cases h2 : (d : ℕ) < 128
    · simp only [dif_pos h2]
    · by_cases h3 : (h : ℕ) % 2 < 1 <;> by_cases h4 : (d : ℕ) - 128 < 64 <;> simp [h2, h3, h4]
  · rw [if_neg h1] at e
    have hn : ¬ (n : ℕ) < 8192 := by omega
    have h1' : k - 4096 < 256 := by omega
    have eb : (⟨((n : ℕ) - 8192) / 256, by omega⟩ : Fin 2) = b := Fin.ext (by show ((n : ℕ) - 8192) / 256 = b; omega)
    have ei : (⟨((n : ℕ) - 8192) % 256, by omega⟩ : Fin 256) = ⟨k - 4096, h1'⟩ :=
      Fin.ext (by show ((n : ℕ) - 8192) % 256 = k - 4096; omega)
    simp only [dif_neg hn, eb, ei, hknc, hkrc, Reals.packK, Reals.keyN, Reals.keyR, dif_neg h1, dif_pos h1']
    by_cases h2 : (d : ℕ) < 128
    · simp only [dif_pos h2]
    · by_cases h3 : (h : ℕ) % 2 < 1 <;> by_cases h4 : (d : ℕ) - 128 < 64 <;> simp [h2, h3, h4]

theorem values_real {A : Reals} {v : FVec Ideal S2x4096x8x128 .bf16} {vc : FVec Ideal S2x256x8x128 .bf16}
    (hv : ∀ b i h d, v (ix4 b i h d) = ((A.v b i h d : ℝ) : EReal))
    (hvc : ∀ b i h d, vc (ix4 b i h d) = ((A.vc b i h d : ℝ) : EReal))
    (h : Fin 8) (n : Fin 34) (d : Fin 144) (x : Fin 256) (b : Fin 2) (k : ℕ) (hk : k < 4352)
    (e : (n : ℕ) * 256 + x = keyRow b k) : values v vc (ix4 h n d x) = ((A.packV b h k d : ℝ) : EReal) := by
  pointwise [values]
  rw [keyRow] at e
  by_cases h2 : (d : ℕ) < 128
  · simp only [dif_pos h2, Reals.packV, Reals.val]
    by_cases h1 : k < 4096
    · rw [if_pos h1] at e
      have hn : (n : ℕ) * 256 + x < 8192 := by omega
      have eb : (⟨((n : ℕ) * 256 + x) / 4096, by omega⟩ : Fin 2) = b :=
        Fin.ext (by show ((n : ℕ) * 256 + x) / 4096 = b; omega)
      have ei : (⟨((n : ℕ) * 256 + x) % 4096, by omega⟩ : Fin 4096) = ⟨k, h1⟩ :=
        Fin.ext (by show ((n : ℕ) * 256 + x) % 4096 = k; omega)
      simp only [dif_pos hn, eb, ei, hv, dif_pos h1]
    · rw [if_neg h1] at e
      have hn : ¬ (n : ℕ) * 256 + x < 8192 := by omega
      have h1' : k - 4096 < 256 := by omega
      have eb : (⟨((n : ℕ) * 256 + x - 8192) / 256, by omega⟩ : Fin 2) = b :=
        Fin.ext (by show ((n : ℕ) * 256 + x - 8192) / 256 = b; omega)
      have ei : (⟨((n : ℕ) * 256 + x - 8192) % 256, by omega⟩ : Fin 256) = ⟨k - 4096, h1'⟩ :=
        Fin.ext (by show ((n : ℕ) * 256 + x - 8192) % 256 = k - 4096; omega)
      simp only [dif_neg hn, eb, ei, hvc, dif_neg h1, dif_pos h1']
  · simp only [dif_neg h2, Reals.packV]
    by_cases h3 : (d : ℕ) - 128 < 1 <;> simp [h3]

theorem gates_real {A : Reals} {g : FVec Ideal S2x4096x1024 .bf16}
    (hg : ∀ b i d, g (ix3 b i d) = ((A.g b i d : ℝ) : EReal))
    (n : Fin 8704) (d : Fin 4352) (b : Fin 2) (i : Fin 4096) (x : Fin 1024) (e : (n : ℕ) = 4096 * b + i)
    (e' : (d : ℕ) = 1024 + x) : gates g (ix2 n d) = ((A.g b i x : ℝ) : EReal) := by
  pointwise [gates]
  have eb : (⟨(n : ℕ) / 4096, by omega⟩ : Fin 2) = b := Fin.ext (by show (n : ℕ) / 4096 = b; omega)
  have ei : (⟨(n : ℕ) % 4096, by omega⟩ : Fin 4096) = i := Fin.ext (by show (n : ℕ) % 4096 = i; omega)
  have ed : (⟨(d : ℕ) - 1024, by omega⟩ : Fin 1024) = x := Fin.ext (by show (d : ℕ) - 1024 = x; omega)
  have hn : (n : ℕ) < 8192 ∧ 1024 ≤ (d : ℕ) ∧ (d : ℕ) - 1024 < 1024 := by omega
  simp only [dif_pos hn, eb, ei, ed, hg]

end Cert.Mla
-- ==== Proof.Point.lean ====
/- What the windows of a grid point hold, and the block the point writes, at real arguments. -/
module

public import proofs.«01_k».proof.Proof.Entry
public import proofs.«01_k».proof.Proof.PackRead
public import Idealize.ShloMosaic.Lib.Pipeline.ValueKit

@[expose] public section

set_option maxRecDepth 16384

noncomputable section

namespace Cert.Mla

open Idealize.ShloMosaic Cert.KernelIdeal Cert.KernelIdeal.Gen Idealize.SL.Sem Idealize.ShloMosaic.Pipeline Idealize.ShloMosaic.TcCoe

variable (m : (ℓ : Loc nD τ sig) → Buf (Elt Ideal) ℓ)

/-- Where each window's block lies. -/
theorem idx : ∀ t : Fin cfg0.N,
    win0_0.index t = ![(grid0.coords t 1).val, (grid0.coords t 0).val * 2 + (grid0.coords t 2).val, 0]
    ∧ win0_1.index t = ![(grid0.coords t 1).val, (grid0.coords t 0).val, 0]
    ∧ win0_2.index t = ![(grid0.coords t 1).val, (grid0.coords t 0).val, 0, 0]
    ∧ win0_3.index t = ![(grid0.coords t 1).val, 32 + (grid0.coords t 0).val, 0]
    ∧ win0_4.index t = ![(grid0.coords t 1).val, 32 + (grid0.coords t 0).val, 0, 0]
    ∧ win0_5.index t = ![(grid0.coords t 0).val * 2 + (grid0.coords t 2).val, 8 + (grid0.coords t 1).val]
    ∧ win0_6.index t = ![(grid0.coords t 0).val * 2 + (grid0.coords t 2).val, (grid0.coords t 1).val] :=
  (by decide +kernel : ∀ t : Fin grid0.N, _)

/-- The packed arrays at the arguments. -/
abbrev packedQ (c : Dev nD) : FVec Ideal S8x8704x256 .bf16 :=
  queries (F := Ideal) (m ((c : Thread nD τ).loc main_arg0)) (m ((c : Thread nD τ).loc main_arg1))
abbrev packedK (c : Dev nD) : FVec Ideal S8x8704x256 .bf16 :=
  keys (F := Ideal) (m ((c : Thread nD τ).loc main_arg2)) (m ((c : Thread nD τ).loc main_arg3))
    (m ((c : Thread nD τ).loc main_arg5)) (m ((c : Thread nD τ).loc main_arg6))
abbrev packedV (c : Dev nD) : FVec Ideal S8x34x144x256 .bf16 :=
  values (F := Ideal) (m ((c : Thread nD τ).loc main_arg4)) (m ((c : Thread nD τ).loc main_arg7))
abbrev packedG (c : Dev nD) : FVec Ideal S8704x4352 .bf16 := gates (F := Ideal) (m ((c : Thread nD τ).loc main_arg8))

/-- The windows' blocks. -/
abbrev blockQ (c : Dev nD) (t : Fin cfg0.N) : FVec Ideal S1x2048x256 .bf16 := X0_0 m c t
abbrev blockK (c : Dev nD) (t : Fin cfg0.N) : FVec Ideal S1x4096x256 .bf16 := X0_1 m c t
abbrev blockV (c : Dev nD) (t : Fin cfg0.N) : FVec Ideal S1x16x144x256 .bf16 := X0_2 m c t
abbrev blockKc (c : Dev nD) (t : Fin cfg0.N) : FVec Ideal S1x256x256 .bf16 := iblk m c 3 t
abbrev blockVc (c : Dev nD) (t : Fin cfg0.N) : FVec Ideal S1x1x144x256 .bf16 := iblk m c 4 t
abbrev blockG (c : Dev nD) (t : Fin cfg0.N) : FVec Ideal S2048x128 .bf16 := X0_5 m c t

theorem window_q (c : Dev nD) (t : Fin cfg0.N) (r : Fin 2048) (x : Fin 256) (h : Fin 8) (n : Fin 8704)
    (eh : (h : ℕ) = (grid0.coords t 1).val)
    (en : (n : ℕ) = ((grid0.coords t 0).val * 2 + (grid0.coords t 2).val) * 2048 + r) :
    blockQ m c t (ix3 0 r x) = packedQ m c (ix3 h n x) := by
  show X0_0 m c t _ = _
  unfold X0_0 Pipeline.Window.fill
  rw [dif_pos (moved0_0 t _)]
  blk_simp [iblk]
  refine (congrFun (entry_q m c) _).trans (congrArg _ ?_)
  blk_ext [idx t]

theorem window_k (c : Dev nD) (t : Fin cfg0.N) (r : Fin 4096) (x : Fin 256) (h : Fin 8) (n : Fin 8704)
    (eh : (h : ℕ) = (grid0.coords t 1).val) (en : (n : ℕ) = (grid0.coords t 0).val * 4096 + r) :
    blockK m c t (ix3 0 r x) = packedK m c (ix3 h n x) := by
  show X0_1 m c t _ = _
  unfold X0_1 Pipeline.Window.fill
  rw [dif_pos (moved0_1 t _)]
  blk_simp [iblk]
  refine (congrFun (entry_k m c) _).trans (congrArg _ ?_)
  blk_ext [idx t]

theorem window_v (c : Dev nD) (t : Fin cfg0.N) (j : Fin 16) (y : Fin 144) (x : Fin 256) (h : Fin 8) (n : Fin 34)
    (eh : (h : ℕ) = (grid0.coords t 1).val) (en : (n : ℕ) = (grid0.coords t 0).val * 16 + j) :
    blockV m c t (ix4 0 j y x) = packedV m c (ix4 h n y x) := by
  show X0_2 m c t _ = _
  unfold X0_2 Pipeline.Window.fill
  rw [dif_pos (moved0_2 t _)]
  blk_simp [iblk]
  refine (congrFun (entry_v m c) _).trans (congrArg _ ?_)
  blk_ext [idx t]

theorem window_kc (c : Dev nD) (t : Fin cfg0.N) (r : Fin 256) (x : Fin 256) (h : Fin 8) (n : Fin 8704)
    (eh : (h : ℕ) = (grid0.coords t 1).val) (en : (n : ℕ) = (32 + (grid0.coords t 0).val) * 256 + r) :
    blockKc m c t (ix3 0 r x) = packedK m c (ix3 h n x) := by
  show iblk m c 3 t _ = _
  blk_simp [iblk]
  refine (congrFun (entry_k m c) _).trans (congrArg _ ?_)
  blk_ext [idx t]

theorem window_vc (c : Dev nD) (t : Fin cfg0.N) (y : Fin 144) (x : Fin 256) (h : Fin 8) (n : Fin 34)
    (eh : (h : ℕ) = (grid0.coords t 1).val) (en : (n : ℕ) = 32 + (grid0.coords t 0).val) :
    blockVc m c t (ix4 0 0 y x) = packedV m c (ix4 h n y x) := by
  show iblk m c 4 t _ = _
  blk_simp [iblk]
  refine (congrFun (entry_v m c) _).trans (congrArg _ ?_)
  blk_ext [idx t]

theorem window_g (c : Dev nD) (t : Fin cfg0.N) (r : Fin 2048) (d : Fin 128) (n : Fin 8704) (x : Fin 4352)
    (en : (n : ℕ) = ((grid0.coords t 0).val * 2 + (grid0.coords t 2).val) * 2048 + r)
    (ex : (x : ℕ) = (8 + (grid0.coords t 1).val) * 128 + d) :
    blockG m c t (ix2 r d) = packedG m c (ix2 n x) := by
  show X0_5 m c t _ = _
  unfold X0_5 Pipeline.Window.fill
  rw [dif_pos (moved0_5 t _)]
  blk_simp [iblk]
  refine (congrFun (entry_g m c) _).trans (congrArg _ ?_)
  blk_ext [idx t]

end Cert.Mla
-- ==== Proof.Final.lean ====
/- The call's result array at real arguments. -/
module

public import proofs.«01_k».proof.Proof.Point

@[expose] public section

set_option maxRecDepth 16384

noncomputable section

namespace Cert.Mla

open Idealize.ShloMosaic Cert.KernelIdeal Cert.KernelIdeal.Gen Idealize.SL.Sem Idealize.ShloMosaic.Pipeline Idealize.ShloMosaic.TcCoe

variable (m : (ℓ : Loc nD τ sig) → Buf (Elt Ideal) ℓ)

/-- The arguments of a core are the given reals. -/
abbrev Held (A : Reals) (c : Dev nD) : Prop :=
  Holding A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a grid point stores at row `256 p + r`, column `d` of its block. -/
theorem block_real {A : Reals} (c : Dev nD) (H : Held m A c) (t : Fin cfg0.N) (p : ℕ) (hp : p ≤ 7) (r : Fin 256) (d : Fin 128)
    (b : Fin 2) (h : Fin 8) (s : Fin 2) (eb : (b : ℕ) = (grid0.coords t 0).val) (eh : (h : ℕ) = (grid0.coords t 1).val)
    (es : (s : ℕ) = (grid0.coords t 2).val) :
    block (F := Ideal) (blockQ m c t) (blockK m c t) (blockV m c t) (blockKc m c t) (blockVc m c t) (blockG m c t) p (ix2 r d)
      = ((A.result b h ⟨s * 2048 + (256 * p + r), by omega⟩ d ⟨128 * h + d, by omega⟩ : ℝ) : EReal) := by
  have hq : ∀ (r : Fin 256) (x : Fin 256), qAt (F := Ideal) (blockQ m c t) p (ix2 r x)
      = ((A.packQ b h ⟨s * 2048 + (256 * p + r), by omega⟩ x : ℝ) : EReal) := fun r x => by
    rw [qAt_read _ p hp,
      window_q m c t ⟨256 * p + r, by omega⟩ x h ⟨(b * 2 + s) * 2048 + (256 * p + r), by omega⟩ eh (by simp only; omega)]
    exact queries_real H.qn H.qr h _ x b _ (by simp only; omega)
  have hg : ∀ (r : Fin 256) (d : Fin 128), gAt (F := Ideal) (blockG m c t) p (ix2 r d)
      = ((A.g b ⟨s * 2048 + (256 * p + r), by omega⟩ ⟨128 * h + d, by omega⟩ : ℝ) : EReal) := fun r d => by
    rw [gAt_read _ p hp,
      window_g m c t ⟨256 * p + r, by omega⟩ d ⟨(b * 2 + s) * 2048 + (256 * p + r), by omega⟩ ⟨(8 + h) * 128 + d, by omega⟩
        (by simp only; omega) (by simp only; omega)]
    exact gates_real H.g _ _ b _ _ (by simp only; omega) (by simp only; omega)
  have hk : ∀ j ≤ 7, ∀ (x : Fin 512) (y : Fin 256), kAt (F := Ideal) (blockK m c t) j (ix2 x y)
      = ((A.packK b h (512 * j + x) y : ℝ) : EReal) := fun j hj x y => by
    rw [kAt_read _ j hj, window_k m c t ⟨512 * j + x, by omega⟩ y h ⟨b * 4096 + (512 * j + x), by omega⟩ eh (by simp only; omega)]
    exact keys_real H.kn H.kr H.knc H.krc h _ y b _ (by omega) (by simp only [keyRow]; rw [if_pos (by omega)]; omega)
  have hv : ∀ j ≤ 15, ∀ (y : Fin 144) (x : Fin 256), vAt (F := Ideal) (blockV m c t) j (ix2 y x)
      = ((A.packV b h (256 * j + x) y : ℝ) : EReal) := fun j hj y x => by
    rw [vAt_read _ j hj, window_v m c t ⟨j, by omega⟩ y x h ⟨b * 16 + j, by omega⟩ eh (by simp only; omega)]
    exact values_real H.v H.vc h _ y x b _ (by omega) (by simp only [keyRow]; rw [if_pos (by omega)]; omega)
  have hkc : ∀ (x : Fin 256) (y : Fin 256), shapeCast S256x256 (blockKc m c t) shapeCasts_S1x256x256_S256x256 (ix2 x y)
      = ((A.packK b h (4096 + x) y : ℝ) : EReal) := fun x y => by
    refine (kc_read (F := Ideal) (blockKc m c t) x y).trans ((window_kc m c t x y h ⟨(32 + b) * 256 + x, by omega⟩ eh (by simp only; omega)).trans ?_)
    exact keys_real H.kn H.kr H.knc H.krc h _ y b _ (by omega) (by simp only [keyRow]; rw [if_neg (by omega)]; omega)
  have hvc : ∀ (y : Fin 144) (x : Fin 256), shapeCast S144x256 (blockVc m c t) shapeCasts_S1x1x144x256_S144x256 (ix2 y x)
      = ((A.packV b h (4096 + x) y : ℝ) : EReal) := fun y x => by
    refine (vc_read (F := Ideal) (blockVc m c t) y x).trans ((window_vc m c t y x h ⟨32 + b, by omega⟩ eh (by simp only; omega)).trans ?_)
    exact values_real H.v H.vc h _ y x b _ (by omega) (by simp only [keyRow]; rw [if_neg (by omega)]; omega)
  have e : ∀ y : Fin 144, total (fun j x y => A.packK b h (512 * j + x) y) (fun j y x => A.packV b h (256 * j + x) y)
      (fun x y => A.packK b h (4096 + x) y) (fun y x => A.packV b h (4096 + x) y)
      (fun r x => A.packQ b h ⟨s * 2048 + (256 * p + r), by omega⟩ x) y r
      = ∑ k ∈ Finset.range 4352, A.packV b h k y
          * e2 (∑ x, A.packK b h k x * A.packQ b h ⟨s * 2048 + (256 * p + r), by omega⟩ x) := fun y =>
    total_packed (A.packK b h) (A.packV b h) _ y r
  have e1 := (e ⟨128, by omega⟩).trans (packed_ones A b h ⟨s * 2048 + (256 * p + r), by omega⟩)
  have ed := (e ⟨d, by omega⟩).trans (packed_row A b h ⟨s * 2048 + (256 * p + r), by omega⟩ d)
  refine (group_real hk hv hkc hvc hq hg r d ?_).trans ?_
  · rw [e1]
    exact (denominator_pos ..).ne'
  · rw [e1, ed]
    rfl

/-- The result at a row and a column. -/
def resultAt (A : Reals) (n : Fin 8192) (d : Fin 1024) : ℝ :=
  A.result ⟨(n : ℕ) / 4096, by omega⟩ ⟨(d : ℕ) / 128, by omega⟩ ⟨(n : ℕ) % 4096, by omega⟩ ⟨(d : ℕ) % 128, by omega⟩ d

/-- The result array at real arguments. -/
def resultArray (A : Reals) : FVec Ideal S8192x1024 .bf16 := fun j => ((resultAt A (j 0) (j 1) : ℝ) : EReal)

theorem result_at (A : Reals) (n : Fin 8192) (e : Fin 1024) (b : Fin 2) (h : Fin 8) (i : Fin 4096) (d : Fin 128)
    (e0 : (n : ℕ) = 4096 * b + i) (e1 : (e : ℕ) = 128 * h + d) : A.result b h i d e = resultAt A n e := by
  have eb : (⟨(n : ℕ) / 4096, by omega⟩ : Fin 2) = b := Fin.ext (by show (n : ℕ) / 4096 = b; omega)
  have ei : (⟨(n : ℕ) % 4096, by omega⟩ : Fin 4096) = i := Fin.ext (by show (n : ℕ) % 4096 = i; omega)
  have eh : (⟨(e : ℕ) / 128, by omega⟩ : Fin 8) = h := Fin.ext (by show (e : ℕ) / 128 = h; omega)
  have ex : (⟨(e : ℕ) % 128, by omega⟩ : Fin 128) = d := Fin.ext (by show (e : ℕ) % 128 = d; omega)
  unfold resultAt
  rw [eb, ei, eh, ex]

/-- What a grid point stores at row `r`, column `d` of its block. -/
theorem point_real {A : Reals} (c : Dev nD) (H : Held m A c) (t : Fin cfg0.N) (y : S2048x128.Idx) (r : Fin 2048) (d : Fin 128)
    (e0 : y 0 = r) (e1 : y 1 = d) (b : Fin 2) (h : Fin 8) (s : Fin 2) (eb : (b : ℕ) = (grid0.coords t 0).val)
    (eh : (h : ℕ) = (grid0.coords t 1).val) (es : (s : ℕ) = (grid0.coords t 2).val) (n : Fin 8192) (e : Fin 1024)
    (en : (n : ℕ) = (b * 2 + s) * 2048 + r) (ee : (e : ℕ) = 128 * h + d) :
    outsAt0 m c t y = ((resultAt A n e : ℝ) : EReal) := by
  refine (out_at c (grid0.coords t) _ _ _ _ _ _ _ _ _ _ _ _ _ _ _ _ _ _ _ _ y).trans ?_
  have h2 : (⟨128 * (h : ℕ) + d, by omega⟩ : Fin 1024) = e := Fin.ext ee.symm
  have h3 : (s : ℕ) * 2048 + (256 * ((r : ℕ) / 256) + (r : ℕ) % 256) = s * 2048 + r := by omega
  have hb := block_real m c H t ((r : ℕ) / 256) (by omega) ⟨(r : ℕ) % 256, by omega⟩ d b h s eb eh es
  rw [h2] at hb
  rw [← result_at A n e b h ⟨s * 2048 + r, by omega⟩ d (by simp only; omega) ee]
  subst e0 e1
  refine hb.trans (congrArg (fun i => ((A.result b h i (y 1) e : ℝ) : EReal)) (Fin.ext h3))

theorem final {A : Reals} (c : Dev nD) (H : Held m A c) : (dats m 0 c).arrAt 6 (cfgs 0).N = resultArray A := by
  refine (dats m 0 c).arrAt_eq_of_covers 6 _ (by decide +kernel) fun t _ y => ?_
  blk_simp
  rw [after0_6]
  refine point_real m c H t y (y 0) (y 1) rfl rfl (grid0.coords t 0) (grid0.coords t 1) (grid0.coords t 2) rfl rfl rfl
    ((((cfg0.win 6).blk t).view.emb y) 0) ((((cfg0.win 6).blk t).view.emb y) 1) ?_ ?_
  · blk_simp [idx t]
  · blk_simp [idx t]
    omega

end Cert.Mla
-- ==== Proof.Finite.lean ====
/- The precondition makes every argument entry a real number. -/
module

public import proofs.«01_k».proof.Proof.Final
public import proofs.«01_k».proof.Pre_finite
public import proofs.«01_k».proof.Defs
public import Idealize.ShloMosaic.Lib.ReduceAll

@[expose] public section

set_option maxRecDepth 16384

noncomputable section

namespace Cert.Mla

open Idealize.ShloMosaic Idealize.SL.Sem Idealize.ShloMosaic.TcCoe Cert.Pre_finite

theorem preFacts : Cert.Pre_finite.Facts where
  bcast_S_S2x4096x8x128 := by decide
  reducesTo_S2x4096x8x128_S_d0_1_2_3 := by decide
  h_S_ := by decide
  bcast_S_S2x4096x8x64 := by decide
  reducesTo_S2x4096x8x64_S_d0_1_2_3 := by decide
  bcast_S_S2x4096x64 := by decide
  reducesTo_S2x4096x64_S_d0_1_2 := by decide
  bcast_S_S2x256x8x128 := by decide
  reducesTo_S2x256x8x128_S_d0_1_2_3 := by decide
  bcast_S_S2x256x64 := by decide
  reducesTo_S2x256x64_S_d0_1_2 := by decide
  bcast_S_S2x4096x1024 := by decide
  reducesTo_S2x4096x1024_S_d0_1_2 := by decide

theorem and_one : ∀ a b : BitVec 1, IntOp.andi a b = 1#1 → a = 1#1 ∧ b = 1#1 := by decide

theorem inf_bf16 : Ideal.ofBits .bf16 0x7F80#16 = ⊤ := by
  simp [Ideal.ofBits, Ideal.ieee]

theorem real_of_lt (x : EReal) (h : max x (-x) < ⊤) : x = ((x.toReal : ℝ) : EReal) := by
  refine (EReal.coe_toReal ?_ ?_).symm
  · rintro rfl
    simp at h
  · rintro rfl
    simp at h

instance : Subsingleton S_.Idx := ⟨fun a b => funext fun x => x.elim0⟩

theorem real_of_all {s : Shape} {axes : List (Fin s.rank)} (x : FVec Ideal s .bf16) (bc : S_.BroadcastsInDim s (![] : Fin 0 → Fin s.rank))
    (h : s.ReducesTo axes S_) (hu : 0 < S_.numel) (j : S_.Idx)
    (e : Host.reduce IntOp.andi (cmpf .olt (Host.absf x) (broadcastInDim s ![] bc (constant S_ .bf16 0x7F80#16))) (constantI S_ 1 1#1) h hu j = 1#1)
    (i : s.Idx) : x i = (((x i : EReal).toReal : ℝ) : EReal) := by
  have h1 := Host.reduce_andi_all _ _ h hu j e i
  refine real_of_lt _ ?_
  pointwise at h1
  rw [inf_bf16] at h1
  by_contra hn
  have h2 : decide (FloatOps.absf (F := Ideal) (φ := .bf16) (x i) < (⊤ : EReal)) = false := decide_eq_false hn
  rw [h2] at h1
  exact absurd h1 (by decide)

/-- The real parts of nine arrays. -/
def realsOf (qn : FVec Ideal S2x4096x8x128 .bf16) (qr : FVec Ideal S2x4096x8x64 .bf16)
    (kn : FVec Ideal S2x4096x8x128 .bf16) (kr : FVec Ideal S2x4096x64 .bf16) (v : FVec Ideal S2x4096x8x128 .bf16)
    (knc : FVec Ideal S2x256x8x128 .bf16) (krc : FVec Ideal S2x256x64 .bf16) (vc : FVec Ideal S2x256x8x128 .bf16)
    (g : FVec Ideal S2x4096x1024 .bf16) : Reals where
  qn b i h d := EReal.toReal (qn (ix4 b i h d))
  qr b i h d := EReal.toReal (qr (ix4 b i h d))
  kn b i h d := EReal.toReal (kn (ix4 b i h d))
  kr b i d := EReal.toReal (kr (ix3 b i d))
  v b i h d := EReal.toReal (v (ix4 b i h d))
  knc b i h d := EReal.toReal (knc (ix4 b i h d))
  krc b i d := EReal.toReal (krc (ix3 b i d))
  vc b i h d := EReal.toReal (vc (ix4 b i h d))
  g b i d := EReal.toReal (g (ix3 b i d))

theorem holding_of_finite [Facts] (qn : FVec Ideal S2x4096x8x128 .bf16) (qr : FVec Ideal S2x4096x8x64 .bf16)
    (kn : FVec Ideal S2x4096x8x128 .bf16) (kr : FVec Ideal S2x4096x64 .bf16) (v : FVec Ideal S2x4096x8x128 .bf16)
    (knc : FVec Ideal S2x256x8x128 .bf16) (krc : FVec Ideal S2x256x64 .bf16) (vc : FVec Ideal S2x256x8x128 .bf16)
    (g : FVec Ideal S2x4096x1024 .bf16) (e : fn (F := Ideal) qn qr kn kr v knc krc vc g = fun _ => 1#1) :
    Holding (realsOf qn qr kn kr v knc krc vc g) qn qr kn kr v knc krc vc g := by
  have e := congrFun e ix0
  unfold fn fn_part1 fn_part2 at e
  obtain ⟨e, h8⟩ := and_one _ _ e
  obtain ⟨e, h7⟩ := and_one _ _ e
  obtain ⟨e, h6⟩ := and_one _ _ e
  obtain ⟨e, h5⟩ := and_one _ _ e
  obtain ⟨e, h4⟩ := and_one _ _ e
  obtain ⟨e, h3⟩ := and_one _ _ e
  obtain ⟨e, h2⟩ := and_one _ _ e
  obtain ⟨h0, h1⟩ := and_one _ _ e
  exact {
    qn := fun b i h d => real_of_all qn _ _ _ _ h0 _
    qr := fun b i h d => real_of_all qr _ _ _ _ h1 _
    kn := fun b i h d => real_of_all kn _ _ _ _ h2 _
    kr := fun b i d => real_of_all kr _ _ _ _ h3 _
    v := fun b i h d => real_of_all v _ _ _ _ h4 _
    knc := fun b i h d => real_of_all knc _ _ _ _ h5 _
    krc := fun b i d => real_of_all krc _ _ _ _ h6 _
    vc := fun b i h d => real_of_all vc _ _ _ _ h7 _
    g := fun b i d => real_of_all g _ _ _ _ h8 _ }

end Cert.Mla
-- ==== Proof.Reference.lean ====
/- The reference's result as a composition of named steps. -/
module

public import proofs.«01_k».proof.Proof.Gen.ReferenceIdeal.Run
public import Idealize.ShloMosaic.PureOps.Ideal
public import Idealize.ShloMosaic.Lib.Pointwise
public import Idealize.ShloMosaic.Lib.IdealHost

@[expose] public section

set_option maxRecDepth 16384

noncomputable section

namespace Cert.MlaRef

open Idealize.ShloMosaic Cert.ReferenceIdeal Cert.ReferenceIdeal.Gen Idealize.SL.Sem Idealize.ShloMosaic.TcCoe

section Ops
variable {F : FTy → Type} [FloatOps F]

/-- The scaled scores, latent keys then context keys. -/
def logits (qn : FVec F S2x4096x8x128 .bf16) (qr : FVec F S2x4096x8x64 .bf16) (kn : FVec F S2x4096x8x128 .bf16)
    (kr : FVec F S2x4096x64 .bf16) (knc : FVec F S2x256x8x128 .bf16) (krc : FVec F S2x256x64 .bf16) :
    FVec F S2x8x4096x4352 .f32 :=
  mulf (extf .f32 (concatenate S2x8x4096x4352 3
    [⟨S2x8x4096x4096, (addf (truncf .bf16 (Host.dotGeneral dot_S2x4096x8x128_S2x4096x8x128_S2x8x4096x4096_3_3_1_1_02_02 none qn kn) bitsLt_bf16_f32)
      (truncf .bf16 (transpose S2x8x4096x4096 [0, 3, 2, 1] (Host.dotGeneral dot_S2x4096x64_S2x4096x8x64_S2x4096x4096x8_2_3_1_12_0_0 none kr qr)
        transposes_S2x4096x4096x8_S2x8x4096x4096_0_3_2_1) bitsLt_bf16_f32) : FVec F S2x8x4096x4096 .bf16)⟩,
     ⟨S2x8x4096x256, (addf (truncf .bf16 (Host.dotGeneral dot_S2x4096x8x128_S2x256x8x128_S2x8x4096x256_3_3_1_1_02_02 none qn knc) bitsLt_bf16_f32)
      (truncf .bf16 (transpose S2x8x4096x256 [0, 3, 2, 1] (Host.dotGeneral dot_S2x256x64_S2x4096x8x64_S2x256x4096x8_2_3_1_12_0_0 none krc qr)
        transposes_S2x256x4096x8_S2x8x4096x256_0_3_2_1) bitsLt_bf16_f32) : FVec F S2x8x4096x256 .bf16)⟩]
      concatenates_S2x8x4096x4096_S2x8x4096x256_S2x8x4096x4352_d3) bitsLt_bf16_f32)
    (broadcastInDim S2x8x4096x4352 ![] bcast_S_S2x8x4096x4352 (Host.rsqrt (constant S_ .f32 0x43400000#32)))

/-- The largest score of each query. -/
def largest (s : FVec F S2x8x4096x4352 .f32) : FVec F S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x4352_S2x8x4096_d3 h_S_)

/-- The exponentials of the scores relative to a maximum. -/
def exps (s : FVec F S2x8x4096x4352 .f32) (t : FVec F S2x8x4096 .f32) : FVec F S2x8x4096x4352 .f32 :=
  Host.exp (subf s (broadcastInDim S2x8x4096x4352 ![0, 1, 2, 3] bcast_S2x8x4096x1_S2x8x4096x4352_0_1_2_3
    (broadcastInDim S2x8x4096x1 ![0, 1, 2] bcast_S2x8x4096_S2x8x4096x1_0_1_2 t)))

/-- The exponentials over their sum. -/
def probs (e : FVec F S2x8x4096x4352 .f32) : FVec F S2x8x4096x4352 .bf16 :=
  truncf .bf16 (Host.divf e (broadcastInDim S2x8x4096x4352 ![0, 1, 2, 3] bcast_S2x8x4096x1_S2x8x4096x4352_0_1_2_3
    (broadcastInDim S2x8x4096x1 ![0, 1, 2] bcast_S2x8x4096_S2x8x4096x1_0_1_2
      (Host.reduceAdd e (constant S_ .f32 0x00000000#32) reducesTo_S2x8x4096x4352_S2x8x4096_d3 h_S_)))) bitsLt_bf16_f32

/-- The gate `g · 1/(1 + e^{-g})`. -/
def silu (g : FVec F S2x4096x1024 .bf16) : FVec F S2x4096x1024 .bf16 :=
  mulf g (Host.divf (broadcastInDim S2x4096x1024 ![] bcast_S_S2x4096x1024 (constant S_ .bf16 0x3F80#16))
    (addf (broadcastInDim S2x4096x1024 ![] bcast_S_S2x4096x1024 (constant S_ .bf16 0x3F80#16)) (Host.exp (Host.negf g))))

/-- The reference's result from the probabilities, the values and the gates. -/
def output (p : FVec F S2x8x4096x4352 .bf16) (v : FVec F S2x4096x8x128 .bf16) (vc : FVec F S2x256x8x128 .bf16)
    (g : FVec F S2x4096x1024 .bf16) : FVec F S8192x1024 .bf16 :=
  shapeCast S8192x1024 (mulf (shapeCast S2x4096x1024 (addf
    (truncf .bf16 (transpose S2x4096x8x128 [0, 3, 1, 2] (Host.dotGeneral dot_S2x4096x8x128_S2x8x4096x4096_S2x8x128x4096_1_3_3_2_02_01 none v
      (extractStridedSlice S2x8x4096x4096 ![0, 0, 0, 0] p slices_S2x8x4096x4352_S2x8x4096x4096_0_0_0_0))
      transposes_S2x8x128x4096_S2x4096x8x128_0_3_1_2) bitsLt_bf16_f32)
    (truncf .bf16 (transpose S2x4096x8x128 [0, 3, 1, 2] (Host.dotGeneral dot_S2x256x8x128_S2x8x4096x256_S2x8x128x4096_1_3_3_2_02_01 none vc
      (extractStridedSlice S2x8x4096x256 ![0, 0, 0, 4096] p slices_S2x8x4096x4352_S2x8x4096x256_0_0_0_4096))
      transposes_S2x8x128x4096_S2x4096x8x128_0_3_1_2) bitsLt_bf16_f32)) shapeCasts_S2x4096x8x128_S2x4096x1024) (silu g)) shapeCasts_S2x4096x1024_S8192x1024

theorem result_eq (m : (ℓ : Loc nD τ sig) → Buf (Elt F) ℓ) (c : Dev nD) :
    Cert.ReferenceIdeal.Value.res_out0 m c
      = let s := logits (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6))
        output (probs (exps s (largest s))) (m ((c : Thread nD τ).loc main_arg4)) (m ((c : Thread nD τ).loc main_arg7))
          (m ((c : Thread nD τ).loc main_arg8)) := by
  unfold Cert.ReferenceIdeal.Value.res_out0 Cert.ReferenceIdeal.Value.res_main_v41
  rfl

end Ops

end Cert.MlaRef
-- ==== Proof.ReferenceRead.lean ====
/- The reference's result when the arguments are real. -/
module

public import proofs.«01_k».proof.Proof.Reference
public import proofs.«01_k».proof.Proof.Attend

@[expose] public section

set_option maxRecDepth 16384

noncomputable section

namespace Cert.MlaRef

open Idealize.ShloMosaic Cert.ReferenceIdeal Cert.ReferenceIdeal.Gen Idealize.SL.Sem Idealize.ShloMosaic.TcCoe
open Cert.Mla (Reals)

/-- A maximum over a last axis of real entries is real. -/
theorem reduce_max_real {n0 n1 n2 n3 : ℕ} {t u : Shape}
    (h : (⟨4, ![n0, n1, n2, n3 + 1]⟩ : Shape).ReducesTo [3] t) (hu : 0 < u.numel)
    (s : (⟨4, ![n0, n1, n2, n3 + 1]⟩ : Shape).Idx → EReal) (f : (⟨4, ![n0, n1, n2, n3 + 1]⟩ : Shape).Idx → ℝ)
    (hs : ∀ i, s i = ((f i : ℝ) : EReal)) (init : u.Idx → EReal) (hi : ∀ i, init i = ⊥) (j : t.Idx) :
    ∃ μ : ℝ, Host.reduce (fun x y : EReal => max x y) s init h hu j = (μ : EReal) := by
  haveI : Std.Commutative (fun x y : EReal => max x y) := ⟨max_comm⟩
  haveI : Std.Associative (fun x y : EReal => max x y) := ⟨max_assoc⟩
  rw [Host.reduce_eq_fold, Shape.ReducesTo.fold_fiber_r4_a3, hi]
  simp only [hs]
  exact Mla.fold_max_coe _

theorem above_read (t : FVec Ideal S2x8x4096 .f32) (j : S2x8x4096.Idx) :
    maximumf (broadcastInDim S2x8x4096 ![] bcast_S_S2x8x4096 (constant S_ .f32 0xFF800000#32)) t j = t j := by
  pointwise
  rw [Mla.neg_inf_f32]
  exact max_eq_right bot_le

theorem largest_real {s : FVec Ideal S2x8x4096x4352 .f32} (f : S2x8x4096x4352.Idx → ℝ)
    (hs : ∀ i, s i = ((f i : ℝ) : EReal)) (j : S2x8x4096.Idx) : ∃ μ : ℝ, largest s j = (μ : EReal) := by
  rw [largest, above_read]
  exact reduce_max_real reducesTo_S2x8x4096x4352_S2x8x4096_d3 h_S_ s f hs _ (fun _ => Mla.neg_inf_f32) j

theorem rsqrt_192 : Ideal.rsqrt (Ideal.ofBits .f32 0x43400000#32) = (((√192)⁻¹ : ℝ) : EReal) := by
  have h : Ideal.ofBits .f32 0x43400000#32 = ((192 : ℝ) : EReal) := by
    simp [Ideal.ofBits, Ideal.ieee, -EReal.coe_mul]; norm_num
  rw [h, Ideal.rsqrt_coe, if_neg (by norm_num), if_neg (by norm_num)]

variable {A : Reals} {qn : FVec Ideal S2x4096x8x128 .bf16} {qr : FVec Ideal S2x4096x8x64 .bf16}
    {kn : FVec Ideal S2x4096x8x128 .bf16} {kr : FVec Ideal S2x4096x64 .bf16} {v : FVec Ideal S2x4096x8x128 .bf16}
    {knc : FVec Ideal S2x256x8x128 .bf16} {krc : FVec Ideal S2x256x64 .bf16} {vc : FVec Ideal S2x256x8x128 .bf16}
    {g : FVec Ideal S2x4096x1024 .bf16}

theorem logits_real (hqn : ∀ b i h d, qn (ix4 b i h d) = ((A.qn b i h d : ℝ) : EReal))
    (hqr : ∀ b i h d, qr (ix4 b i h d) = ((A.qr b i h d : ℝ) : EReal))
    (hkn : ∀ b i h d, kn (ix4 b i h d) = ((A.kn b i h d : ℝ) : EReal))
    (hkr : ∀ b i d, kr (ix3 b i d) = ((A.kr b i d : ℝ) : EReal))
    (hknc : ∀ b i h d, knc (ix4 b i h d) = ((A.knc b i h d : ℝ) : EReal))
    (hkrc : ∀ b i d, krc (ix3 b i d) = ((A.krc b i d : ℝ) : EReal))
    (b : Fin 2) (h : Fin 8) (i : Fin 4096) (k : Fin 4352) :
    logits qn qr kn kr knc krc (ix4 b h i k) = ((A.logit b h i k : ℝ) : EReal) := by
  pointwise [logits]
  rw [rsqrt_192, Reals.logit, Reals.dot]
  by_cases e : (k : ℕ) < 4096
  · simp only [dif_pos e, hqn, hqr, hkn, hkr, Reals.keyN, Reals.keyR, ← EReal.coe_mul, Mla.sum_coe, ← EReal.coe_add]
    simp only [mul_comm]
  · have e' : (k : ℕ) - 4096 < 256 := by omega
    simp only [dif_neg e, dif_pos e', hqn, hqr, hknc, hkrc, Reals.keyN, Reals.keyR, ← EReal.coe_mul, Mla.sum_coe, ← EReal.coe_add]
    simp only [mul_comm]

/-- The probabilities do not depend on the maximum taken off. -/
theorem probs_real {s : FVec Ideal S2x8x4096x4352 .f32} {t : FVec Ideal S2x8x4096 .f32}
    {S : Fin 2 → Fin 8 → Fin 4096 → ℕ → ℝ}
    (hs : ∀ b h i (k : Fin 4352), s (ix4 b h i k) = ((S b h i k : ℝ) : EReal))
    (b : Fin 2) (h : Fin 8) (i : Fin 4096) (μ : ℝ) (ht : t (ix3 b h i) = (μ : EReal)) (k : Fin 4352) :
    probs (exps s t) (ix4 b h i k)
      = ((Real.exp (S b h i k) / ∑ k ∈ Finset.range 4352, Real.exp (S b h i k) : ℝ) : EReal) := by
  have hp : 0 < ∑ k ∈ Finset.range 4352, Real.exp (S b h i k) :=
    Finset.sum_pos (fun _ _ => Real.exp_pos _) ⟨0, Finset.mem_range.2 (by norm_num)⟩
  have he : ∀ k : Fin 4352, exps s t (ix4 b h i k) = ((Real.exp (S b h i k) * Real.exp (-μ) : ℝ) : EReal) := by
    intro k
    pointwise [exps]
    rw [hs, ht, ← EReal.coe_sub, Ideal.exp_coe, sub_eq_add_neg, Real.exp_add]
  pointwise [probs]
  simp only [he, Mla.sum_coe]
  rw [← Finset.sum_mul, Fin.sum_univ_eq_sum_range (fun k => Real.exp (S b h i k)) 4352,
    Ideal.div_coe (mul_pos hp (Real.exp_pos _)).ne', ← EReal.coe_mul]
  congr 1
  have := (Real.exp_pos (-μ)).ne'
  field_simp

theorem output_real {p : FVec Ideal S2x8x4096x4352 .bf16} {W : Fin 2 → Fin 8 → Fin 4096 → ℕ → ℝ}
    (hp : ∀ b h i (k : Fin 4352), p (ix4 b h i k) = ((W b h i k : ℝ) : EReal))
    (hv : ∀ b i h d, v (ix4 b i h d) = ((A.v b i h d : ℝ) : EReal))
    (hvc : ∀ b i h d, vc (ix4 b i h d) = ((A.vc b i h d : ℝ) : EReal))
    (hg : ∀ b i d, g (ix3 b i d) = ((A.g b i d : ℝ) : EReal))
    (n : Fin 8192) (d : Fin 1024) (b : Fin 2) (i : Fin 4096) (h : Fin 8) (x : Fin 128)
    (en : (n : ℕ) = 4096 * b + i) (ed : (d : ℕ) = 128 * h + x) :
    output p v vc g (ix2 n d)
      = (((∑ k ∈ Finset.range 4352, A.val b h k x * W b h i k) * (A.g b i d * (1 + Real.exp (-A.g b i d))⁻¹) : ℝ) : EReal) := by
  pointwise [output, silu]
  have eb : (⟨(n : ℕ) / 4096, by omega⟩ : Fin 2) = b := Fin.ext (by show (n : ℕ) / 4096 = b; omega)
  have ei : (⟨(n : ℕ) % 4096, by omega⟩ : Fin 4096) = i := Fin.ext (by show (n : ℕ) % 4096 = i; omega)
  have eh : (⟨(d : ℕ) / 128, by omega⟩ : Fin 8) = h := Fin.ext (by show (d : ℕ) / 128 = h; omega)
  have ex : (⟨(d : ℕ) % 128, by omega⟩ : Fin 128) = x := Fin.ext (by show (d : ℕ) % 128 = x; omega)
  simp only [eb, ei, eh, ex, hp, hv, hvc, hg, ← EReal.coe_mul, Mla.sum_coe, ← EReal.coe_add, ← EReal.coe_neg, Ideal.exp_coe]
  rw [show (1 : EReal) = ((1 : ℝ) : EReal) from rfl, ← EReal.coe_add,
    Ideal.div_coe (add_pos one_pos (Real.exp_pos _)).ne', ← EReal.coe_mul, ← EReal.coe_mul, ← EReal.coe_mul]
  congr 1
  rw [show 4352 = 4096 + 256 from rfl, Finset.sum_range_add,
    ← Fin.sum_univ_eq_sum_range (fun k => A.val b h k x * W b h i k) 4096,
    ← Fin.sum_univ_eq_sum_range (fun k => A.val b h (4096 + k) x * W b h i (4096 + k)) 256]
  refine congrArg₂ (· * ·) (congrArg₂ (· + ·) (Finset.sum_congr rfl fun k _ => ?_) (Finset.sum_congr rfl fun k _ => ?_)) ?_
  · rw [Reals.val, dif_pos k.isLt]
  · have e1 : ¬ 4096 + (k : ℕ) < 4096 := by omega
    have e2 : 4096 + (k : ℕ) - 4096 < 256 := by omega
    have e3 : (⟨4096 + (k : ℕ) - 4096, e2⟩ : Fin 256) = k := Fin.ext (by show 4096 + (k : ℕ) - 4096 = k; omega)
    rw [Reals.val, dif_neg e1, dif_pos e2, e3]
  · rw [one_mul, one_div]

/-- The reference's result at real arguments. -/
theorem result_real (hqn : ∀ b i h d, qn (ix4 b i h d) = ((A.qn b i h d : ℝ) : EReal))
    (hqr : ∀ b i h d, qr (ix4 b i h d) = ((A.qr b i h d : ℝ) : EReal))
    (hkn : ∀ b i h d, kn (ix4 b i h d) = ((A.kn b i h d : ℝ) : EReal))
    (hkr : ∀ b i d, kr (ix3 b i d) = ((A.kr b i d : ℝ) : EReal))
    (hv : ∀ b i h d, v (ix4 b i h d) = ((A.v b i h d : ℝ) : EReal))
    (hknc : ∀ b i h d, knc (ix4 b i h d) = ((A.knc b i h d : ℝ) : EReal))
    (hkrc : ∀ b i d, krc (ix3 b i d) = ((A.krc b i d : ℝ) : EReal))
    (hvc : ∀ b i h d, vc (ix4 b i h d) = ((A.vc b i h d : ℝ) : EReal))
    (hg : ∀ b i d, g (ix3 b i d) = ((A.g b i d : ℝ) : EReal))
    (n : Fin 8192) (d : Fin 1024) (b : Fin 2) (i : Fin 4096) (h : Fin 8) (x : Fin 128)
    (en : (n : ℕ) = 4096 * b + i) (ed : (d : ℕ) = 128 * h + x) :
    (let s := logits qn qr kn kr knc krc; output (probs (exps s (largest s))) v vc g) (ix2 n d)
      = ((A.result b h i x d : ℝ) : EReal) := by
  have hs := logits_real hqn hqr hkn hkr hknc hkrc
  have hm := largest_real (s := logits qn qr kn kr knc krc) (fun j => A.logit (j 0) (j 1) (j 2) ((j 3 : Fin 4352) : ℕ))
    (fun j => by
      obtain ⟨b, h, i, k, rfl⟩ : ∃ (b : Fin 2) (h : Fin 8) (i : Fin 4096) (k : Fin 4352), j = ix4 b h i k :=
        ⟨j 0, j 1, j 2, j 3, eq_ix4 j⟩
      exact hs b h i k)
  have hp : ∀ b h i (k : Fin 4352), _ = _ := fun b h i k =>
    (hm (ix3 b h i)).elim fun μ hμ => probs_real (S := A.logit) hs b h i μ hμ k
  refine (output_real (W := fun b h i k => Real.exp (A.logit b h i k) / ∑ k ∈ Finset.range 4352, Real.exp (A.logit b h i k))
    hp hv hvc hg n d b i h x en ed).trans ?_
  rw [Reals.result]
  congr 2
  rw [Finset.sum_div]
  exact Finset.sum_congr rfl fun k _ => (mul_div_assoc ..).symm

end Cert.MlaRef
-- ==== Proof.InMath.lean ====
/- The input projection and the gated mixing of chunks, row by row, as functions of extended reals. -/
module

public import Idealize.ShloMosaic.PureOps.Ideal
public import Idealize.ShloMosaic.Lib.IdealHost

@[expose] public section

noncomputable section

namespace Cert.InProj

open Idealize.ShloMosaic

/-- A row scaled to unit mean square, times its gain, scaled and shifted. -/
def hidden (x g s t : Fin 2048 → EReal) (k : Fin 2048) : EReal :=
  x k * Ideal.rsqrt (Ideal.div (∑ j, x j * x j) (Ideal.ofBits .f32 0x45000000#32) + Ideal.ofBits .f32 0x358637BD#32) * g k
    * (1 + s k) + t k

/-- The product of a row with a column of the weights. -/
def proj (h w : Fin 2048 → EReal) : EReal := ∑ k, h k * w k

/-- The smooth gate's activation. -/
def gelu (u : EReal) : EReal :=
  u * (Ideal.ofBits .f32 0x3F000000#32 * (1 + Ideal.tanh (Ideal.ofBits .f32 0x3F4C422A#32
    * (u + Ideal.ofBits .f32 0x3D372713#32 * (u * (u * u))))))

/-- A row's activations scaled to unit mean square, times their gain. -/
def scaled (v g : Fin 512 → EReal) (c : Fin 512) : EReal :=
  gelu (v c) * Ideal.rsqrt (Ideal.div (∑ j, gelu (v j) * gelu (v j)) (Ideal.ofBits .f32 0x44000000#32)
    + Ideal.ofBits .f32 0x358637BD#32) * g c

/-- The sigmoid-weighted gate. -/
def silu (s : EReal) : EReal := s * Ideal.div 1 (1 + Ideal.exp (-s))

/-- A mixed entry: the mixture of a chunk's rows, gated. -/
def mixed (u s : EReal) (v : Fin 128 → Fin 512 → EReal) (g : Fin 512 → EReal) (w : Fin 128 → EReal) (b : EReal)
    (c : Fin 512) : EReal :=
  gelu u * silu s * ((∑ q, w q * scaled (v q) g c) + b)

/-- The weight column that column `n` of the packed weights holds. -/
def column (n : ℕ) : ℕ :=
  if n < 2560 then n else if n < 5632 then n + 64 else if n < 5760 then 2560 + (n - 5632) % 64
    else if (n / 16) % 2 = 0 then 2560 + (n - 5760) % 64 + 16 else 2560 + (n - 5760) % 64 - 16

theorem column_lt {n : ℕ} (h : n < 5888) : column n < 5696 := by
  unfold column
  split_ifs <;> omega

/-- The arguments: latents, context, the modulation of each batch and of the context, the gain, the weights, the inner
    gain, and the mixing weights and offsets. -/
structure Args where
  lat : Fin 2 → Fin 4096 → Fin 2048 → EReal
  ctx : Fin 2 → Fin 256 → Fin 2048 → EReal
  mod : Fin 2 → Fin 6144 → EReal
  modc : Fin 6144 → EReal
  gain : Fin 2048 → EReal
  w : Fin 2048 → Fin 5696 → EReal
  inner : Fin 512 → EReal
  mix : Fin 4 → Fin 128 → Fin 128 → EReal
  off : Fin 4 → Fin 128 → EReal

namespace Args

variable (A : Args)

/-- Row `n` of the activations: the latents of both batches, then the context of both. -/
def x (n : Fin 8704) (k : Fin 2048) : EReal :=
  if h : (n : ℕ) < 8192 then A.lat ⟨(n : ℕ) / 4096, by omega⟩ ⟨(n : ℕ) % 4096, by omega⟩ k
  else A.ctx ⟨((n : ℕ) - 8192) / 256, by omega⟩ ⟨((n : ℕ) - 8192) % 256, by omega⟩ k

/-- The modulation of row `n`. -/
def md (n : Fin 8704) (j : Fin 6144) : EReal :=
  if h : (n : ℕ) < 8192 then A.mod ⟨(n : ℕ) / 4096, by omega⟩ j else A.modc j

/-- Row `n` normalised and modulated. -/
def h (n : Fin 8704) : Fin 2048 → EReal :=
  hidden (A.x n) A.gain (fun k => A.md n ⟨2048 + k, by omega⟩) (fun k => A.md n ⟨k, by omega⟩)

/-- Row `n`'s projection on column `j`. -/
def p (n : Fin 8704) (j : Fin 5696) : EReal := proj (A.h n) (fun k => A.w k j)

/-- The projections the layer goes on with. -/
def z (n : Fin 8704) (c : Fin 4352) : EReal := A.p n ⟨column (1536 + c), column_lt (by omega)⟩

/-- The mixed chunks. -/
def a (n : Fin 8704) (c : Fin 512) : EReal :=
  mixed (A.p n ⟨c, by omega⟩) (A.p n ⟨1024 + c, by omega⟩)
    (fun q c => A.p ⟨128 * ((n : ℕ) / 128) + q, by omega⟩ ⟨512 + c, by omega⟩) A.inner
    (A.mix ⟨(c : ℕ) / 128, by omega⟩ ⟨(n : ℕ) % 128, by omega⟩) (A.off ⟨(c : ℕ) / 128, by omega⟩ ⟨(n : ℕ) % 128, by omega⟩) c

end Args

end Cert.InProj
-- ==== Proof.InBlock.lean ====
/- The blocks a grid point of the input projection writes, entry by entry. -/
module

public import proofs.«01_k».proof.Proof.Gen.InKernelIdeal.Value
public import proofs.«01_k».proof.Proof.InMath
public import Idealize.ShloMosaic.Lib.Pipeline.ValueKit

@[expose] public section

set_option maxRecDepth 16384

noncomputable section

namespace Cert.InProj

open Idealize.ShloMosaic Cert.InKernelIdeal Cert.InKernelIdeal.Gen Idealize.SL.Sem Idealize.ShloMosaic.Pipeline

/-- The normalised and modulated rows of a grid point's block. -/
def hid (i : grid0.Coords) (x0 x1 : Vec Ideal S512x2048 .f32) (x2 : Vec Ideal S1x1x6144 .f32)
    (x3 : Vec Ideal S1x2048 .f32) : FVec Ideal S512x2048 .bf16 :=
  k0_pay4 (F := Ideal) i x0 x1
    (fun j : S1x1x2048.Idx => x2 ((Rect.unit (s := S1x1x6144) ![0, 0, 0] S1x1x2048.size
      (by intro a; fin_cases a <;> simp [Shape.size])).idx j))
    (fun j : S1x1x2048.Idx => x2 ((Rect.unit (s := S1x1x6144) ![0, 0, 2048] S1x1x2048.size
      (by intro a; fin_cases a <;> simp [Shape.size])).idx j)) x3

theorem add_lt (y : S512x4352.Idx) : 1536 + (y 1 : ℕ) < 5888 := by
  have h : (y 1 : ℕ) < 4352 := (y 1).isLt
  omega

theorem chunk (H : FVec Ideal S512x2048 .bf16) (x4 : Vec Ideal S5888x2048 .bf16) (w : Vec Ideal S512x2048 .bf16) (o : ℕ)
    (ho : o + 512 ≤ 5888) (hw : ∀ (a : Fin 512) (k : Fin 2048), w (ix2 a k) = x4 (ix2 ⟨o + a, by omega⟩ k))
    (y : S512x4352.Idx) (x : S512x512.Idx) (h0 : (y 0 : ℕ) = (x 0 : ℕ)) (h1 : 1536 + (y 1 : ℕ) = o + (x 1 : ℕ)) :
    k0_pay25 (F := Ideal) H w x
      = proj (fun k => H (ix2 (y 0) k)) (fun k => x4 (ix2 ⟨1536 + (y 1 : ℕ), add_lt y⟩ k)) := by
  obtain ⟨a, b, rfl⟩ : ∃ (a b : Fin 512), x = ix2 a b := ⟨x 0, x 1, eq_ix2 x⟩
  obtain ⟨p, q, rfl⟩ : ∃ (p : Fin 512) (q : Fin 4352), y = ix2 p q := ⟨y 0, y 1, eq_ix2 y⟩
  obtain rfl : p = a := Fin.ext h0
  pointwise [k0_pay25, proj, hw]
  have e : (⟨o + (b : ℕ), by omega⟩ : Fin 5888) = ⟨1536 + (q : ℕ), by omega⟩ := Fin.ext h1.symm
  simp only [e]

theorem lastChunk (H : FVec Ideal S512x2048 .bf16) (x4 : Vec Ideal S5888x2048 .bf16) (w : Vec Ideal S256x2048 .bf16) (o : ℕ)
    (ho : o + 256 ≤ 5888) (hw : ∀ (a : Fin 256) (k : Fin 2048), w (ix2 a k) = x4 (ix2 ⟨o + a, by omega⟩ k))
    (y : S512x4352.Idx) (x : S512x256.Idx) (h0 : (y 0 : ℕ) = (x 0 : ℕ)) (h1 : 1536 + (y 1 : ℕ) = o + (x 1 : ℕ)) :
    k0_pay3 (F := Ideal) H w x
      = proj (fun k => H (ix2 (y 0) k)) (fun k => x4 (ix2 ⟨1536 + (y 1 : ℕ), add_lt y⟩ k)) := by
  obtain ⟨a, b, rfl⟩ : ∃ (a : Fin 512) (b : Fin 256), x = ix2 a b := ⟨x 0, x 1, eq_ix2 x⟩
  obtain ⟨p, q, rfl⟩ : ∃ (p : Fin 512) (q : Fin 4352), y = ix2 p q := ⟨y 0, y 1, eq_ix2 y⟩
  obtain rfl : p = a := Fin.ext h0
  pointwise [k0_pay3, proj, hw]
  have e : (⟨o + (b : ℕ), by omega⟩ : Fin 5888) = ⟨1536 + (q : ℕ), by omega⟩ := Fin.ext h1.symm
  simp only [e]

/-- Entry `(p, c)` of the mixed chunks, from the gated rows `U` and the scaled rows `V`. -/
def mixT (U : FVec Ideal S512x512 .f32) (V : FVec Ideal S512x512 .bf16) (x6 : Vec Ideal S4x128x128 .bf16)
    (x7 : Vec Ideal S128x512 .f32) (p c : Fin 512) : EReal :=
  U (ix2 p c) * ((∑ q : Fin 128, x6 (ix3 ⟨(c : ℕ) / 128, by omega⟩ ⟨(p : ℕ) % 128, by omega⟩ q)
    * V (ix2 ⟨128 * ((p : ℕ) / 128) + q, by omega⟩ c)) + x7 (ix2 ⟨(p : ℕ) % 128, by omega⟩ c))

theorem tile (U : FVec Ideal S512x512 .f32) (V : FVec Ideal S512x512 .bf16) (x6 : Vec Ideal S4x128x128 .bf16)
    (x7 : Vec Ideal S128x512 .f32) (i g : Fin 4) (p c : Fin 512) (a b : Fin 128)
    (h0 : (p : ℕ) = 128 * (i : ℕ) + a) (h1 : (c : ℕ) = 128 * (g : ℕ) + b) :
    U (ix2 ⟨128 * (i : ℕ) + a, by omega⟩ ⟨128 * (g : ℕ) + b, by omega⟩)
      * ((∑ q : Fin 128, x6 (ix3 g a q) * V (ix2 ⟨128 * (i : ℕ) + q, by omega⟩ ⟨128 * (g : ℕ) + b, by omega⟩))
        + x7 (ix2 a ⟨128 * (g : ℕ) + b, by omega⟩)) = mixT U V x6 x7 p c := by
  have hi : 128 * (i : ℕ) + a < 512 := h0 ▸ p.isLt
  have hg : 128 * (g : ℕ) + b < 512 := h1 ▸ c.isLt
  obtain ⟨p, hp⟩ := p
  obtain ⟨c, hc⟩ := c
  simp only at h0 h1
  subst h0 h1
  have e1 : (⟨(128 * (g : ℕ) + b) / 128, by omega⟩ : Fin 4) = g := Fin.ext (by show _ / _ = _; omega)
  have e2 : (⟨(128 * (i : ℕ) + a) % 128, by omega⟩ : Fin 128) = a := Fin.ext (by show _ % _ = _; omega)
  have e3 : ∀ q : Fin 128, (⟨128 * ((128 * (i : ℕ) + a) / 128) + q, by omega⟩ : Fin 512) = ⟨128 * (i : ℕ) + q, by omega⟩ :=
    fun q => Fin.ext (by show 128 * ((128 * (i : ℕ) + a) / 128) + (q : ℕ) = 128 * (i : ℕ) + q; omega)
  simp only [mixT, e1, e2, e3]

/-- What the stores of a grid point leave in the block of projections. -/
theorem z_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S5888x2048 .bf16) (harg5 : arg5.IsWhole) (arg6 : Memref sig .tc .vmem S1x512 .f32) (harg6 : arg6.IsWhole) (arg7 : Memref sig .tc .vmem S4x128x128 .bf16) (harg7 : arg7.IsWhole) (arg8 : Memref sig .tc .vmem S128x512 .f32) (harg8 : arg8.IsWhole) (arg9 : Memref sig .tc .vmem S512x4352 .bf16) (harg9 : arg9.IsWhole) (arg10 : Memref sig .tc .vmem S512x512 .bf16) (harg10 : arg10.IsWhole) (arg11 : Memref sig .tc .vmem S512x2048 .bf16) (harg11 : arg11.IsWhole)
    (x0 : Vec Ideal S512x2048 .f32) (x1 : Vec Ideal S512x2048 .f32) (x2 : Vec Ideal S1x1x6144 .f32) (x3 : Vec Ideal S1x2048 .f32) (x4 : Vec Ideal S5888x2048 .bf16) (x5 : Vec Ideal S1x512 .f32) (x6 : Vec Ideal S4x128x128 .bf16) (x7 : Vec Ideal S128x512 .f32) (y : S512x4352.Idx) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 y
      = proj (fun k => hid i x0 x1 x2 x3 (ix2 (y 0) k)) (fun k => x4 (ix2 ⟨1536 + (y 1 : ℕ), add_lt y⟩ k)) := by
  frame_out
  canon_tiles x h using (View.cover_of_tiledBy _ ![512, 256] (by sl_kernel_rfl) y)
  case piece0 =>
    exact lastChunk (hid i x0 x1 x2 x3) x4 _ 5632 (by decide) (fun a k => by pointwise) y x h0 (by omega)
  case piece1 =>
    exact chunk (hid i x0 x1 x2 x3) x4 _ 5120 (by decide) (fun a k => by pointwise) y x h0 (by omega)
  case piece2 =>
    exact chunk (hid i x0 x1 x2 x3) x4 _ 4608 (by decide) (fun a k => by pointwise) y x h0 (by omega)
  case piece3 =>
    exact chunk (hid i x0 x1 x2 x3) x4 _ 4096 (by decide) (fun a k => by pointwise) y x h0 (by omega)
  case piece4 =>
    exact chunk (hid i x0 x1 x2 x3) x4 _ 3584 (by decide) (fun a k => by pointwise) y x h0 (by omega)
  case piece5 =>
    exact chunk (hid i x0 x1 x2 x3) x4 _ 3072 (by decide) (fun a k => by pointwise) y x h0 (by omega)
  case piece6 =>
    exact chunk (hid i x0 x1 x2 x3) x4 _ 2560 (by decide) (fun a k => by pointwise) y x h0 (by omega)
  case piece7 =>
    exact chunk (hid i x0 x1 x2 x3) x4 _ 2048 (by decide) (fun a k => by pointwise) y x h0 (by omega)
  case piece8 =>
    exact chunk (hid i x0 x1 x2 x3) x4 _ 1536 (by decide) (fun a k => by pointwise) y x h0 (by omega)

/-- The scaled rows of a grid point's block. -/
def val (i : grid0.Coords) (x0 x1 : Vec Ideal S512x2048 .f32) (x2 : Vec Ideal S1x1x6144 .f32)
    (x3 : Vec Ideal S1x2048 .f32) (x4 : Vec Ideal S5888x2048 .bf16) (x5 : Vec Ideal S1x512 .f32) : FVec Ideal S512x512 .bf16 :=
  k0_pay5 (F := Ideal) (hid i x0 x1 x2 x3) (fun j : S512x2048.Idx => x4 ((Rect.unit (s := S5888x2048) ![512, 0] S512x2048.size
      (by intro a; fin_cases a <;> simp [Shape.size])).idx j)) x5

/-- The gated rows of a grid point's block. -/
def gat (i : grid0.Coords) (x0 x1 : Vec Ideal S512x2048 .f32) (x2 : Vec Ideal S1x1x6144 .f32)
    (x3 : Vec Ideal S1x2048 .f32) (x4 : Vec Ideal S5888x2048 .bf16) : FVec Ideal S512x512 .f32 :=
  k0_pay8 (F := Ideal)
    (k0_pay6 (hid i x0 x1 x2 x3) (fun j : S512x2048.Idx => x4 ((Rect.unit (s := S5888x2048) ![0, 0] S512x2048.size
      (by intro a; fin_cases a <;> simp [Shape.size])).idx j)))
    (k0_pay7 (hid i x0 x1 x2 x3) (fun j : S512x2048.Idx => x4 ((Rect.unit (s := S5888x2048) ![0, 0] S512x2048.size
      (by intro a; fin_cases a <;> simp [Shape.size])).idx j)))
    (hid i x0 x1 x2 x3) (fun j : S512x2048.Idx => x4 ((Rect.unit (s := S5888x2048) ![1024, 0] S512x2048.size
      (by intro a; fin_cases a <;> simp [Shape.size])).idx j))

/-- What the stores of a grid point leave in the block of mixed chunks. -/
theorem m_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S5888x2048 .bf16) (harg5 : arg5.IsWhole) (arg6 : Memref sig .tc .vmem S1x512 .f32) (harg6 : arg6.IsWhole) (arg7 : Memref sig .tc .vmem S4x128x128 .bf16) (harg7 : arg7.IsWhole) (arg8 : Memref sig .tc .vmem S128x512 .f32) (harg8 : arg8.IsWhole) (arg9 : Memref sig .tc .vmem S512x4352 .bf16) (harg9 : arg9.IsWhole) (arg10 : Memref sig .tc .vmem S512x512 .bf16) (harg10 : arg10.IsWhole) (arg11 : Memref sig .tc .vmem S512x2048 .bf16) (harg11 : arg11.IsWhole)
    (x0 : Vec Ideal S512x2048 .f32) (x1 : Vec Ideal S512x2048 .f32) (x2 : Vec Ideal S1x1x6144 .f32) (x3 : Vec Ideal S1x2048 .f32) (x4 : Vec Ideal S5888x2048 .bf16) (x5 : Vec Ideal S1x512 .f32) (x6 : Vec Ideal S4x128x128 .bf16) (x7 : Vec Ideal S128x512 .f32) (y : S512x512.Idx) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 y
      = mixT (gat i x0 x1 x2 x3 x4) (val i x0 x1 x2 x3 x4 x5) x6 x7 (y 0) (y 1) := by
  frame_out
  canon_tiles x h
  case piece0 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 3 (y 0) (y 1) a b h0 h1)
    pointwise [k0_pay24]
    sl_kernel_rfl
  case piece1 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 2 (y 0) (y 1) a b h0 h1)
    pointwise [k0_pay23]
    sl_kernel_rfl
  case piece2 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 1 (y 0) (y 1) a b h0 h1)
    pointwise [k0_pay22]
    sl_kernel_rfl
  case piece3 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 0 (y 0) (y 1) a b h0 (h1.trans (Nat.zero_add _).symm))
    pointwise [k0_pay21]
    sl_kernel_rfl
  case piece4 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 3 (y 0) (y 1) a b h0 h1)
    pointwise [k0_pay20]
    sl_kernel_rfl
  case piece5 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 2 (y 0) (y 1) a b h0 h1)
    pointwise [k0_pay19]
    sl_kernel_rfl
  case piece6 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 1 (y 0) (y 1) a b h0 h1)
    pointwise [k0_pay18]
    sl_kernel_rfl
  case piece7 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 0 (y 0) (y 1) a b h0 (h1.trans (Nat.zero_add _).symm))
    pointwise [k0_pay17]
    sl_kernel_rfl
  case piece8 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 3 (y 0) (y 1) a b h0 h1)
    pointwise [k0_pay16]
    sl_kernel_rfl
  case piece9 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 2 (y 0) (y 1) a b h0 h1)
    pointwise [k0_pay15]
    sl_kernel_rfl
  case piece10 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 1 (y 0) (y 1) a b h0 h1)
    pointwise [k0_pay14]
    sl_kernel_rfl
  case piece11 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 0 (y 0) (y 1) a b h0 (h1.trans (Nat.zero_add _).symm))
    pointwise [k0_pay13]
    sl_kernel_rfl
  case piece12 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 3 (y 0) (y 1) a b (h0.trans (Nat.zero_add _).symm) h1)
    pointwise [k0_pay12]
    sl_kernel_rfl
  case piece13 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 2 (y 0) (y 1) a b (h0.trans (Nat.zero_add _).symm) h1)
    pointwise [k0_pay11]
    sl_kernel_rfl
  case piece14 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 1 (y 0) (y 1) a b (h0.trans (Nat.zero_add _).symm) h1)
    pointwise [k0_pay10]
    sl_kernel_rfl
  case piece15 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 0 (y 0) (y 1) a b (h0.trans (Nat.zero_add _).symm) (h1.trans (Nat.zero_add _).symm))
    pointwise [k0_pay9]
    sl_kernel_rfl

theorem below (i : grid0.Coords) (h : (i 0).val < 16) : Scalar.cmpi .slt (BitVec.ofNat 32 (i 0).val) 16#32 = 1#1 := by
  generalize (i 0).val = n at h
  revert n
  decide

theorem above (i : grid0.Coords) (h : (i 0).val = 16) : Scalar.cmpi .slt (BitVec.ofNat 32 (i 0).val) 16#32 = 0#1 := by
  simp only [h]
  decide

/-- A row of the hidden block of a latent point. -/
theorem hid_latent (i : grid0.Coords) (h : (i 0).val < 16) (x0 x1 : Vec Ideal S512x2048 .f32)
    (x2 : Vec Ideal S1x1x6144 .f32) (x3 : Vec Ideal S1x2048 .f32) (r : Fin 512) (k : Fin 2048) :
    hid i x0 x1 x2 x3 (ix2 r k)
      = hidden (fun k => x0 (ix2 r k)) (fun k => x3 (ix2 0 k)) (fun k => x2 (ix3 0 0 ⟨2048 + k, by omega⟩))
          (fun k => x2 (ix3 0 0 ⟨k, by omega⟩)) k := by
  unfold hid k0_pay4
  simp only [below i h]
  pointwise [hidden]

/-- A row of the hidden block of the context point. -/
theorem hid_context (i : grid0.Coords) (h : (i 0).val = 16) (x0 x1 : Vec Ideal S512x2048 .f32)
    (x2 : Vec Ideal S1x1x6144 .f32) (x3 : Vec Ideal S1x2048 .f32) (r : Fin 512) (k : Fin 2048) :
    hid i x0 x1 x2 x3 (ix2 r k)
      = hidden (fun k => x1 (ix2 r k)) (fun k => x3 (ix2 0 k)) (fun k => x2 (ix3 0 0 ⟨2048 + k, by omega⟩))
          (fun k => x2 (ix3 0 0 ⟨k, by omega⟩)) k := by
  unfold hid k0_pay4
  simp only [above i h]
  pointwise [hidden]

theorem pay5_read (v34 v35 : Vec Ideal S512x2048 .bf16) (v51 : Vec Ideal S1x512 .f32) (r c : Fin 512) :
    k0_pay5 (F := Ideal) v34 v35 v51 (ix2 r c)
      = scaled (fun c => proj (fun k => v34 (ix2 r k)) (fun k => v35 (ix2 c k))) (fun c => v51 (ix2 0 c)) c := by
  pointwise [k0_pay5, scaled, proj, gelu]

theorem pay8_read (v66 v67 v84 : Vec Ideal S512x2048 .bf16) (r c : Fin 512) :
    k0_pay8 (F := Ideal) (k0_pay6 v66 v67) (k0_pay7 v66 v67) v66 v84 (ix2 r c)
      = gelu (proj (fun k => v66 (ix2 r k)) (fun k => v67 (ix2 c k))) * silu (proj (fun k => v66 (ix2 r k)) (fun k => v84 (ix2 c k))) := by
  pointwise [k0_pay8, k0_pay6, k0_pay7, gelu, proj, silu]
  rfl

theorem m_read (i : grid0.Coords) (x0 x1 : Vec Ideal S512x2048 .f32) (x2 : Vec Ideal S1x1x6144 .f32)
    (x3 : Vec Ideal S1x2048 .f32) (x4 : Vec Ideal S5888x2048 .bf16) (x5 : Vec Ideal S1x512 .f32)
    (x6 : Vec Ideal S4x128x128 .bf16) (x7 : Vec Ideal S128x512 .f32) (p c : Fin 512) :
    mixT (gat i x0 x1 x2 x3 x4) (val i x0 x1 x2 x3 x4 x5) x6 x7 p c
      = mixed (proj (fun k => hid i x0 x1 x2 x3 (ix2 p k)) (fun k => x4 (ix2 ⟨c, by omega⟩ k)))
          (proj (fun k => hid i x0 x1 x2 x3 (ix2 p k)) (fun k => x4 (ix2 ⟨1024 + c, by omega⟩ k)))
          (fun q c => proj (fun k => hid i x0 x1 x2 x3 (ix2 ⟨128 * ((p : ℕ) / 128) + q, by omega⟩ k))
            (fun k => x4 (ix2 ⟨512 + c, by omega⟩ k)))
          (fun c => x5 (ix2 0 c)) (fun q => x6 (ix3 ⟨(c : ℕ) / 128, by omega⟩ ⟨(p : ℕ) % 128, by omega⟩ q))
          (x7 (ix2 ⟨(p : ℕ) % 128, by omega⟩ c)) c := by
  simp only [mixT, gat, val, pay8_read, pay5_read, mixed]
  pointwise

end Cert.InProj
-- ==== Proof.InPack.lean ====
/- What the input projection's operands hold when it starts, and their entries. -/
module

public import proofs.«01_k».proof.Proof.InBlock

@[expose] public section

set_option maxRecDepth 16384

noncomputable section

namespace Cert.InProj

open Idealize.ShloMosaic Cert.InKernelIdeal Cert.InKernelIdeal.Gen Idealize.SL.Sem Idealize.ShloMosaic.Pipeline Idealize.ShloMosaic.TcCoe

section Ops
variable {F : FTy → Type} [FloatOps F]

/-- The modulation rows: one for each batch, the context's, and zeros. -/
def rows (a2 : FVec F S2x6144 .f32) (a3 : FVec F S6144 .f32) : FVec F S8x1x6144 .f32 :=
  shapeCast S8x1x6144 (concatenate S8x6144 0 [⟨S2x6144, a2⟩, ⟨S1x6144, broadcastInDim S1x6144 ![1] bcast_S6144_S1x6144_1 a3⟩,
    ⟨S5x6144, broadcastInDim S5x6144 ![] bcast_S_S5x6144 (constant S_ .f32 0x00000000#32)⟩]
    concatenates_S2x6144_S1x6144_S5x6144_S8x6144_d0) shapeCasts_S8x6144_S8x1x6144

/-- The rotary columns of the weights, one to a row. -/
def rot (a5 : FVec F S2048x5696 .f32) : FVec F S64x2048 .f32 :=
  extractStridedSlice S64x2048 ![2560, 0] (transpose S5696x2048 [1, 0] a5 transposes_S2048x5696_S5696x2048_1_0)
    slices_S5696x2048_S64x2048_2560_0

/-- The rotary columns with the halves of each half swapped. -/
def swapped (a5 : FVec F S2048x5696 .f32) : FVec F S64x2048 .f32 :=
  concatenate S64x2048 0 [⟨S16x2048, extractStridedSlice S16x2048 ![16, 0] (rot a5) slices_S64x2048_S16x2048_16_0⟩,
    ⟨S16x2048, extractStridedSlice S16x2048 ![0, 0] (rot a5) slices_S64x2048_S16x2048_0_0⟩,
    ⟨S16x2048, extractStridedSlice S16x2048 ![48, 0] (rot a5) slices_S64x2048_S16x2048_48_0⟩,
    ⟨S16x2048, extractStridedSlice S16x2048 ![32, 0] (rot a5) slices_S64x2048_S16x2048_32_0⟩]
    concatenates_S16x2048_S16x2048_S16x2048_S16x2048_S64x2048_d0

/-- The weights, one output column to a row, the rotary columns apart at the end, twice as they are and twice swapped. -/
def weights (a5 : FVec F S2048x5696 .f32) : FVec F S5888x2048 .bf16 :=
  truncf .bf16 (concatenate S5888x2048 0
    [⟨S2560x2048, extractStridedSlice S2560x2048 ![0, 0] (transpose S5696x2048 [1, 0] a5 transposes_S2048x5696_S5696x2048_1_0)
      slices_S5696x2048_S2560x2048_0_0⟩,
    ⟨S3072x2048, extractStridedSlice S3072x2048 ![2624, 0] (transpose S5696x2048 [1, 0] a5 transposes_S2048x5696_S5696x2048_1_0)
      slices_S5696x2048_S3072x2048_2624_0⟩,
    ⟨S64x2048, rot a5⟩, ⟨S64x2048, rot a5⟩, ⟨S64x2048, swapped a5⟩, ⟨S64x2048, swapped a5⟩]
    concatenates_S2560x2048_S3072x2048_S64x2048_S64x2048_S64x2048_S64x2048_S5888x2048_d0) bitsLt_bf16_f32

/-- The mixing offsets, one row to a position, each group's offset repeated along its 128 columns. -/
def offsets (a8 : FVec F S4x128 .f32) : FVec F S128x512 .f32 :=
  shapeCast S128x512 (broadcastInDim S128x4x128 ![0, 1] bcast_S128x4_S128x4x128_0_1
    (transpose S128x4 [1, 0] a8 transposes_S4x128_S128x4_1_0)) shapeCasts_S128x4x128_S128x512

variable (m : (ℓ : Loc nD τ sig) → Buf (Elt F) ℓ)

theorem entry_latent (c : Dev nD) : V m c main_v0
    = shapeCast S8192x2048 (m ((c : Thread nD τ).loc main_arg0) : FVec F S2x4096x2048 .f32) shapeCasts_S2x4096x2048_S8192x2048 := by
  sl_kernel_rfl

theorem entry_context (c : Dev nD) : V m c main_v1
    = shapeCast S512x2048 (m ((c : Thread nD τ).loc main_arg1) : FVec F S2x256x2048 .f32) shapeCasts_S2x256x2048_S512x2048 := by
  sl_kernel_rfl

theorem entry_rows (c : Dev nD) : V m c main_v20
    = rows (m ((c : Thread nD τ).loc main_arg2)) (m ((c : Thread nD τ).loc main_arg3)) := by
  sl_kernel_rfl

theorem entry_gain (c : Dev nD) : V m c main_v21
    = shapeCast S1x2048 (m ((c : Thread nD τ).loc main_arg4) : FVec F S2048 .f32) shapeCasts_S2048_S1x2048 := by
  sl_kernel_rfl

theorem entry_weights (c : Dev nD) : V m c main_v15 = weights (m ((c : Thread nD τ).loc main_arg5)) := by
  sl_kernel_rfl

theorem entry_inner (c : Dev nD) : V m c main_v22
    = shapeCast S1x512 (m ((c : Thread nD τ).loc main_arg6) : FVec F S512 .f32) shapeCasts_S512_S1x512 := by
  sl_kernel_rfl

theorem entry_mix (c : Dev nD) : V m c main_v16
    = truncf .bf16 (m ((c : Thread nD τ).loc main_arg7) : FVec F S4x128x128 .f32) bitsLt_bf16_f32 := by
  sl_kernel_rfl

theorem entry_offsets (c : Dev nD) : V m c main_v19 = offsets (m ((c : Thread nD τ).loc main_arg8)) := by
  sl_kernel_rfl

end Ops

theorem rows_batch (a2 : FVec Ideal S2x6144 .f32) (a3 : FVec Ideal S6144 .f32) (b : Fin 2) (j : Fin 8) (k : Fin 6144)
    (e : (j : ℕ) = b) : rows a2 a3 (ix3 j 0 k) = a2 (ix2 b k) := by
  pointwise [rows]
  have h : (j : ℕ) < 2 := by omega
  have e' : (⟨(j : ℕ), h⟩ : Fin 2) = b := Fin.ext e
  simp only [dif_pos h, e']

theorem rows_context (a2 : FVec Ideal S2x6144 .f32) (a3 : FVec Ideal S6144 .f32) (j : Fin 8) (k : Fin 6144)
    (e : (j : ℕ) = 2) : rows a2 a3 (ix3 j 0 k) = a3 (ix1 k) := by
  pointwise [rows]
  have h : ¬ (j : ℕ) < 2 := by omega
  have h2 : (j : ℕ) - 2 < 1 := by omega
  simp only [dif_neg h, dif_pos h2]

theorem offsets_read (a8 : FVec Ideal S4x128 .f32) (p : Fin 128) (c : Fin 512) :
    offsets a8 (ix2 p c) = a8 (ix2 ⟨(c : ℕ) / 128, by omega⟩ p) := by
  pointwise [offsets]

theorem rot_read (a5 : FVec Ideal S2048x5696 .f32) (n : Fin 64) (k : Fin 2048) :
    rot a5 (ix2 n k) = a5 (ix2 k ⟨2560 + n, by omega⟩) := by
  pointwise [rot]

theorem at_eq (a5 : FVec Ideal S2048x5696 .f32) (k : Fin 2048) (x y : Fin 5696) (h : (x : ℕ) = y) :
    a5 (ix2 k x) = a5 (ix2 k y) := by
  rw [Fin.ext h]

theorem swapped_read (a5 : FVec Ideal S2048x5696 .f32) (n : Fin 64) (k : Fin 2048) :
    swapped a5 (ix2 n k)
      = a5 (ix2 k ⟨if (n : ℕ) / 16 % 2 = 0 then 2560 + n + 16 else 2560 + n - 16, by split_ifs <;> omega⟩) := by
  pointwise [swapped, rot_read]
  by_cases h0 : (n : ℕ) < 16
  · simp only [dif_pos h0]
    exact at_eq _ _ _ _ (by simp only; split_ifs <;> omega)
  by_cases h1 : (n : ℕ) - 16 < 16
  · simp only [dif_pos h1, dif_neg h0]
    exact at_eq _ _ _ _ (by simp only; split_ifs <;> omega)
  by_cases h2 : (n : ℕ) - 16 - 16 < 16
  · simp only [dif_pos h2, dif_neg h0, dif_neg h1]
    exact at_eq _ _ _ _ (by simp only; split_ifs <;> omega)
  simp only [dif_neg h0, dif_neg h1, dif_neg h2]
  exact at_eq _ _ _ _ (by simp only; split_ifs <;> omega)

theorem weights_read (a5 : FVec Ideal S2048x5696 .f32) (n : Fin 5888) (k : Fin 2048) :
    weights a5 (ix2 n k) = a5 (ix2 k ⟨column n, column_lt n.isLt⟩) := by
  pointwise [weights, rot_read, swapped_read]
  by_cases h0 : (n : ℕ) < 2560
  · simp only [dif_pos h0]
    exact at_eq _ _ _ _ (by simp only [column]; split_ifs <;> omega)
  by_cases h1 : (n : ℕ) - 2560 < 3072
  · simp only [dif_pos h1, dif_neg h0]
    exact at_eq _ _ _ _ (by simp only [column]; split_ifs <;> omega)
  by_cases h2 : (n : ℕ) - 2560 - 3072 < 64
  · simp only [dif_pos h2, dif_neg h0, dif_neg h1]
    exact at_eq _ _ _ _ (by simp only [column]; split_ifs <;> omega)
  by_cases h3 : (n : ℕ) - 2560 - 3072 - 64 < 64
  · simp only [dif_pos h3, dif_neg h0, dif_neg h1, dif_neg h2]
    exact at_eq _ _ _ _ (by simp only [column]; split_ifs <;> omega)
  by_cases h4 : (n : ℕ) - 2560 - 3072 - 64 - 64 < 64
  · simp only [dif_pos h4, dif_neg h0, dif_neg h1, dif_neg h2, dif_neg h3]
    exact at_eq _ _ _ _ (by simp only [column]; split_ifs <;> omega)
  simp only [dif_neg h0, dif_neg h1, dif_neg h2, dif_neg h3, dif_neg h4]
  exact at_eq _ _ _ _ (by simp only [column]; split_ifs <;> omega)

end Cert.InProj
-- ==== Proof.InFinal.lean ====
/- The input projection's two result arrays. -/
module

public import proofs.«01_k».proof.Proof.InPack

@[expose] public section

set_option maxRecDepth 16384

noncomputable section

namespace Cert.InProj

open Idealize.ShloMosaic Cert.InKernelIdeal Cert.InKernelIdeal.Gen Idealize.SL.Sem Idealize.ShloMosaic.Pipeline Idealize.ShloMosaic.TcCoe

variable (m : (ℓ : Loc nD τ sig) → Buf (Elt Ideal) ℓ)

/-- Where each window's block lies. -/
theorem idx : ∀ t : Fin cfg0.N,
    win0_0.index t = ![if (grid0.coords t 0).val < 16 then (grid0.coords t 0).val else 15, 0]
    ∧ win0_1.index t = ![0, 0]
    ∧ win0_2.index t = ![if (grid0.coords t 0).val < 16 then (grid0.coords t 0).val / 8 else 2, 0, 0]
    ∧ win0_3.index t = ![0, 0] ∧ win0_4.index t = ![0, 0] ∧ win0_5.index t = ![0, 0] ∧ win0_6.index t = ![0, 0, 0]
    ∧ win0_7.index t = ![0, 0]
    ∧ win0_8.index t = ![(grid0.coords t 0).val, 0] ∧ win0_9.index t = ![(grid0.coords t 0).val, 0] :=
  (by decide +kernel : ∀ t : Fin grid0.N, _)

/-- The arguments of a core. -/
def argsOf (c : Dev nD) : Args where
  lat b i k := (m ((c : Thread nD τ).loc main_arg0) : FVec Ideal S2x4096x2048 .f32) (ix3 b i k)
  ctx b i k := (m ((c : Thread nD τ).loc main_arg1) : FVec Ideal S2x256x2048 .f32) (ix3 b i k)
  mod b j := (m ((c : Thread nD τ).loc main_arg2) : FVec Ideal S2x6144 .f32) (ix2 b j)
  modc j := (m ((c : Thread nD τ).loc main_arg3) : FVec Ideal S6144 .f32) (ix1 j)
  gain k := (m ((c : Thread nD τ).loc main_arg4) : FVec Ideal S2048 .f32) (ix1 k)
  w k j := (m ((c : Thread nD τ).loc main_arg5) : FVec Ideal S2048x5696 .f32) (ix2 k j)
  inner k := (m ((c : Thread nD τ).loc main_arg6) : FVec Ideal S512 .f32) (ix1 k)
  mix g p q := (m ((c : Thread nD τ).loc main_arg7) : FVec Ideal S4x128x128 .f32) (ix3 g p q)
  off g p := (m ((c : Thread nD τ).loc main_arg8) : FVec Ideal S4x128 .f32) (ix2 g p)

theorem latent_read (a : FVec Ideal S2x4096x2048 .f32) (n : Fin 8192) (k : Fin 2048) :
    shapeCast S8192x2048 a shapeCasts_S2x4096x2048_S8192x2048 (ix2 n k)
      = a (ix3 ⟨(n : ℕ) / 4096, by omega⟩ ⟨(n : ℕ) % 4096, by omega⟩ k) := by
  pointwise

theorem context_read (a : FVec Ideal S2x256x2048 .f32) (n : Fin 512) (k : Fin 2048) :
    shapeCast S512x2048 a shapeCasts_S2x256x2048_S512x2048 (ix2 n k)
      = a (ix3 ⟨(n : ℕ) / 256, by omega⟩ ⟨(n : ℕ) % 256, by omega⟩ k) := by
  pointwise

theorem gain_read (a : FVec Ideal S2048 .f32) (k : Fin 2048) :
    shapeCast S1x2048 a shapeCasts_S2048_S1x2048 (ix2 0 k) = a (ix1 k) := by
  pointwise

theorem inner_read (a : FVec Ideal S512 .f32) (k : Fin 512) :
    shapeCast S1x512 a shapeCasts_S512_S1x512 (ix2 0 k) = a (ix1 k) := by
  pointwise

/-- The windows' blocks. -/
abbrev blockX (c : Dev nD) (t : Fin cfg0.N) : Vec Ideal S512x2048 .f32 := iblk m c 0 t
abbrev blockC (c : Dev nD) (t : Fin cfg0.N) : Vec Ideal S512x2048 .f32 := iblk m c 1 t
abbrev blockM (c : Dev nD) (t : Fin cfg0.N) : Vec Ideal S1x1x6144 .f32 := iblk m c 2 t
abbrev blockN (c : Dev nD) (t : Fin cfg0.N) : Vec Ideal S1x2048 .f32 := iblk m c 3 t
abbrev blockW (c : Dev nD) (t : Fin cfg0.N) : Vec Ideal S5888x2048 .bf16 := iblk m c 4 t
abbrev blockI (c : Dev nD) (t : Fin cfg0.N) : Vec Ideal S1x512 .f32 := iblk m c 5 t
abbrev blockS (c : Dev nD) (t : Fin cfg0.N) : Vec Ideal S4x128x128 .bf16 := iblk m c 6 t
abbrev blockB (c : Dev nD) (t : Fin cfg0.N) : Vec Ideal S128x512 .f32 := iblk m c 7 t

theorem window_x (c : Dev nD) (t : Fin cfg0.N) (h : (grid0.coords t 0).val < 16) (r : Fin 512) (k : Fin 2048)
    (n : Fin 8192) (en : (n : ℕ) = 512 * (grid0.coords t 0).val + r) :
    blockX m c t (ix2 r k) = (argsOf m c).lat ⟨(n : ℕ) / 4096, by omega⟩ ⟨(n : ℕ) % 4096, by omega⟩ k := by
  show iblk m c 0 t _ = _
  blk_simp [iblk]
  refine (congrFun (entry_latent m c) _).trans ((congrArg _ (?_ : _ = ix2 n k)).trans ?_)
  · blk_ext [idx t, if_pos h]
  · exact latent_read _ n k

theorem window_c (c : Dev nD) (t : Fin cfg0.N) (r : Fin 512) (k : Fin 2048) :
    blockC m c t (ix2 r k) = (argsOf m c).ctx ⟨(r : ℕ) / 256, by omega⟩ ⟨(r : ℕ) % 256, by omega⟩ k := by
  show iblk m c 1 t _ = _
  blk_simp [iblk]
  refine (congrFun (entry_context m c) _).trans ((congrArg _ (?_ : _ = ix2 r k)).trans ?_)
  · blk_ext [idx t]
  · exact context_read _ r k

theorem window_m (c : Dev nD) (t : Fin cfg0.N) (k : Fin 6144) (j : Fin 8)
    (e : (j : ℕ) = if (grid0.coords t 0).val < 16 then (grid0.coords t 0).val / 8 else 2) :
    blockM m c t (ix3 0 0 k) = rows (F := Ideal) (m ((c : Thread nD τ).loc main_arg2)) (m ((c : Thread nD τ).loc main_arg3)) (ix3 j 0 k) := by
  show iblk m c 2 t _ = _
  blk_simp [iblk]
  refine (congrFun (entry_rows m c) _).trans (congrArg _ ?_)
  blk_ext [idx t, e]

theorem window_n (c : Dev nD) (t : Fin cfg0.N) (k : Fin 2048) : blockN m c t (ix2 0 k) = (argsOf m c).gain k := by
  show iblk m c 3 t _ = _
  blk_simp [iblk]
  refine (congrFun (entry_gain m c) _).trans ((congrArg _ (?_ : _ = ix2 0 k)).trans ?_)
  · blk_ext [idx t]
  · exact gain_read _ k

theorem window_w (c : Dev nD) (t : Fin cfg0.N) (n : Fin 5888) (k : Fin 2048) :
    blockW m c t (ix2 n k) = (argsOf m c).w k ⟨column n, column_lt n.isLt⟩ := by
  show iblk m c 4 t _ = _
  blk_simp [iblk]
  refine (congrFun (entry_weights m c) _).trans ((congrArg _ (?_ : _ = ix2 n k)).trans (weights_read _ n k))
  blk_ext [idx t]

theorem window_i (c : Dev nD) (t : Fin cfg0.N) (k : Fin 512) : blockI m c t (ix2 0 k) = (argsOf m c).inner k := by
  show iblk m c 5 t _ = _
  blk_simp [iblk]
  refine (congrFun (entry_inner m c) _).trans ((congrArg _ (?_ : _ = ix2 0 k)).trans ?_)
  · blk_ext [idx t]
  · exact inner_read _ k

theorem window_s (c : Dev nD) (t : Fin cfg0.N) (g : Fin 4) (p q : Fin 128) :
    blockS m c t (ix3 g p q) = (argsOf m c).mix g p q := by
  show iblk m c 6 t _ = _
  blk_simp [iblk]
  refine (congrFun (entry_mix m c) _).trans ((congrArg _ (?_ : _ = ix3 g p q)).trans ?_)
  · blk_ext [idx t]
  · rfl

theorem window_b (c : Dev nD) (t : Fin cfg0.N) (p : Fin 128) (k : Fin 512) :
    blockB m c t (ix2 p k) = (argsOf m c).off ⟨(k : ℕ) / 128, by omega⟩ p := by
  show iblk m c 7 t _ = _
  blk_simp [iblk]
  refine (congrFun (entry_offsets m c) _).trans ((congrArg _ (?_ : _ = ix2 p k)).trans (offsets_read _ p k))
  blk_ext [idx t]

/-- Row `r` of a grid point's hidden block. -/
theorem hid_row (c : Dev nD) (t : Fin cfg0.N) (r : Fin 512) (k : Fin 2048) (n : Fin 8704)
    (en : (n : ℕ) = 512 * (grid0.coords t 0).val + r) :
    hid (grid0.coords t) (blockX m c t) (blockC m c t) (blockM m c t) (blockN m c t) (ix2 r k) = (argsOf m c).h n k := by
  have ht : (grid0.coords t 0).val < 17 := (grid0.coords t 0).isLt
  by_cases h : (grid0.coords t 0).val < 16
  · have hn : (n : ℕ) < 8192 := by omega
    have ej : (n : ℕ) / 4096 = (grid0.coords t 0).val / 8 := by omega
    have e2 : ∀ k : Fin 6144, blockM m c t (ix3 0 0 k) = (argsOf m c).mod ⟨(n : ℕ) / 4096, by omega⟩ k := fun k =>
      (window_m m c t k ⟨(n : ℕ) / 4096, by omega⟩ (by rw [if_pos h]; exact ej)).trans (rows_batch _ _ ⟨(n : ℕ) / 4096, by omega⟩ _ k rfl)
    rw [hid_latent _ h]
    have ex : (fun k => (argsOf m c).lat ⟨(n : ℕ) / 4096, by omega⟩ ⟨(n : ℕ) % 4096, by omega⟩ k) = (argsOf m c).x n :=
      funext fun k => by unfold Args.x; rw [dif_pos hn]
    simp only [window_x m c t h r _ ⟨n, hn⟩ en, e2, window_n, Args.h, Args.md, dif_pos hn]
    exact congrArg (fun f => hidden f _ _ _ k) ex
  · have h' : (grid0.coords t 0).val = 16 := by omega
    have hn : ¬ (n : ℕ) < 8192 := by omega
    have er : (r : ℕ) = n - 8192 := by omega
    have e2 : ∀ k : Fin 6144, blockM m c t (ix3 0 0 k) = (argsOf m c).modc k := fun k =>
      (window_m m c t k 2 (by rw [if_neg h]; rfl)).trans (rows_context _ _ 2 k rfl)
    rw [hid_context _ h']
    have ex : (fun k => (argsOf m c).ctx ⟨((n : ℕ) - 8192) / 256, by omega⟩ ⟨((n : ℕ) - 8192) % 256, by omega⟩ k)
        = (argsOf m c).x n := funext fun k => by unfold Args.x; rw [dif_neg hn]
    simp only [window_c, e2, window_n, Args.h, Args.md, dif_neg hn, er]
    exact congrArg (fun f => hidden f _ _ _ k) ex

/-- The first result array. -/
def resultZ (A : Args) : FVec Ideal S8704x4352 .bf16 := fun j => A.z (j 0) (j 1)

/-- The second result array. -/
def resultA (A : Args) : FVec Ideal S8704x512 .bf16 := fun j => A.a (j 0) (j 1)

theorem outs_z (c : Dev nD) (t : Fin cfg0.N) (r : Fin 512) (k : Fin 4352) :
    (outsAt0 m c t).1 (ix2 r k)
      = proj (fun x => hid (grid0.coords t) (blockX m c t) (blockC m c t) (blockM m c t) (blockN m c t) (ix2 r x))
          (fun x => blockW m c t (ix2 ⟨1536 + (k : ℕ), by omega⟩ x)) := by
  simp only [outsAt0]
  exact z_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (blockX m c t) (blockC m c t) (blockM m c t) (blockN m c t) (blockW m c t) (blockI m c t) (blockS m c t) (blockB m c t) (ix2 r k)

theorem proj_z (c : Dev nD) (t : Fin cfg0.N) (r : Fin 512) (n : Fin 8704) (k : Fin 4352)
    (en : (n : ℕ) = 512 * (grid0.coords t 0).val + (r : ℕ)) :
    proj (fun x => hid (grid0.coords t) (blockX m c t) (blockC m c t) (blockM m c t) (blockN m c t) (ix2 r x))
        (fun x => blockW m c t (ix2 ⟨1536 + (k : ℕ), by omega⟩ x)) = (argsOf m c).z n k := by
  have e1 := funext fun x => hid_row m c t r x n en
  have e2 := funext fun x => window_w m c t ⟨1536 + (k : ℕ), by omega⟩ x
  unfold Args.z Args.p
  exact congrArg₂ proj e1 e2

theorem point_z (c : Dev nD) (t : Fin cfg0.N) (y : S512x4352.Idx) (n : Fin 8704) (k : Fin 4352)
    (en : (n : ℕ) = 512 * (grid0.coords t 0).val + (y 0 : ℕ)) (ek : (k : ℕ) = (y 1 : ℕ)) :
    (outsAt0 m c t).1 y = (argsOf m c).z n k := by
  have ey : y = ix2 (y 0) k := (eq_ix2 y).trans (congrArg (ix2 (y 0)) (Fin.ext ek.symm))
  rw [ey]
  exact (outs_z m c t (y 0) k).trans (proj_z m c t (y 0) n k en)

theorem point_a (c : Dev nD) (t : Fin cfg0.N) (y : S512x512.Idx) (n : Fin 8704) (k : Fin 512)
    (en : (n : ℕ) = 512 * (grid0.coords t 0).val + (y 0 : ℕ)) (ek : (k : ℕ) = (y 1 : ℕ)) :
    (outsAt0 m c t).2 y = (argsOf m c).a n k := by
  obtain ⟨r, j, rfl⟩ : ∃ (r : Fin 512) (j : Fin 512), y = ix2 r j := ⟨y 0, y 1, eq_ix2 y⟩
  obtain rfl : k = j := Fin.ext ek
  change (n : ℕ) = 512 * (grid0.coords t 0).val + (r : ℕ) at en
  have ht : (grid0.coords t 0).val < 17 := (grid0.coords t 0).isLt
  have col : ∀ (x : ℕ) (hx : x < 2560) (h5 : x < 5888) (h6 : column x < 5696), (⟨column x, h6⟩ : Fin 5696) = ⟨x, by omega⟩ :=
    fun x hx _ _ => Fin.ext (if_pos hx)
  have e1 : (⟨(r : ℕ) % 128, by omega⟩ : Fin 128) = ⟨(n : ℕ) % 128, by omega⟩ := Fin.ext (by show (r : ℕ) % 128 = (n : ℕ) % 128; omega)
  refine (m_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (blockX m c t) (blockC m c t) (blockM m c t) (blockN m c t) (blockW m c t) (blockI m c t) (blockS m c t) (blockB m c t) (ix2 r k)).trans
    ((m_read (grid0.coords t) (blockX m c t) (blockC m c t) (blockM m c t) (blockN m c t) (blockW m c t) (blockI m c t)
      (blockS m c t) (blockB m c t) r k).trans ?_)
  have p1 : ∀ (x : ℕ) (hx : x < 2560), proj (fun k => hid (grid0.coords t) (blockX m c t) (blockC m c t) (blockM m c t) (blockN m c t) (ix2 r k))
      (fun k => blockW m c t (ix2 ⟨x, by omega⟩ k)) = (argsOf m c).p n ⟨x, by omega⟩ := fun x hx =>
    congrArg₂ proj (funext fun k => hid_row m c t r k n en)
      (funext fun k => (window_w m c t ⟨x, by omega⟩ k).trans (congrArg _ (col x hx (by omega) _)))
  have p2 : ∀ (q : Fin 128) (x : ℕ) (hx : x < 2560),
      proj (fun k => hid (grid0.coords t) (blockX m c t) (blockC m c t) (blockM m c t) (blockN m c t) (ix2 ⟨128 * ((r : ℕ) / 128) + q, by omega⟩ k))
        (fun k => blockW m c t (ix2 ⟨x, by omega⟩ k)) = (argsOf m c).p ⟨128 * ((n : ℕ) / 128) + q, by omega⟩ ⟨x, by omega⟩ := fun q x hx =>
    congrArg₂ proj (funext fun k => hid_row m c t _ k _ (by simp only; omega))
      (funext fun k => (window_w m c t ⟨x, by omega⟩ k).trans (congrArg _ (col x hx (by omega) _)))
  unfold Args.a
  have p3 := funext fun q : Fin 128 => funext fun j : Fin 512 => p2 q (512 + j) (by omega)
  rw [p1 k (by omega), p1 (1024 + k) (by omega), p3]
  simp only [window_i, window_s, window_b, e1]

theorem final_z (c : Dev nD) : (dats m 0 c).arrAt 8 (cfgs 0).N = resultZ (argsOf m c) := by
  refine (dats m 0 c).arrAt_eq_of_covers 8 _ (by decide +kernel) fun t _ y => ?_
  blk_simp
  rw [after0_8]
  refine point_z m c t y ((((cfg0.win 8).blk t).view.emb y) 0) ((((cfg0.win 8).blk t).view.emb y) 1) ?_ ?_
  · blk_simp [idx t]
    omega
  · blk_simp [idx t]

theorem final_a (c : Dev nD) : (dats m 0 c).arrAt 9 (cfgs 0).N = resultA (argsOf m c) := by
  refine (dats m 0 c).arrAt_eq_of_covers 9 _ (by decide +kernel) fun t _ y => ?_
  blk_simp
  rw [after0_9]
  refine point_a m c t y ((((cfg0.win 9).blk t).view.emb y) 0) ((((cfg0.win 9).blk t).view.emb y) 1) ?_ ?_
  · blk_simp [idx t]
    omega
  · blk_simp [idx t]

end Cert.InProj
-- ==== Proof.InReference.lean ====
/- The reference of the input projection as a composition of named steps, and the steps' entries. -/
module

public import proofs.«01_k».proof.Proof.Gen.InReferenceIdeal.Run
public import proofs.«01_k».proof.Proof.InMath
public import Idealize.ShloMosaic.Lib.Pointwise

@[expose] public section

set_option maxRecDepth 16384

noncomputable section

namespace Cert.InProjRef

open Idealize.ShloMosaic Cert.InReferenceIdeal Cert.InReferenceIdeal.Gen Idealize.SL.Sem Idealize.ShloMosaic.TcCoe
open Cert.InProj (hidden proj gelu scaled silu mixed column column_lt Args)

section Ops
variable {F : FTy → Type} [FloatOps F]

/-- The latents normalised, modulated and projected. -/
def prodL (a0 : FVec F S2x4096x2048 .f32) (a2 : FVec F S2x6144 .f32) (a4 : FVec F S2048 .f32) (a5 : FVec F S2048x5696 .f32) :
    FVec F S2x4096x5696 .f32 :=
  Host.dotGeneral dot_S2x4096x2048_S2048x5696_S2x4096x5696_2_0_01_1_n_n none (addf (mulf (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 a4))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 2048] a2 slices_S2x6144_S2x2048_0_2048))))) (broadcastInDim S2x4096x2048 ![0, 1, 2] bcast_S2x1x2048_S2x4096x2048_0_1_2 (broadcastInDim S2x1x2048 ![0, 2] bcast_S2x2048_S2x1x2048_0_2 (extractStridedSlice S2x2048 ![0, 0] a2 slices_S2x6144_S2x2048_0_0)))) a5

/-- Columns 0 to 511 of the latents' projection. -/
def firstL (p : FVec F S2x4096x5696 .f32) : FVec F S2x4096x512 .f32 :=
  extractStridedSlice S2x4096x512 ![0, 0, 0] p slices_S2x4096x5696_S2x4096x512_0_0_0

/-- Columns 512 to 1023 of the latents' projection. -/
def secondL (p : FVec F S2x4096x5696 .f32) : FVec F S2x4096x512 .f32 :=
  extractStridedSlice S2x4096x512 ![0, 0, 512] p slices_S2x4096x5696_S2x4096x512_0_0_512

/-- Columns 1024 to 1535 of the latents' projection. -/
def thirdL (p : FVec F S2x4096x5696 .f32) : FVec F S2x4096x512 .f32 :=
  extractStridedSlice S2x4096x512 ![0, 0, 1024] p slices_S2x4096x5696_S2x4096x512_0_0_1024

/-- The activation. -/
def geluL (u : FVec F S2x4096x512 .f32) : FVec F S2x4096x512 .f32 :=
  mulf u (mulf (broadcastInDim S2x4096x512 ![] bcast_S_S2x4096x512 (constant S_ .f32 0x3F000000#32)) (addf (broadcastInDim S2x4096x512 ![] bcast_S_S2x4096x512 (constant S_ .f32 0x3F800000#32)) (Host.tanh (mulf (broadcastInDim S2x4096x512 ![] bcast_S_S2x4096x512 (constant S_ .f32 0x3F4C422A#32)) (addf u (mulf (broadcastInDim S2x4096x512 ![] bcast_S_S2x4096x512 (constant S_ .f32 0x3D372713#32)) (mulf (mulf u u) u)))))))

/-- Rows scaled to unit mean square, times their gain. -/
def unitL (v : FVec F S2x4096x512 .f32) (a6 : FVec F S512 .f32) : FVec F S2x4096x512 .f32 :=
  mulf (mulf v (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf v v) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 a6))

/-- The mixture of each chunk's rows, with its offset. -/
def mixL (x : FVec F S2x4096x512 .f32) (a7 : FVec F S4x128x128 .f32) (a8 : FVec F S4x128 .f32) : FVec F S2x4096x512 .f32 :=
  shapeCast _ (addf (transpose S2x32x128x4x128 [1, 2, 4, 0, 3] (Host.dotGeneral dot_S2x32x128x4x128_S4x128x128_S4x2x32x128x128_2_2_014_1_3_0 none (shapeCast _ x shapeCasts_S2x4096x512_S2x32x128x4x128) a7) transposes_S4x2x32x128x128_S2x32x128x4x128_1_2_4_0_3) (broadcastInDim S2x32x128x4x128 ![0, 1, 2, 3, 4] bcast_S1x1x128x4x1_S2x32x128x4x128_0_1_2_3_4 (broadcastInDim S1x1x128x4x1 ![2, 3] bcast_S128x4_S1x1x128x4x1_2_3 (transpose S128x4 [1, 0] a8 transposes_S4x128_S128x4_1_0)))) shapeCasts_S2x32x128x4x128_S2x4096x512

/-- The gate. -/
def gateL (g : FVec F S2x4096x512 .f32) : FVec F S2x4096x512 .f32 :=
  mulf g (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf g))))

/-- The rotary columns. -/
def rotL (p : FVec F S2x4096x5696 .f32) : FVec F S2x4096x64 .f32 :=
  extractStridedSlice S2x4096x64 ![0, 0, 2560] p slices_S2x4096x5696_S2x4096x64_0_0_2560

/-- The rotary columns with the halves of each half swapped. -/
def swappedL (p : FVec F S2x4096x64 .f32) : FVec F S2x4096x64 .f32 :=
  (concatenate S2x4096x64 2 [⟨S2x4096x16, ((extractStridedSlice S2x4096x16 ![0, 0, 16] p slices_S2x4096x64_S2x4096x16_0_0_16) : FVec F S2x4096x16 .f32)⟩, ⟨S2x4096x16, ((extractStridedSlice S2x4096x16 ![0, 0, 0] p slices_S2x4096x64_S2x4096x16_0_0_0) : FVec F S2x4096x16 .f32)⟩, ⟨S2x4096x16, ((extractStridedSlice S2x4096x16 ![0, 0, 48] p slices_S2x4096x64_S2x4096x16_0_0_48) : FVec F S2x4096x16 .f32)⟩, ⟨S2x4096x16, ((extractStridedSlice S2x4096x16 ![0, 0, 32] p slices_S2x4096x64_S2x4096x16_0_0_32) : FVec F S2x4096x16 .f32)⟩] concatenates_S2x4096x16_S2x4096x16_S2x4096x16_S2x4096x16_S2x4096x64_d2 : FVec F S2x4096x64 .f32)

/-- The projections the layer goes on with. -/
def keptL (p : FVec F S2x4096x5696 .f32) : FVec F S2x4096x4352 .f32 :=
  concatenate S2x4096x4352 2 [⟨S2x4096x512, ((extractStridedSlice S2x4096x512 ![0, 0, 1536] p slices_S2x4096x5696_S2x4096x512_0_0_1536) : FVec F S2x4096x512 .f32)⟩, ⟨S2x4096x512, ((extractStridedSlice S2x4096x512 ![0, 0, 2048] p slices_S2x4096x5696_S2x4096x512_0_0_2048) : FVec F S2x4096x512 .f32)⟩, ⟨S2x4096x1024, ((extractStridedSlice S2x4096x1024 ![0, 0, 2624] p slices_S2x4096x5696_S2x4096x1024_0_0_2624) : FVec F S2x4096x1024 .f32)⟩, ⟨S2x4096x512, ((extractStridedSlice S2x4096x512 ![0, 0, 3648] p slices_S2x4096x5696_S2x4096x512_0_0_3648) : FVec F S2x4096x512 .f32)⟩, ⟨S2x4096x512, ((extractStridedSlice S2x4096x512 ![0, 0, 4160] p slices_S2x4096x5696_S2x4096x512_0_0_4160) : FVec F S2x4096x512 .f32)⟩, ⟨S2x4096x512, ((extractStridedSlice S2x4096x512 ![0, 0, 4672] p slices_S2x4096x5696_S2x4096x512_0_0_4672) : FVec F S2x4096x512 .f32)⟩, ⟨S2x4096x512, ((extractStridedSlice S2x4096x512 ![0, 0, 5184] p slices_S2x4096x5696_S2x4096x512_0_0_5184) : FVec F S2x4096x512 .f32)⟩, ⟨S2x4096x64, (rotL p : FVec F S2x4096x64 .f32)⟩, ⟨S2x4096x64, (rotL p : FVec F S2x4096x64 .f32)⟩, ⟨S2x4096x64, (swappedL (rotL p) : FVec F S2x4096x64 .f32)⟩, ⟨S2x4096x64, (swappedL (rotL p) : FVec F S2x4096x64 .f32)⟩] concatenates_S2x4096x512_S2x4096x512_S2x4096x1024_S2x4096x512_S2x4096x512_S2x4096x512_S2x4096x512_S2x4096x64_S2x4096x64_S2x4096x64_S2x4096x64_S2x4096x4352_d2

/-- The context rows normalised, modulated and projected. -/
def prodC (a0 : FVec F S2x256x2048 .f32) (a2 : FVec F S6144 .f32) (a4 : FVec F S2048 .f32) (a5 : FVec F S2048x5696 .f32) :
    FVec F S2x256x5696 .f32 :=
  Host.dotGeneral dot_S2x256x2048_S2048x5696_S2x256x5696_2_0_01_1_n_n none (addf (mulf (mulf (mulf a0 (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf a0 a0) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 a4))) (broadcastInDim S2x256x2048 ![0, 1, 2] bcast_S1x1x2048_S2x256x2048_0_1_2 (broadcastInDim S1x1x2048 ![2] bcast_S2048_S1x1x2048_2 (addf (broadcastInDim S2048 ![] bcast_S_S2048 (constant S_ .f32 0x3F800000#32)) (extractStridedSlice S2048 ![2048] a2 slices_S6144_S2048_2048))))) (broadcastInDim S2x256x2048 ![0, 1, 2] bcast_S1x1x2048_S2x256x2048_0_1_2 (broadcastInDim S1x1x2048 ![2] bcast_S2048_S1x1x2048_2 (extractStridedSlice S2048 ![0] a2 slices_S6144_S2048_0)))) a5

/-- Columns 0 to 511 of the context rows' projection. -/
def firstC (p : FVec F S2x256x5696 .f32) : FVec F S2x256x512 .f32 :=
  extractStridedSlice S2x256x512 ![0, 0, 0] p slices_S2x256x5696_S2x256x512_0_0_0

/-- Columns 512 to 1023 of the context rows' projection. -/
def secondC (p : FVec F S2x256x5696 .f32) : FVec F S2x256x512 .f32 :=
  extractStridedSlice S2x256x512 ![0, 0, 512] p slices_S2x256x5696_S2x256x512_0_0_512

/-- Columns 1024 to 1535 of the context rows' projection. -/
def thirdC (p : FVec F S2x256x5696 .f32) : FVec F S2x256x512 .f32 :=
  extractStridedSlice S2x256x512 ![0, 0, 1024] p slices_S2x256x5696_S2x256x512_0_0_1024

/-- The activation. -/
def geluC (u : FVec F S2x256x512 .f32) : FVec F S2x256x512 .f32 :=
  mulf u (mulf (broadcastInDim S2x256x512 ![] bcast_S_S2x256x512 (constant S_ .f32 0x3F000000#32)) (addf (broadcastInDim S2x256x512 ![] bcast_S_S2x256x512 (constant S_ .f32 0x3F800000#32)) (Host.tanh (mulf (broadcastInDim S2x256x512 ![] bcast_S_S2x256x512 (constant S_ .f32 0x3F4C422A#32)) (addf u (mulf (broadcastInDim S2x256x512 ![] bcast_S_S2x256x512 (constant S_ .f32 0x3D372713#32)) (mulf (mulf u u) u)))))))

/-- Rows scaled to unit mean square, times their gain. -/
def unitC (v : FVec F S2x256x512 .f32) (a6 : FVec F S512 .f32) : FVec F S2x256x512 .f32 :=
  mulf (mulf v (broadcastInDim S2x256x512 ![0, 1, 2] bcast_S2x256x1_S2x256x512_0_1_2 (Host.rsqrt (addf (Host.divf (broadcastInDim S2x256x1 ![0, 1] bcast_S2x256_S2x256x1_0_1 (Host.reduceAdd (mulf v v) (constant S_ .f32 0x00000000#32) reducesTo_S2x256x512_S2x256_d2 h_S_)) (broadcastInDim S2x256x1 ![] bcast_S_S2x256x1 (constant S_ .f32 0x44000000#32))) (broadcastInDim S2x256x1 ![] bcast_S_S2x256x1 (constant S_ .f32 0x358637BD#32)))))) (broadcastInDim S2x256x512 ![0, 1, 2] bcast_S1x1x512_S2x256x512_0_1_2 (broadcastInDim S1x1x512 ![2] bcast_S512_S1x1x512_2 a6))

/-- The mixture of each chunk's rows, with its offset. -/
def mixC (x : FVec F S2x256x512 .f32) (a7 : FVec F S4x128x128 .f32) (a8 : FVec F S4x128 .f32) : FVec F S2x256x512 .f32 :=
  shapeCast _ (addf (transpose S2x2x128x4x128 [1, 2, 4, 0, 3] (Host.dotGeneral dot_S2x2x128x4x128_S4x128x128_S4x2x2x128x128_2_2_014_1_3_0 none (shapeCast _ x shapeCasts_S2x256x512_S2x2x128x4x128) a7) transposes_S4x2x2x128x128_S2x2x128x4x128_1_2_4_0_3) (broadcastInDim S2x2x128x4x128 ![0, 1, 2, 3, 4] bcast_S1x1x128x4x1_S2x2x128x4x128_0_1_2_3_4 (broadcastInDim S1x1x128x4x1 ![2, 3] bcast_S128x4_S1x1x128x4x1_2_3 (transpose S128x4 [1, 0] a8 transposes_S4x128_S128x4_1_0)))) shapeCasts_S2x2x128x4x128_S2x256x512

/-- The gate. -/
def gateC (g : FVec F S2x256x512 .f32) : FVec F S2x256x512 .f32 :=
  mulf g (Host.divf (broadcastInDim S2x256x512 ![] bcast_S_S2x256x512 (constant S_ .f32 0x3F800000#32)) (addf (broadcastInDim S2x256x512 ![] bcast_S_S2x256x512 (constant S_ .f32 0x3F800000#32)) (Host.exp (Host.negf g))))

/-- The rotary columns. -/
def rotC (p : FVec F S2x256x5696 .f32) : FVec F S2x256x64 .f32 :=
  extractStridedSlice S2x256x64 ![0, 0, 2560] p slices_S2x256x5696_S2x256x64_0_0_2560

/-- The rotary columns with the halves of each half swapped. -/
def swappedC (p : FVec F S2x256x64 .f32) : FVec F S2x256x64 .f32 :=
  (concatenate S2x256x64 2 [⟨S2x256x16, ((extractStridedSlice S2x256x16 ![0, 0, 16] p slices_S2x256x64_S2x256x16_0_0_16) : FVec F S2x256x16 .f32)⟩, ⟨S2x256x16, ((extractStridedSlice S2x256x16 ![0, 0, 0] p slices_S2x256x64_S2x256x16_0_0_0) : FVec F S2x256x16 .f32)⟩, ⟨S2x256x16, ((extractStridedSlice S2x256x16 ![0, 0, 48] p slices_S2x256x64_S2x256x16_0_0_48) : FVec F S2x256x16 .f32)⟩, ⟨S2x256x16, ((extractStridedSlice S2x256x16 ![0, 0, 32] p slices_S2x256x64_S2x256x16_0_0_32) : FVec F S2x256x16 .f32)⟩] concatenates_S2x256x16_S2x256x16_S2x256x16_S2x256x16_S2x256x64_d2 : FVec F S2x256x64 .f32)

/-- The projections the layer goes on with. -/
def keptC (p : FVec F S2x256x5696 .f32) : FVec F S2x256x4352 .f32 :=
  concatenate S2x256x4352 2 [⟨S2x256x512, ((extractStridedSlice S2x256x512 ![0, 0, 1536] p slices_S2x256x5696_S2x256x512_0_0_1536) : FVec F S2x256x512 .f32)⟩, ⟨S2x256x512, ((extractStridedSlice S2x256x512 ![0, 0, 2048] p slices_S2x256x5696_S2x256x512_0_0_2048) : FVec F S2x256x512 .f32)⟩, ⟨S2x256x1024, ((extractStridedSlice S2x256x1024 ![0, 0, 2624] p slices_S2x256x5696_S2x256x1024_0_0_2624) : FVec F S2x256x1024 .f32)⟩, ⟨S2x256x512, ((extractStridedSlice S2x256x512 ![0, 0, 3648] p slices_S2x256x5696_S2x256x512_0_0_3648) : FVec F S2x256x512 .f32)⟩, ⟨S2x256x512, ((extractStridedSlice S2x256x512 ![0, 0, 4160] p slices_S2x256x5696_S2x256x512_0_0_4160) : FVec F S2x256x512 .f32)⟩, ⟨S2x256x512, ((extractStridedSlice S2x256x512 ![0, 0, 4672] p slices_S2x256x5696_S2x256x512_0_0_4672) : FVec F S2x256x512 .f32)⟩, ⟨S2x256x512, ((extractStridedSlice S2x256x512 ![0, 0, 5184] p slices_S2x256x5696_S2x256x512_0_0_5184) : FVec F S2x256x512 .f32)⟩, ⟨S2x256x64, (rotC p : FVec F S2x256x64 .f32)⟩, ⟨S2x256x64, (rotC p : FVec F S2x256x64 .f32)⟩, ⟨S2x256x64, (swappedC (rotC p) : FVec F S2x256x64 .f32)⟩, ⟨S2x256x64, (swappedC (rotC p) : FVec F S2x256x64 .f32)⟩] concatenates_S2x256x512_S2x256x512_S2x256x1024_S2x256x512_S2x256x512_S2x256x512_S2x256x512_S2x256x64_S2x256x64_S2x256x64_S2x256x64_S2x256x4352_d2

/-- The first result. -/
def resZ (p : FVec F S2x4096x5696 .f32) (q : FVec F S2x256x5696 .f32) : FVec F S8704x4352 .bf16 :=
  truncf .bf16 (concatenate S8704x4352 0 [⟨S8192x4352, shapeCast _ (keptL p) shapeCasts_S2x4096x4352_S8192x4352⟩,
    ⟨S512x4352, shapeCast _ (keptC q) shapeCasts_S2x256x4352_S512x4352⟩] concatenates_S8192x4352_S512x4352_S8704x4352_d0) bitsLt_bf16_f32

/-- The latents' mixed and gated chunks. -/
def gatedL (p : FVec F S2x4096x5696 .f32) (a6 : FVec F S512 .f32) (a7 : FVec F S4x128x128 .f32) (a8 : FVec F S4x128 .f32) :
    FVec F S2x4096x512 .f32 :=
  mulf (mulf (geluL (firstL p)) (mixL (unitL (geluL (secondL p)) a6) a7 a8)) (gateL (thirdL p))

/-- The context's mixed and gated chunks. -/
def gatedC (p : FVec F S2x256x5696 .f32) (a6 : FVec F S512 .f32) (a7 : FVec F S4x128x128 .f32) (a8 : FVec F S4x128 .f32) :
    FVec F S2x256x512 .f32 :=
  mulf (mulf (geluC (firstC p)) (mixC (unitC (geluC (secondC p)) a6) a7 a8)) (gateC (thirdC p))

/-- The second result. -/
def resA (p : FVec F S2x4096x5696 .f32) (q : FVec F S2x256x5696 .f32) (a6 : FVec F S512 .f32) (a7 : FVec F S4x128x128 .f32)
    (a8 : FVec F S4x128 .f32) : FVec F S8704x512 .bf16 :=
  truncf .bf16 (concatenate S8704x512 0 [⟨S8192x512, shapeCast _ (gatedL p a6 a7 a8) shapeCasts_S2x4096x512_S8192x512⟩,
    ⟨S512x512, shapeCast _ (gatedC q a6 a7 a8) shapeCasts_S2x256x512_S512x512⟩] concatenates_S8192x512_S512x512_S8704x512_d0) bitsLt_bf16_f32

end Ops

theorem prodL_read (a0 : FVec Ideal S2x4096x2048 .f32) (a2 : FVec Ideal S2x6144 .f32) (a4 : FVec Ideal S2048 .f32)
    (a5 : FVec Ideal S2048x5696 .f32) (b : Fin 2) (i : Fin 4096) (j : Fin 5696) :
    prodL a0 a2 a4 a5 (ix3 b i j) = proj (hidden (fun k => a0 (ix3 b i k)) (fun k => a4 (ix1 k))
      (fun k => a2 (ix2 b ⟨2048 + (k : ℕ), by omega⟩)) (fun k => a2 (ix2 b ⟨k, by omega⟩))) (fun k => a5 (ix2 k j)) := by
  pointwise [prodL]
  rfl

theorem geluL_read (u : FVec Ideal S2x4096x512 .f32) (j : S2x4096x512.Idx) : geluL u j = gelu (u j) := by
  obtain ⟨b, i, c, rfl⟩ : ∃ (b : Fin 2) (i : Fin 4096) (c : Fin 512), j = ix3 b i c := ⟨j 0, j 1, j 2, eq_ix3 j⟩
  pointwise [geluL]
  simp only [gelu, mul_comm (u (ix3 b i c)) (u (ix3 b i c) * u (ix3 b i c))]

theorem unitL_read (v : FVec Ideal S2x4096x512 .f32) (a6 : FVec Ideal S512 .f32) (b : Fin 2) (i : Fin 4096) (c : Fin 512) :
    unitL (geluL v) a6 (ix3 b i c) = scaled (fun c => v (ix3 b i c)) (fun c => a6 (ix1 c)) c := by
  pointwise [unitL]
  simp only [geluL_read]
  rfl

theorem mixL_read (x : FVec Ideal S2x4096x512 .f32) (a7 : FVec Ideal S4x128x128 .f32) (a8 : FVec Ideal S4x128 .f32) (b : Fin 2)
    (i : Fin 4096) (c : Fin 512) :
    mixL x a7 a8 (ix3 b i c) = (∑ q : Fin 128, a7 (ix3 ⟨(c : ℕ) / 128, by omega⟩ ⟨(i : ℕ) % 128, by omega⟩ q)
        * x (ix3 b ⟨128 * ((i : ℕ) / 128) + q, by omega⟩ c))
      + a8 (ix2 ⟨(c : ℕ) / 128, by omega⟩ ⟨(i : ℕ) % 128, by omega⟩) := by
  pointwise [mixL]
  refine congrArg₂ (· + ·) (Finset.sum_congr rfl fun q _ => (mul_comm _ _).trans
    (congrArg (fun r => a7 (ix3 _ _ q) * x (ix3 b r c)) (Fin.ext ?_))) rfl
  show (i : ℕ) / 128 * 128 + (q : ℕ) = 128 * ((i : ℕ) / 128) + q
  omega

theorem gateL_read (g : FVec Ideal S2x4096x512 .f32) (j : S2x4096x512.Idx) : gateL g j = silu (g j) := by
  obtain ⟨b, i, c, rfl⟩ : ∃ (b : Fin 2) (i : Fin 4096) (c : Fin 512), j = ix3 b i c := ⟨j 0, j 1, j 2, eq_ix3 j⟩
  pointwise [gateL]
  rfl

theorem swappedL_read (p : FVec Ideal S2x4096x64 .f32) (b : Fin 2) (i : Fin 4096) (k : Fin 64) :
    swappedL p (ix3 b i k) = p (ix3 b i ⟨if ((k : ℕ) / 16) % 2 = 0 then (k : ℕ) + 16 else (k : ℕ) - 16, by split_ifs <;> omega⟩) := by
  pointwise [swappedL]
  split_ifs <;> exact congrArg (fun r => p (ix3 b i r)) (Fin.ext (by simp only; split_ifs <;> omega))

theorem rotL_read (p : FVec Ideal S2x4096x5696 .f32) (b : Fin 2) (i : Fin 4096) (k : Fin 64) :
    rotL p (ix3 b i k) = p (ix3 b i ⟨2560 + (k : ℕ), by omega⟩) := by
  pointwise [rotL]

theorem firstL_read (p : FVec Ideal S2x4096x5696 .f32) (b : Fin 2) (i : Fin 4096) (k : Fin 512) :
    firstL p (ix3 b i k) = p (ix3 b i ⟨k, by omega⟩) := by
  pointwise [firstL]

theorem secondL_read (p : FVec Ideal S2x4096x5696 .f32) (b : Fin 2) (i : Fin 4096) (k : Fin 512) :
    secondL p (ix3 b i k) = p (ix3 b i ⟨512 + (k : ℕ), by omega⟩) := by
  pointwise [secondL]

theorem thirdL_read (p : FVec Ideal S2x4096x5696 .f32) (b : Fin 2) (i : Fin 4096) (k : Fin 512) :
    thirdL p (ix3 b i k) = p (ix3 b i ⟨1024 + (k : ℕ), by omega⟩) := by
  pointwise [thirdL]

theorem keptL_read (p : FVec Ideal S2x4096x5696 .f32) (b : Fin 2) (i : Fin 4096) (k : Fin 4352) :
    keptL p (ix3 b i k) = p (ix3 b i ⟨column (1536 + k), column_lt (by omega)⟩) := by
  pointwise [keptL]
  have at_p : ∀ (x y : ℕ) (hx : x < 5696) (hy : y < 5696), x = y → p (ix3 b i ⟨x, hx⟩) = p (ix3 b i ⟨y, hy⟩) :=
    fun x y hx hy e => congrArg (fun r => p (ix3 b i r)) (Fin.ext e)
  by_cases h0 : (k : ℕ) < 512
  · rw [dif_pos h0]; exact at_p _ _ _ _ (by unfold column; split_ifs <;> omega)
  rw [dif_neg h0]
  by_cases h1 : (k : ℕ) - 512 < 512
  · rw [dif_pos h1]; exact at_p _ _ _ _ (by unfold column; split_ifs <;> omega)
  rw [dif_neg h1]
  by_cases h2 : (k : ℕ) - 512 - 512 < 1024
  · rw [dif_pos h2]; exact at_p _ _ _ _ (by unfold column; split_ifs <;> omega)
  rw [dif_neg h2]
  by_cases h3 : (k : ℕ) - 512 - 512 - 1024 < 512
  · rw [dif_pos h3]; exact at_p _ _ _ _ (by unfold column; split_ifs <;> omega)
  rw [dif_neg h3]
  by_cases h4 : (k : ℕ) - 512 - 512 - 1024 - 512 < 512
  · rw [dif_pos h4]; exact at_p _ _ _ _ (by unfold column; split_ifs <;> omega)
  rw [dif_neg h4]
  by_cases h5 : (k : ℕ) - 512 - 512 - 1024 - 512 - 512 < 512
  · rw [dif_pos h5]; exact at_p _ _ _ _ (by unfold column; split_ifs <;> omega)
  rw [dif_neg h5]
  by_cases h6 : (k : ℕ) - 512 - 512 - 1024 - 512 - 512 - 512 < 512
  · rw [dif_pos h6]; exact at_p _ _ _ _ (by unfold column; split_ifs <;> omega)
  rw [dif_neg h6]
  by_cases h7 : (k : ℕ) - 512 - 512 - 1024 - 512 - 512 - 512 - 512 < 64
  · rw [dif_pos h7]; rw [rotL_read]; exact at_p _ _ _ _ (by unfold column; simp only; split_ifs <;> omega)
  rw [dif_neg h7]
  by_cases h8 : (k : ℕ) - 512 - 512 - 1024 - 512 - 512 - 512 - 512 - 64 < 64
  · rw [dif_pos h8]; rw [rotL_read]; exact at_p _ _ _ _ (by unfold column; simp only; split_ifs <;> omega)
  rw [dif_neg h8]
  by_cases h9 : (k : ℕ) - 512 - 512 - 1024 - 512 - 512 - 512 - 512 - 64 - 64 < 64
  · rw [dif_pos h9]; rw [swappedL_read, rotL_read]; exact at_p _ _ _ _ (by unfold column; simp only; split_ifs <;> omega)
  rw [dif_neg h9]
  rw [swappedL_read, rotL_read]; exact at_p _ _ _ _ (by unfold column; simp only; split_ifs <;> omega)

theorem gatedL_read (p : FVec Ideal S2x4096x5696 .f32) (a6 : FVec Ideal S512 .f32) (a7 : FVec Ideal S4x128x128 .f32)
    (a8 : FVec Ideal S4x128 .f32) (b : Fin 2) (i : Fin 4096) (c : Fin 512) :
    gatedL p a6 a7 a8 (ix3 b i c) = mixed (p (ix3 b i ⟨c, by omega⟩)) (p (ix3 b i ⟨1024 + (c : ℕ), by omega⟩))
      (fun q c => p (ix3 b ⟨128 * ((i : ℕ) / 128) + q, by omega⟩ ⟨512 + (c : ℕ), by omega⟩)) (fun c => a6 (ix1 c))
      (fun q => a7 (ix3 ⟨(c : ℕ) / 128, by omega⟩ ⟨(i : ℕ) % 128, by omega⟩ q))
      (a8 (ix2 ⟨(c : ℕ) / 128, by omega⟩ ⟨(i : ℕ) % 128, by omega⟩)) c := by
  show geluL (firstL p) _ * mixL _ a7 a8 _ * gateL (thirdL p) _ = _
  rw [geluL_read, mixL_read, gateL_read]
  simp only [unitL_read, firstL_read, secondL_read, thirdL_read]
  exact mul_right_comm _ _ _

theorem prodC_read (a0 : FVec Ideal S2x256x2048 .f32) (a2 : FVec Ideal S6144 .f32) (a4 : FVec Ideal S2048 .f32)
    (a5 : FVec Ideal S2048x5696 .f32) (b : Fin 2) (i : Fin 256) (j : Fin 5696) :
    prodC a0 a2 a4 a5 (ix3 b i j) = proj (hidden (fun k => a0 (ix3 b i k)) (fun k => a4 (ix1 k))
      (fun k => a2 (ix1 ⟨2048 + (k : ℕ), by omega⟩)) (fun k => a2 (ix1 ⟨k, by omega⟩))) (fun k => a5 (ix2 k j)) := by
  pointwise [prodC]
  rfl

theorem geluC_read (u : FVec Ideal S2x256x512 .f32) (j : S2x256x512.Idx) : geluC u j = gelu (u j) := by
  obtain ⟨b, i, c, rfl⟩ : ∃ (b : Fin 2) (i : Fin 256) (c : Fin 512), j = ix3 b i c := ⟨j 0, j 1, j 2, eq_ix3 j⟩
  pointwise [geluC]
  simp only [gelu, mul_comm (u (ix3 b i c)) (u (ix3 b i c) * u (ix3 b i c))]

theorem unitC_read (v : FVec Ideal S2x256x512 .f32) (a6 : FVec Ideal S512 .f32) (b : Fin 2) (i : Fin 256) (c : Fin 512) :
    unitC (geluC v) a6 (ix3 b i c) = scaled (fun c => v (ix3 b i c)) (fun c => a6 (ix1 c)) c := by
  pointwise [unitC]
  simp only [geluC_read]
  rfl

theorem mixC_read (x : FVec Ideal S2x256x512 .f32) (a7 : FVec Ideal S4x128x128 .f32) (a8 : FVec Ideal S4x128 .f32) (b : Fin 2)
    (i : Fin 256) (c : Fin 512) :
    mixC x a7 a8 (ix3 b i c) = (∑ q : Fin 128, a7 (ix3 ⟨(c : ℕ) / 128, by omega⟩ ⟨(i : ℕ) % 128, by omega⟩ q)
        * x (ix3 b ⟨128 * ((i : ℕ) / 128) + q, by omega⟩ c))
      + a8 (ix2 ⟨(c : ℕ) / 128, by omega⟩ ⟨(i : ℕ) % 128, by omega⟩) := by
  pointwise [mixC]
  refine congrArg₂ (· + ·) (Finset.sum_congr rfl fun q _ => (mul_comm _ _).trans
    (congrArg (fun r => a7 (ix3 _ _ q) * x (ix3 b r c)) (Fin.ext ?_))) rfl
  show (i : ℕ) / 128 * 128 + (q : ℕ) = 128 * ((i : ℕ) / 128) + q
  omega

theorem gateC_read (g : FVec Ideal S2x256x512 .f32) (j : S2x256x512.Idx) : gateC g j = silu (g j) := by
  obtain ⟨b, i, c, rfl⟩ : ∃ (b : Fin 2) (i : Fin 256) (c : Fin 512), j = ix3 b i c := ⟨j 0, j 1, j 2, eq_ix3 j⟩
  pointwise [gateC]
  rfl

theorem swappedC_read (p : FVec Ideal S2x256x64 .f32) (b : Fin 2) (i : Fin 256) (k : Fin 64) :
    swappedC p (ix3 b i k) = p (ix3 b i ⟨if ((k : ℕ) / 16) % 2 = 0 then (k : ℕ) + 16 else (k : ℕ) - 16, by split_ifs <;> omega⟩) := by
  pointwise [swappedC]
  split_ifs <;> exact congrArg (fun r => p (ix3 b i r)) (Fin.ext (by simp only; split_ifs <;> omega))

theorem rotC_read (p : FVec Ideal S2x256x5696 .f32) (b : Fin 2) (i : Fin 256) (k : Fin 64) :
    rotC p (ix3 b i k) = p (ix3 b i ⟨2560 + (k : ℕ), by omega⟩) := by
  pointwise [rotC]

theorem firstC_read (p : FVec Ideal S2x256x5696 .f32) (b : Fin 2) (i : Fin 256) (k : Fin 512) :
    firstC p (ix3 b i k) = p (ix3 b i ⟨k, by omega⟩) := by
  pointwise [firstC]

theorem secondC_read (p : FVec Ideal S2x256x5696 .f32) (b : Fin 2) (i : Fin 256) (k : Fin 512) :
    secondC p (ix3 b i k) = p (ix3 b i ⟨512 + (k : ℕ), by omega⟩) := by
  pointwise [secondC]

theorem thirdC_read (p : FVec Ideal S2x256x5696 .f32) (b : Fin 2) (i : Fin 256) (k : Fin 512) :
    thirdC p (ix3 b i k) = p (ix3 b i ⟨1024 + (k : ℕ), by omega⟩) := by
  pointwise [thirdC]

theorem keptC_read (p : FVec Ideal S2x256x5696 .f32) (b : Fin 2) (i : Fin 256) (k : Fin 4352) :
    keptC p (ix3 b i k) = p (ix3 b i ⟨column (1536 + k), column_lt (by omega)⟩) := by
  pointwise [keptC]
  have at_p : ∀ (x y : ℕ) (hx : x < 5696) (hy : y < 5696), x = y → p (ix3 b i ⟨x, hx⟩) = p (ix3 b i ⟨y, hy⟩) :=
    fun x y hx hy e => congrArg (fun r => p (ix3 b i r)) (Fin.ext e)
  by_cases h0 : (k : ℕ) < 512
  · rw [dif_pos h0]; exact at_p _ _ _ _ (by unfold column; split_ifs <;> omega)
  rw [dif_neg h0]
  by_cases h1 : (k : ℕ) - 512 < 512
  · rw [dif_pos h1]; exact at_p _ _ _ _ (by unfold column; split_ifs <;> omega)
  rw [dif_neg h1]
  by_cases h2 : (k : ℕ) - 512 - 512 < 1024
  · rw [dif_pos h2]; exact at_p _ _ _ _ (by unfold column; split_ifs <;> omega)
  rw [dif_neg h2]
  by_cases h3 : (k : ℕ) - 512 - 512 - 1024 < 512
  · rw [dif_pos h3]; exact at_p _ _ _ _ (by unfold column; split_ifs <;> omega)
  rw [dif_neg h3]
  by_cases h4 : (k : ℕ) - 512 - 512 - 1024 - 512 < 512
  · rw [dif_pos h4]; exact at_p _ _ _ _ (by unfold column; split_ifs <;> omega)
  rw [dif_neg h4]
  by_cases h5 : (k : ℕ) - 512 - 512 - 1024 - 512 - 512 < 512
  · rw [dif_pos h5]; exact at_p _ _ _ _ (by unfold column; split_ifs <;> omega)
  rw [dif_neg h5]
  by_cases h6 : (k : ℕ) - 512 - 512 - 1024 - 512 - 512 - 512 < 512
  · rw [dif_pos h6]; exact at_p _ _ _ _ (by unfold column; split_ifs <;> omega)
  rw [dif_neg h6]
  by_cases h7 : (k : ℕ) - 512 - 512 - 1024 - 512 - 512 - 512 - 512 < 64
  · rw [dif_pos h7]; rw [rotC_read]; exact at_p _ _ _ _ (by unfold column; simp only; split_ifs <;> omega)
  rw [dif_neg h7]
  by_cases h8 : (k : ℕ) - 512 - 512 - 1024 - 512 - 512 - 512 - 512 - 64 < 64
  · rw [dif_pos h8]; rw [rotC_read]; exact at_p _ _ _ _ (by unfold column; simp only; split_ifs <;> omega)
  rw [dif_neg h8]
  by_cases h9 : (k : ℕ) - 512 - 512 - 1024 - 512 - 512 - 512 - 512 - 64 - 64 < 64
  · rw [dif_pos h9]; rw [swappedC_read, rotC_read]; exact at_p _ _ _ _ (by unfold column; simp only; split_ifs <;> omega)
  rw [dif_neg h9]
  rw [swappedC_read, rotC_read]; exact at_p _ _ _ _ (by unfold column; simp only; split_ifs <;> omega)

theorem gatedC_read (p : FVec Ideal S2x256x5696 .f32) (a6 : FVec Ideal S512 .f32) (a7 : FVec Ideal S4x128x128 .f32)
    (a8 : FVec Ideal S4x128 .f32) (b : Fin 2) (i : Fin 256) (c : Fin 512) :
    gatedC p a6 a7 a8 (ix3 b i c) = mixed (p (ix3 b i ⟨c, by omega⟩)) (p (ix3 b i ⟨1024 + (c : ℕ), by omega⟩))
      (fun q c => p (ix3 b ⟨128 * ((i : ℕ) / 128) + q, by omega⟩ ⟨512 + (c : ℕ), by omega⟩)) (fun c => a6 (ix1 c))
      (fun q => a7 (ix3 ⟨(c : ℕ) / 128, by omega⟩ ⟨(i : ℕ) % 128, by omega⟩ q))
      (a8 (ix2 ⟨(c : ℕ) / 128, by omega⟩ ⟨(i : ℕ) % 128, by omega⟩)) c := by
  show geluC (firstC p) _ * mixC _ a7 a8 _ * gateC (thirdC p) _ = _
  rw [geluC_read, mixC_read, gateC_read]
  simp only [unitC_read, firstC_read, secondC_read, thirdC_read]
  exact mul_right_comm _ _ _

variable (a0 : FVec Ideal S2x4096x2048 .f32) (a1 : FVec Ideal S2x256x2048 .f32) (a2 : FVec Ideal S2x6144 .f32)
  (a3 : FVec Ideal S6144 .f32) (a4 : FVec Ideal S2048 .f32) (a5 : FVec Ideal S2048x5696 .f32) (a6 : FVec Ideal S512 .f32)
  (a7 : FVec Ideal S4x128x128 .f32) (a8 : FVec Ideal S4x128 .f32)

/-- The arguments held by arrays. -/
def argsAt : Args where
  lat b i k := a0 (ix3 b i k)
  ctx b i k := a1 (ix3 b i k)
  mod b j := a2 (ix2 b j)
  modc j := a3 (ix1 j)
  gain k := a4 (ix1 k)
  w k j := a5 (ix2 k j)
  inner k := a6 (ix1 k)
  mix g p q := a7 (ix3 g p q)
  off g p := a8 (ix2 g p)

theorem prodL_p (n : Fin 8704) (b : Fin 2) (i : Fin 4096) (en : (n : ℕ) = 4096 * (b : ℕ) + i) (j : Fin 5696) :
    prodL a0 a2 a4 a5 (ix3 b i j) = (argsAt a0 a1 a2 a3 a4 a5 a6 a7 a8).p n j := by
  rw [prodL_read]
  have hn : (n : ℕ) < 8192 := by omega
  have eb : (⟨(n : ℕ) / 4096, by omega⟩ : Fin 2) = b := Fin.ext (by simp only; omega)
  have ei : (⟨(n : ℕ) % 4096, by omega⟩ : Fin 4096) = i := Fin.ext (by simp only; omega)
  have ex : (argsAt a0 a1 a2 a3 a4 a5 a6 a7 a8).x n = fun k => a0 (ix3 b i k) := by
    funext k
    unfold Args.x
    rw [dif_pos hn, eb, ei]
    rfl
  have em : (argsAt a0 a1 a2 a3 a4 a5 a6 a7 a8).md n = fun k => a2 (ix2 b k) := by
    funext k
    unfold Args.md
    rw [dif_pos hn, eb]
    rfl
  unfold Args.p Args.h
  rw [ex, em]
  rfl

theorem prodC_p (n : Fin 8704) (b : Fin 2) (i : Fin 256) (en : (n : ℕ) = 8192 + 256 * (b : ℕ) + i) (j : Fin 5696) :
    prodC a1 a3 a4 a5 (ix3 b i j) = (argsAt a0 a1 a2 a3 a4 a5 a6 a7 a8).p n j := by
  rw [prodC_read]
  have hn : ¬ (n : ℕ) < 8192 := by omega
  have eb : (⟨((n : ℕ) - 8192) / 256, by omega⟩ : Fin 2) = b := Fin.ext (by simp only; omega)
  have ei : (⟨((n : ℕ) - 8192) % 256, by omega⟩ : Fin 256) = i := Fin.ext (by simp only; omega)
  have ex : (argsAt a0 a1 a2 a3 a4 a5 a6 a7 a8).x n = fun k => a1 (ix3 b i k) := by
    funext k
    unfold Args.x
    rw [dif_neg hn, eb, ei]
    rfl
  have em : (argsAt a0 a1 a2 a3 a4 a5 a6 a7 a8).md n = fun k => a3 (ix1 k) := by
    funext k
    unfold Args.md
    rw [dif_neg hn]
    rfl
  unfold Args.p Args.h
  rw [ex, em]
  rfl

theorem resZ_read (p : FVec Ideal S2x4096x5696 .f32) (q : FVec Ideal S2x256x5696 .f32) (n : Fin 8704) (k : Fin 4352) :
    resZ p q (ix2 n k) = if h : (n : ℕ) < 8192 then keptL p (ix3 ⟨(n : ℕ) / 4096, by omega⟩ ⟨(n : ℕ) % 4096, by omega⟩ k)
      else keptC q (ix3 ⟨((n : ℕ) - 8192) / 256, by omega⟩ ⟨((n : ℕ) - 8192) % 256, by omega⟩ k) := by
  pointwise [resZ]

theorem resA_read (p : FVec Ideal S2x4096x5696 .f32) (q : FVec Ideal S2x256x5696 .f32) (n : Fin 8704) (k : Fin 512) :
    resA p q a6 a7 a8 (ix2 n k) = if h : (n : ℕ) < 8192 then
        gatedL p a6 a7 a8 (ix3 ⟨(n : ℕ) / 4096, by omega⟩ ⟨(n : ℕ) % 4096, by omega⟩ k)
      else gatedC q a6 a7 a8 (ix3 ⟨((n : ℕ) - 8192) / 256, by omega⟩ ⟨((n : ℕ) - 8192) % 256, by omega⟩ k) := by
  pointwise [resA]

theorem resultZ_eq (n : Fin 8704) (k : Fin 4352) :
    resZ (prodL a0 a2 a4 a5) (prodC a1 a3 a4 a5) (ix2 n k) = (argsAt a0 a1 a2 a3 a4 a5 a6 a7 a8).z n k := by
  rw [resZ_read]
  unfold Args.z
  by_cases h : (n : ℕ) < 8192
  · rw [dif_pos h, keptL_read]
    exact prodL_p a0 a1 a2 a3 a4 a5 a6 a7 a8 n _ _ (by simp only; omega) _
  · rw [dif_neg h, keptC_read]
    exact prodC_p a0 a1 a2 a3 a4 a5 a6 a7 a8 n _ _ (by simp only; omega) _

theorem resultA_eq (n : Fin 8704) (k : Fin 512) :
    resA (prodL a0 a2 a4 a5) (prodC a1 a3 a4 a5) a6 a7 a8 (ix2 n k) = (argsAt a0 a1 a2 a3 a4 a5 a6 a7 a8).a n k := by
  rw [resA_read]
  unfold Args.a
  by_cases h : (n : ℕ) < 8192
  · have e1 : (⟨(n : ℕ) % 4096 % 128, by omega⟩ : Fin 128) = ⟨(n : ℕ) % 128, by omega⟩ := Fin.ext (by simp only; omega)
    have e2 := fun j => prodL_p a0 a1 a2 a3 a4 a5 a6 a7 a8 n ⟨(n : ℕ) / 4096, by omega⟩ ⟨(n : ℕ) % 4096, by omega⟩ (by simp only; omega) j
    have e3 := fun (q : Fin 128) j => prodL_p a0 a1 a2 a3 a4 a5 a6 a7 a8 ⟨128 * ((n : ℕ) / 128) + q, by omega⟩ ⟨(n : ℕ) / 4096, by omega⟩
      ⟨128 * (((n : ℕ) % 4096) / 128) + q, by omega⟩ (by simp only; omega) j
    rw [dif_pos h, gatedL_read]
    simp only [e1, e2, e3]
    rfl
  · have e1 : (⟨((n : ℕ) - 8192) % 256 % 128, by omega⟩ : Fin 128) = ⟨(n : ℕ) % 128, by omega⟩ := Fin.ext (by simp only; omega)
    have e2 := fun j => prodC_p a0 a1 a2 a3 a4 a5 a6 a7 a8 n ⟨((n : ℕ) - 8192) / 256, by omega⟩ ⟨((n : ℕ) - 8192) % 256, by omega⟩ (by simp only; omega) j
    have e3 := fun (q : Fin 128) j => prodC_p a0 a1 a2 a3 a4 a5 a6 a7 a8 ⟨128 * ((n : ℕ) / 128) + q, by omega⟩ ⟨((n : ℕ) - 8192) / 256, by omega⟩
      ⟨128 * ((((n : ℕ) - 8192) % 256) / 128) + q, by omega⟩ (by simp only; omega) j
    rw [dif_neg h, gatedC_read]
    simp only [e1, e2, e3]
    rfl

end Cert.InProjRef
-- ==== Proof.LateBlock.lean ====
/- The blocks a grid point of the second layer's input projection writes, entry by entry. -/
module

public import proofs.«01_k».proof.Proof.Gen.LateKernelIdeal.Value
public import proofs.«01_k».proof.Proof.InMath
public import Idealize.ShloMosaic.Lib.Pipeline.ValueKit

@[expose] public section

set_option maxRecDepth 16384

noncomputable section

namespace Cert.LateProj

open Idealize.ShloMosaic Cert.LateKernelIdeal Cert.LateKernelIdeal.Gen Idealize.SL.Sem Idealize.ShloMosaic.Pipeline Cert.InProj

/-- The normalised and modulated rows of a grid point's block. -/
def hid (i : grid0.Coords) (x0 x1 : Vec Ideal S512x2048 .f32) (x2 : Vec Ideal S1x1x6144 .f32)
    (x3 : Vec Ideal S1x2048 .f32) : FVec Ideal S512x2048 .bf16 :=
  k0_pay4 (F := Ideal) i x0 x1
    (fun j : S1x1x2048.Idx => x2 ((Rect.unit (s := S1x1x6144) ![0, 0, 0] S1x1x2048.size
      (by intro a; fin_cases a <;> simp [Shape.size])).idx j))
    (fun j : S1x1x2048.Idx => x2 ((Rect.unit (s := S1x1x6144) ![0, 0, 2048] S1x1x2048.size
      (by intro a; fin_cases a <;> simp [Shape.size])).idx j)) x3

theorem add_lt (y : S512x4352.Idx) : 1536 + (y 1 : ℕ) < 5888 := by
  have h : (y 1 : ℕ) < 4352 := (y 1).isLt
  omega

theorem chunk (H : FVec Ideal S512x2048 .bf16) (x4 : Vec Ideal S5888x2048 .bf16) (w : Vec Ideal S512x2048 .bf16) (o : ℕ)
    (ho : o + 512 ≤ 5888) (hw : ∀ (a : Fin 512) (k : Fin 2048), w (ix2 a k) = x4 (ix2 ⟨o + a, by omega⟩ k))
    (y : S512x4352.Idx) (x : S512x512.Idx) (h0 : (y 0 : ℕ) = (x 0 : ℕ)) (h1 : 1536 + (y 1 : ℕ) = o + (x 1 : ℕ)) :
    k0_pay27 (F := Ideal) H w x
      = proj (fun k => H (ix2 (y 0) k)) (fun k => x4 (ix2 ⟨1536 + (y 1 : ℕ), add_lt y⟩ k)) := by
  obtain ⟨a, b, rfl⟩ : ∃ (a b : Fin 512), x = ix2 a b := ⟨x 0, x 1, eq_ix2 x⟩
  obtain ⟨p, q, rfl⟩ : ∃ (p : Fin 512) (q : Fin 4352), y = ix2 p q := ⟨y 0, y 1, eq_ix2 y⟩
  obtain rfl : p = a := Fin.ext h0
  pointwise [k0_pay27, proj, hw]
  have e : (⟨o + (b : ℕ), by omega⟩ : Fin 5888) = ⟨1536 + (q : ℕ), by omega⟩ := Fin.ext h1.symm
  simp only [e]

theorem lastChunk (H : FVec Ideal S512x2048 .bf16) (x4 : Vec Ideal S5888x2048 .bf16) (w : Vec Ideal S256x2048 .bf16) (o : ℕ)
    (ho : o + 256 ≤ 5888) (hw : ∀ (a : Fin 256) (k : Fin 2048), w (ix2 a k) = x4 (ix2 ⟨o + a, by omega⟩ k))
    (y : S512x4352.Idx) (x : S512x256.Idx) (h0 : (y 0 : ℕ) = (x 0 : ℕ)) (h1 : 1536 + (y 1 : ℕ) = o + (x 1 : ℕ)) :
    k0_pay3 (F := Ideal) H w x
      = proj (fun k => H (ix2 (y 0) k)) (fun k => x4 (ix2 ⟨1536 + (y 1 : ℕ), add_lt y⟩ k)) := by
  obtain ⟨a, b, rfl⟩ : ∃ (a : Fin 512) (b : Fin 256), x = ix2 a b := ⟨x 0, x 1, eq_ix2 x⟩
  obtain ⟨p, q, rfl⟩ : ∃ (p : Fin 512) (q : Fin 4352), y = ix2 p q := ⟨y 0, y 1, eq_ix2 y⟩
  obtain rfl : p = a := Fin.ext h0
  pointwise [k0_pay3, proj, hw]
  have e : (⟨o + (b : ℕ), by omega⟩ : Fin 5888) = ⟨1536 + (q : ℕ), by omega⟩ := Fin.ext h1.symm
  simp only [e]

/-- Entry `(p, c)` of the mixed chunks, from the gated rows `U` and the scaled rows `V`. -/
def mixT (U : FVec Ideal S512x512 .f32) (V : FVec Ideal S512x512 .bf16) (x6 : Vec Ideal S4x128x128 .bf16)
    (x7 : Vec Ideal S128x512 .f32) (p c : Fin 512) : EReal :=
  U (ix2 p c) * ((∑ q : Fin 128, x6 (ix3 ⟨(c : ℕ) / 128, by omega⟩ ⟨(p : ℕ) % 128, by omega⟩ q)
    * V (ix2 ⟨128 * ((p : ℕ) / 128) + q, by omega⟩ c)) + x7 (ix2 ⟨(p : ℕ) % 128, by omega⟩ c))

theorem tile (U : FVec Ideal S512x512 .f32) (V : FVec Ideal S512x512 .bf16) (x6 : Vec Ideal S4x128x128 .bf16)
    (x7 : Vec Ideal S128x512 .f32) (i g : Fin 4) (p c : Fin 512) (a b : Fin 128)
    (h0 : (p : ℕ) = 128 * (i : ℕ) + a) (h1 : (c : ℕ) = 128 * (g : ℕ) + b) :
    U (ix2 ⟨128 * (i : ℕ) + a, by omega⟩ ⟨128 * (g : ℕ) + b, by omega⟩)
      * ((∑ q : Fin 128, x6 (ix3 g a q) * V (ix2 ⟨128 * (i : ℕ) + q, by omega⟩ ⟨128 * (g : ℕ) + b, by omega⟩))
        + x7 (ix2 a ⟨128 * (g : ℕ) + b, by omega⟩)) = mixT U V x6 x7 p c := by
  have hi : 128 * (i : ℕ) + a < 512 := h0 ▸ p.isLt
  have hg : 128 * (g : ℕ) + b < 512 := h1 ▸ c.isLt
  obtain ⟨p, hp⟩ := p
  obtain ⟨c, hc⟩ := c
  simp only at h0 h1
  subst h0 h1
  have e1 : (⟨(128 * (g : ℕ) + b) / 128, by omega⟩ : Fin 4) = g := Fin.ext (by show _ / _ = _; omega)
  have e2 : (⟨(128 * (i : ℕ) + a) % 128, by omega⟩ : Fin 128) = a := Fin.ext (by show _ % _ = _; omega)
  have e3 : ∀ q : Fin 128, (⟨128 * ((128 * (i : ℕ) + a) / 128) + q, by omega⟩ : Fin 512) = ⟨128 * (i : ℕ) + q, by omega⟩ :=
    fun q => Fin.ext (by show 128 * ((128 * (i : ℕ) + a) / 128) + (q : ℕ) = 128 * (i : ℕ) + q; omega)
  simp only [mixT, e1, e2, e3]

/-- What the stores of a grid point leave in the block of projections. -/
theorem z_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S5888x2048 .bf16) (harg5 : arg5.IsWhole) (arg6 : Memref sig .tc .vmem S1x512 .f32) (harg6 : arg6.IsWhole) (arg7 : Memref sig .tc .vmem S4x128x128 .bf16) (harg7 : arg7.IsWhole) (arg8 : Memref sig .tc .vmem S128x512 .f32) (harg8 : arg8.IsWhole) (arg9 : Memref sig .tc .vmem S512x4352 .bf16) (harg9 : arg9.IsWhole) (arg10 : Memref sig .tc .vmem S512x512 .bf16) (harg10 : arg10.IsWhole) (arg11 : Memref sig .tc .vmem S512x2048 .bf16) (harg11 : arg11.IsWhole)
    (x0 : Vec Ideal S512x2048 .f32) (x1 : Vec Ideal S512x2048 .f32) (x2 : Vec Ideal S1x1x6144 .f32) (x3 : Vec Ideal S1x2048 .f32) (x4 : Vec Ideal S5888x2048 .bf16) (x5 : Vec Ideal S1x512 .f32) (x6 : Vec Ideal S4x128x128 .bf16) (x7 : Vec Ideal S128x512 .f32) (y : S512x4352.Idx) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 y
      = proj (fun k => hid i x0 x1 x2 x3 (ix2 (y 0) k)) (fun k => x4 (ix2 ⟨1536 + (y 1 : ℕ), add_lt y⟩ k)) := by
  frame_out
  canon_tiles x h using (View.cover_of_tiledBy _ ![512, 256] (by sl_kernel_rfl) y)
  case piece0 =>
    exact lastChunk (hid i x0 x1 x2 x3) x4 _ 5632 (by decide) (fun a k => by pointwise) y x h0 (by omega)
  case piece1 =>
    exact chunk (hid i x0 x1 x2 x3) x4 _ 5120 (by decide) (fun a k => by pointwise) y x h0 (by omega)
  case piece2 =>
    exact chunk (hid i x0 x1 x2 x3) x4 _ 4608 (by decide) (fun a k => by pointwise) y x h0 (by omega)
  case piece3 =>
    exact chunk (hid i x0 x1 x2 x3) x4 _ 4096 (by decide) (fun a k => by pointwise) y x h0 (by omega)
  case piece4 =>
    exact chunk (hid i x0 x1 x2 x3) x4 _ 3584 (by decide) (fun a k => by pointwise) y x h0 (by omega)
  case piece5 =>
    exact chunk (hid i x0 x1 x2 x3) x4 _ 3072 (by decide) (fun a k => by pointwise) y x h0 (by omega)
  case piece6 =>
    exact chunk (hid i x0 x1 x2 x3) x4 _ 2560 (by decide) (fun a k => by pointwise) y x h0 (by omega)
  case piece7 =>
    exact chunk (hid i x0 x1 x2 x3) x4 _ 2048 (by decide) (fun a k => by pointwise) y x h0 (by omega)
  case piece8 =>
    exact chunk (hid i x0 x1 x2 x3) x4 _ 1536 (by decide) (fun a k => by pointwise) y x h0 (by omega)

/-- The scaled rows of a grid point's block. -/
def val (i : grid0.Coords) (x0 x1 : Vec Ideal S512x2048 .f32) (x2 : Vec Ideal S1x1x6144 .f32)
    (x3 : Vec Ideal S1x2048 .f32) (x4 : Vec Ideal S5888x2048 .bf16) (x5 : Vec Ideal S1x512 .f32) : FVec Ideal S512x512 .bf16 :=
  k0_pay6 (F := Ideal) (hid i x0 x1 x2 x3) (k0_pay5 (fun j : S512x2048.Idx => x4 ((Rect.unit (s := S5888x2048) ![512, 0] S512x2048.size
      (by intro a; fin_cases a <;> simp [Shape.size])).idx j))) x5

/-- The gated rows of a grid point's block. -/
def gat (i : grid0.Coords) (x0 x1 : Vec Ideal S512x2048 .f32) (x2 : Vec Ideal S1x1x6144 .f32)
    (x3 : Vec Ideal S1x2048 .f32) (x4 : Vec Ideal S5888x2048 .bf16) : FVec Ideal S512x512 .f32 :=
  k0_pay10 (F := Ideal)
    (k0_pay7 (hid i x0 x1 x2 x3) (fun j : S512x2048.Idx => x4 ((Rect.unit (s := S5888x2048) ![0, 0] S512x2048.size
      (by intro a; fin_cases a <;> simp [Shape.size])).idx j)))
    (k0_pay8 (hid i x0 x1 x2 x3) (fun j : S512x2048.Idx => x4 ((Rect.unit (s := S5888x2048) ![0, 0] S512x2048.size
      (by intro a; fin_cases a <;> simp [Shape.size])).idx j)))
    k0_pay9 (hid i x0 x1 x2 x3) (fun j : S512x2048.Idx => x4 ((Rect.unit (s := S5888x2048) ![1024, 0] S512x2048.size
      (by intro a; fin_cases a <;> simp [Shape.size])).idx j))

/-- What the stores of a grid point leave in the block of mixed chunks. -/
theorem m_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S5888x2048 .bf16) (harg5 : arg5.IsWhole) (arg6 : Memref sig .tc .vmem S1x512 .f32) (harg6 : arg6.IsWhole) (arg7 : Memref sig .tc .vmem S4x128x128 .bf16) (harg7 : arg7.IsWhole) (arg8 : Memref sig .tc .vmem S128x512 .f32) (harg8 : arg8.IsWhole) (arg9 : Memref sig .tc .vmem S512x4352 .bf16) (harg9 : arg9.IsWhole) (arg10 : Memref sig .tc .vmem S512x512 .bf16) (harg10 : arg10.IsWhole) (arg11 : Memref sig .tc .vmem S512x2048 .bf16) (harg11 : arg11.IsWhole)
    (x0 : Vec Ideal S512x2048 .f32) (x1 : Vec Ideal S512x2048 .f32) (x2 : Vec Ideal S1x1x6144 .f32) (x3 : Vec Ideal S1x2048 .f32) (x4 : Vec Ideal S5888x2048 .bf16) (x5 : Vec Ideal S1x512 .f32) (x6 : Vec Ideal S4x128x128 .bf16) (x7 : Vec Ideal S128x512 .f32) (y : S512x512.Idx) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 y
      = mixT (gat i x0 x1 x2 x3 x4) (val i x0 x1 x2 x3 x4 x5) x6 x7 (y 0) (y 1) := by
  frame_out
  canon_tiles x h
  case piece0 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 3 (y 0) (y 1) a b h0 h1)
    pointwise [k0_pay26]
    sl_kernel_rfl
  case piece1 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 2 (y 0) (y 1) a b h0 h1)
    pointwise [k0_pay25]
    sl_kernel_rfl
  case piece2 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 1 (y 0) (y 1) a b h0 h1)
    pointwise [k0_pay24]
    sl_kernel_rfl
  case piece3 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 3 0 (y 0) (y 1) a b h0 (h1.trans (Nat.zero_add _).symm))
    pointwise [k0_pay23]
    sl_kernel_rfl
  case piece4 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 3 (y 0) (y 1) a b h0 h1)
    pointwise [k0_pay22]
    sl_kernel_rfl
  case piece5 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 2 (y 0) (y 1) a b h0 h1)
    pointwise [k0_pay21]
    sl_kernel_rfl
  case piece6 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 1 (y 0) (y 1) a b h0 h1)
    pointwise [k0_pay20]
    sl_kernel_rfl
  case piece7 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 2 0 (y 0) (y 1) a b h0 (h1.trans (Nat.zero_add _).symm))
    pointwise [k0_pay19]
    sl_kernel_rfl
  case piece8 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 3 (y 0) (y 1) a b h0 h1)
    pointwise [k0_pay18]
    sl_kernel_rfl
  case piece9 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 2 (y 0) (y 1) a b h0 h1)
    pointwise [k0_pay17]
    sl_kernel_rfl
  case piece10 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 1 (y 0) (y 1) a b h0 h1)
    pointwise [k0_pay16]
    sl_kernel_rfl
  case piece11 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 1 0 (y 0) (y 1) a b h0 (h1.trans (Nat.zero_add _).symm))
    pointwise [k0_pay15]
    sl_kernel_rfl
  case piece12 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 3 (y 0) (y 1) a b (h0.trans (Nat.zero_add _).symm) h1)
    pointwise [k0_pay14]
    sl_kernel_rfl
  case piece13 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 2 (y 0) (y 1) a b (h0.trans (Nat.zero_add _).symm) h1)
    pointwise [k0_pay13]
    sl_kernel_rfl
  case piece14 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 1 (y 0) (y 1) a b (h0.trans (Nat.zero_add _).symm) h1)
    pointwise [k0_pay12]
    sl_kernel_rfl
  case piece15 =>
    obtain ⟨a, b, rfl⟩ : ∃ (a b : Fin 128), x = ix2 a b := ⟨x 0, x 1, eq_ix2 x⟩
    refine Eq.trans ?_ (tile (gat i x0 x1 x2 x3 x4) (val i x0 x1 x2 x3 x4 x5) x6 x7 0 0 (y 0) (y 1) a b (h0.trans (Nat.zero_add _).symm) (h1.trans (Nat.zero_add _).symm))
    pointwise [k0_pay11]
    sl_kernel_rfl

theorem below (i : grid0.Coords) (h : (i 0).val < 16) : Scalar.cmpi .slt (BitVec.ofNat 32 (i 0).val) 16#32 = 1#1 := by
  generalize (i 0).val = n at h
  revert n
  decide

theorem above (i : grid0.Coords) (h : (i 0).val = 16) : Scalar.cmpi .slt (BitVec.ofNat 32 (i 0).val) 16#32 = 0#1 := by
  simp only [h]
  decide

/-- A row of the hidden block of a latent point. -/
theorem hid_latent (i : grid0.Coords) (h : (i 0).val < 16) (x0 x1 : Vec Ideal S512x2048 .f32)
    (x2 : Vec Ideal S1x1x6144 .f32) (x3 : Vec Ideal S1x2048 .f32) (r : Fin 512) (k : Fin 2048) :
    hid i x0 x1 x2 x3 (ix2 r k)
      = Cert.InProj.hidden (fun k => x0 (ix2 r k)) (fun k => x3 (ix2 0 k)) (fun k => x2 (ix3 0 0 ⟨2048 + k, by omega⟩))
          (fun k => x2 (ix3 0 0 ⟨k, by omega⟩)) k := by
  unfold hid k0_pay4
  simp only [below i h]
  pointwise [Cert.InProj.hidden]

/-- A row of the hidden block of the context point. -/
theorem hid_context (i : grid0.Coords) (h : (i 0).val = 16) (x0 x1 : Vec Ideal S512x2048 .f32)
    (x2 : Vec Ideal S1x1x6144 .f32) (x3 : Vec Ideal S1x2048 .f32) (r : Fin 512) (k : Fin 2048) :
    hid i x0 x1 x2 x3 (ix2 r k)
      = Cert.InProj.hidden (fun k => x1 (ix2 r k)) (fun k => x3 (ix2 0 k)) (fun k => x2 (ix3 0 0 ⟨2048 + k, by omega⟩))
          (fun k => x2 (ix3 0 0 ⟨k, by omega⟩)) k := by
  unfold hid k0_pay4
  simp only [above i h]
  pointwise [Cert.InProj.hidden]

theorem value_read (v34 v35 : Vec Ideal S512x2048 .bf16) (v51 : Vec Ideal S1x512 .f32) (r c : Fin 512) :
    k0_pay6 (F := Ideal) v34 (k0_pay5 v35) v51 (ix2 r c)
      = scaled (fun c => proj (fun k => v34 (ix2 r k)) (fun k => v35 (ix2 c k))) (fun c => v51 (ix2 0 c)) c := by
  pointwise [k0_pay6, k0_pay5, scaled, proj, gelu]

theorem gated_read (v66 v67 v84 : Vec Ideal S512x2048 .bf16) (r c : Fin 512) :
    k0_pay10 (F := Ideal) (k0_pay7 v66 v67) (k0_pay8 v66 v67) k0_pay9 v66 v84 (ix2 r c)
      = gelu (proj (fun k => v66 (ix2 r k)) (fun k => v67 (ix2 c k))) * silu (proj (fun k => v66 (ix2 r k)) (fun k => v84 (ix2 c k))) := by
  pointwise [k0_pay10, k0_pay7, k0_pay8, k0_pay9, gelu, proj, silu]
  rfl

theorem m_read (i : grid0.Coords) (x0 x1 : Vec Ideal S512x2048 .f32) (x2 : Vec Ideal S1x1x6144 .f32)
    (x3 : Vec Ideal S1x2048 .f32) (x4 : Vec Ideal S5888x2048 .bf16) (x5 : Vec Ideal S1x512 .f32)
    (x6 : Vec Ideal S4x128x128 .bf16) (x7 : Vec Ideal S128x512 .f32) (p c : Fin 512) :
    mixT (gat i x0 x1 x2 x3 x4) (val i x0 x1 x2 x3 x4 x5) x6 x7 p c
      = mixed (proj (fun k => hid i x0 x1 x2 x3 (ix2 p k)) (fun k => x4 (ix2 ⟨c, by omega⟩ k)))
          (proj (fun k => hid i x0 x1 x2 x3 (ix2 p k)) (fun k => x4 (ix2 ⟨1024 + c, by omega⟩ k)))
          (fun q c => proj (fun k => hid i x0 x1 x2 x3 (ix2 ⟨128 * ((p : ℕ) / 128) + q, by omega⟩ k))
            (fun k => x4 (ix2 ⟨512 + c, by omega⟩ k)))
          (fun c => x5 (ix2 0 c)) (fun q => x6 (ix3 ⟨(c : ℕ) / 128, by omega⟩ ⟨(p : ℕ) % 128, by omega⟩ q))
          (x7 (ix2 ⟨(p : ℕ) % 128, by omega⟩ c)) c := by
  simp only [mixT, gat, val, gated_read, value_read, mixed]
  pointwise

end Cert.LateProj
-- ==== Proof.LatePack.lean ====
/- What the second layer's input projection's operands hold when it starts, and their entries. -/
module

public import proofs.«01_k».proof.Proof.LateBlock

@[expose] public section

set_option maxRecDepth 16384

noncomputable section

namespace Cert.LateProj

open Idealize.ShloMosaic Cert.LateKernelIdeal Cert.LateKernelIdeal.Gen Idealize.SL.Sem Idealize.ShloMosaic.Pipeline Idealize.ShloMosaic.TcCoe Cert.InProj

section Ops
variable {F : FTy → Type} [FloatOps F]

/-- The modulation rows: one for each batch, the context's, and zeros. -/
def rows (a2 : FVec F S2x6144 .f32) (a3 : FVec F S6144 .f32) : FVec F S8x1x6144 .f32 :=
  shapeCast S8x1x6144 (concatenate S8x6144 0 [⟨S2x6144, a2⟩, ⟨S1x6144, broadcastInDim S1x6144 ![1] bcast_S6144_S1x6144_1 a3⟩,
    ⟨S5x6144, broadcastInDim S5x6144 ![] bcast_S_S5x6144 (constant S_ .f32 0x00000000#32)⟩]
    concatenates_S2x6144_S1x6144_S5x6144_S8x6144_d0) shapeCasts_S8x6144_S8x1x6144

/-- The rotary columns of the weights, one to a row. -/
def rot (a5 : FVec F S2048x5696 .f32) : FVec F S64x2048 .f32 :=
  extractStridedSlice S64x2048 ![2560, 0] (transpose S5696x2048 [1, 0] a5 transposes_S2048x5696_S5696x2048_1_0)
    slices_S5696x2048_S64x2048_2560_0

/-- The rotary columns with the halves of each half swapped. -/
def swapped (a5 : FVec F S2048x5696 .f32) : FVec F S64x2048 .f32 :=
  concatenate S64x2048 0 [⟨S16x2048, extractStridedSlice S16x2048 ![16, 0] (rot a5) slices_S64x2048_S16x2048_16_0⟩,
    ⟨S16x2048, extractStridedSlice S16x2048 ![0, 0] (rot a5) slices_S64x2048_S16x2048_0_0⟩,
    ⟨S16x2048, extractStridedSlice S16x2048 ![48, 0] (rot a5) slices_S64x2048_S16x2048_48_0⟩,
    ⟨S16x2048, extractStridedSlice S16x2048 ![32, 0] (rot a5) slices_S64x2048_S16x2048_32_0⟩]
    concatenates_S16x2048_S16x2048_S16x2048_S16x2048_S64x2048_d0

/-- The weights, one output column to a row, the rotary columns apart at the end, twice as they are and twice swapped. -/
def weights (a5 : FVec F S2048x5696 .f32) : FVec F S5888x2048 .bf16 :=
  truncf .bf16 (concatenate S5888x2048 0
    [⟨S2560x2048, extractStridedSlice S2560x2048 ![0, 0] (transpose S5696x2048 [1, 0] a5 transposes_S2048x5696_S5696x2048_1_0)
      slices_S5696x2048_S2560x2048_0_0⟩,
    ⟨S3072x2048, extractStridedSlice S3072x2048 ![2624, 0] (transpose S5696x2048 [1, 0] a5 transposes_S2048x5696_S5696x2048_1_0)
      slices_S5696x2048_S3072x2048_2624_0⟩,
    ⟨S64x2048, rot a5⟩, ⟨S64x2048, rot a5⟩, ⟨S64x2048, swapped a5⟩, ⟨S64x2048, swapped a5⟩]
    concatenates_S2560x2048_S3072x2048_S64x2048_S64x2048_S64x2048_S64x2048_S5888x2048_d0) bitsLt_bf16_f32

/-- The mixing offsets, one row to a position, each group's offset repeated along its 128 columns. -/
def offsets (a8 : FVec F S4x128 .f32) : FVec F S128x512 .f32 :=
  shapeCast S128x512 (broadcastInDim S128x4x128 ![0, 1] bcast_S128x4_S128x4x128_0_1
    (transpose S128x4 [1, 0] a8 transposes_S4x128_S128x4_1_0)) shapeCasts_S128x4x128_S128x512

variable (m : (ℓ : Loc nD τ sig) → Buf (Elt F) ℓ)

theorem entry_x (c : Dev nD) : V m c main_arg0 = m ((c : Thread nD τ).loc main_arg0) := by
  sl_kernel_rfl

theorem entry_rows (c : Dev nD) : V m c main_v18
    = rows (m ((c : Thread nD τ).loc main_arg1)) (m ((c : Thread nD τ).loc main_arg2)) := by
  sl_kernel_rfl

theorem entry_gain (c : Dev nD) : V m c main_v19
    = shapeCast S1x2048 (m ((c : Thread nD τ).loc main_arg3) : FVec F S2048 .f32) shapeCasts_S2048_S1x2048 := by
  sl_kernel_rfl

theorem entry_weights (c : Dev nD) : V m c main_v13 = weights (m ((c : Thread nD τ).loc main_arg4)) := by
  sl_kernel_rfl

theorem entry_inner (c : Dev nD) : V m c main_v20
    = shapeCast S1x512 (m ((c : Thread nD τ).loc main_arg5) : FVec F S512 .f32) shapeCasts_S512_S1x512 := by
  sl_kernel_rfl

theorem entry_mix (c : Dev nD) : V m c main_v14
    = truncf .bf16 (m ((c : Thread nD τ).loc main_arg6) : FVec F S4x128x128 .f32) bitsLt_bf16_f32 := by
  sl_kernel_rfl

theorem entry_offsets (c : Dev nD) : V m c main_v17 = offsets (m ((c : Thread nD τ).loc main_arg7)) := by
  sl_kernel_rfl

end Ops

theorem rows_batch (a2 : FVec Ideal S2x6144 .f32) (a3 : FVec Ideal S6144 .f32) (b : Fin 2) (j : Fin 8) (k : Fin 6144)
    (e : (j : ℕ) = b) : rows a2 a3 (ix3 j 0 k) = a2 (ix2 b k) := by
  pointwise [rows]
  have h : (j : ℕ) < 2 := by omega
  have e' : (⟨(j : ℕ), h⟩ : Fin 2) = b := Fin.ext e
  simp only [dif_pos h, e']

theorem rows_context (a2 : FVec Ideal S2x6144 .f32) (a3 : FVec Ideal S6144 .f32) (j : Fin 8) (k : Fin 6144)
    (e : (j : ℕ) = 2) : rows a2 a3 (ix3 j 0 k) = a3 (ix1 k) := by
  pointwise [rows]
  have h : ¬ (j : ℕ) < 2 := by omega
  have h2 : (j : ℕ) - 2 < 1 := by omega
  simp only [dif_neg h, dif_pos h2]

theorem offsets_read (a8 : FVec Ideal S4x128 .f32) (p : Fin 128) (c : Fin 512) :
    offsets a8 (ix2 p c) = a8 (ix2 ⟨(c : ℕ) / 128, by omega⟩ p) := by
  pointwise [offsets]

theorem rot_read (a5 : FVec Ideal S2048x5696 .f32) (n : Fin 64) (k : Fin 2048) :
    rot a5 (ix2 n k) = a5 (ix2 k ⟨2560 + n, by omega⟩) := by
  pointwise [rot]

theorem at_eq (a5 : FVec Ideal S2048x5696 .f32) (k : Fin 2048) (x y : Fin 5696) (h : (x : ℕ) = y) :
    a5 (ix2 k x) = a5 (ix2 k y) := by
  rw [Fin.ext h]

theorem swapped_read (a5 : FVec Ideal S2048x5696 .f32) (n : Fin 64) (k : Fin 2048) :
    swapped a5 (ix2 n k)
      = a5 (ix2 k ⟨if (n : ℕ) / 16 % 2 = 0 then 2560 + n + 16 else 2560 + n - 16, by split_ifs <;> omega⟩) := by
  pointwise [swapped, rot_read]
  by_cases h0 : (n : ℕ) < 16
  · simp only [dif_pos h0]
    exact at_eq _ _ _ _ (by simp only; split_ifs <;> omega)
  by_cases h1 : (n : ℕ) - 16 < 16
  · simp only [dif_pos h1, dif_neg h0]
    exact at_eq _ _ _ _ (by simp only; split_ifs <;> omega)
  by_cases h2 : (n : ℕ) - 16 - 16 < 16
  · simp only [dif_pos h2, dif_neg h0, dif_neg h1]
    exact at_eq _ _ _ _ (by simp only; split_ifs <;> omega)
  simp only [dif_neg h0, dif_neg h1, dif_neg h2]
  exact at_eq _ _ _ _ (by simp only; split_ifs <;> omega)

theorem weights_read (a5 : FVec Ideal S2048x5696 .f32) (n : Fin 5888) (k : Fin 2048) :
    weights a5 (ix2 n k) = a5 (ix2 k ⟨column n, column_lt n.isLt⟩) := by
  pointwise [weights, rot_read, swapped_read]
  by_cases h0 : (n : ℕ) < 2560
  · simp only [dif_pos h0]
    exact at_eq _ _ _ _ (by simp only [column]; split_ifs <;> omega)
  by_cases h1 : (n : ℕ) - 2560 < 3072
  · simp only [dif_pos h1, dif_neg h0]
    exact at_eq _ _ _ _ (by simp only [column]; split_ifs <;> omega)
  by_cases h2 : (n : ℕ) - 2560 - 3072 < 64
  · simp only [dif_pos h2, dif_neg h0, dif_neg h1]
    exact at_eq _ _ _ _ (by simp only [column]; split_ifs <;> omega)
  by_cases h3 : (n : ℕ) - 2560 - 3072 - 64 < 64
  · simp only [dif_pos h3, dif_neg h0, dif_neg h1, dif_neg h2]
    exact at_eq _ _ _ _ (by simp only [column]; split_ifs <;> omega)
  by_cases h4 : (n : ℕ) - 2560 - 3072 - 64 - 64 < 64
  · simp only [dif_pos h4, dif_neg h0, dif_neg h1, dif_neg h2, dif_neg h3]
    exact at_eq _ _ _ _ (by simp only [column]; split_ifs <;> omega)
  simp only [dif_neg h0, dif_neg h1, dif_neg h2, dif_neg h3, dif_neg h4]
  exact at_eq _ _ _ _ (by simp only [column]; split_ifs <;> omega)

end Cert.LateProj
-- ==== Proof.LateFinal.lean ====
/- The second layer's input projection's two result arrays. -/
module

public import proofs.«01_k».proof.Proof.LatePack

@[expose] public section

set_option maxRecDepth 16384

noncomputable section

namespace Cert.LateProj

open Idealize.ShloMosaic Cert.LateKernelIdeal Cert.LateKernelIdeal.Gen Idealize.SL.Sem Idealize.ShloMosaic.Pipeline Idealize.ShloMosaic.TcCoe Cert.InProj

variable (m : (ℓ : Loc nD τ sig) → Buf (Elt Ideal) ℓ)

/-- Where each window's block lies. -/
theorem idx : ∀ t : Fin cfg0.N,
    win0_0.index t = ![if (grid0.coords t 0).val < 16 then (grid0.coords t 0).val else 15, 0]
    ∧ win0_1.index t = ![16, 0]
    ∧ win0_2.index t = ![if (grid0.coords t 0).val < 16 then (grid0.coords t 0).val / 8 else 2, 0, 0]
    ∧ win0_3.index t = ![0, 0] ∧ win0_4.index t = ![0, 0] ∧ win0_5.index t = ![0, 0] ∧ win0_6.index t = ![0, 0, 0]
    ∧ win0_7.index t = ![0, 0]
    ∧ win0_8.index t = ![(grid0.coords t 0).val, 0] ∧ win0_9.index t = ![(grid0.coords t 0).val, 0] :=
  (by decide +kernel : ∀ t : Fin grid0.N, _)

/-- The arguments of a core. -/
def argsOf (c : Dev nD) : Args where
  lat b i k := (m ((c : Thread nD τ).loc main_arg0) : FVec Ideal S8704x2048 .f32) (ix2 ⟨4096 * (b : ℕ) + i, by omega⟩ k)
  ctx b i k := (m ((c : Thread nD τ).loc main_arg0) : FVec Ideal S8704x2048 .f32) (ix2 ⟨8192 + (256 * (b : ℕ) + i), by omega⟩ k)
  mod b j := (m ((c : Thread nD τ).loc main_arg1) : FVec Ideal S2x6144 .f32) (ix2 b j)
  modc j := (m ((c : Thread nD τ).loc main_arg2) : FVec Ideal S6144 .f32) (ix1 j)
  gain k := (m ((c : Thread nD τ).loc main_arg3) : FVec Ideal S2048 .f32) (ix1 k)
  w k j := (m ((c : Thread nD τ).loc main_arg4) : FVec Ideal S2048x5696 .f32) (ix2 k j)
  inner k := (m ((c : Thread nD τ).loc main_arg5) : FVec Ideal S512 .f32) (ix1 k)
  mix g p q := (m ((c : Thread nD τ).loc main_arg6) : FVec Ideal S4x128x128 .f32) (ix3 g p q)
  off g p := (m ((c : Thread nD τ).loc main_arg7) : FVec Ideal S4x128 .f32) (ix2 g p)

theorem row_eq (a : FVec Ideal S8704x2048 .f32) (k : Fin 2048) (x y : Fin 8704) (h : (x : ℕ) = y) :
    a (ix2 x k) = a (ix2 y k) := by
  rw [Fin.ext h]

theorem gain_read (a : FVec Ideal S2048 .f32) (k : Fin 2048) :
    shapeCast S1x2048 a shapeCasts_S2048_S1x2048 (ix2 0 k) = a (ix1 k) := by
  pointwise

theorem inner_read (a : FVec Ideal S512 .f32) (k : Fin 512) :
    shapeCast S1x512 a shapeCasts_S512_S1x512 (ix2 0 k) = a (ix1 k) := by
  pointwise

/-- The windows' blocks. -/
abbrev blockX (c : Dev nD) (t : Fin cfg0.N) : Vec Ideal S512x2048 .f32 := iblk m c 0 t
abbrev blockC (c : Dev nD) (t : Fin cfg0.N) : Vec Ideal S512x2048 .f32 := iblk m c 1 t
abbrev blockM (c : Dev nD) (t : Fin cfg0.N) : Vec Ideal S1x1x6144 .f32 := iblk m c 2 t
abbrev blockN (c : Dev nD) (t : Fin cfg0.N) : Vec Ideal S1x2048 .f32 := iblk m c 3 t
abbrev blockW (c : Dev nD) (t : Fin cfg0.N) : Vec Ideal S5888x2048 .bf16 := iblk m c 4 t
abbrev blockI (c : Dev nD) (t : Fin cfg0.N) : Vec Ideal S1x512 .f32 := iblk m c 5 t
abbrev blockS (c : Dev nD) (t : Fin cfg0.N) : Vec Ideal S4x128x128 .bf16 := iblk m c 6 t
abbrev blockB (c : Dev nD) (t : Fin cfg0.N) : Vec Ideal S128x512 .f32 := iblk m c 7 t

theorem window_x (c : Dev nD) (t : Fin cfg0.N) (h : (grid0.coords t 0).val < 16) (r : Fin 512) (k : Fin 2048)
    (n : Fin 8192) (en : (n : ℕ) = 512 * (grid0.coords t 0).val + r) :
    blockX m c t (ix2 r k) = (argsOf m c).lat ⟨(n : ℕ) / 4096, by omega⟩ ⟨(n : ℕ) % 4096, by omega⟩ k := by
  show iblk m c 0 t _ = _
  blk_simp [iblk]
  refine (congrFun (entry_x m c) _).trans ((congrArg _ (?_ : _ = ix2 ⟨(n : ℕ), by omega⟩ k)).trans ?_)
  · blk_ext [idx t, if_pos h]
  · exact row_eq _ _ _ _ (by simp only; omega)

theorem window_c (c : Dev nD) (t : Fin cfg0.N) (r : Fin 512) (k : Fin 2048) :
    blockC m c t (ix2 r k) = (argsOf m c).ctx ⟨(r : ℕ) / 256, by omega⟩ ⟨(r : ℕ) % 256, by omega⟩ k := by
  show iblk m c 1 t _ = _
  blk_simp [iblk]
  refine (congrFun (entry_x m c) _).trans ((congrArg _ (?_ : _ = ix2 ⟨8192 + (r : ℕ), by omega⟩ k)).trans ?_)
  · blk_ext [idx t]
  · exact row_eq _ _ _ _ (by simp only; omega)

theorem window_m (c : Dev nD) (t : Fin cfg0.N) (k : Fin 6144) (j : Fin 8)
    (e : (j : ℕ) = if (grid0.coords t 0).val < 16 then (grid0.coords t 0).val / 8 else 2) :
    blockM m c t (ix3 0 0 k) = rows (F := Ideal) (m ((c : Thread nD τ).loc main_arg1)) (m ((c : Thread nD τ).loc main_arg2)) (ix3 j 0 k) := by
  show iblk m c 2 t _ = _
  blk_simp [iblk]
  refine (congrFun (entry_rows m c) _).trans (congrArg _ ?_)
  blk_ext [idx t, e]

theorem window_n (c : Dev nD) (t : Fin cfg0.N) (k : Fin 2048) : blockN m c t (ix2 0 k) = (argsOf m c).gain k := by
  show iblk m c 3 t _ = _
  blk_simp [iblk]
  refine (congrFun (entry_gain m c) _).trans ((congrArg _ (?_ : _ = ix2 0 k)).trans ?_)
  · blk_ext [idx t]
  · exact gain_read _ k

theorem window_w (c : Dev nD) (t : Fin cfg0.N) (n : Fin 5888) (k : Fin 2048) :
    blockW m c t (ix2 n k) = (argsOf m c).w k ⟨column n, column_lt n.isLt⟩ := by
  show iblk m c 4 t _ = _
  blk_simp [iblk]
  refine (congrFun (entry_weights m c) _).trans ((congrArg _ (?_ : _ = ix2 n k)).trans (weights_read _ n k))
  blk_ext [idx t]

theorem window_i (c : Dev nD) (t : Fin cfg0.N) (k : Fin 512) : blockI m c t (ix2 0 k) = (argsOf m c).inner k := by
  show iblk m c 5 t _ = _
  blk_simp [iblk]
  refine (congrFun (entry_inner m c) _).trans ((congrArg _ (?_ : _ = ix2 0 k)).trans ?_)
  · blk_ext [idx t]
  · exact inner_read _ k

theorem window_s (c : Dev nD) (t : Fin cfg0.N) (g : Fin 4) (p q : Fin 128) :
    blockS m c t (ix3 g p q) = (argsOf m c).mix g p q := by
  show iblk m c 6 t _ = _
  blk_simp [iblk]
  refine (congrFun (entry_mix m c) _).trans ((congrArg _ (?_ : _ = ix3 g p q)).trans ?_)
  · blk_ext [idx t]
  · rfl

theorem window_b (c : Dev nD) (t : Fin cfg0.N) (p : Fin 128) (k : Fin 512) :
    blockB m c t (ix2 p k) = (argsOf m c).off ⟨(k : ℕ) / 128, by omega⟩ p := by
  show iblk m c 7 t _ = _
  blk_simp [iblk]
  refine (congrFun (entry_offsets m c) _).trans ((congrArg _ (?_ : _ = ix2 p k)).trans (offsets_read _ p k))
  blk_ext [idx t]

/-- Row `r` of a grid point's hidden block. -/
theorem hid_row (c : Dev nD) (t : Fin cfg0.N) (r : Fin 512) (k : Fin 2048) (n : Fin 8704)
    (en : (n : ℕ) = 512 * (grid0.coords t 0).val + r) :
    hid (grid0.coords t) (blockX m c t) (blockC m c t) (blockM m c t) (blockN m c t) (ix2 r k) = (argsOf m c).h n k := by
  have ht : (grid0.coords t 0).val < 17 := (grid0.coords t 0).isLt
  by_cases h : (grid0.coords t 0).val < 16
  · have hn : (n : ℕ) < 8192 := by omega
    have ej : (n : ℕ) / 4096 = (grid0.coords t 0).val / 8 := by omega
    have e2 : ∀ k : Fin 6144, blockM m c t (ix3 0 0 k) = (argsOf m c).mod ⟨(n : ℕ) / 4096, by omega⟩ k := fun k =>
      (window_m m c t k ⟨(n : ℕ) / 4096, by omega⟩ (by rw [if_pos h]; exact ej)).trans (rows_batch _ _ ⟨(n : ℕ) / 4096, by omega⟩ _ k rfl)
    rw [hid_latent _ h]
    have ex : (fun k => (argsOf m c).lat ⟨(n : ℕ) / 4096, by omega⟩ ⟨(n : ℕ) % 4096, by omega⟩ k) = (argsOf m c).x n :=
      funext fun k => by unfold Args.x; rw [dif_pos hn]
    simp only [window_x m c t h r _ ⟨n, hn⟩ en, e2, window_n, Args.h, Args.md, dif_pos hn]
    exact congrArg (fun f => Cert.InProj.hidden f _ _ _ k) ex
  · have h' : (grid0.coords t 0).val = 16 := by omega
    have hn : ¬ (n : ℕ) < 8192 := by omega
    have er : (r : ℕ) = n - 8192 := by omega
    have e2 : ∀ k : Fin 6144, blockM m c t (ix3 0 0 k) = (argsOf m c).modc k := fun k =>
      (window_m m c t k 2 (by rw [if_neg h]; rfl)).trans (rows_context _ _ 2 k rfl)
    rw [hid_context _ h']
    have ex : (fun k => (argsOf m c).ctx ⟨((n : ℕ) - 8192) / 256, by omega⟩ ⟨((n : ℕ) - 8192) % 256, by omega⟩ k)
        = (argsOf m c).x n := funext fun k => by unfold Args.x; rw [dif_neg hn]
    simp only [window_c, e2, window_n, Args.h, Args.md, dif_neg hn, er]
    exact congrArg (fun f => Cert.InProj.hidden f _ _ _ k) ex

/-- The first result array. -/
def resultZ (A : Args) : FVec Ideal S8704x4352 .bf16 := fun j => A.z (j 0) (j 1)

/-- The second result array. -/
def resultA (A : Args) : FVec Ideal S8704x512 .bf16 := fun j => A.a (j 0) (j 1)

theorem outs_z (c : Dev nD) (t : Fin cfg0.N) (r : Fin 512) (k : Fin 4352) :
    (outsAt0 m c t).1 (ix2 r k)
      = proj (fun x => hid (grid0.coords t) (blockX m c t) (blockC m c t) (blockM m c t) (blockN m c t) (ix2 r x))
          (fun x => blockW m c t (ix2 ⟨1536 + (k : ℕ), by omega⟩ x)) := by
  simp only [outsAt0]
  exact z_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (blockX m c t) (blockC m c t) (blockM m c t) (blockN m c t) (blockW m c t) (blockI m c t) (blockS m c t) (blockB m c t) (ix2 r k)

theorem proj_z (c : Dev nD) (t : Fin cfg0.N) (r : Fin 512) (n : Fin 8704) (k : Fin 4352)
    (en : (n : ℕ) = 512 * (grid0.coords t 0).val + (r : ℕ)) :
    proj (fun x => hid (grid0.coords t) (blockX m c t) (blockC m c t) (blockM m c t) (blockN m c t) (ix2 r x))
        (fun x => blockW m c t (ix2 ⟨1536 + (k : ℕ), by omega⟩ x)) = (argsOf m c).z n k := by
  have e1 := funext fun x => hid_row m c t r x n en
  have e2 := funext fun x => window_w m c t ⟨1536 + (k : ℕ), by omega⟩ x
  unfold Args.z Args.p
  exact congrArg₂ proj e1 e2

theorem point_z (c : Dev nD) (t : Fin cfg0.N) (y : S512x4352.Idx) (n : Fin 8704) (k : Fin 4352)
    (en : (n : ℕ) = 512 * (grid0.coords t 0).val + (y 0 : ℕ)) (ek : (k : ℕ) = (y 1 : ℕ)) :
    (outsAt0 m c t).1 y = (argsOf m c).z n k := by
  have ey : y = ix2 (y 0) k := (eq_ix2 y).trans (congrArg (ix2 (y 0)) (Fin.ext ek.symm))
  rw [ey]
  exact (outs_z m c t (y 0) k).trans (proj_z m c t (y 0) n k en)

theorem point_a (c : Dev nD) (t : Fin cfg0.N) (y : S512x512.Idx) (n : Fin 8704) (k : Fin 512)
    (en : (n : ℕ) = 512 * (grid0.coords t 0).val + (y 0 : ℕ)) (ek : (k : ℕ) = (y 1 : ℕ)) :
    (outsAt0 m c t).2 y = (argsOf m c).a n k := by
  obtain ⟨r, j, rfl⟩ : ∃ (r : Fin 512) (j : Fin 512), y = ix2 r j := ⟨y 0, y 1, eq_ix2 y⟩
  obtain rfl : k = j := Fin.ext ek
  change (n : ℕ) = 512 * (grid0.coords t 0).val + (r : ℕ) at en
  have ht : (grid0.coords t 0).val < 17 := (grid0.coords t 0).isLt
  have col : ∀ (x : ℕ) (hx : x < 2560) (h5 : x < 5888) (h6 : column x < 5696), (⟨column x, h6⟩ : Fin 5696) = ⟨x, by omega⟩ :=
    fun x hx _ _ => Fin.ext (if_pos hx)
  have e1 : (⟨(r : ℕ) % 128, by omega⟩ : Fin 128) = ⟨(n : ℕ) % 128, by omega⟩ := Fin.ext (by show (r : ℕ) % 128 = (n : ℕ) % 128; omega)
  refine (m_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (blockX m c t) (blockC m c t) (blockM m c t) (blockN m c t) (blockW m c t) (blockI m c t) (blockS m c t) (blockB m c t) (ix2 r k)).trans
    ((m_read (grid0.coords t) (blockX m c t) (blockC m c t) (blockM m c t) (blockN m c t) (blockW m c t) (blockI m c t)
      (blockS m c t) (blockB m c t) r k).trans ?_)
  have p1 : ∀ (x : ℕ) (hx : x < 2560), proj (fun k => hid (grid0.coords t) (blockX m c t) (blockC m c t) (blockM m c t) (blockN m c t) (ix2 r k))
      (fun k => blockW m c t (ix2 ⟨x, by omega⟩ k)) = (argsOf m c).p n ⟨x, by omega⟩ := fun x hx =>
    congrArg₂ proj (funext fun k => hid_row m c t r k n en)
      (funext fun k => (window_w m c t ⟨x, by omega⟩ k).trans (congrArg _ (col x hx (by omega) _)))
  have p2 : ∀ (q : Fin 128) (x : ℕ) (hx : x < 2560),
      proj (fun k => hid (grid0.coords t) (blockX m c t) (blockC m c t) (blockM m c t) (blockN m c t) (ix2 ⟨128 * ((r : ℕ) / 128) + q, by omega⟩ k))
        (fun k => blockW m c t (ix2 ⟨x, by omega⟩ k)) = (argsOf m c).p ⟨128 * ((n : ℕ) / 128) + q, by omega⟩ ⟨x, by omega⟩ := fun q x hx =>
    congrArg₂ proj (funext fun k => hid_row m c t _ k _ (by simp only; omega))
      (funext fun k => (window_w m c t ⟨x, by omega⟩ k).trans (congrArg _ (col x hx (by omega) _)))
  unfold Args.a
  have p3 := funext fun q : Fin 128 => funext fun j : Fin 512 => p2 q (512 + j) (by omega)
  rw [p1 k (by omega), p1 (1024 + k) (by omega), p3]
  simp only [window_i, window_s, window_b, e1]

theorem final_z (c : Dev nD) : (dats m 0 c).arrAt 8 (cfgs 0).N = resultZ (argsOf m c) := by
  refine (dats m 0 c).arrAt_eq_of_covers 8 _ (by decide +kernel) fun t _ y => ?_
  blk_simp
  rw [after0_8]
  refine point_z m c t y ((((cfg0.win 8).blk t).view.emb y) 0) ((((cfg0.win 8).blk t).view.emb y) 1) ?_ ?_
  · blk_simp [idx t]
    omega
  · blk_simp [idx t]

theorem final_a (c : Dev nD) : (dats m 0 c).arrAt 9 (cfgs 0).N = resultA (argsOf m c) := by
  refine (dats m 0 c).arrAt_eq_of_covers 9 _ (by decide +kernel) fun t _ y => ?_
  blk_simp
  rw [after0_9]
  refine point_a m c t y ((((cfg0.win 9).blk t).view.emb y) 0) ((((cfg0.win 9).blk t).view.emb y) 1) ?_ ?_
  · blk_simp [idx t]
    omega
  · blk_simp [idx t]

end Cert.LateProj
-- ==== Proof.OutMath.lean ====
/- The last output projection, row by row, as functions of extended reals. -/
module

public import Idealize.ShloMosaic.PureOps.Ideal
public import Idealize.ShloMosaic.Lib.IdealHost

@[expose] public section

noncomputable section

namespace Cert.OutProj

open Idealize.ShloMosaic

/-- The product of the three parts of a row with a column of the weights. -/
def dot3 (a : Fin 512 → EReal) (b : Fin 1024 → EReal) (c : Fin 512 → EReal) (w : Fin 2048 → EReal) : EReal :=
  ((∑ k : Fin 512, a k * w ⟨k, by omega⟩) + ∑ k : Fin 1024, b k * w ⟨512 + k, by omega⟩)
    + ∑ k : Fin 512, c k * w ⟨1536 + k, by omega⟩

/-- A row scaled to unit mean square, times its gain. -/
def unitRow (r g : Fin 2048 → EReal) (k : Fin 2048) : EReal :=
  r k * Ideal.rsqrt (Ideal.div (∑ j, r j * r j) (Ideal.ofBits .f32 0x45000000#32) + Ideal.ofBits .f32 0x358637BD#32) * g k

/-- The arguments: the three parts of each row, the activations, the modulation, the weights and the gain. -/
structure Args where
  a : Fin 2 → Fin 4096 → Fin 512 → EReal
  b : Fin 2 → Fin 4096 → Fin 1024 → EReal
  c : Fin 2 → Fin 4096 → Fin 512 → EReal
  x : Fin 2 → Fin 4096 → Fin 2048 → EReal
  mod : Fin 2 → Fin 6144 → EReal
  w : Fin 2 → Fin 2048 → Fin 2048 → EReal
  gain : Fin 2048 → EReal

namespace Args

variable (A : Args)

/-- Row `(p, i)` of the activations with the gated projection added. -/
def raw (p : Fin 2) (i : Fin 4096) (k : Fin 2048) : EReal :=
  A.x p i k + A.mod p ⟨4096 + k, by omega⟩ * dot3 (A.a p i) (A.b p i) (A.c p i) (fun j => A.w 1 j k)

/-- The result. -/
def out (n : Fin 8192) (k : Fin 2048) : EReal :=
  unitRow (A.raw ⟨(n : ℕ) / 4096, by omega⟩ ⟨(n : ℕ) % 4096, by omega⟩) A.gain k

end Args

end Cert.OutProj
-- ==== Proof.OutBlock.lean ====
/- The blocks a grid point of the last output projection writes, entry by entry. -/
module

public import proofs.«01_k».proof.Proof.Gen.OutKernelIdeal.Value
public import proofs.«01_k».proof.Proof.OutMath
public import Idealize.ShloMosaic.Lib.Pipeline.ValueKit
public import Idealize.ShloMosaic.Lib.Pipeline.ReadBack
public import Idealize.ShloMosaic.Lib.Pipeline.CanonAppend
public import Idealize.ShloMosaic.Lib.VecWindow

@[expose] public section

set_option maxRecDepth 16384

noncomputable section

namespace Cert.OutProj

open Idealize.ShloMosaic Cert.OutKernelIdeal Cert.OutKernelIdeal.Gen Idealize.SL.Sem Idealize.ShloMosaic.Pipeline

/-- Entry `(p, q)` of a grid point's block with the gated projection added, at the weights `W`. -/
def rawB (x0 : Vec Ideal S512x512 .bf16) (x1 : Vec Ideal S512x1024 .bf16) (x2 : Vec Ideal S512x512 .bf16)
    (x3 : Vec Ideal S512x2048 .f32) (x5 : Vec Ideal S1x1x6144 .f32) (W : Vec Ideal S2048x2048 .bf16) (p : Fin 512) (q : Fin 2048) : EReal :=
  x3 (ix2 p q) + x5 (ix3 0 0 ⟨4096 + q, by omega⟩)
    * dot3 (fun k => x0 (ix2 p k)) (fun k => x1 (ix2 p k)) (fun k => x2 (ix2 p k)) (fun j => W (ix2 j q))

theorem chunk0 (x0 : Vec Ideal S512x512 .bf16) (x1 : Vec Ideal S512x1024 .bf16) (x2 : Vec Ideal S512x512 .bf16) (x3 : Vec Ideal S512x2048 .f32) (x5 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x5 (ix3 0 0 ⟨4096 + k, by omega⟩))
    (h1 : ∀ k b : Fin 512, w1 (ix2 k b) = W (ix2 ⟨k, by omega⟩ ⟨0 + b, by omega⟩))
    (h2 : ∀ (k : Fin 1024) (b : Fin 512), w2 (ix2 k b) = W (ix2 ⟨512 + k, by omega⟩ ⟨0 + b, by omega⟩))
    (h3 : ∀ k b : Fin 512, w3 (ix2 k b) = W (ix2 ⟨1536 + k, by omega⟩ ⟨0 + b, by omega⟩))
    (p : Fin 512) (q : Fin 2048) (x : S512x512.Idx) (e0 : (p : ℕ) = (x 0 : ℕ)) (e1 : (q : ℕ) = 0 + (x 1 : ℕ)) :
    k0_pay9 (F := Ideal) x0 x1 x2 x3 g w1 w2 w3 x = rawB x0 x1 x2 x3 x5 W p q := by
  obtain ⟨a, b, rfl⟩ : ∃ (a b : Fin 512), x = ix2 a b := ⟨x 0, x 1, eq_ix2 x⟩
  obtain rfl : p = a := Fin.ext e0
  obtain ⟨q, hq⟩ := q
  change q = 0 + (b : ℕ) at e1
  subst e1
  pointwise [k0_pay1, k0_pay4, k0_pay5, k0_pay6, k0_pay7, k0_pay8, k0_pay9, k0_pay10, k0_pay11, k0_pay12, k0_pay13, rawB, dot3, hg, h1, h2, h3]

theorem chunk1 (x0 : Vec Ideal S512x512 .bf16) (x1 : Vec Ideal S512x1024 .bf16) (x2 : Vec Ideal S512x512 .bf16) (x3 : Vec Ideal S512x2048 .f32) (x5 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x5 (ix3 0 0 ⟨4096 + k, by omega⟩))
    (h1 : ∀ k b : Fin 512, w1 (ix2 k b) = W (ix2 ⟨k, by omega⟩ ⟨512 + b, by omega⟩))
    (h2 : ∀ (k : Fin 1024) (b : Fin 512), w2 (ix2 k b) = W (ix2 ⟨512 + k, by omega⟩ ⟨512 + b, by omega⟩))
    (h3 : ∀ k b : Fin 512, w3 (ix2 k b) = W (ix2 ⟨1536 + k, by omega⟩ ⟨512 + b, by omega⟩))
    (p : Fin 512) (q : Fin 2048) (x : S512x512.Idx) (e0 : (p : ℕ) = (x 0 : ℕ)) (e1 : (q : ℕ) = 512 + (x 1 : ℕ)) :
    k0_pay11 (F := Ideal) (k0_pay5 x1) (k0_pay6 x2) (k0_pay7 x3) (k0_pay8 g) (k0_pay10 x0 w1) w2 w3 x = rawB x0 x1 x2 x3 x5 W p q := by
  obtain ⟨a, b, rfl⟩ : ∃ (a b : Fin 512), x = ix2 a b := ⟨x 0, x 1, eq_ix2 x⟩
  obtain rfl : p = a := Fin.ext e0
  obtain ⟨q, hq⟩ := q
  change q = 512 + (b : ℕ) at e1
  subst e1
  pointwise [k0_pay1, k0_pay4, k0_pay5, k0_pay6, k0_pay7, k0_pay8, k0_pay9, k0_pay10, k0_pay11, k0_pay12, k0_pay13, rawB, dot3, hg, h1, h2, h3]

theorem chunk2 (x0 : Vec Ideal S512x512 .bf16) (x1 : Vec Ideal S512x1024 .bf16) (x2 : Vec Ideal S512x512 .bf16) (x3 : Vec Ideal S512x2048 .f32) (x5 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x5 (ix3 0 0 ⟨4096 + k, by omega⟩))
    (h1 : ∀ k b : Fin 512, w1 (ix2 k b) = W (ix2 ⟨k, by omega⟩ ⟨1024 + b, by omega⟩))
    (h2 : ∀ (k : Fin 1024) (b : Fin 512), w2 (ix2 k b) = W (ix2 ⟨512 + k, by omega⟩ ⟨1024 + b, by omega⟩))
    (h3 : ∀ k b : Fin 512, w3 (ix2 k b) = W (ix2 ⟨1536 + k, by omega⟩ ⟨1024 + b, by omega⟩))
    (p : Fin 512) (q : Fin 2048) (x : S512x512.Idx) (e0 : (p : ℕ) = (x 0 : ℕ)) (e1 : (q : ℕ) = 1024 + (x 1 : ℕ)) :
    k0_pay12 (F := Ideal) (k0_pay4 x0) (k0_pay5 x1) (k0_pay6 x2) (k0_pay7 x3) (k0_pay8 g) w1 w2 w3 x = rawB x0 x1 x2 x3 x5 W p q := by
  obtain ⟨a, b, rfl⟩ : ∃ (a b : Fin 512), x = ix2 a b := ⟨x 0, x 1, eq_ix2 x⟩
  obtain rfl : p = a := Fin.ext e0
  obtain ⟨q, hq⟩ := q
  change q = 1024 + (b : ℕ) at e1
  subst e1
  pointwise [k0_pay1, k0_pay4, k0_pay5, k0_pay6, k0_pay7, k0_pay8, k0_pay9, k0_pay10, k0_pay11, k0_pay12, k0_pay13, rawB, dot3, hg, h1, h2, h3]

theorem chunk3 (x0 : Vec Ideal S512x512 .bf16) (x1 : Vec Ideal S512x1024 .bf16) (x2 : Vec Ideal S512x512 .bf16) (x3 : Vec Ideal S512x2048 .f32) (x5 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x5 (ix3 0 0 ⟨4096 + k, by omega⟩))
    (h1 : ∀ k b : Fin 512, w1 (ix2 k b) = W (ix2 ⟨k, by omega⟩ ⟨1536 + b, by omega⟩))
    (h2 : ∀ (k : Fin 1024) (b : Fin 512), w2 (ix2 k b) = W (ix2 ⟨512 + k, by omega⟩ ⟨1536 + b, by omega⟩))
    (h3 : ∀ k b : Fin 512, w3 (ix2 k b) = W (ix2 ⟨1536 + k, by omega⟩ ⟨1536 + b, by omega⟩))
    (p : Fin 512) (q : Fin 2048) (x : S512x512.Idx) (e0 : (p : ℕ) = (x 0 : ℕ)) (e1 : (q : ℕ) = 1536 + (x 1 : ℕ)) :
    k0_pay1 (F := Ideal) (k0_pay6 x2) (k0_pay7 x3) (k0_pay8 g) (k0_pay13 (k0_pay4 x0) (k0_pay5 x1) w1 w2) w3 x = rawB x0 x1 x2 x3 x5 W p q := by
  obtain ⟨a, b, rfl⟩ : ∃ (a b : Fin 512), x = ix2 a b := ⟨x 0, x 1, eq_ix2 x⟩
  obtain rfl : p = a := Fin.ext e0
  obtain ⟨q, hq⟩ := q
  change q = 1536 + (b : ℕ) at e1
  subst e1
  pointwise [k0_pay1, k0_pay4, k0_pay5, k0_pay6, k0_pay7, k0_pay8, k0_pay9, k0_pay10, k0_pay11, k0_pay12, k0_pay13, rawB, dot3, hg, h1, h2, h3]

theorem last_at (R : Vec Ideal S512x2048 .f32) (x6 : Vec Ideal S1x2048 .f32) (f : Fin 512 → Fin 2048 → EReal)
    (hR : ∀ p q, R (ix2 p q) = f p q) (y : S512x2048.Idx) :
    k0_pay2 (F := Ideal) R x6 y = unitRow (f (y 0)) (fun k => x6 (ix2 0 k)) (y 1) := by
  obtain ⟨p, q, rfl⟩ : ∃ (p : Fin 512) (q : Fin 2048), y = ix2 p q := ⟨y 0, y 1, eq_ix2 y⟩
  pointwise [k0_pay2, unitRow, hR]

/-- What the stores of a later grid point leave in the result's block. -/
theorem out_B (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x1x6144 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S2048x2048 .bf16) (harg9 : arg9.IsWhole) (hc0 : ¬cond0_0 i)
    (x0 : Vec Ideal S512x512 .bf16) (x1 : Vec Ideal S512x1024 .bf16) (x2 : Vec Ideal S512x512 .bf16) (x3 : Vec Ideal S512x2048 .f32) (x4 : Vec Ideal S2048x2048 .f32) (x5 : Vec Ideal S1x1x6144 .f32) (x6 : Vec Ideal S1x2048 .f32) (xs0 : Vec Ideal S2048x2048 .bf16) (y : S512x2048.Idx) :
    out0_B_7 (F := Ideal) c i arg1 harg1 arg2 harg2 arg3 harg3 arg4 harg4 arg5 harg5 arg6 harg6 arg7 harg7 arg8 harg8 arg9 harg9 hc0 x0 x1 x2 x3 x4 x5 x6 xs0 y
      = unitRow (rawB x0 x1 x2 x3 x5 xs0 (y 0)) (fun k => x6 (ix2 0 k)) (y 1) := by
  frame_out
  refine last_at _ x6 (rawB x0 x1 x2 x3 x5 xs0) (fun p q => ?_) y
  rw [View.readCov_eq_canon']
  show View.canon _ _ = _
  refine (congrArg (View.canon _) (Rect.emb_unit_full (s := S512x2048) inb_S512x2048_S512x2048_0_0 (ix2 p q))).trans ?_
  canon_tiles x h
  case piece0 =>
    exact chunk3 x0 x1 x2 x3 x5 xs0 _ _ _ _ (fun k => by pointwise) (fun k b => by pointwise) (fun k b => by pointwise) (fun k b => by pointwise) p q x h0 h1
  case piece1 =>
    exact chunk2 x0 x1 x2 x3 x5 xs0 _ _ _ _ (fun k => by pointwise) (fun k b => by pointwise) (fun k b => by pointwise) (fun k b => by pointwise) p q x h0 h1
  case piece2 =>
    exact chunk1 x0 x1 x2 x3 x5 xs0 _ _ _ _ (fun k => by pointwise) (fun k b => by pointwise) (fun k b => by pointwise) (fun k b => by pointwise) p q x h0 h1
  case piece3 =>
    exact chunk0 x0 x1 x2 x3 x5 xs0 _ _ _ _ (fun k => by pointwise) (fun k b => by pointwise) (fun k b => by pointwise) (fun k b => by pointwise) p q x h0 (h1.trans (Nat.zero_add _).symm)

theorem cast_at (v : Vec Ideal S256x2048 .f32) (x : S256x2048.Idx) : k0_pay3 (F := Ideal) v x = v x := by
  obtain ⟨a, b, rfl⟩ : ∃ (a : Fin 256) (b : Fin 2048), x = ix2 a b := ⟨x 0, x 1, eq_ix2 x⟩
  pointwise [k0_pay3]

/-- Every piece of the weights copied before trip `n` is a block of the weights. -/
theorem copied (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x1x6144 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S2048x2048 .bf16) (harg9 : arg9.IsWhole)  (hc0 : cond0_0 i) (x4 : Vec Ideal S2048x2048 .f32) (n : ℕ) :
    ∀ p ∈ pb_k0_t1 (F := Ideal) Variants.none c none i arg1 harg1 arg2 harg2 arg3 harg3 arg4 harg4 arg5 harg5 arg6 harg6 arg7 harg7 arg8 harg8 arg9 harg9 hc0 (harg5.unread x4) n, ∀ x, p.2 x = x4 (p.1.emb x) := by
  induction n with
  | zero => rw [pb_k0_t1.eq_1]; intro p hp; cases hp
  | succ n ih =>
    rw [pb_k0_t1.eq_2]
    unfold pb_k0_t1Step
    split
    · rename_i hn
      intro p hp
      rcases List.mem_append.mp hp with hp | hp
      · unfold tripL_k0_t1 trip_k0_t1 at hp
        simp only [List.mem_singleton] at hp
        subst hp
        intro x
        dsimp only at x ⊢
        rw [View.readAt_eq_ld, harg5.read_unread]
        exact cast_at (View.ld x4 (Rect.unit (s := S2048x2048) (k0_off1 ⟨n, hn⟩) S256x2048.size (k0_off1_inb i ⟨n, hn⟩ hc0))) x
      · exact ih p hp
    · exact ih

/-- The copied weights are the weights. -/
theorem copied_all (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x1x6144 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S2048x2048 .bf16) (harg9 : arg9.IsWhole)  (hc0 : cond0_0 i) (x4 : Vec Ideal S2048x2048 .f32) (y : S2048x2048.Idx) :
    View.canon (pb_k0_t1 (F := Ideal) Variants.none c none i arg1 harg1 arg2 harg2 arg3 harg3 arg4 harg4 arg5 harg5 arg6 harg6 arg7 harg7 arg8 harg8 arg9 harg9 hc0 (harg5.unread x4) (Scf.trips (0#32) (Scalar.addi 0#32 8#32) 1#32)) y = x4 y := by
  have h := View.cover_of_tiledL (pb_k0_t1 (F := Ideal) Variants.none c none i arg1 harg1 arg2 harg2 arg3 harg3 arg4 harg4 arg5 harg5 arg6 harg6 arg7 harg7 arg8 harg8 arg9 harg9 hc0 (harg5.unread x4) (Scf.trips (0#32) (Scalar.addi 0#32 8#32) 1#32)) S256x2048.size (by sl_kernel_rfl)
  have h' := View.canon_append_of_pieces (Val := Elt Ideal) (e := .bf16) x4 [] _ (copied c i arg1 harg1 arg2 harg2 arg3 harg3 arg4 harg4 arg5 harg5 arg6 harg6 arg7 harg7 arg8 harg8 arg9 harg9 hc0 x4 _) y (h y)
  rwa [List.append_nil] at h'

/-- A load of stores that leave `X` is a load of `X`. -/
theorem load_at (v : View sig .tc .vmem S2048x2048 .bf16) (L : List (View.Piece (Elt Ideal) S2048x2048 .bf16))
    (X : Vec Ideal S2048x2048 .bf16) (hc : ∀ y, View.canon L y = X y) (r : Rect S2048x2048) (x : r.shape.Idx) (k b : Fin 2048)
    (e0 : (r.emb x 0 : ℕ) = k) (e1 : (r.emb x 1 : ℕ) = b) : v.readCov L r.toLoadRect x = X (ix2 k b) := by
  rw [View.readCov_eq_canon']
  refine (hc _).trans (congrArg X ?_)
  refine funext fun a => ?_
  match a with
  | 0 => exact Fin.ext e0
  | 1 => exact Fin.ext e1

/-- A later grid point leaves the copied weights as they were. -/
theorem kept_B (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x1x6144 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S2048x2048 .bf16) (harg9 : arg9.IsWhole) (hc0 : ¬cond0_0 i)
    (x0 : Vec Ideal S512x512 .bf16) (x1 : Vec Ideal S512x1024 .bf16) (x2 : Vec Ideal S512x512 .bf16) (x3 : Vec Ideal S512x2048 .f32) (x4 : Vec Ideal S2048x2048 .f32) (x5 : Vec Ideal S1x1x6144 .f32) (x6 : Vec Ideal S1x2048 .f32) (xs0 : Vec Ideal S2048x2048 .bf16) :
    sout0_B_0 (F := Ideal) c i arg1 harg1 arg2 harg2 arg3 harg3 arg4 harg4 arg5 harg5 arg6 harg6 arg7 harg7 arg8 harg8 arg9 harg9 hc0 x0 x1 x2 x3 x4 x5 x6 xs0 = xs0 := rfl

/-- The weights the first grid point keeps. -/
theorem kept_A (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x1x6144 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S2048x2048 .bf16) (harg9 : arg9.IsWhole) (hc0 : cond0_0 i)
    (x0 : Vec Ideal S512x512 .bf16) (x1 : Vec Ideal S512x1024 .bf16) (x2 : Vec Ideal S512x512 .bf16) (x3 : Vec Ideal S512x2048 .f32) (x4 : Vec Ideal S2048x2048 .f32) (x5 : Vec Ideal S1x1x6144 .f32) (x6 : Vec Ideal S1x2048 .f32) (y : S2048x2048.Idx) :
    sout0_A_0 (F := Ideal) c i arg1 harg1 arg2 harg2 arg3 harg3 arg4 harg4 arg5 harg5 arg6 harg6 arg7 harg7 arg8 harg8 arg9 harg9 hc0 x0 x1 x2 x3 x4 x5 x6 y = x4 y := by
  frame_out
  exact copied_all c i arg1 harg1 arg2 harg2 arg3 harg3 arg4 harg4 arg5 harg5 arg6 harg6 arg7 harg7 arg8 harg8 arg9 harg9 hc0 x4 y

/-- What the stores of the first grid point leave in the result's block. -/
theorem out_A (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x1x6144 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S2048x2048 .bf16) (harg9 : arg9.IsWhole) (hc0 : cond0_0 i)
    (x0 : Vec Ideal S512x512 .bf16) (x1 : Vec Ideal S512x1024 .bf16) (x2 : Vec Ideal S512x512 .bf16) (x3 : Vec Ideal S512x2048 .f32) (x4 : Vec Ideal S2048x2048 .f32) (x5 : Vec Ideal S1x1x6144 .f32) (x6 : Vec Ideal S1x2048 .f32) (y : S512x2048.Idx) :
    out0_A_7 (F := Ideal) c i arg1 harg1 arg2 harg2 arg3 harg3 arg4 harg4 arg5 harg5 arg6 harg6 arg7 harg7 arg8 harg8 arg9 harg9 hc0 x0 x1 x2 x3 x4 x5 x6 y
      = unitRow (rawB x0 x1 x2 x3 x5 x4 (y 0)) (fun k => x6 (ix2 0 k)) (y 1) := by
  frame_out
  have hc := copied_all c i arg1 harg1 arg2 harg2 arg3 harg3 arg4 harg4 arg5 harg5 arg6 harg6 arg7 harg7 arg8 harg8 arg9 harg9 hc0 x4
  generalize pb_k0_t1 (F := Ideal) Variants.none c none i arg1 harg1 arg2 harg2 arg3 harg3 arg4 harg4 arg5 harg5 arg6 harg6 arg7 harg7 arg8 harg8 arg9 harg9 hc0 (harg5.unread x4) (Scf.trips (0#32) (Scalar.addi 0#32 8#32) 1#32) = L at hc ⊢
  refine last_at _ x6 (rawB x0 x1 x2 x3 x5 x4) (fun p q => ?_) y
  rw [View.readCov_eq_canon']
  show View.canon _ _ = _
  refine (congrArg (View.canon _) (Rect.emb_unit_full (s := S512x2048) inb_S512x2048_S512x2048_0_0 (ix2 p q))).trans ?_
  canon_tiles x h
  case piece0 =>
    exact chunk3 x0 x1 x2 x3 x5 x4 _ _ _ _ (fun k => by pointwise) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) p q x h0 h1
  case piece1 =>
    exact chunk2 x0 x1 x2 x3 x5 x4 _ _ _ _ (fun k => by pointwise) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) p q x h0 h1
  case piece2 =>
    exact chunk1 x0 x1 x2 x3 x5 x4 _ _ _ _ (fun k => by pointwise) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) p q x h0 h1
  case piece3 =>
    exact chunk0 x0 x1 x2 x3 x5 x4 _ _ _ _ (fun k => by pointwise) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) (fun k b => load_at _ L x4 hc _ _ _ _ (by show _ + 1 * (k : ℕ) = _; simp) (by show _ + 1 * (b : ℕ) = _; simp)) p q x h0 (h1.trans (Nat.zero_add _).symm)

end Cert.OutProj
-- ==== Proof.OutFinal.lean ====
/- The last output projection's operands, and its result array. -/
module

public import proofs.«01_k».proof.Proof.OutBlock

@[expose] public section

set_option maxRecDepth 16384

noncomputable section

namespace Cert.OutProj

open Idealize.ShloMosaic Cert.OutKernelIdeal Cert.OutKernelIdeal.Gen Idealize.SL.Sem Idealize.ShloMosaic.Pipeline Idealize.ShloMosaic.TcCoe

section Ops
variable {F : FTy → Type} [FloatOps F]

/-- The modulation rows: one for each batch, then zeros. -/
def rows (a4 : FVec F S2x6144 .f32) : FVec F S8x1x6144 .f32 :=
  shapeCast S8x1x6144 (concatenate S8x6144 0 [⟨S2x6144, a4⟩,
    ⟨S6x6144, broadcastInDim S6x6144 ![] bcast_S_S6x6144 (constant S_ .f32 0x00000000#32)⟩]
    concatenates_S2x6144_S6x6144_S8x6144_d0) shapeCasts_S8x6144_S8x1x6144

variable (m : (ℓ : Loc nD τ sig) → Buf (Elt F) ℓ)

theorem entry_a (c : Dev nD) : V m c main_v0
    = shapeCast S8192x512 (m ((c : Thread nD τ).loc main_arg0) : FVec F S2x4096x512 .bf16) shapeCasts_S2x4096x512_S8192x512 := by
  sl_kernel_rfl

theorem entry_b (c : Dev nD) : V m c main_v1
    = shapeCast S8192x1024 (m ((c : Thread nD τ).loc main_arg1) : FVec F S2x4096x1024 .bf16) shapeCasts_S2x4096x1024_S8192x1024 := by
  sl_kernel_rfl

theorem entry_c (c : Dev nD) : V m c main_v2
    = shapeCast S8192x512 (m ((c : Thread nD τ).loc main_arg2) : FVec F S2x4096x512 .bf16) shapeCasts_S2x4096x512_S8192x512 := by
  sl_kernel_rfl

theorem entry_x (c : Dev nD) : V m c main_v3
    = shapeCast S8192x2048 (m ((c : Thread nD τ).loc main_arg3) : FVec F S2x4096x2048 .f32) shapeCasts_S2x4096x2048_S8192x2048 := by
  sl_kernel_rfl

theorem entry_rows (c : Dev nD) : V m c main_v7 = rows (m ((c : Thread nD τ).loc main_arg4)) := by
  sl_kernel_rfl

theorem entry_w (c : Dev nD) : V m c main_v6
    = shapeCast S4096x2048 (m ((c : Thread nD τ).loc main_arg5) : FVec F S2x2048x2048 .f32) shapeCasts_S2x2048x2048_S4096x2048 := by
  sl_kernel_rfl

theorem entry_gain (c : Dev nD) : V m c main_v8
    = shapeCast S1x2048 (m ((c : Thread nD τ).loc main_arg6) : FVec F S2048 .f32) shapeCasts_S2048_S1x2048 := by
  sl_kernel_rfl

end Ops

theorem rows_read (a4 : FVec Ideal S2x6144 .f32) (b : Fin 2) (j : Fin 8) (k : Fin 6144)
    (e : (j : ℕ) = b) : rows a4 (ix3 j 0 k) = a4 (ix2 b k) := by
  obtain ⟨j, hj⟩ := j
  obtain ⟨b, hb⟩ := b
  simp only at e
  subst e
  pointwise [rows]
  rw [dif_pos hb]

theorem part_read (a : FVec Ideal S2x4096x512 .bf16) (n : Fin 8192) (k : Fin 512) :
    shapeCast S8192x512 a shapeCasts_S2x4096x512_S8192x512 (ix2 n k)
      = a (ix3 ⟨(n : ℕ) / 4096, by omega⟩ ⟨(n : ℕ) % 4096, by omega⟩ k) := by
  pointwise

theorem middle_read (a : FVec Ideal S2x4096x1024 .bf16) (n : Fin 8192) (k : Fin 1024) :
    shapeCast S8192x1024 a shapeCasts_S2x4096x1024_S8192x1024 (ix2 n k)
      = a (ix3 ⟨(n : ℕ) / 4096, by omega⟩ ⟨(n : ℕ) % 4096, by omega⟩ k) := by
  pointwise

theorem latent_read (a : FVec Ideal S2x4096x2048 .f32) (n : Fin 8192) (k : Fin 2048) :
    shapeCast S8192x2048 a shapeCasts_S2x4096x2048_S8192x2048 (ix2 n k)
      = a (ix3 ⟨(n : ℕ) / 4096, by omega⟩ ⟨(n : ℕ) % 4096, by omega⟩ k) := by
  pointwise

theorem weights_read (a : FVec Ideal S2x2048x2048 .f32) (n : Fin 4096) (j k : Fin 2048) (e : (n : ℕ) = 2048 + j) :
    shapeCast S4096x2048 a shapeCasts_S2x2048x2048_S4096x2048 (ix2 n k) = a (ix3 1 j k) := by
  have h : shapeCast S4096x2048 a shapeCasts_S2x2048x2048_S4096x2048 (ix2 n k)
      = a (ix3 ⟨(n : ℕ) / 2048, by omega⟩ ⟨(n : ℕ) % 2048, by omega⟩ k) := by
    pointwise
  rw [h]
  have e0 : (⟨(n : ℕ) / 2048, by omega⟩ : Fin 2) = 1 := Fin.ext (by show (n : ℕ) / 2048 = 1; omega)
  have e1 : (⟨(n : ℕ) % 2048, by omega⟩ : Fin 2048) = j := Fin.ext (by show (n : ℕ) % 2048 = j; omega)
  rw [e0, e1]

theorem gain_read (a : FVec Ideal S2048 .f32) (k : Fin 2048) :
    shapeCast S1x2048 a shapeCasts_S2048_S1x2048 (ix2 0 k) = a (ix1 k) := by
  pointwise

variable (m : (ℓ : Loc nD τ sig) → Buf (Elt Ideal) ℓ)

/-- Where each window's block lies. -/
theorem idx : ∀ t : Fin cfg0.N,
    win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![1, 0] ∧ win0_5.index t = ![(grid0.coords t 0).val / 8, 0, 0]
    ∧ win0_6.index t = ![0, 0] ∧ win0_7.index t = ![(grid0.coords t 0).val, 0] :=
  (by decide +kernel : ∀ t : Fin grid0.N, _)

/-- The arguments of a core. -/
def argsOf (c : Dev nD) : Args where
  a b i k := (m ((c : Thread nD τ).loc main_arg0) : FVec Ideal S2x4096x512 .bf16) (ix3 b i k)
  b b i k := (m ((c : Thread nD τ).loc main_arg1) : FVec Ideal S2x4096x1024 .bf16) (ix3 b i k)
  c b i k := (m ((c : Thread nD τ).loc main_arg2) : FVec Ideal S2x4096x512 .bf16) (ix3 b i k)
  x b i k := (m ((c : Thread nD τ).loc main_arg3) : FVec Ideal S2x4096x2048 .f32) (ix3 b i k)
  mod b j := (m ((c : Thread nD τ).loc main_arg4) : FVec Ideal S2x6144 .f32) (ix2 b j)
  w l j k := (m ((c : Thread nD τ).loc main_arg5) : FVec Ideal S2x2048x2048 .f32) (ix3 l j k)
  gain k := (m ((c : Thread nD τ).loc main_arg6) : FVec Ideal S2048 .f32) (ix1 k)

/-- The windows' blocks. -/
abbrev blockA (c : Dev nD) (t : Fin cfg0.N) : Vec Ideal S512x512 .bf16 := iblk m c 0 t
abbrev blockB (c : Dev nD) (t : Fin cfg0.N) : Vec Ideal S512x1024 .bf16 := iblk m c 1 t
abbrev blockC (c : Dev nD) (t : Fin cfg0.N) : Vec Ideal S512x512 .bf16 := iblk m c 2 t
abbrev blockX (c : Dev nD) (t : Fin cfg0.N) : Vec Ideal S512x2048 .f32 := iblk m c 3 t
abbrev blockW (c : Dev nD) (t : Fin cfg0.N) : Vec Ideal S2048x2048 .f32 := iblk m c 4 t
abbrev blockM (c : Dev nD) (t : Fin cfg0.N) : Vec Ideal S1x1x6144 .f32 := iblk m c 5 t
abbrev blockG (c : Dev nD) (t : Fin cfg0.N) : Vec Ideal S1x2048 .f32 := iblk m c 6 t

theorem window_a (c : Dev nD) (t : Fin cfg0.N) (r : Fin 512) (k : Fin 512) (n : Fin 8192)
    (en : (n : ℕ) = 512 * (grid0.coords t 0).val + r) :
    blockA m c t (ix2 r k) = (argsOf m c).a ⟨(n : ℕ) / 4096, by omega⟩ ⟨(n : ℕ) % 4096, by omega⟩ k := by
  show iblk m c 0 t _ = _
  blk_simp [iblk]
  refine (congrFun (entry_a m c) _).trans ((congrArg _ (?_ : _ = ix2 n k)).trans ?_)
  · blk_ext [idx t]
  · exact part_read _ n k

theorem window_b (c : Dev nD) (t : Fin cfg0.N) (r : Fin 512) (k : Fin 1024) (n : Fin 8192)
    (en : (n : ℕ) = 512 * (grid0.coords t 0).val + r) :
    blockB m c t (ix2 r k) = (argsOf m c).b ⟨(n : ℕ) / 4096, by omega⟩ ⟨(n : ℕ) % 4096, by omega⟩ k := by
  show iblk m c 1 t _ = _
  blk_simp [iblk]
  refine (congrFun (entry_b m c) _).trans ((congrArg _ (?_ : _ = ix2 n k)).trans ?_)
  · blk_ext [idx t]
  · exact middle_read _ n k

theorem window_c (c : Dev nD) (t : Fin cfg0.N) (r : Fin 512) (k : Fin 512) (n : Fin 8192)
    (en : (n : ℕ) = 512 * (grid0.coords t 0).val + r) :
    blockC m c t (ix2 r k) = (argsOf m c).c ⟨(n : ℕ) / 4096, by omega⟩ ⟨(n : ℕ) % 4096, by omega⟩ k := by
  show iblk m c 2 t _ = _
  blk_simp [iblk]
  refine (congrFun (entry_c m c) _).trans ((congrArg _ (?_ : _ = ix2 n k)).trans ?_)
  · blk_ext [idx t]
  · exact part_read _ n k

theorem window_x (c : Dev nD) (t : Fin cfg0.N) (r : Fin 512) (k : Fin 2048) (n : Fin 8192)
    (en : (n : ℕ) = 512 * (grid0.coords t 0).val + r) :
    blockX m c t (ix2 r k) = (argsOf m c).x ⟨(n : ℕ) / 4096, by omega⟩ ⟨(n : ℕ) % 4096, by omega⟩ k := by
  show iblk m c 3 t _ = _
  blk_simp [iblk]
  refine (congrFun (entry_x m c) _).trans ((congrArg _ (?_ : _ = ix2 n k)).trans ?_)
  · blk_ext [idx t]
  · exact latent_read _ n k

theorem window_m (c : Dev nD) (t : Fin cfg0.N) (k : Fin 6144) (b : Fin 2) (e : (b : ℕ) = (grid0.coords t 0).val / 8) :
    blockM m c t (ix3 0 0 k) = (argsOf m c).mod b k := by
  show iblk m c 5 t _ = _
  blk_simp [iblk]
  refine (congrFun (entry_rows m c) _).trans ((congrArg _ (?_ : _ = ix3 ⟨b, by omega⟩ 0 k)).trans (rows_read _ b _ k rfl))
  blk_ext [idx t]

theorem window_w (c : Dev nD) (t : Fin cfg0.N) (j k : Fin 2048) : blockW m c t (ix2 j k) = (argsOf m c).w 1 j k := by
  show iblk m c 4 t _ = _
  blk_simp [iblk]
  refine (congrFun (entry_w m c) _).trans ((congrArg _ (?_ : _ = ix2 ⟨2048 + j, by omega⟩ k)).trans ?_)
  · blk_ext [idx t]
  · exact weights_read _ _ j k rfl

theorem window_g (c : Dev nD) (t : Fin cfg0.N) (k : Fin 2048) : blockG m c t (ix2 0 k) = (argsOf m c).gain k := by
  show iblk m c 6 t _ = _
  blk_simp [iblk]
  refine (congrFun (entry_gain m c) _).trans ((congrArg _ (?_ : _ = ix2 0 k)).trans ?_)
  · blk_ext [idx t]
  · exact gain_read _ k

/-- The weights every grid point reads. -/
def weights (c : Dev nD) : Vec Ideal S2048x2048 .bf16 := fun y => (argsOf m c).w 1 (y 0) (y 1)

theorem weights_block (c : Dev nD) (t : Fin cfg0.N) : (blockW m c t : Vec Ideal S2048x2048 .bf16) = weights m c := by
  funext y
  obtain ⟨j, k, rfl⟩ : ∃ (j k : Fin 2048), y = ix2 j k := ⟨y 0, y 1, eq_ix2 y⟩
  exact window_w m c t j k

/-- The weights kept from point to point are the layer's weights. -/
theorem kept (c : Dev nD) (n : ℕ) (hn : n < cfg0.N) : (outsAt0 m c n hn).2 = weights m c := by
  induction n with
  | zero =>
    have e := outsAt0_A m c ⟨0, hn⟩ rfl
    rw [e]
    funext y
    refine Eq.trans ?_ (congrFun (weights_block m c ⟨0, hn⟩) y)
    exact kept_A c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) _ _ _ _ _ _ _ _ y
  | succ n ih =>
    have h : ¬ (n + 1) % 16 = 0 := by
      have : n + 1 < 16 := hn
      omega
    have before : ∀ (k : ℕ) (hk : k < cfg0.N), k = n → (outsAt0 m c k hk).2 = weights m c := by
      intro k hk e
      subst e
      exact ih hk
    have e := congrArg Prod.snd (outsAt0_B m c ⟨n + 1, hn⟩ h)
    have e' := kept_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h' => h ((hcond0_0 ⟨n + 1, hn⟩).mp h')) (blockA m c ⟨n + 1, hn⟩) (blockB m c ⟨n + 1, hn⟩) (blockC m c ⟨n + 1, hn⟩) (blockX m c ⟨n + 1, hn⟩) (blockW m c ⟨n + 1, hn⟩) (blockM m c ⟨n + 1, hn⟩) (blockG m c ⟨n + 1, hn⟩) (outsAt0 m c ((⟨n + 1, hn⟩ : Fin cfg0.N).val - 1) (Nat.lt_of_le_of_lt (Nat.sub_le _ _) hn)).2
    exact e.trans (e'.trans (before _ _ (Nat.add_sub_cancel n 1)))

theorem first_of {α β : Type} {p : α × β} {a : α} {b : β} (h : p = (a, b)) : p.1 = a := by
  subst h
  rfl

/-- What a grid point leaves in the result's block, at every place. -/
def left (c : Dev nD) (t : Fin cfg0.N) (W : Vec Ideal S2048x2048 .bf16) : Vec Ideal S512x2048 .f32 := fun y =>
  unitRow (rawB (iblk m c 0 t) (iblk m c 1 t) (iblk m c 2 t) (iblk m c 3 t) (iblk m c 5 t) W (y 0))
    (fun k => (iblk m c 6 t : Vec Ideal S1x2048 .f32) (ix2 0 k)) (y 1)

theorem outs_at (c : Dev nD) (t : Fin cfg0.N) : (outsAt0 m c t.val t.isLt).1 = left m c t (weights m c) := by
  by_cases h : t.val % 16 = 0
  · have e := first_of (outsAt0_A m c t h)
    have e' : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h)
      (iblk m c 0 t) (iblk m c 1 t) (iblk m c 2 t) (iblk m c 3 t) (iblk m c 4 t) (iblk m c 5 t) (iblk m c 6 t) = left m c t (iblk m c 4 t) := by
      funext y
      refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h)
        (iblk m c 0 t) (iblk m c 1 t) (iblk m c 2 t) (iblk m c 3 t) (iblk m c 4 t) (iblk m c 5 t) (iblk m c 6 t) y).trans ?_
      unfold left
      rfl
    have e2 := congrArg (left m c t) (weights_block m c t)
    refine e.trans ?_
    refine Eq.trans ?_ e2
    exact e'
  · have e := first_of (outsAt0_B m c t h)
    have e' : out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h' => h ((hcond0_0 t).mp h'))
      (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
        = left m c t (outsAt0 m c (t.val - 1) (Nat.lt_of_le_of_lt (Nat.sub_le _ _) t.isLt)).2 := by
      funext y
      refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h' => h ((hcond0_0 t).mp h'))
        (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 y).trans ?_
      unfold left
      rfl
    have e2 := congrArg (left m c t) (kept m c (t.val - 1) (Nat.lt_of_le_of_lt (Nat.sub_le _ _) t.isLt))
    refine e.trans ?_
    refine Eq.trans ?_ e2
    exact e'

/-- The result array. -/
def result (A : Args) : FVec Ideal S8192x2048 .f32 := fun j => A.out (j 0) (j 1)

theorem point (c : Dev nD) (t : Fin cfg0.N) (y : S512x2048.Idx) (n : Fin 8192) (k : Fin 2048)
    (en : (n : ℕ) = 512 * (grid0.coords t 0).val + (y 0 : ℕ)) (ek : (k : ℕ) = (y 1 : ℕ)) :
    (outsAt0 m c t.val t.isLt).1 y = (argsOf m c).out n k := by
  refine (congrFun (outs_at m c t) y).trans ?_
  unfold left
  obtain ⟨r, j, rfl⟩ : ∃ (r : Fin 512) (j : Fin 2048), y = ix2 r j := ⟨y 0, y 1, eq_ix2 y⟩
  obtain rfl : k = j := Fin.ext ek
  change (n : ℕ) = 512 * (grid0.coords t 0).val + (r : ℕ) at en
  have ht : (grid0.coords t 0).val < 16 := (grid0.coords t 0).isLt
  have e1 : rawB (blockA m c t) (blockB m c t) (blockC m c t) (blockX m c t) (blockM m c t) (weights m c) r
      = (argsOf m c).raw ⟨(n : ℕ) / 4096, by omega⟩ ⟨(n : ℕ) % 4096, by omega⟩ := by
    funext q
    have ea := funext fun k => window_a m c t r k n en
    have eb := funext fun k => window_b m c t r k n en
    have ec := funext fun k => window_c m c t r k n en
    unfold rawB Args.raw
    rw [window_x m c t r q n en, window_m m c t _ ⟨(n : ℕ) / 4096, by omega⟩ (by show (n : ℕ) / 4096 = _; omega), ea, eb, ec]
    rfl
  have e2 := funext fun k => window_g m c t k
  unfold Args.out
  exact congrArg₂ (fun f g => unitRow f g k) e1 e2

theorem final (c : Dev nD) : (dats m 0 c).arrAt 7 (cfgs 0).N = result (argsOf m c) := by
  refine (dats m 0 c).arrAt_eq_of_covers 7 _ (by decide +kernel) fun t _ y => ?_
  blk_simp
  rw [after0_7]
  refine point m c t y ((((cfg0.win 7).blk t).view.emb y) 0) ((((cfg0.win 7).blk t).view.emb y) 1) ?_ ?_
  · blk_simp [idx t]
    omega
  · blk_simp [idx t]

end Cert.OutProj
-- ==== Proof.OutReference.lean ====
/- The last output projection's reference, entry by entry. -/
module

public import proofs.«01_k».proof.Proof.Gen.OutReferenceIdeal.Run
public import proofs.«01_k».proof.Proof.OutMath
public import Idealize.ShloMosaic.Lib.Pointwise

@[expose] public section

set_option maxRecDepth 16384

noncomputable section

namespace Cert.OutProjRef

open Idealize.ShloMosaic Cert.OutReferenceIdeal Cert.OutReferenceIdeal.Gen Cert.OutProj Idealize.ShloMosaic.TcCoe

section Ops
variable {F : FTy → Type} [FloatOps F]

/-- The rows joined: what the projection's weights multiply. -/
def joined (a0 : FVec F S2x4096x512 .bf16) (a1 : FVec F S2x4096x1024 .bf16) (a2 : FVec F S2x4096x512 .bf16) : FVec F S2x4096x2048 .bf16 :=
  concatenate S2x4096x2048 2 [⟨S2x4096x512, a0⟩, ⟨S2x4096x1024, a1⟩, ⟨S2x4096x512, a2⟩] concatenates_S2x4096x512_S2x4096x1024_S2x4096x512_S2x4096x2048_d2

/-- The layer's weights. -/
def layer (a5 : FVec F S2x2048x2048 .f32) : FVec F S2048x2048 .f32 :=
  shapeCast _ (extractStridedSlice S1x2048x2048 ![1, 0, 0] a5 slices_S2x2048x2048_S1x2048x2048_1_0_0) shapeCasts_S1x2048x2048_S2048x2048

/-- The latents with the gated projection added. -/
def added (x : FVec F S2x4096x2048 .bf16) (w : FVec F S2048x2048 .f32) (a3 : FVec F S2x4096x2048 .f32) (a4 : FVec F S2x6144 .f32) :
    FVec F S2x4096x2048 .f32 :=
  addf a3 (mulf (broadcastInDim S2x4096x2048 ![0, 1, 2] bcast_S2x1x2048_S2x4096x2048_0_1_2 (broadcastInDim S2x1x2048 ![0, 2] bcast_S2x2048_S2x1x2048_0_2 (extractStridedSlice S2x2048 ![0, 4096] a4 slices_S2x6144_S2x2048_0_4096)))
    (Host.dotGeneral dot_S2x4096x2048_S2048x2048_S2x4096x2048_2_0_01_1_n_n none (extf .f32 x bitsLt_bf16_f32) w))

/-- Rows scaled to unit mean square, times their gain. -/
def unit (R : FVec F S2x4096x2048 .f32) (a6 : FVec F S2048 .f32) : FVec F S2x4096x2048 .f32 :=
  mulf (mulf R (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf R R) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 a6))

/-- The result. -/
def res (a0 : FVec F S2x4096x512 .bf16) (a1 : FVec F S2x4096x1024 .bf16) (a2 : FVec F S2x4096x512 .bf16) (a3 : FVec F S2x4096x2048 .f32)
    (a4 : FVec F S2x6144 .f32) (a5 : FVec F S2x2048x2048 .f32) (a6 : FVec F S2048 .f32) : FVec F S8192x2048 .f32 :=
  shapeCast _ (unit (added (joined a0 a1 a2) (layer a5) a3 a4) a6) shapeCasts_S2x4096x2048_S8192x2048

end Ops

theorem joined_first (a0 : FVec Ideal S2x4096x512 .bf16) (a1 : FVec Ideal S2x4096x1024 .bf16) (a2 : FVec Ideal S2x4096x512 .bf16)
    (b : Fin 2) (i : Fin 4096) (k : Fin 512) (j : Fin 2048) (e : (j : ℕ) = k) : joined a0 a1 a2 (ix3 b i j) = a0 (ix3 b i k) := by
  obtain ⟨j, hj⟩ := j
  change j = (k : ℕ) at e
  subst e
  pointwise [joined]

theorem joined_second (a0 : FVec Ideal S2x4096x512 .bf16) (a1 : FVec Ideal S2x4096x1024 .bf16) (a2 : FVec Ideal S2x4096x512 .bf16)
    (b : Fin 2) (i : Fin 4096) (k : Fin 1024) (j : Fin 2048) (e : (j : ℕ) = 512 + k) : joined a0 a1 a2 (ix3 b i j) = a1 (ix3 b i k) := by
  pointwise [joined]
  rw [dif_neg (by omega), dif_pos (by omega)]
  exact congrArg (fun r => a1 (ix3 b i r)) (Fin.ext (by simp only; omega))

theorem joined_third (a0 : FVec Ideal S2x4096x512 .bf16) (a1 : FVec Ideal S2x4096x1024 .bf16) (a2 : FVec Ideal S2x4096x512 .bf16)
    (b : Fin 2) (i : Fin 4096) (k : Fin 512) (j : Fin 2048) (e : (j : ℕ) = 1536 + k) : joined a0 a1 a2 (ix3 b i j) = a2 (ix3 b i k) := by
  pointwise [joined]
  rw [dif_neg (by omega), dif_neg (by omega)]
  exact congrArg (fun r => a2 (ix3 b i r)) (Fin.ext (by simp only; omega))

theorem layer_read (a5 : FVec Ideal S2x2048x2048 .f32) (j k : Fin 2048) : layer a5 (ix2 j k) = a5 (ix3 1 j k) := by
  pointwise [layer]

theorem added_read (x : FVec Ideal S2x4096x2048 .bf16) (w : FVec Ideal S2048x2048 .f32) (a3 : FVec Ideal S2x4096x2048 .f32)
    (a4 : FVec Ideal S2x6144 .f32) (b : Fin 2) (i : Fin 4096) (k : Fin 2048) :
    added x w a3 a4 (ix3 b i k) = a3 (ix3 b i k) + a4 (ix2 b ⟨4096 + (k : ℕ), by omega⟩) * ∑ j : Fin 2048, (x (ix3 b i j) : EReal) * w (ix2 j k) := by
  pointwise [added]

theorem unit_read (R : FVec Ideal S2x4096x2048 .f32) (a6 : FVec Ideal S2048 .f32) (b : Fin 2) (i : Fin 4096) (k : Fin 2048) :
    unit R a6 (ix3 b i k) = unitRow (fun k => R (ix3 b i k)) (fun k => a6 (ix1 k)) k := by
  pointwise [unit]
  rfl

/-- A sum over the joined columns is the sum over each part. -/
theorem sum_parts (f : Fin 2048 → EReal) :
    ∑ j : Fin 2048, f j = ((∑ k : Fin 512, f ⟨k, by omega⟩) + ∑ k : Fin 1024, f ⟨512 + (k : ℕ), by omega⟩)
      + ∑ k : Fin 512, f ⟨1536 + (k : ℕ), by omega⟩ := by
  rw [Fin.sum_univ_add (a := 1536) (b := 512) f, Fin.sum_univ_add (a := 512) (b := 1024)]
  rfl

/-- The arguments the reference reads. -/
def argsAt (a0 : FVec Ideal S2x4096x512 .bf16) (a1 : FVec Ideal S2x4096x1024 .bf16) (a2 : FVec Ideal S2x4096x512 .bf16)
    (a3 : FVec Ideal S2x4096x2048 .f32) (a4 : FVec Ideal S2x6144 .f32) (a5 : FVec Ideal S2x2048x2048 .f32) (a6 : FVec Ideal S2048 .f32) : Args where
  a b i k := a0 (ix3 b i k)
  b b i k := a1 (ix3 b i k)
  c b i k := a2 (ix3 b i k)
  x b i k := a3 (ix3 b i k)
  mod b j := a4 (ix2 b j)
  w l j k := a5 (ix3 l j k)
  gain k := a6 (ix1 k)

theorem res_eq (a0 : FVec Ideal S2x4096x512 .bf16) (a1 : FVec Ideal S2x4096x1024 .bf16) (a2 : FVec Ideal S2x4096x512 .bf16)
    (a3 : FVec Ideal S2x4096x2048 .f32) (a4 : FVec Ideal S2x6144 .f32) (a5 : FVec Ideal S2x2048x2048 .f32) (a6 : FVec Ideal S2048 .f32)
    (n : Fin 8192) (k : Fin 2048) : res a0 a1 a2 a3 a4 a5 a6 (ix2 n k) = (argsAt a0 a1 a2 a3 a4 a5 a6).out n k := by
  have e : res a0 a1 a2 a3 a4 a5 a6 (ix2 n k) = unit (added (joined a0 a1 a2) (layer a5) a3 a4) a6
      (ix3 ⟨(n : ℕ) / 4096, by omega⟩ ⟨(n : ℕ) % 4096, by omega⟩ k) := by
    pointwise [res]
  rw [e, unit_read]
  unfold Args.out
  refine congrArg (fun r => unitRow r _ k) (funext fun q => ?_)
  rw [added_read, sum_parts]
  unfold Args.raw dot3
  refine congrArg₂ (· + ·) rfl (congrArg₂ (· * ·) rfl ?_)
  refine congrArg₂ (· + ·) (congrArg₂ (· + ·) ?_ ?_) ?_
  · exact Finset.sum_congr rfl fun j _ => congrArg₂ (· * ·) (joined_first a0 a1 a2 _ _ j _ rfl) (layer_read a5 _ q)
  · exact Finset.sum_congr rfl fun j _ => congrArg₂ (· * ·) (joined_second a0 a1 a2 _ _ j _ rfl) (layer_read a5 _ q)
  · exact Finset.sum_congr rfl fun j _ => congrArg₂ (· * ·) (joined_third a0 a1 a2 _ _ j _ rfl) (layer_read a5 _ q)

end Cert.OutProjRef
-- ==== Proof.MidMath.lean ====
/- The first layer's output projection, entry by entry, as a function of extended reals. -/
module

public import proofs.«01_k».proof.Proof.OutMath

@[expose] public section

noncomputable section

namespace Cert.MidProj

open Idealize.ShloMosaic Cert.OutProj

/-- The arguments: the three parts of each row, the activations, the modulation and the weights. The
    second and third parts and the activations come once for the latents and once for the context. -/
structure Args where
  a : Fin 8704 → Fin 512 → EReal
  b : Fin 2 → Fin 4096 → Fin 1024 → EReal
  bc : Fin 2 → Fin 256 → Fin 1024 → EReal
  c : Fin 2 → Fin 4096 → Fin 512 → EReal
  cc : Fin 2 → Fin 256 → Fin 512 → EReal
  x : Fin 2 → Fin 4096 → Fin 2048 → EReal
  xc : Fin 2 → Fin 256 → Fin 2048 → EReal
  mod : Fin 2 → Fin 6144 → EReal
  modc : Fin 6144 → EReal
  w : Fin 2 → Fin 2048 → Fin 2048 → EReal

namespace Args

variable (A : Args)

/-- Entry `k` of row `n`, which is row `(p, i)` of the latents. -/
def lat (n : Fin 8704) (p : Fin 2) (i : Fin 4096) (k : Fin 2048) : EReal :=
  A.x p i k + A.mod p ⟨4096 + k, by omega⟩ * dot3 (A.a n) (A.b p i) (A.c p i) (fun j => A.w 0 j k)

/-- Entry `k` of row `n`, which is row `(p, i)` of the context. -/
def ctx (n : Fin 8704) (p : Fin 2) (i : Fin 256) (k : Fin 2048) : EReal :=
  A.xc p i k + A.modc ⟨4096 + k, by omega⟩ * dot3 (A.a n) (A.bc p i) (A.cc p i) (fun j => A.w 0 j k)

/-- The result: the rows of the latents, then the rows of the context. -/
def out (n : Fin 8704) (k : Fin 2048) : EReal :=
  if h : (n : ℕ) < 8192 then A.lat n ⟨(n : ℕ) / 4096, by omega⟩ ⟨(n : ℕ) % 4096, by omega⟩ k
  else A.ctx n ⟨((n : ℕ) - 8192) / 256, by omega⟩ ⟨((n : ℕ) - 8192) % 256, by omega⟩ k

end Args

end Cert.MidProj
-- ==== Proof.MidBlock.lean ====
/- The blocks a grid point of the first layer's output projection writes, entry by entry. -/
module

public import proofs.«01_k».proof.Proof.Gen.MidKernelIdeal.Value
public import proofs.«01_k».proof.Proof.MidMath
public import Idealize.ShloMosaic.Lib.Pipeline.ValueKit
public import Idealize.ShloMosaic.Lib.Pipeline.ReadBack
public import Idealize.ShloMosaic.Lib.Pipeline.CanonAppend
public import Idealize.ShloMosaic.Lib.VecWindow

@[expose] public section

set_option maxRecDepth 16384

noncomputable section

namespace Cert.MidProj

open Idealize.ShloMosaic Cert.MidKernelIdeal Cert.MidKernelIdeal.Gen Cert.OutProj Idealize.SL.Sem Idealize.ShloMosaic.Pipeline

/-- Entry `(p, q)` of a grid point's block with the gated projection added, at the weights `W`. -/
def rawB (x0 : Vec Ideal S512x512 .bf16) (B : FVec Ideal S512x1024 .bf16) (C : FVec Ideal S512x512 .bf16)
    (X : FVec Ideal S512x2048 .f32) (x8 : Vec Ideal S1x1x6144 .f32) (W : Vec Ideal S2048x2048 .bf16) (p : Fin 512) (q : Fin 2048) : EReal :=
  X (ix2 p q) + x8 (ix3 0 0 ⟨4096 + q, by omega⟩)
    * dot3 (fun k => x0 (ix2 p k)) (fun k => B (ix2 p k)) (fun k => C (ix2 p k)) (fun j => W (ix2 j q))

theorem below (i : grid0.Coords) (h : (i 0).val < 16) : Scalar.cmpi .slt (BitVec.ofNat 32 (i 0).val) 16#32 = 1#1 := by
  generalize (i 0).val = n at h
  revert n
  decide

theorem above (i : grid0.Coords) (h : (i 0).val = 16) : Scalar.cmpi .slt (BitVec.ofNat 32 (i 0).val) 16#32 = 0#1 := by
  simp only [h]
  decide

theorem middle_latent (i : grid0.Coords) (h : (i 0).val < 16) (u v : Vec Ideal S512x1024 .bf16) (r : Fin 512) (k : Fin 1024) :
    k0_pay4 (F := Ideal) i u v (ix2 r k) = u (ix2 r k) := by
  unfold k0_pay4
  simp only [below i h]
  pointwise

theorem middle_context (i : grid0.Coords) (h : (i 0).val = 16) (u v : Vec Ideal S512x1024 .bf16) (r : Fin 512) (k : Fin 1024) :
    k0_pay4 (F := Ideal) i u v (ix2 r k) = v (ix2 r k) := by
  unfold k0_pay4
  simp only [above i h]
  pointwise

theorem part_latent (i : grid0.Coords) (h : (i 0).val < 16) (u v : Vec Ideal S512x512 .bf16) (r : Fin 512) (k : Fin 512) :
    k0_pay5 (F := Ideal) i u v (ix2 r k) = u (ix2 r k) := by
  unfold k0_pay5
  simp only [below i h]
  pointwise

theorem part_context (i : grid0.Coords) (h : (i 0).val = 16) (u v : Vec Ideal S512x512 .bf16) (r : Fin 512) (k : Fin 512) :
    k0_pay5 (F := Ideal) i u v (ix2 r k) = v (ix2 r k) := by
  unfold k0_pay5
  simp only [above i h]
  pointwise

theorem acts_latent (i : grid0.Coords) (h : (i 0).val < 16) (u v : Vec Ideal S512x2048 .f32) (r : Fin 512) (k : Fin 2048) :
    k0_pay6 (F := Ideal) i u v (ix2 r k) = u (ix2 r k) := by
  unfold k0_pay6
  simp only [below i h]
  pointwise

theorem acts_context (i : grid0.Coords) (h : (i 0).val = 16) (u v : Vec Ideal S512x2048 .f32) (r : Fin 512) (k : Fin 2048) :
    k0_pay6 (F := Ideal) i u v (ix2 r k) = v (ix2 r k) := by
  unfold k0_pay6
  simp only [above i h]
  pointwise

theorem chunk0 (i : grid0.Coords) (x1 x2 : Vec Ideal S512x1024 .bf16) (x0 : Vec Ideal S512x512 .bf16) (C : FVec Ideal S512x512 .bf16) (X : FVec Ideal S512x2048 .f32) (x8 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x8 (ix3 0 0 ⟨4096 + k, by omega⟩))
    (h1 : ∀ k b : Fin 512, w1 (ix2 k b) = W (ix2 ⟨k, by omega⟩ ⟨0 + b, by omega⟩))
    (h2 : ∀ (k : Fin 1024) (b : Fin 512), w2 (ix2 k b) = W (ix2 ⟨512 + k, by omega⟩ ⟨0 + b, by omega⟩))
    (h3 : ∀ k b : Fin 512, w3 (ix2 k b) = W (ix2 ⟨1536 + k, by omega⟩ ⟨0 + b, by omega⟩))
    (p : Fin 512) (q : Fin 2048) (x : S512x512.Idx) (e0 : (p : ℕ) = (x 0 : ℕ)) (e1 : (q : ℕ) = 0 + (x 1 : ℕ)) :
    k0_pay9 (F := Ideal) C X (k0_pay7 g) (k0_pay8 i x0 x1 x2 w1 w2) w3 x = rawB x0 (k0_pay4 (F := Ideal) i x1 x2) C X x8 W p q := by
  obtain ⟨a, b, rfl⟩ : ∃ (a b : Fin 512), x = ix2 a b := ⟨x 0, x 1, eq_ix2 x⟩
  obtain rfl : p = a := Fin.ext e0
  obtain ⟨q, hq⟩ := q
  change q = 0 + (b : ℕ) at e1
  subst e1
  pointwise [k0_pay1, k0_pay2, k0_pay7, k0_pay8, k0_pay9, k0_pay10, k0_pay11, k0_pay12, k0_pay13, rawB, dot3, hg, h1, h2, h3]

theorem chunk1 (x0 : Vec Ideal S512x512 .bf16) (B : FVec Ideal S512x1024 .bf16) (C : FVec Ideal S512x512 .bf16) (X : FVec Ideal S512x2048 .f32) (x8 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x8 (ix3 0 0 ⟨4096 + k, by omega⟩))
    (h1 : ∀ k b : Fin 512, w1 (ix2 k b) = W (ix2 ⟨k, by omega⟩ ⟨512 + b, by omega⟩))
    (h2 : ∀ (k : Fin 1024) (b : Fin 512), w2 (ix2 k b) = W (ix2 ⟨512 + k, by omega⟩ ⟨512 + b, by omega⟩))
    (h3 : ∀ k b : Fin 512, w3 (ix2 k b) = W (ix2 ⟨1536 + k, by omega⟩ ⟨512 + b, by omega⟩))
    (p : Fin 512) (q : Fin 2048) (x : S512x512.Idx) (e0 : (p : ℕ) = (x 0 : ℕ)) (e1 : (q : ℕ) = 512 + (x 1 : ℕ)) :
    k0_pay10 (F := Ideal) x0 B C X (k0_pay7 g) w1 w2 w3 x = rawB x0 B C X x8 W p q := by
  obtain ⟨a, b, rfl⟩ : ∃ (a b : Fin 512), x = ix2 a b := ⟨x 0, x 1, eq_ix2 x⟩
  obtain rfl : p = a := Fin.ext e0
  obtain ⟨q, hq⟩ := q
  change q = 512 + (b : ℕ) at e1
  subst e1
  pointwise [k0_pay1, k0_pay2, k0_pay7, k0_pay8, k0_pay9, k0_pay10, k0_pay11, k0_pay12, k0_pay13, rawB, dot3, hg, h1, h2, h3]

theorem chunk2 (x0 : Vec Ideal S512x512 .bf16) (B : FVec Ideal S512x1024 .bf16) (C : FVec Ideal S512x512 .bf16) (X : FVec Ideal S512x2048 .f32) (x8 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x8 (ix3 0 0 ⟨4096 + k, by omega⟩))
    (h1 : ∀ k b : Fin 512, w1 (ix2 k b) = W (ix2 ⟨k, by omega⟩ ⟨1024 + b, by omega⟩))
    (h2 : ∀ (k : Fin 1024) (b : Fin 512), w2 (ix2 k b) = W (ix2 ⟨512 + k, by omega⟩ ⟨1024 + b, by omega⟩))
    (h3 : ∀ k b : Fin 512, w3 (ix2 k b) = W (ix2 ⟨1536 + k, by omega⟩ ⟨1024 + b, by omega⟩))
    (p : Fin 512) (q : Fin 2048) (x : S512x512.Idx) (e0 : (p : ℕ) = (x 0 : ℕ)) (e1 : (q : ℕ) = 1024 + (x 1 : ℕ)) :
    k0_pay1 (F := Ideal) (k0_pay11 x0 B C w1 w2 w3) (k0_pay12 X) (k0_pay13 (k0_pay7 g)) x = rawB x0 B C X x8 W p q := by
  obtain ⟨a, b, rfl⟩ : ∃ (a b : Fin 512), x = ix2 a b := ⟨x 0, x 1, eq_ix2 x⟩
  obtain rfl : p = a := Fin.ext e0
  obtain ⟨q, hq⟩ := q
  change q = 1024 + (b : ℕ) at e1
  subst e1
  pointwise [k0_pay1, k0_pay2, k0_pay7, k0_pay8, k0_pay9, k0_pay10, k0_pay11, k0_pay12, k0_pay13, rawB, dot3, hg, h1, h2, h3]

theorem chunk3 (x0 : Vec Ideal S512x512 .bf16) (B : FVec Ideal S512x1024 .bf16) (C : FVec Ideal S512x512 .bf16) (X : FVec Ideal S512x2048 .f32) (x8 : Vec Ideal S1x1x6144 .f32)
    (W : Vec Ideal S2048x2048 .bf16) (g : Vec Ideal S1x1x2048 .f32) (w1 : Vec Ideal S512x512 .bf16) (w2 : Vec Ideal S1024x512 .bf16) (w3 : Vec Ideal S512x512 .bf16)
    (hg : ∀ k : Fin 2048, g (ix3 0 0 k) = x8 (ix3 0 0 ⟨4096 + k, by omega⟩))
    (h1 : ∀ k b : Fin 512, w1 (ix2 k b) = W (ix2 ⟨k, by omega⟩ ⟨1536 + b, by omega⟩))
    (h2 : ∀ (k : Fin 1024) (b : Fin 512), w2 (ix2 k b) = W (ix2 ⟨512 + k, by omega⟩ ⟨1536 + b, by omega⟩))
    (h3 : ∀ k b : Fin 512, w3 (ix2 k b) = W (ix2 ⟨1536 + k, by omega⟩ ⟨1536 + b, by omega⟩))
    (p : Fin 512) (q : Fin 2048) (x : S512x512.Idx) (e0 : (p : ℕ) = (x 0 : ℕ)) (e1 : (q : ℕ) = 1536 + (x 1 : ℕ)) :
    k0_pay2 (F := Ideal) x0 B C X (k0_pay7 g) w1 w2 w3 x = rawB x0 B C X x8 W p q := by
  obtain ⟨a, b, rfl⟩ : ∃ (a b : Fin 512), x = ix2 a b := ⟨x 0, x 1, eq_ix2 x⟩
  obtain rfl : p = a := Fin.ext e0
  obtain ⟨q, hq⟩ := q
  change q = 1536 + (b : ℕ) at e1
  subst e1
  pointwise [k0_pay1, k0_pay2, k0_pay7, k0_pay8, k0_pay9, k0_pay10, k0_pay11, k0_pay12, k0_pay13, rawB, dot3, hg, h1, h2, h3]

/-- What the stores of a later grid point leave in the result's block. -/
theorem out_B (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048x2048 .f32) (harg8 : arg8.IsWhole) (arg9 : Memref sig .tc .vmem S1x1x6144 .f32) (harg9 : arg9.IsWhole) (arg10 : Memref sig .tc .vmem S512x2048 .f32) (harg10 : arg10.IsWhole) (arg11 : Memref sig .tc .vmem S2048x2048 .bf16) (harg11 : arg11.IsWhole) (hc0 : ¬cond0_0 i)
    (x0 : Vec Ideal S512x512 .bf16) (x1 : Vec Ideal S512x1024 .bf16) (x2 : Vec Ideal S512x1024 .bf16) (x3 : Vec Ideal S512x512 .bf16) (x4 : Vec Ideal S512x512 .bf16) (x5 : Vec Ideal S512x2048 .f32) (x6 : Vec Ideal S512x2048 .f32) (x7 : Vec Ideal S2048x2048 .f32) (x8 : Vec Ideal S1x1x6144 .f32) (xs0 : Vec Ideal S2048x2048 .bf16) (y : S512x2048.Idx) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 y
      = rawB x0 (k0_pay4 (F := Ideal) i x1 x2) (k0_pay5 (F := Ideal) i x3 x4) (k0_pay6 (F := Ideal) i x5 x6) x8 xs0 (y 0) (y 1) := by
  frame_out
  canon_tiles x h
  case piece0 =>
    exact chunk3 x0 (k0_pay4 (F := Ideal) i x1 x2) (k0_pay5 (F := Ideal) i x3 x4) (k0_pay6 (F := Ideal) i x5 x6) x8 xs0 _ _ _ _ (fun k => by pointwise) (fun k b => by pointwise) (fun k b => by pointwise) (fun k b => by pointwise) (y 0) (y 1) x h0 h1
  case piece1 =>
    exact chunk2 x0 (k0_pay4 (F := Ideal) i x1 x2) (k0_pay5 (F := Ideal) i x3 x4) (k0_pay6 (F := Ideal) i x5 x6) x8 xs0 _ _ _ _ (fun k => by pointwise) (fun k b => by pointwise) (fun k b => by pointwise) (fun k b => by pointwise) (y 0) (y 1) x h0 h1
  case piece2 =>
    exact chunk1 x0 (k0_pay4 (F := Ideal) i x1 x2) (k0_pay5 (F := Ideal) i x3 x4) (k0_pay6 (F := Ideal) i x5 x6) x8 xs0 _ _ _ _ (fun k => by pointwise) (fun k b => by pointwise) (fun k b => by pointwise) (fun k b => by pointwise) (y 0) (y 1) x h0 h1
  case piece3 =>
    exact chunk0 i x1 x2 x0 (k0_pay5 (F := Ideal) i x3 x4) (k0_pay6 (F := Ideal) i x5 x6) x8 xs0 _ _ _ _ (fun k => by pointwise) (fun k b => by pointwise) (fun k b => by pointwise) (fun k b => by pointwise) (y 0) (y 1) x h0 (h1.trans (Nat.zero_add _).symm)

theorem cast_at (v : Vec Ideal S256x2048 .f32) (x : S256x2048.Idx) : k0_pay3 (F := Ideal) v x = v x := by
  obtain ⟨a, b, rfl⟩ : ∃ (a : Fin 256) (b : Fin 2048), x = ix2 a b := ⟨x 0, x 1, eq_ix2 x⟩
  pointwise [k0_pay3]

/-- Every piece of the weights copied before trip `n` is a block of the weights. -/
theorem copied (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048x2048 .f32) (harg8 : arg8.IsWhole) (arg9 : Memref sig .tc .vmem S1x1x6144 .f32) (harg9 : arg9.IsWhole) (arg10 : Memref sig .tc .vmem S512x2048 .f32) (harg10 : arg10.IsWhole) (arg11 : Memref sig .tc .vmem S2048x2048 .bf16) (harg11 : arg11.IsWhole)  (hc0 : cond0_0 i) (x7 : Vec Ideal S2048x2048 .f32) (n : ℕ) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 hc0 (harg8.unread x7) n, ∀ x, p.2 x = x7 (p.1.emb x) := by
  induction n with
  | zero => rw [pb_k0_t1.eq_1]; intro p hp; cases hp
  | succ n ih =>
    rw [pb_k0_t1.eq_2]
    unfold pb_k0_t1Step
    split
    · rename_i hn
      intro p hp
      rcases List.mem_append.mp hp with hp | hp
      · unfold tripL_k0_t1 trip_k0_t1 at hp
        simp only [List.mem_singleton] at hp
        subst hp
        intro x
        dsimp only at x ⊢
        rw [View.readAt_eq_ld, harg8.read_unread]
        exact cast_at (View.ld x7 (Rect.unit (s := S2048x2048) (k0_off1 ⟨n, hn⟩) S256x2048.size (k0_off1_inb i ⟨n, hn⟩ hc0))) x
      · exact ih p hp
    · exact ih

/-- The copied weights are the weights. -/
theorem copied_all (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048x2048 .f32) (harg8 : arg8.IsWhole) (arg9 : Memref sig .tc .vmem S1x1x6144 .f32) (harg9 : arg9.IsWhole) (arg10 : Memref sig .tc .vmem S512x2048 .f32) (harg10 : arg10.IsWhole) (arg11 : Memref sig .tc .vmem S2048x2048 .bf16) (harg11 : arg11.IsWhole)  (hc0 : cond0_0 i) (x7 : Vec Ideal S2048x2048 .f32) (y : S2048x2048.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 hc0 (harg8.unread x7) (Scf.trips (0#32) (Scalar.addi 0#32 8#32) 1#32)) y = x7 y := by
  have h := View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 hc0 (harg8.unread x7) (Scf.trips (0#32) (Scalar.addi 0#32 8#32) 1#32)) S256x2048.size (by sl_kernel_rfl)
  have h' := View.canon_append_of_pieces (Val := Elt Ideal) (e := .bf16) x7 [] _ (copied c i arg1 harg1 arg2 harg2 arg3 harg3 arg4 harg4 arg5 harg5 arg6 harg6 arg7 harg7 arg8 harg8 arg9 harg9 arg10 harg10 arg11 harg11 hc0 x7 _) y (h y)
  rwa [List.append_nil] at h'

/-- A load of stores that leave `X` is a load of `X`. -/
theorem load_at (v : View sig .tc .vmem S2048x2048 .bf16) (L : List (View.Piece (Elt Ideal) S2048x2048 .bf16))
    (X : Vec Ideal S2048x2048 .bf16) (hc : ∀ y, View.canon L y = X y) (r : Rect S2048x2048) (x : r.shape.Idx) (k b : Fin 2048)
    (e0 : (r.emb x 0 : ℕ) = k) (e1 : (r.emb x 1 : ℕ) = b) : v.readCov L r.toLoadRect x = X (ix2 k b) := by
  rw [View.readCov_eq_canon']
  refine (hc _).trans (congrArg X ?_)
  refine funext fun a => ?_
  match a with
  | 0 => exact Fin.ext e0
  | 1 => exact Fin.ext e1

/-- A later grid point leaves the copied weights as they were. -/
theorem kept_B (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048x2048 .f32) (harg8 : arg8.IsWhole) (arg9 : Memref sig .tc .vmem S1x1x6144 .f32) (harg9 : arg9.IsWhole) (arg10 : Memref sig .tc .vmem S512x2048 .f32) (harg10 : arg10.IsWhole) (arg11 : Memref sig .tc .vmem S2048x2048 .bf16) (harg11 : arg11.IsWhole) (hc0 : ¬cond0_0 i)
    (x0 : Vec Ideal S512x512 .bf16) (x1 : Vec Ideal S512x1024 .bf16) (x2 : Vec Ideal S512x1024 .bf16) (x3 : Vec Ideal S512x512 .bf16) (x4 : Vec Ideal S512x512 .bf16) (x5 : Vec Ideal S512x2048 .f32) (x6 : Vec Ideal S512x2048 .f32) (x7 : Vec Ideal S2048x2048 .f32) (x8 : Vec Ideal S1x1x6144 .f32) (xs0 : Vec Ideal S2048x2048 .bf16) :
    sout0_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 = xs0 := rfl

/-- The weights the first grid point keeps. -/
theorem kept_A (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048x2048 .f32) (harg8 : arg8.IsWhole) (arg9 : Memref sig .tc .vmem S1x1x6144 .f32) (harg9 : arg9.IsWhole) (arg10 : Memref sig .tc .vmem S512x2048 .f32) (harg10 : arg10.IsWhole) (arg11 : Memref sig .tc .vmem S2048x2048 .bf16) (harg11 : arg11.IsWhole) (hc0 : cond0_0 i)
    (x0 : Vec Ideal S512x512 .bf16) (x1 : Vec Ideal S512x1024 .bf16) (x2 : Vec Ideal S512x1024 .bf16) (x3 : Vec Ideal S512x512 .bf16) (x4 : Vec Ideal S512x512 .bf16) (x5 : Vec Ideal S512x2048 .f32) (x6 : Vec Ideal S512x2048 .f32) (x7 : Vec Ideal S2048x2048 .f32) (x8 : Vec Ideal S1x1x6144 .f32) (y : S2048x2048.Idx) :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 y = x7 y := by
  frame_out
  exact copied_all c i arg1 harg1 arg2 harg2 arg3 harg3 arg4 harg4 arg5 harg5 arg6 harg6 arg7 harg7 arg8 harg8 arg9 harg9 arg10 harg10 arg11 harg11 hc0 x7 y

/-- What the stores of the first grid point leave in the result's block. -/
theorem out_A (c : Dev nD) (i : grid0.Coords) (arg1 : Memref sig .tc .vmem S512x512 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048x2048 .f32) (harg8 : arg8.IsWhole) (arg9 : Memref sig .tc .vmem S1x1x6144 .f32) (harg9 : arg9.IsWhole) (arg10 : Memref sig .tc .vmem S512x2048 .f32) (harg10 : arg10.IsWhole) (arg11 : Memref sig .tc .vmem S2048x2048 .bf16) (harg11 : arg11.IsWhole) (hc0 : cond0_0 i)
    (x0 : Vec Ideal S512x512 .bf16) (x1 : Vec Ideal S512x1024 .bf16) (x2 : Vec Ideal S512x1024 .bf16) (x3 : Vec Ideal S512x512 .bf16) (x4 : Vec Ideal S512x512 .bf16) (x5 : Vec Ideal S512x2048 .f32) (x6 : Vec Ideal S512x2048 .f32) (x7 : Vec Ideal S2048x2048 .f32) (x8 : Vec Ideal S1x1x6144 .f32) (y : S512x2048.Idx) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 y
      = rawB x0 (k0_pay4 (F := Ideal) i x1 x2) (k0_pay5 (F := Ideal) i x3 x4) (k0_pay6 (F := Ideal) i x5 x6) x8 x7 (y 0) (y 1) := by
  frame_out
  have hc := copied_all c i arg1 harg1 arg2 harg2 arg3 harg3 arg4 harg4 arg5 harg5 arg6 harg6 arg7 harg7 arg8 harg8 arg9 harg9 arg10 harg10 arg11 harg11 hc0 x7
  generalize pb_k0_t1 (F := Ideal) Variants.none c none i arg1 harg1 arg2 harg2 arg3 harg3 arg4 harg4 arg5 harg5 arg6 harg6 arg7 harg7 arg8 harg8 arg9 harg9 arg10 harg10 arg11 harg11 hc0 (harg8.unread x7) (Scf.trips (0#32) (Scalar.addi 0#32 8#32) 1#32) = L at hc ⊢
  canon_tiles x h
  case piece0 =>
    exact chunk3 x0 (k0_pay4 (F := Ideal) i x1 x2) (k0_pay5 (F := Ideal) i x3 x4) (k0_pay6 (F := Ideal) i x5 x6) x8 x7 _ _ _ _ (fun k => by pointwise) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (y 0) (y 1) x h0 h1
  case piece1 =>
    exact chunk2 x0 (k0_pay4 (F := Ideal) i x1 x2) (k0_pay5 (F := Ideal) i x3 x4) (k0_pay6 (F := Ideal) i x5 x6) x8 x7 _ _ _ _ (fun k => by pointwise) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (y 0) (y 1) x h0 h1
  case piece2 =>
    exact chunk1 x0 (k0_pay4 (F := Ideal) i x1 x2) (k0_pay5 (F := Ideal) i x3 x4) (k0_pay6 (F := Ideal) i x5 x6) x8 x7 _ _ _ _ (fun k => by pointwise) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (y 0) (y 1) x h0 h1
  case piece3 =>
    exact chunk0 i x1 x2 x0 (k0_pay5 (F := Ideal) i x3 x4) (k0_pay6 (F := Ideal) i x5 x6) x8 x7 _ _ _ _ (fun k => by pointwise) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (fun k b => load_at _ L x7 hc _ _ _ _ (by show _ + 1 * (k : ℕ) = _; simp) (by show _ + 1 * (b : ℕ) = _; simp)) (y 0) (y 1) x h0 (h1.trans (Nat.zero_add _).symm)

end Cert.MidProj
-- ==== Proof.MidFinal.lean ====
/- The operands of the first layer's output projection, and its result array. -/
module

public import proofs.«01_k».proof.Proof.MidBlock

@[expose] public section

set_option maxRecDepth 16384

noncomputable section

namespace Cert.MidProj

open Idealize.ShloMosaic Cert.MidKernelIdeal Cert.MidKernelIdeal.Gen Cert.OutProj Idealize.SL.Sem Idealize.ShloMosaic.Pipeline Idealize.ShloMosaic.TcCoe

section Ops
variable {F : FTy → Type} [FloatOps F]

/-- The modulation rows: one for each batch, the context's row, then zeros. -/
def rows (a7 : FVec F S2x6144 .f32) (a8 : FVec F S6144 .f32) : FVec F S8x1x6144 .f32 :=
  shapeCast S8x1x6144 (concatenate S8x6144 0 [⟨S2x6144, a7⟩, ⟨S1x6144, broadcastInDim S1x6144 ![1] bcast_S6144_S1x6144_1 a8⟩,
    ⟨S5x6144, broadcastInDim S5x6144 ![] bcast_S_S5x6144 (constant S_ .f32 0x00000000#32)⟩]
    concatenates_S2x6144_S1x6144_S5x6144_S8x6144_d0) shapeCasts_S8x6144_S8x1x6144

variable (m : (ℓ : Loc nD τ sig) → Buf (Elt F) ℓ)

theorem entry_b (c : Dev nD) : V m c main_v0
    = shapeCast S8192x1024 (m ((c : Thread nD τ).loc main_arg1) : FVec F S2x4096x1024 .bf16) shapeCasts_S2x4096x1024_S8192x1024 := by
  sl_kernel_rfl

theorem entry_bc (c : Dev nD) : V m c main_v1
    = shapeCast S512x1024 (m ((c : Thread nD τ).loc main_arg2) : FVec F S2x256x1024 .bf16) shapeCasts_S2x256x1024_S512x1024 := by
  sl_kernel_rfl

theorem entry_c (c : Dev nD) : V m c main_v2
    = shapeCast S8192x512 (m ((c : Thread nD τ).loc main_arg3) : FVec F S2x4096x512 .bf16) shapeCasts_S2x4096x512_S8192x512 := by
  sl_kernel_rfl

theorem entry_cc (c : Dev nD) : V m c main_v3
    = shapeCast S512x512 (m ((c : Thread nD τ).loc main_arg4) : FVec F S2x256x512 .bf16) shapeCasts_S2x256x512_S512x512 := by
  sl_kernel_rfl

theorem entry_x (c : Dev nD) : V m c main_v4
    = shapeCast S8192x2048 (m ((c : Thread nD τ).loc main_arg5) : FVec F S2x4096x2048 .f32) shapeCasts_S2x4096x2048_S8192x2048 := by
  sl_kernel_rfl

theorem entry_xc (c : Dev nD) : V m c main_v5
    = shapeCast S512x2048 (m ((c : Thread nD τ).loc main_arg6) : FVec F S2x256x2048 .f32) shapeCasts_S2x256x2048_S512x2048 := by
  sl_kernel_rfl

theorem entry_w (c : Dev nD) : V m c main_v9
    = shapeCast S4096x2048 (m ((c : Thread nD τ).loc main_arg9) : FVec F S2x2048x2048 .f32) shapeCasts_S2x2048x2048_S4096x2048 := by
  sl_kernel_rfl

theorem entry_rows (c : Dev nD) : V m c main_v10 = rows (m ((c : Thread nD τ).loc main_arg7)) (m ((c : Thread nD τ).loc main_arg8)) := by
  sl_kernel_rfl

end Ops

theorem rows_batch (a7 : FVec Ideal S2x6144 .f32) (a8 : FVec Ideal S6144 .f32) (b : Fin 2) (j : Fin 8) (k : Fin 6144)
    (e : (j : ℕ) = b) : rows a7 a8 (ix3 j 0 k) = a7 (ix2 b k) := by
  pointwise [rows]
  have h : (j : ℕ) < 2 := by omega
  have e' : (⟨(j : ℕ), h⟩ : Fin 2) = b := Fin.ext e
  simp only [dif_pos h, e']

theorem rows_context (a7 : FVec Ideal S2x6144 .f32) (a8 : FVec Ideal S6144 .f32) (j : Fin 8) (k : Fin 6144)
    (e : (j : ℕ) = 2) : rows a7 a8 (ix3 j 0 k) = a8 (ix1 k) := by
  pointwise [rows]
  have h : ¬ (j : ℕ) < 2 := by omega
  have h2 : (j : ℕ) - 2 < 1 := by omega
  simp only [dif_neg h, dif_pos h2]

theorem read_b (a : FVec Ideal S2x4096x1024 .bf16) (n : Fin 8192) (k : Fin 1024) :
    shapeCast S8192x1024 a shapeCasts_S2x4096x1024_S8192x1024 (ix2 n k)
      = a (ix3 ⟨(n : ℕ) / 4096, by omega⟩ ⟨(n : ℕ) % 4096, by omega⟩ k) := by
  pointwise

theorem read_bc (a : FVec Ideal S2x256x1024 .bf16) (n : Fin 512) (k : Fin 1024) :
    shapeCast S512x1024 a shapeCasts_S2x256x1024_S512x1024 (ix2 n k)
      = a (ix3 ⟨(n : ℕ) / 256, by omega⟩ ⟨(n : ℕ) % 256, by omega⟩ k) := by
  pointwise

theorem read_c (a : FVec Ideal S2x4096x512 .bf16) (n : Fin 8192) (k : Fin 512) :
    shapeCast S8192x512 a shapeCasts_S2x4096x512_S8192x512 (ix2 n k)
      = a (ix3 ⟨(n : ℕ) / 4096, by omega⟩ ⟨(n : ℕ) % 4096, by omega⟩ k) := by
  pointwise

theorem read_cc (a : FVec Ideal S2x256x512 .bf16) (n : Fin 512) (k : Fin 512) :
    shapeCast S512x512 a shapeCasts_S2x256x512_S512x512 (ix2 n k)
      = a (ix3 ⟨(n : ℕ) / 256, by omega⟩ ⟨(n : ℕ) % 256, by omega⟩ k) := by
  pointwise

theorem read_x (a : FVec Ideal S2x4096x2048 .f32) (n : Fin 8192) (k : Fin 2048) :
    shapeCast S8192x2048 a shapeCasts_S2x4096x2048_S8192x2048 (ix2 n k)
      = a (ix3 ⟨(n : ℕ) / 4096, by omega⟩ ⟨(n : ℕ) % 4096, by omega⟩ k) := by
  pointwise

theorem read_xc (a : FVec Ideal S2x256x2048 .f32) (n : Fin 512) (k : Fin 2048) :
    shapeCast S512x2048 a shapeCasts_S2x256x2048_S512x2048 (ix2 n k)
      = a (ix3 ⟨(n : ℕ) / 256, by omega⟩ ⟨(n : ℕ) % 256, by omega⟩ k) := by
  pointwise

theorem read_w (a : FVec Ideal S2x2048x2048 .f32) (n : Fin 4096) (j k : Fin 2048) (e : (n : ℕ) = j) :
    shapeCast S4096x2048 a shapeCasts_S2x2048x2048_S4096x2048 (ix2 n k) = a (ix3 0 j k) := by
  have h : shapeCast S4096x2048 a shapeCasts_S2x2048x2048_S4096x2048 (ix2 n k)
      = a (ix3 ⟨(n : ℕ) / 2048, by omega⟩ ⟨(n : ℕ) % 2048, by omega⟩ k) := by
    pointwise
  rw [h]
  have e0 : (⟨(n : ℕ) / 2048, by omega⟩ : Fin 2) = 0 := Fin.ext (by show (n : ℕ) / 2048 = 0; omega)
  have e1 : (⟨(n : ℕ) % 2048, by omega⟩ : Fin 2048) = j := Fin.ext (by show (n : ℕ) % 2048 = j; omega)
  rw [e0, e1]

variable (m : (ℓ : Loc nD τ sig) → Buf (Elt Ideal) ℓ)

/-- Where each window's block lies. -/
theorem idx : ∀ t : Fin cfg0.N,
    win0_0.index t = ![(grid0.coords t 0).val, 0]
    ∧ win0_1.index t = ![if (grid0.coords t 0).val < 16 then (grid0.coords t 0).val else 15, 0]
    ∧ win0_2.index t = ![0, 0]
    ∧ win0_3.index t = ![if (grid0.coords t 0).val < 16 then (grid0.coords t 0).val else 15, 0]
    ∧ win0_4.index t = ![0, 0]
    ∧ win0_5.index t = ![if (grid0.coords t 0).val < 16 then (grid0.coords t 0).val else 15, 0]
    ∧ win0_6.index t = ![0, 0] ∧ win0_7.index t = ![0, 0]
    ∧ win0_8.index t = ![if (grid0.coords t 0).val < 16 then (grid0.coords t 0).val / 8 else 2, 0, 0]
    ∧ win0_9.index t = ![(grid0.coords t 0).val, 0] :=
  (by decide +kernel : ∀ t : Fin grid0.N, _)

/-- The arguments of a core. -/
def argsOf (c : Dev nD) : Args where
  a n k := (m ((c : Thread nD τ).loc main_arg0) : FVec Ideal S8704x512 .bf16) (ix2 n k)
  b b i k := (m ((c : Thread nD τ).loc main_arg1) : FVec Ideal S2x4096x1024 .bf16) (ix3 b i k)
  bc b i k := (m ((c : Thread nD τ).loc main_arg2) : FVec Ideal S2x256x1024 .bf16) (ix3 b i k)
  c b i k := (m ((c : Thread nD τ).loc main_arg3) : FVec Ideal S2x4096x512 .bf16) (ix3 b i k)
  cc b i k := (m ((c : Thread nD τ).loc main_arg4) : FVec Ideal S2x256x512 .bf16) (ix3 b i k)
  x b i k := (m ((c : Thread nD τ).loc main_arg5) : FVec Ideal S2x4096x2048 .f32) (ix3 b i k)
  xc b i k := (m ((c : Thread nD τ).loc main_arg6) : FVec Ideal S2x256x2048 .f32) (ix3 b i k)
  mod b j := (m ((c : Thread nD τ).loc main_arg7) : FVec Ideal S2x6144 .f32) (ix2 b j)
  modc j := (m ((c : Thread nD τ).loc main_arg8) : FVec Ideal S6144 .f32) (ix1 j)
  w l j k := (m ((c : Thread nD τ).loc main_arg9) : FVec Ideal S2x2048x2048 .f32) (ix3 l j k)

/-- The windows' blocks. -/
abbrev blockA (c : Dev nD) (t : Fin cfg0.N) : Vec Ideal S512x512 .bf16 := iblk m c 0 t
abbrev blockB (c : Dev nD) (t : Fin cfg0.N) : Vec Ideal S512x1024 .bf16 := iblk m c 1 t
abbrev blockBC (c : Dev nD) (t : Fin cfg0.N) : Vec Ideal S512x1024 .bf16 := iblk m c 2 t
abbrev blockC (c : Dev nD) (t : Fin cfg0.N) : Vec Ideal S512x512 .bf16 := iblk m c 3 t
abbrev blockCC (c : Dev nD) (t : Fin cfg0.N) : Vec Ideal S512x512 .bf16 := iblk m c 4 t
abbrev blockX (c : Dev nD) (t : Fin cfg0.N) : Vec Ideal S512x2048 .f32 := iblk m c 5 t
abbrev blockXC (c : Dev nD) (t : Fin cfg0.N) : Vec Ideal S512x2048 .f32 := iblk m c 6 t
abbrev blockW (c : Dev nD) (t : Fin cfg0.N) : Vec Ideal S2048x2048 .f32 := iblk m c 7 t
abbrev blockM (c : Dev nD) (t : Fin cfg0.N) : Vec Ideal S1x1x6144 .f32 := iblk m c 8 t

theorem window_a (c : Dev nD) (t : Fin cfg0.N) (r : Fin 512) (k : Fin 512) (n : Fin 8704)
    (en : (n : ℕ) = 512 * (grid0.coords t 0).val + r) : blockA m c t (ix2 r k) = (argsOf m c).a n k := by
  show iblk m c 0 t _ = _
  blk_simp [iblk]
  refine (congrFun (V_main_arg0 m c) _).trans (congrArg _ (?_ : _ = ix2 n k))
  blk_ext [idx t]

theorem window_b (c : Dev nD) (t : Fin cfg0.N) (h : (grid0.coords t 0).val < 16) (r : Fin 512) (k : Fin 1024) (n : Fin 8192)
    (en : (n : ℕ) = 512 * (grid0.coords t 0).val + r) :
    blockB m c t (ix2 r k) = (argsOf m c).b ⟨(n : ℕ) / 4096, by omega⟩ ⟨(n : ℕ) % 4096, by omega⟩ k := by
  show iblk m c 1 t _ = _
  blk_simp [iblk]
  refine (congrFun (entry_b m c) _).trans ((congrArg _ (?_ : _ = ix2 n k)).trans ?_)
  · blk_ext [idx t, if_pos h]
  · exact read_b _ n k

theorem window_bc (c : Dev nD) (t : Fin cfg0.N) (r : Fin 512) (k : Fin 1024) :
    blockBC m c t (ix2 r k) = (argsOf m c).bc ⟨(r : ℕ) / 256, by omega⟩ ⟨(r : ℕ) % 256, by omega⟩ k := by
  show iblk m c 2 t _ = _
  blk_simp [iblk]
  refine (congrFun (entry_bc m c) _).trans ((congrArg _ (?_ : _ = ix2 r k)).trans ?_)
  · blk_ext [idx t]
  · exact read_bc _ r k

theorem window_c (c : Dev nD) (t : Fin cfg0.N) (h : (grid0.coords t 0).val < 16) (r : Fin 512) (k : Fin 512) (n : Fin 8192)
    (en : (n : ℕ) = 512 * (grid0.coords t 0).val + r) :
    blockC m c t (ix2 r k) = (argsOf m c).c ⟨(n : ℕ) / 4096, by omega⟩ ⟨(n : ℕ) % 4096, by omega⟩ k := by
  show iblk m c 3 t _ = _
  blk_simp [iblk]
  refine (congrFun (entry_c m c) _).trans ((congrArg _ (?_ : _ = ix2 n k)).trans ?_)
  · blk_ext [idx t, if_pos h]
  · exact read_c _ n k

theorem window_cc (c : Dev nD) (t : Fin cfg0.N) (r : Fin 512) (k : Fin 512) :
    blockCC m c t (ix2 r k) = (argsOf m c).cc ⟨(r : ℕ) / 256, by omega⟩ ⟨(r : ℕ) % 256, by omega⟩ k := by
  show iblk m c 4 t _ = _
  blk_simp [iblk]
  refine (congrFun (entry_cc m c) _).trans ((congrArg _ (?_ : _ = ix2 r k)).trans ?_)
  · blk_ext [idx t]
  · exact read_cc _ r k

theorem window_x (c : Dev nD) (t : Fin cfg0.N) (h : (grid0.coords t 0).val < 16) (r : Fin 512) (k : Fin 2048) (n : Fin 8192)
    (en : (n : ℕ) = 512 * (grid0.coords t 0).val + r) :
    blockX m c t (ix2 r k) = (argsOf m c).x ⟨(n : ℕ) / 4096, by omega⟩ ⟨(n : ℕ) % 4096, by omega⟩ k := by
  show iblk m c 5 t _ = _
  blk_simp [iblk]
  refine (congrFun (entry_x m c) _).trans ((congrArg _ (?_ : _ = ix2 n k)).trans ?_)
  · blk_ext [idx t, if_pos h]
  · exact read_x _ n k

theorem window_xc (c : Dev nD) (t : Fin cfg0.N) (r : Fin 512) (k : Fin 2048) :
    blockXC m c t (ix2 r k) = (argsOf m c).xc ⟨(r : ℕ) / 256, by omega⟩ ⟨(r : ℕ) % 256, by omega⟩ k := by
  show iblk m c 6 t _ = _
  blk_simp [iblk]
  refine (congrFun (entry_xc m c) _).trans ((congrArg _ (?_ : _ = ix2 r k)).trans ?_)
  · blk_ext [idx t]
  · exact read_xc _ r k

theorem window_m (c : Dev nD) (t : Fin cfg0.N) (k : Fin 6144) (j : Fin 8)
    (e : (j : ℕ) = if (grid0.coords t 0).val < 16 then (grid0.coords t 0).val / 8 else 2) :
    blockM m c t (ix3 0 0 k) = rows (F := Ideal) (m ((c : Thread nD τ).loc main_arg7)) (m ((c : Thread nD τ).loc main_arg8)) (ix3 j 0 k) := by
  show iblk m c 8 t _ = _
  blk_simp [iblk]
  refine (congrFun (entry_rows m c) _).trans (congrArg _ ?_)
  blk_ext [idx t, e]

theorem window_w (c : Dev nD) (t : Fin cfg0.N) (j k : Fin 2048) : blockW m c t (ix2 j k) = (argsOf m c).w 0 j k := by
  show iblk m c 7 t _ = _
  blk_simp [iblk]
  refine (congrFun (entry_w m c) _).trans ((congrArg _ (?_ : _ = ix2 ⟨j, by omega⟩ k)).trans ?_)
  · blk_ext [idx t]
  · exact read_w _ _ j k rfl

/-- The weights every grid point reads. -/
def weights (c : Dev nD) : Vec Ideal S2048x2048 .bf16 := fun y => (argsOf m c).w 0 (y 0) (y 1)

theorem weights_block (c : Dev nD) (t : Fin cfg0.N) : (blockW m c t : Vec Ideal S2048x2048 .bf16) = weights m c := by
  funext y
  obtain ⟨j, k, rfl⟩ : ∃ (j k : Fin 2048), y = ix2 j k := ⟨y 0, y 1, eq_ix2 y⟩
  exact window_w m c t j k

/-- The weights kept from point to point are the layer's weights. -/
theorem kept (c : Dev nD) (n : ℕ) (hn : n < cfg0.N) : (outsAt0 m c n hn).2 = weights m c := by
  induction n with
  | zero =>
    have e := outsAt0_A m c ⟨0, hn⟩ rfl
    rw [e]
    funext y
    refine Eq.trans ?_ (congrFun (weights_block m c ⟨0, hn⟩) y)
    exact kept_A c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) _ _ _ _ _ _ _ _ _ _ y
  | succ n ih =>
    have h : ¬ (n + 1) % 17 = 0 := by
      have : n + 1 < 17 := hn
      omega
    have before : ∀ (k : ℕ) (hk : k < cfg0.N), k = n → (outsAt0 m c k hk).2 = weights m c := by
      intro k hk e
      subst e
      exact ih hk
    have e := congrArg Prod.snd (outsAt0_B m c ⟨n + 1, hn⟩ h)
    have e' := kept_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h' => h ((hcond0_0 ⟨n + 1, hn⟩).mp h')) (blockA m c ⟨n + 1, hn⟩) (blockB m c ⟨n + 1, hn⟩) (blockBC m c ⟨n + 1, hn⟩) (blockC m c ⟨n + 1, hn⟩) (blockCC m c ⟨n + 1, hn⟩) (blockX m c ⟨n + 1, hn⟩) (blockXC m c ⟨n + 1, hn⟩) (blockW m c ⟨n + 1, hn⟩) (blockM m c ⟨n + 1, hn⟩) (outsAt0 m c ((⟨n + 1, hn⟩ : Fin cfg0.N).val - 1) (Nat.lt_of_le_of_lt (Nat.sub_le _ _) hn)).2
    exact e.trans (e'.trans (before _ _ (Nat.add_sub_cancel n 1)))

theorem first_of {α β : Type} {p : α × β} {a : α} {b : β} (h : p = (a, b)) : p.1 = a := by
  subst h
  rfl

/-- What a grid point leaves in the result's block, at every place. -/
def left (c : Dev nD) (t : Fin cfg0.N) (W : Vec Ideal S2048x2048 .bf16) : Vec Ideal S512x2048 .f32 := fun y =>
  rawB (iblk m c 0 t) (k0_pay4 (F := Ideal) (grid0.coords t) (iblk m c 1 t) (iblk m c 2 t))
    (k0_pay5 (F := Ideal) (grid0.coords t) (iblk m c 3 t) (iblk m c 4 t))
    (k0_pay6 (F := Ideal) (grid0.coords t) (iblk m c 5 t) (iblk m c 6 t)) (iblk m c 8 t) W (y 0) (y 1)

theorem outs_at (c : Dev nD) (t : Fin cfg0.N) : (outsAt0 m c t.val t.isLt).1 = left m c t (weights m c) := by
  by_cases h : t.val % 17 = 0
  · have e := first_of (outsAt0_A m c t h)
    have e' : out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h)
      (iblk m c 0 t) (iblk m c 1 t) (iblk m c 2 t) (iblk m c 3 t) (iblk m c 4 t) (iblk m c 5 t) (iblk m c 6 t) (iblk m c 7 t) (iblk m c 8 t) = left m c t (iblk m c 7 t) := by
      funext y
      refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h)
        (iblk m c 0 t) (iblk m c 1 t) (iblk m c 2 t) (iblk m c 3 t) (iblk m c 4 t) (iblk m c 5 t) (iblk m c 6 t) (iblk m c 7 t) (iblk m c 8 t) y).trans ?_
      unfold left
      rfl
    have e2 := congrArg (left m c t) (weights_block m c t)
    refine e.trans ?_
    refine Eq.trans ?_ e2
    exact e'
  · have e := first_of (outsAt0_B m c t h)
    have e' : out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h' => h ((hcond0_0 t).mp h'))
      (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2
        = left m c t (outsAt0 m c (t.val - 1) (Nat.lt_of_le_of_lt (Nat.sub_le _ _) t.isLt)).2 := by
      funext y
      refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h' => h ((hcond0_0 t).mp h'))
        (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 y).trans ?_
      unfold left
      rfl
    have e2 := congrArg (left m c t) (kept m c (t.val - 1) (Nat.lt_of_le_of_lt (Nat.sub_le _ _) t.isLt))
    refine e.trans ?_
    refine Eq.trans ?_ e2
    exact e'

/-- The result array. -/
def result (A : Args) : FVec Ideal S8704x2048 .f32 := fun j => A.out (j 0) (j 1)

theorem weights_at (c : Dev nD) (j k : Fin 2048) : weights m c (ix2 j k) = (argsOf m c).w 0 j k := rfl

theorem left_at (c : Dev nD) (t : Fin cfg0.N) (r : Fin 512) (k : Fin 2048) (n : Fin 8704)
    (en : (n : ℕ) = 512 * (grid0.coords t 0).val + r) :
    rawB (blockA m c t) (k0_pay4 (F := Ideal) (grid0.coords t) (blockB m c t) (blockBC m c t))
      (k0_pay5 (F := Ideal) (grid0.coords t) (blockC m c t) (blockCC m c t))
      (k0_pay6 (F := Ideal) (grid0.coords t) (blockX m c t) (blockXC m c t)) (blockM m c t) (weights m c) r k
      = (argsOf m c).out n k := by
  have ht : (grid0.coords t 0).val < 17 := (grid0.coords t 0).isLt
  have ea := funext fun k => window_a m c t r k n en
  unfold rawB Args.out
  rw [ea]
  by_cases h : (grid0.coords t 0).val < 16
  · have hn : (n : ℕ) < 8192 := by omega
    have ej : (n : ℕ) / 4096 = (grid0.coords t 0).val / 8 := by omega
    have eb := funext fun k => (middle_latent (grid0.coords t) h (blockB m c t) (blockBC m c t) r k).trans
      (window_b m c t h r k ⟨n, hn⟩ en)
    have ec := funext fun k => (part_latent (grid0.coords t) h (blockC m c t) (blockCC m c t) r k).trans
      (window_c m c t h r k ⟨n, hn⟩ en)
    have ex := (acts_latent (grid0.coords t) h (blockX m c t) (blockXC m c t) r k).trans
      (window_x m c t h r k ⟨n, hn⟩ en)
    have em := (window_m m c t ⟨4096 + (k : ℕ), by omega⟩ ⟨(n : ℕ) / 4096, by omega⟩ (by rw [if_pos h]; exact ej)).trans
      (rows_batch _ _ ⟨(n : ℕ) / 4096, by omega⟩ _ ⟨4096 + (k : ℕ), by omega⟩ rfl)
    rw [dif_pos hn, eb, ec, ex, em]
    rfl
  · have h' : (grid0.coords t 0).val = 16 := by omega
    have hn : ¬ (n : ℕ) < 8192 := by omega
    have er : (r : ℕ) = n - 8192 := by omega
    have eb := funext fun k => (middle_context (grid0.coords t) h' (blockB m c t) (blockBC m c t) r k).trans
      (window_bc m c t r k)
    have ec := funext fun k => (part_context (grid0.coords t) h' (blockC m c t) (blockCC m c t) r k).trans
      (window_cc m c t r k)
    have ex := (acts_context (grid0.coords t) h' (blockX m c t) (blockXC m c t) r k).trans
      (window_xc m c t r k)
    have em := (window_m m c t ⟨4096 + (k : ℕ), by omega⟩ 2 (by rw [if_neg h]; rfl)).trans
      (rows_context _ _ 2 ⟨4096 + (k : ℕ), by omega⟩ rfl)
    rw [dif_neg hn, eb, ec, ex, em]
    simp only [er]
    rfl

theorem point (c : Dev nD) (t : Fin cfg0.N) (y : S512x2048.Idx) (n : Fin 8704) (k : Fin 2048)
    (en : (n : ℕ) = 512 * (grid0.coords t 0).val + (y 0 : ℕ)) (ek : (k : ℕ) = (y 1 : ℕ)) :
    (outsAt0 m c t.val t.isLt).1 y = (argsOf m c).out n k := by
  refine (congrFun (outs_at m c t) y).trans ?_
  unfold left
  obtain ⟨r, j, rfl⟩ : ∃ (r : Fin 512) (j : Fin 2048), y = ix2 r j := ⟨y 0, y 1, eq_ix2 y⟩
  obtain rfl : k = j := Fin.ext ek
  exact left_at m c t r k n en

theorem final (c : Dev nD) : (dats m 0 c).arrAt 9 (cfgs 0).N = result (argsOf m c) := by
  refine (dats m 0 c).arrAt_eq_of_covers 9 _ (by decide +kernel) fun t _ y => ?_
  blk_simp
  rw [after0_9]
  refine point m c t y ((((cfg0.win 9).blk t).view.emb y) 0) ((((cfg0.win 9).blk t).view.emb y) 1) ?_ ?_
  · blk_simp [idx t]
    omega
  · blk_simp [idx t]

end Cert.MidProj
-- ==== Proof.MidReference.lean ====
/- The reference of the first layer's output projection, entry by entry. -/
module

public import proofs.«01_k».proof.Proof.Gen.MidReferenceIdeal.Run
public import proofs.«01_k».proof.Proof.MidMath
public import Idealize.ShloMosaic.Lib.Pointwise

@[expose] public section

set_option maxRecDepth 16384

noncomputable section

namespace Cert.MidProjRef

open Idealize.ShloMosaic Cert.MidReferenceIdeal Cert.MidReferenceIdeal.Gen Cert.MidProj Idealize.ShloMosaic.TcCoe
open Cert.OutProj (dot3)

section Ops
variable {F : FTy → Type} [FloatOps F]

/-- The first part of the latents' rows. -/
def top (a0 : FVec F S8704x512 .bf16) : FVec F S2x4096x512 .bf16 :=
  shapeCast _ (extractStridedSlice S8192x512 ![0, 0] a0 slices_S8704x512_S8192x512_0_0) shapeCasts_S8192x512_S2x4096x512

/-- The first part of the context's rows. -/
def bottom (a0 : FVec F S8704x512 .bf16) : FVec F S2x256x512 .bf16 :=
  shapeCast _ (extractStridedSlice S512x512 ![8192, 0] a0 slices_S8704x512_S512x512_8192_0) shapeCasts_S512x512_S2x256x512

/-- The latents' rows joined. -/
def joined (u : FVec F S2x4096x512 .bf16) (v : FVec F S2x4096x1024 .bf16) (w : FVec F S2x4096x512 .bf16) : FVec F S2x4096x2048 .bf16 :=
  concatenate S2x4096x2048 2 [⟨S2x4096x512, u⟩, ⟨S2x4096x1024, v⟩, ⟨S2x4096x512, w⟩] concatenates_S2x4096x512_S2x4096x1024_S2x4096x512_S2x4096x2048_d2

/-- The context's rows joined. -/
def joinedC (u : FVec F S2x256x512 .bf16) (v : FVec F S2x256x1024 .bf16) (w : FVec F S2x256x512 .bf16) : FVec F S2x256x2048 .bf16 :=
  concatenate S2x256x2048 2 [⟨S2x256x512, u⟩, ⟨S2x256x1024, v⟩, ⟨S2x256x512, w⟩] concatenates_S2x256x512_S2x256x1024_S2x256x512_S2x256x2048_d2

/-- The layer's weights. -/
def layer (a9 : FVec F S2x2048x2048 .f32) : FVec F S2048x2048 .f32 :=
  shapeCast _ (extractStridedSlice S1x2048x2048 ![0, 0, 0] a9 slices_S2x2048x2048_S1x2048x2048_0_0_0) shapeCasts_S1x2048x2048_S2048x2048

/-- The latents with the gated projection added. -/
def added (x : FVec F S2x4096x2048 .bf16) (w : FVec F S2048x2048 .f32) (a5 : FVec F S2x4096x2048 .f32) (a7 : FVec F S2x6144 .f32) :
    FVec F S2x4096x2048 .f32 :=
  addf a5 (mulf (broadcastInDim S2x4096x2048 ![0, 1, 2] bcast_S2x1x2048_S2x4096x2048_0_1_2 (broadcastInDim S2x1x2048 ![0, 2] bcast_S2x2048_S2x1x2048_0_2 (extractStridedSlice S2x2048 ![0, 4096] a7 slices_S2x6144_S2x2048_0_4096)))
    (Host.dotGeneral dot_S2x4096x2048_S2048x2048_S2x4096x2048_2_0_01_1_n_n none (extf .f32 x bitsLt_bf16_f32) w))

/-- The context with the gated projection added. -/
def addedC (x : FVec F S2x256x2048 .bf16) (w : FVec F S2048x2048 .f32) (a6 : FVec F S2x256x2048 .f32) (a8 : FVec F S6144 .f32) :
    FVec F S2x256x2048 .f32 :=
  addf a6 (mulf (broadcastInDim S2x256x2048 ![0, 1, 2] bcast_S1x1x2048_S2x256x2048_0_1_2 (broadcastInDim S1x1x2048 ![2] bcast_S2048_S1x1x2048_2 (extractStridedSlice S2048 ![4096] a8 slices_S6144_S2048_4096)))
    (Host.dotGeneral dot_S2x256x2048_S2048x2048_S2x256x2048_2_0_01_1_n_n none (extf .f32 x bitsLt_bf16_f32) w))

/-- Rows of the latents, then rows of the context. -/
def stacked (L : FVec F S2x4096x2048 .f32) (C : FVec F S2x256x2048 .f32) : FVec F S8704x2048 .f32 :=
  concatenate S8704x2048 0 [⟨S8192x2048, (shapeCast _ L shapeCasts_S2x4096x2048_S8192x2048)⟩, ⟨S512x2048, (shapeCast _ C shapeCasts_S2x256x2048_S512x2048)⟩]
    concatenates_S8192x2048_S512x2048_S8704x2048_d0

/-- The result. -/
def res (a0 : FVec F S8704x512 .bf16) (a1 : FVec F S2x4096x1024 .bf16) (a2 : FVec F S2x256x1024 .bf16) (a3 : FVec F S2x4096x512 .bf16) (a4 : FVec F S2x256x512 .bf16) (a5 : FVec F S2x4096x2048 .f32) (a6 : FVec F S2x256x2048 .f32) (a7 : FVec F S2x6144 .f32) (a8 : FVec F S6144 .f32) (a9 : FVec F S2x2048x2048 .f32) : FVec F S8704x2048 .f32 :=
  stacked (added (joined (top a0) a1 a3) (layer a9) a5 a7) (addedC (joinedC (bottom a0) a2 a4) (layer a9) a6 a8)

end Ops

theorem joined_first (u : FVec Ideal S2x4096x512 .bf16) (v : FVec Ideal S2x4096x1024 .bf16) (w : FVec Ideal S2x4096x512 .bf16)
    (b : Fin 2) (i : Fin 4096) (k : Fin 512) (j : Fin 2048) (e : (j : ℕ) = k) : joined u v w (ix3 b i j) = u (ix3 b i k) := by
  obtain ⟨j, hj⟩ := j
  change j = (k : ℕ) at e
  subst e
  pointwise [joined]

theorem joined_second (u : FVec Ideal S2x4096x512 .bf16) (v : FVec Ideal S2x4096x1024 .bf16) (w : FVec Ideal S2x4096x512 .bf16)
    (b : Fin 2) (i : Fin 4096) (k : Fin 1024) (j : Fin 2048) (e : (j : ℕ) = 512 + k) : joined u v w (ix3 b i j) = v (ix3 b i k) := by
  pointwise [joined]
  rw [dif_neg (by omega), dif_pos (by omega)]
  exact congrArg (fun r => v (ix3 b i r)) (Fin.ext (by simp only; omega))

theorem joined_third (u : FVec Ideal S2x4096x512 .bf16) (v : FVec Ideal S2x4096x1024 .bf16) (w : FVec Ideal S2x4096x512 .bf16)
    (b : Fin 2) (i : Fin 4096) (k : Fin 512) (j : Fin 2048) (e : (j : ℕ) = 1536 + k) : joined u v w (ix3 b i j) = w (ix3 b i k) := by
  pointwise [joined]
  rw [dif_neg (by omega), dif_neg (by omega)]
  exact congrArg (fun r => w (ix3 b i r)) (Fin.ext (by simp only; omega))

theorem joinedC_first (u : FVec Ideal S2x256x512 .bf16) (v : FVec Ideal S2x256x1024 .bf16) (w : FVec Ideal S2x256x512 .bf16)
    (b : Fin 2) (i : Fin 256) (k : Fin 512) (j : Fin 2048) (e : (j : ℕ) = k) : joinedC u v w (ix3 b i j) = u (ix3 b i k) := by
  obtain ⟨j, hj⟩ := j
  change j = (k : ℕ) at e
  subst e
  pointwise [joinedC]

theorem joinedC_second (u : FVec Ideal S2x256x512 .bf16) (v : FVec Ideal S2x256x1024 .bf16) (w : FVec Ideal S2x256x512 .bf16)
    (b : Fin 2) (i : Fin 256) (k : Fin 1024) (j : Fin 2048) (e : (j : ℕ) = 512 + k) : joinedC u v w (ix3 b i j) = v (ix3 b i k) := by
  pointwise [joinedC]
  rw [dif_neg (by omega), dif_pos (by omega)]
  exact congrArg (fun r => v (ix3 b i r)) (Fin.ext (by simp only; omega))

theorem joinedC_third (u : FVec Ideal S2x256x512 .bf16) (v : FVec Ideal S2x256x1024 .bf16) (w : FVec Ideal S2x256x512 .bf16)
    (b : Fin 2) (i : Fin 256) (k : Fin 512) (j : Fin 2048) (e : (j : ℕ) = 1536 + k) : joinedC u v w (ix3 b i j) = w (ix3 b i k) := by
  pointwise [joinedC]
  rw [dif_neg (by omega), dif_neg (by omega)]
  exact congrArg (fun r => w (ix3 b i r)) (Fin.ext (by simp only; omega))

theorem layer_read (a9 : FVec Ideal S2x2048x2048 .f32) (j k : Fin 2048) : layer a9 (ix2 j k) = a9 (ix3 0 j k) := by
  pointwise [layer]

theorem top_read (a0 : FVec Ideal S8704x512 .bf16) (n : Fin 8704) (b : Fin 2) (i : Fin 4096) (k : Fin 512)
    (en : (n : ℕ) = 4096 * (b : ℕ) + i) : top a0 (ix3 b i k) = a0 (ix2 n k) := by
  pointwise [top]
  exact congrArg (fun r => a0 (ix2 r k)) (Fin.ext (by simp only; omega))

theorem bottom_read (a0 : FVec Ideal S8704x512 .bf16) (n : Fin 8704) (b : Fin 2) (i : Fin 256) (k : Fin 512)
    (en : (n : ℕ) = 8192 + 256 * (b : ℕ) + i) : bottom a0 (ix3 b i k) = a0 (ix2 n k) := by
  pointwise [bottom]
  exact congrArg (fun r => a0 (ix2 r k)) (Fin.ext (by simp only; omega))

theorem added_read (x : FVec Ideal S2x4096x2048 .bf16) (w : FVec Ideal S2048x2048 .f32) (a5 : FVec Ideal S2x4096x2048 .f32)
    (a7 : FVec Ideal S2x6144 .f32) (b : Fin 2) (i : Fin 4096) (k : Fin 2048) :
    added x w a5 a7 (ix3 b i k) = a5 (ix3 b i k) + a7 (ix2 b ⟨4096 + (k : ℕ), by omega⟩) * ∑ j : Fin 2048, (x (ix3 b i j) : EReal) * w (ix2 j k) := by
  pointwise [added]

theorem addedC_read (x : FVec Ideal S2x256x2048 .bf16) (w : FVec Ideal S2048x2048 .f32) (a6 : FVec Ideal S2x256x2048 .f32)
    (a8 : FVec Ideal S6144 .f32) (b : Fin 2) (i : Fin 256) (k : Fin 2048) :
    addedC x w a6 a8 (ix3 b i k) = a6 (ix3 b i k) + a8 (ix1 ⟨4096 + (k : ℕ), by omega⟩) * ∑ j : Fin 2048, (x (ix3 b i j) : EReal) * w (ix2 j k) := by
  pointwise [addedC]

/-- A sum over the joined columns is the sum over each part. -/
theorem sum_parts (f : Fin 2048 → EReal) :
    ∑ j : Fin 2048, f j = ((∑ k : Fin 512, f ⟨k, by omega⟩) + ∑ k : Fin 1024, f ⟨512 + (k : ℕ), by omega⟩)
      + ∑ k : Fin 512, f ⟨1536 + (k : ℕ), by omega⟩ := by
  rw [Fin.sum_univ_add (a := 1536) (b := 512) f, Fin.sum_univ_add (a := 512) (b := 1024)]
  rfl

/-- The arguments the reference reads. -/
def argsAt (a0 : FVec Ideal S8704x512 .bf16) (a1 : FVec Ideal S2x4096x1024 .bf16) (a2 : FVec Ideal S2x256x1024 .bf16) (a3 : FVec Ideal S2x4096x512 .bf16) (a4 : FVec Ideal S2x256x512 .bf16) (a5 : FVec Ideal S2x4096x2048 .f32) (a6 : FVec Ideal S2x256x2048 .f32) (a7 : FVec Ideal S2x6144 .f32) (a8 : FVec Ideal S6144 .f32) (a9 : FVec Ideal S2x2048x2048 .f32) : Args where
  a n k := a0 (ix2 n k)
  b b i k := a1 (ix3 b i k)
  bc b i k := a2 (ix3 b i k)
  c b i k := a3 (ix3 b i k)
  cc b i k := a4 (ix3 b i k)
  x b i k := a5 (ix3 b i k)
  xc b i k := a6 (ix3 b i k)
  mod b j := a7 (ix2 b j)
  modc j := a8 (ix1 j)
  w l j k := a9 (ix3 l j k)

theorem lat_eq (a0 : FVec Ideal S8704x512 .bf16) (a1 : FVec Ideal S2x4096x1024 .bf16) (a2 : FVec Ideal S2x256x1024 .bf16) (a3 : FVec Ideal S2x4096x512 .bf16) (a4 : FVec Ideal S2x256x512 .bf16) (a5 : FVec Ideal S2x4096x2048 .f32) (a6 : FVec Ideal S2x256x2048 .f32) (a7 : FVec Ideal S2x6144 .f32) (a8 : FVec Ideal S6144 .f32) (a9 : FVec Ideal S2x2048x2048 .f32)
    (n : Fin 8704) (b : Fin 2) (i : Fin 4096) (k : Fin 2048) (en : (n : ℕ) = 4096 * (b : ℕ) + i) :
    added (joined (top a0) a1 a3) (layer a9) a5 a7 (ix3 b i k) = (argsAt a0 a1 a2 a3 a4 a5 a6 a7 a8 a9).lat n b i k := by
  rw [added_read, sum_parts]
  unfold Args.lat dot3
  refine congrArg₂ (· + ·) rfl (congrArg₂ (· * ·) rfl ?_)
  refine congrArg₂ (· + ·) (congrArg₂ (· + ·) ?_ ?_) ?_
  · exact Finset.sum_congr rfl fun j _ => congrArg₂ (· * ·)
      ((joined_first _ _ _ _ _ j _ rfl).trans (top_read a0 n b i j en)) (layer_read a9 _ k)
  · exact Finset.sum_congr rfl fun j _ => congrArg₂ (· * ·) (joined_second _ _ _ _ _ j _ rfl) (layer_read a9 _ k)
  · exact Finset.sum_congr rfl fun j _ => congrArg₂ (· * ·) (joined_third _ _ _ _ _ j _ rfl) (layer_read a9 _ k)

theorem ctx_eq (a0 : FVec Ideal S8704x512 .bf16) (a1 : FVec Ideal S2x4096x1024 .bf16) (a2 : FVec Ideal S2x256x1024 .bf16) (a3 : FVec Ideal S2x4096x512 .bf16) (a4 : FVec Ideal S2x256x512 .bf16) (a5 : FVec Ideal S2x4096x2048 .f32) (a6 : FVec Ideal S2x256x2048 .f32) (a7 : FVec Ideal S2x6144 .f32) (a8 : FVec Ideal S6144 .f32) (a9 : FVec Ideal S2x2048x2048 .f32)
    (n : Fin 8704) (b : Fin 2) (i : Fin 256) (k : Fin 2048) (en : (n : ℕ) = 8192 + 256 * (b : ℕ) + i) :
    addedC (joinedC (bottom a0) a2 a4) (layer a9) a6 a8 (ix3 b i k) = (argsAt a0 a1 a2 a3 a4 a5 a6 a7 a8 a9).ctx n b i k := by
  rw [addedC_read, sum_parts]
  unfold Args.ctx dot3
  refine congrArg₂ (· + ·) rfl (congrArg₂ (· * ·) rfl ?_)
  refine congrArg₂ (· + ·) (congrArg₂ (· + ·) ?_ ?_) ?_
  · exact Finset.sum_congr rfl fun j _ => congrArg₂ (· * ·)
      ((joinedC_first _ _ _ _ _ j _ rfl).trans (bottom_read a0 n b i j en)) (layer_read a9 _ k)
  · exact Finset.sum_congr rfl fun j _ => congrArg₂ (· * ·) (joinedC_second _ _ _ _ _ j _ rfl) (layer_read a9 _ k)
  · exact Finset.sum_congr rfl fun j _ => congrArg₂ (· * ·) (joinedC_third _ _ _ _ _ j _ rfl) (layer_read a9 _ k)

theorem stacked_first (L : FVec Ideal S2x4096x2048 .f32) (C : FVec Ideal S2x256x2048 .f32) (n : Fin 8704) (k : Fin 2048) (h : (n : ℕ) < 8192) :
    stacked L C (ix2 n k) = L (ix3 ⟨(n : ℕ) / 4096, by omega⟩ ⟨(n : ℕ) % 4096, by omega⟩ k) := by
  pointwise [stacked]
  rw [dif_pos h]

theorem stacked_second (L : FVec Ideal S2x4096x2048 .f32) (C : FVec Ideal S2x256x2048 .f32) (n : Fin 8704) (k : Fin 2048) (h : ¬ (n : ℕ) < 8192) :
    stacked L C (ix2 n k) = C (ix3 ⟨((n : ℕ) - 8192) / 256, by omega⟩ ⟨((n : ℕ) - 8192) % 256, by omega⟩ k) := by
  pointwise [stacked]
  rw [dif_neg h]

theorem res_eq (a0 : FVec Ideal S8704x512 .bf16) (a1 : FVec Ideal S2x4096x1024 .bf16) (a2 : FVec Ideal S2x256x1024 .bf16) (a3 : FVec Ideal S2x4096x512 .bf16) (a4 : FVec Ideal S2x256x512 .bf16) (a5 : FVec Ideal S2x4096x2048 .f32) (a6 : FVec Ideal S2x256x2048 .f32) (a7 : FVec Ideal S2x6144 .f32) (a8 : FVec Ideal S6144 .f32) (a9 : FVec Ideal S2x2048x2048 .f32)
    (n : Fin 8704) (k : Fin 2048) : res a0 a1 a2 a3 a4 a5 a6 a7 a8 a9 (ix2 n k) = (argsAt a0 a1 a2 a3 a4 a5 a6 a7 a8 a9).out n k := by
  unfold res Args.out
  by_cases h : (n : ℕ) < 8192
  · rw [dif_pos h, stacked_first _ _ n k h]
    exact lat_eq a0 a1 a2 a3 a4 a5 a6 a7 a8 a9 n _ _ k (by simp only; omega)
  · rw [dif_neg h, stacked_second _ _ n k h]
    exact ctx_eq a0 a1 a2 a3 a4 a5 a6 a7 a8 a9 n _ _ k (by simp only; omega)

end Cert.MidProjRef
-- ==== Proof.UpMath.lean ====
/- The projections of the normalised latents and the rotation of their position parts, entry by entry, as functions of
   extended reals. -/
module

public import Idealize.ShloMosaic.PureOps.Ideal
public import Idealize.ShloMosaic.Lib.IdealHost

@[expose] public section

noncomputable section

namespace Cert.UpProj

open Idealize.ShloMosaic

/-- The scale of the queries. -/
def scale : EReal := Ideal.ofBits .f32 0x3DD53B95#32

/-- A row scaled to unit mean square, times its gain, against a column of the weights. -/
def proj (x g w : Fin 512 → EReal) : EReal :=
  ∑ k, x k * Ideal.rsqrt (Ideal.div (∑ j, x j * x j) (Ideal.ofBits .f32 0x44000000#32) + Ideal.ofBits .f32 0x358637BD#32) * g k
    * w k

/-- The entry that entry `l` is rotated with. -/
def partner (l : Fin 64) : Fin 64 :=
  if h : (l : ℕ) / 16 % 2 = 0 then ⟨l + 16, by omega⟩ else ⟨l - 16, by omega⟩

/-- The arguments: the latents of queries and of keys and values, the position part of the keys, the angles of rows and of
    columns, the gains, and the weights. -/
structure Args where
  cq : Fin 8704 → Fin 512 → EReal
  ckv : Fin 8704 → Fin 512 → EReal
  kr : Fin 8704 → Fin 64 → EReal
  angr : Fin 4096 → Fin 16 → EReal
  angc : Fin 4096 → Fin 16 → EReal
  gq : Fin 512 → EReal
  gkv : Fin 512 → EReal
  wq : Fin 512 → Fin 1536 → EReal
  wkv : Fin 512 → Fin 2048 → EReal

namespace Args

variable (A : Args)

/-- The angle that entry `l` is rotated by at position `s`. -/
def ang (s : Fin 4096) (l : Fin 64) : EReal :=
  if (l : ℕ) < 32 then A.angr s ⟨(l : ℕ) % 16, by omega⟩ else A.angc s ⟨(l : ℕ) % 16, by omega⟩

/-- The cosine row `n` is rotated with; a context row is not rotated. -/
def cosT (n : Fin 8704) (l : Fin 64) : EReal :=
  if (n : ℕ) < 8192 then Ideal.cos (A.ang ⟨(n : ℕ) % 4096, by omega⟩ l) else 1

/-- The signed sine row `n` is rotated with. -/
def sinT (n : Fin 8704) (l : Fin 64) : EReal :=
  if (n : ℕ) < 8192 then
    (if (l : ℕ) / 16 % 2 = 0 then -Ideal.sin (A.ang ⟨(n : ℕ) % 4096, by omega⟩ l)
      else Ideal.sin (A.ang ⟨(n : ℕ) % 4096, by omega⟩ l))
  else 0

/-- Entry `l` of a rotated row. -/
def rot (n : Fin 8704) (x : Fin 64 → EReal) (l : Fin 64) : EReal := x l * A.cosT n l + x (partner l) * A.sinT n l

/-- Entry `(h, j)` of the query projection of row `n`. -/
def qp (n : Fin 8704) (h : Fin 8) (j : Fin 192) : EReal :=
  proj (A.cq n) A.gq (fun k => A.wq k ⟨192 * (h : ℕ) + j, by omega⟩)

/-- Entry `(h, j)` of the key and value projection of row `n`. -/
def kvp (n : Fin 8704) (h : Fin 8) (j : Fin 256) : EReal :=
  proj (A.ckv n) A.gkv (fun k => A.wkv k ⟨256 * (h : ℕ) + j, by omega⟩)

/-- The queries: the plain part of the head, then the rotated parts of the head's pair. -/
def q (h : Fin 8) (n : Fin 8704) (c : Fin 256) : EReal :=
  if hc : (c : ℕ) < 128 then A.qp n h ⟨c, by omega⟩ * scale
  else A.rot n (fun l => A.qp n ⟨2 * ((h : ℕ) / 2) + ((c : ℕ) - 128) / 64, by omega⟩ ⟨128 + l, by omega⟩)
    ⟨(c : ℕ) % 64, by omega⟩ * scale

/-- The keys: the plain part of the head, then the rotated part where the head lies in its pair. -/
def k (h : Fin 8) (n : Fin 8704) (c : Fin 256) : EReal :=
  if hc : (c : ℕ) < 128 then A.kvp n h ⟨c, by omega⟩
  else if ((c : ℕ) - 128) / 64 = (h : ℕ) % 2 then A.rot n (A.kr n) ⟨(c : ℕ) % 64, by omega⟩ else 0

/-- The values, transposed chunk by chunk, with a row of ones and rows of zeros. -/
def vt (h : Fin 8) (b : Fin 34) (r : Fin 144) (t : Fin 256) : EReal :=
  if hr : (r : ℕ) < 128 then A.kvp ⟨256 * (b : ℕ) + t, by omega⟩ h ⟨128 + r, by omega⟩
  else if (r : ℕ) = 128 then 1 else 0

end Args

end Cert.UpProj
-- ==== Proof.UpBlock.lean ====
/- The blocks a grid point of the up-projection writes, entry by entry. -/
module

public import proofs.«01_k».proof.Proof.Gen.UpKernelIdeal.Value
public import proofs.«01_k».proof.Proof.UpMath
public import Idealize.ShloMosaic.Lib.Pipeline.ValueKit
public import Idealize.ShloMosaic.Lib.Pipeline.ReadBack
public import Idealize.ShloMosaic.Lib.Pipeline.CanonAppend
public import Idealize.ShloMosaic.Lib.VecWindow

@[expose] public section

set_option maxRecDepth 16384

noncomputable section

namespace Cert.UpProj

open Idealize.ShloMosaic Cert.UpKernelIdeal Cert.UpKernelIdeal.Gen Idealize.SL.Sem Idealize.ShloMosaic.Pipeline

/-- The query projections of a block. -/
abbrev qAll (x0 : Vec Ideal S512x512 .bf16) (x5 : Vec Ideal S1x512 .f32) (x7 : Vec Ideal S512x2048 .bf16) : FVec Ideal S512x2048 .f32 :=
  k0_pay5 (F := Ideal) x0 x5 x7

/-- The key and value projections of a block. -/
abbrev kvAll (x1 : Vec Ideal S512x512 .bf16) (x6 : Vec Ideal S1x512 .f32) (x8 : Vec Ideal S512x2048 .bf16) : FVec Ideal S512x2048 .f32 :=
  k0_pay31 (F := Ideal) (k0_pay28 x1) (k0_pay29 x6) (k0_pay30 x1) x8

theorem qAll_read (x0 : Vec Ideal S512x512 .bf16) (x5 : Vec Ideal S1x512 .f32) (x7 : Vec Ideal S512x2048 .bf16) (p : Fin 512) (j : Fin 2048) :
    qAll x0 x5 x7 (ix2 p j) = proj (fun k => x0 (ix2 p k)) (fun k => x5 (ix2 0 k)) (fun k => x7 (ix2 k j)) := by
  pointwise [qAll, k0_pay5, proj]

theorem kvAll_read (x1 : Vec Ideal S512x512 .bf16) (x6 : Vec Ideal S1x512 .f32) (x8 : Vec Ideal S512x2048 .bf16) (p : Fin 512) (j : Fin 2048) :
    kvAll x1 x6 x8 (ix2 p j) = proj (fun k => x1 (ix2 p k)) (fun k => x6 (ix2 0 k)) (fun k => x8 (ix2 k j)) := by
  pointwise [kvAll, k0_pay31, k0_pay30, k0_pay29, k0_pay28, proj]

theorem one_add (n : ℕ) (z : Fin 1) : n + (z : ℕ) = n := by
  have := z.isLt
  omega

theorem one_only (z : Fin 1) : (z : ℕ) = 0 := by
  have := z.isLt
  omega

/-- An entry of a block of queries. -/
def qT (Q : FVec Ideal S512x2048 .f32) (C S : Vec Ideal S512x128 .f32) (h : Fin 8) (p : Fin 512) (c : Fin 256) : EReal :=
  if hc : (c : ℕ) < 128 then Q (ix2 p ⟨128 * (h : ℕ) + c, by omega⟩) * scale
  else (Q (ix2 p ⟨1024 + 128 * ((h : ℕ) / 2) + ((c : ℕ) - 128), by omega⟩) * C (ix2 p ⟨(c : ℕ) - 128, by omega⟩)
    + Q (ix2 p ⟨1536 + 128 * ((h : ℕ) / 2) + ((c : ℕ) - 128), by omega⟩) * S (ix2 p ⟨(c : ℕ) - 128, by omega⟩)) * scale

/-- An entry of a block of keys. -/
def kT (K : FVec Ideal S512x2048 .f32) (Z : Vec Ideal S512x256 .bf16) (C S : Vec Ideal S512x128 .f32) (h : Fin 8) (p : Fin 512) (c : Fin 256) : EReal :=
  if hc : (c : ℕ) < 128 then K (ix2 p ⟨128 * (h : ℕ) + c, by omega⟩)
  else if ((c : ℕ) - 128) / 64 = (h : ℕ) % 2 then
    Z (ix2 p ⟨(c : ℕ) - 128, by omega⟩) * C (ix2 p ⟨(c : ℕ) - 128, by omega⟩)
      + Z (ix2 p ⟨128 + ((c : ℕ) - 128), by omega⟩) * S (ix2 p ⟨(c : ℕ) - 128, by omega⟩)
  else 0

/-- An entry of a block of transposed values. -/
def vT (K : FVec Ideal S512x2048 .f32) (h : Fin 8) (b : Fin 2) (r : Fin 144) (t : Fin 256) : EReal :=
  if hr : (r : ℕ) < 128 then K (ix2 ⟨256 * (b : ℕ) + t, by omega⟩ ⟨1024 + 128 * (h : ℕ) + r, by omega⟩)
  else if (r : ℕ) = 128 then 1 else 0

theorem q_plain (Q : FVec Ideal S512x2048 .f32) (C S : Vec Ideal S512x128 .f32) (h : Fin 8) (a : Fin 512) (b : Fin 128)
    (y0 : Fin 8) (y1 : Fin 512) (y2 : Fin 256) (e0 : (y0 : ℕ) = h) (e1 : (y1 : ℕ) = a) (e2 : (y2 : ℕ) = b) :
    Q (ix2 a ⟨128 * (h : ℕ) + b, by omega⟩) * scale = qT Q C S y0 y1 y2 := by
  obtain rfl : y0 = h := Fin.ext e0
  obtain rfl : y1 = a := Fin.ext e1
  simp only [qT, e2, dif_pos b.isLt]

theorem q_turned (Q : FVec Ideal S512x2048 .f32) (C S : Vec Ideal S512x128 .f32) (h : Fin 8) (j : Fin 4) (a : Fin 512) (b : Fin 128)
    (y0 : Fin 8) (y1 : Fin 512) (y2 : Fin 256) (e0 : (y0 : ℕ) = h) (ej : (h : ℕ) / 2 = j) (e1 : (y1 : ℕ) = a) (e2 : (y2 : ℕ) = 128 + b) :
    (Q (ix2 a ⟨1024 + 128 * (j : ℕ) + b, by omega⟩) * C (ix2 a b) + Q (ix2 a ⟨1536 + 128 * (j : ℕ) + b, by omega⟩) * S (ix2 a b)) * scale
      = qT Q C S y0 y1 y2 := by
  obtain rfl : y0 = h := Fin.ext e0
  obtain rfl : y1 = a := Fin.ext e1
  have e : (y2 : ℕ) - 128 = b := by omega
  have n : ¬ (y2 : ℕ) < 128 := by omega
  simp only [qT, dif_neg n, e, ej]

theorem k_plain (K : FVec Ideal S512x2048 .f32) (Z : Vec Ideal S512x256 .bf16) (C S : Vec Ideal S512x128 .f32) (h : Fin 8) (a : Fin 512) (b : Fin 128)
    (y0 : Fin 8) (y1 : Fin 512) (y2 : Fin 256) (e0 : (y0 : ℕ) = h) (e1 : (y1 : ℕ) = a) (e2 : (y2 : ℕ) = b) :
    K (ix2 a ⟨128 * (h : ℕ) + b, by omega⟩) = kT K Z C S y0 y1 y2 := by
  obtain rfl : y0 = h := Fin.ext e0
  obtain rfl : y1 = a := Fin.ext e1
  simp only [kT, e2, dif_pos b.isLt]

theorem k_turned (K : FVec Ideal S512x2048 .f32) (Z : Vec Ideal S512x256 .bf16) (C S : Vec Ideal S512x128 .f32) (h : Fin 8) (a : Fin 512) (b : Fin 128)
    (y0 : Fin 8) (y1 : Fin 512) (y2 : Fin 256) (e0 : (y0 : ℕ) = h) (e1 : (y1 : ℕ) = a) (e2 : (y2 : ℕ) = 128 + b) :
    (if (b : ℕ) / 64 = (h : ℕ) % 2 then Z (ix2 a ⟨b, by omega⟩) * C (ix2 a b) + Z (ix2 a ⟨128 + b, by omega⟩) * S (ix2 a b) else 0)
      = kT K Z C S y0 y1 y2 := by
  obtain rfl : y0 = h := Fin.ext e0
  obtain rfl : y1 = a := Fin.ext e1
  have e : (y2 : ℕ) - 128 = b := by omega
  have n : ¬ (y2 : ℕ) < 128 := by omega
  simp only [kT, dif_neg n, e]

theorem below64 : ∀ b : Fin 128, IntOp.cmpi .slt (BitVec.ofNat 32 (b : ℕ)) 64#32 = if (b : ℕ) / 64 = 0 then 1#1 else 0#1 := by
  decide +kernel

theorem from64 : ∀ b : Fin 128, IntOp.cmpi .sge (BitVec.ofNat 32 (b : ℕ)) 64#32 = if (b : ℕ) / 64 = 1 then 1#1 else 0#1 := by
  decide +kernel

theorem first16 : ∀ a : Fin 16, IntOp.cmpi .eq (BitVec.ofNat 32 (a : ℕ)) 0#32 = if (a : ℕ) = 0 then 1#1 else 0#1 := by
  decide +kernel

theorem chosen (P : Prop) [Decidable P] (u v : EReal) :
    Scalar.select (if P then 1#1 else 0#1) u v = if P then u else v := by
  split_ifs <;> rfl

theorem low (C S : Vec Ideal S512x128 .f32) (Z : Vec Ideal S512x256 .bf16) (a : Fin 512) (b : Fin 128) :
    k0_pay33 (F := Ideal) (k0_pay3 C) (k0_pay4 S) Z (ix2 a b)
      = if (b : ℕ) / 64 = 0 then Z (ix2 a ⟨b, by omega⟩) * C (ix2 a b) + Z (ix2 a ⟨128 + b, by omega⟩) * S (ix2 a b) else 0 := by
  pointwise [k0_pay33, k0_pay32, k0_pay3, k0_pay4]
  rw [below64, chosen]

theorem high (C S : Vec Ideal S512x128 .f32) (Z : Vec Ideal S512x256 .bf16) (a : Fin 512) (b : Fin 128) :
    k0_pay34 (F := Ideal) (k0_pay3 C) (k0_pay4 S) Z (ix2 a b)
      = if (b : ℕ) / 64 = 1 then Z (ix2 a ⟨b, by omega⟩) * C (ix2 a b) + Z (ix2 a ⟨128 + b, by omega⟩) * S (ix2 a b) else 0 := by
  pointwise [k0_pay34, k0_pay32, k0_pay3, k0_pay4]
  rw [from64, chosen]

theorem ones (a : Fin 16) (b : Fin 256) : k0_pay35 (F := Ideal) (ix2 a b) = if (a : ℕ) = 0 then 1 else 0 := by
  pointwise [k0_pay35]
  rw [first16, chosen]

theorem v_plain (K : FVec Ideal S512x2048 .f32) (h : Fin 8) (b : Fin 2) (r : Fin 128) (t : Fin 256)
    (y0 : Fin 8) (y1 : Fin 2) (y2 : Fin 144) (y3 : Fin 256) (e0 : (y0 : ℕ) = h) (e1 : (y1 : ℕ) = b) (e2 : (y2 : ℕ) = r) (e3 : (y3 : ℕ) = t) :
    K (ix2 ⟨256 * (b : ℕ) + t, by omega⟩ ⟨1024 + 128 * (h : ℕ) + r, by omega⟩) = vT K y0 y1 y2 y3 := by
  obtain rfl : y0 = h := Fin.ext e0
  obtain rfl : y1 = b := Fin.ext e1
  obtain rfl : y3 = t := Fin.ext e3
  simp only [vT, e2, dif_pos r.isLt]

theorem v_ones (K : FVec Ideal S512x2048 .f32) (r : Fin 16)
    (y0 : Fin 8) (y1 : Fin 2) (y2 : Fin 144) (y3 : Fin 256) (e2 : (y2 : ℕ) = 128 + r) :
    (if (r : ℕ) = 0 then 1 else 0) = vT K y0 y1 y2 y3 := by
  have n : ¬ (y2 : ℕ) < 128 := by omega
  have e : ((y2 : ℕ) = 128) = ((r : ℕ) = 0) := propext (by omega)
  simp only [vT, dif_neg n, e]

/-- What the stores of a grid point leave in the block of queries. -/
theorem out_9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x512x256 .bf16) (harg10 : arg10.IsWhole) (arg11 : Memref sig .tc .vmem S8x512x256 .bf16) (harg11 : arg11.IsWhole) (arg12 : Memref sig .tc .vmem S8x2x144x256 .bf16) (harg12 : arg12.IsWhole)
    (x0 : Vec Ideal S512x512 .bf16) (x1 : Vec Ideal S512x512 .bf16) (x2 : Vec Ideal S512x256 .bf16) (x3 : Vec Ideal S512x128 .f32) (x4 : Vec Ideal S512x128 .f32) (x5 : Vec Ideal S1x512 .f32) (x6 : Vec Ideal S1x512 .f32) (x7 : Vec Ideal S512x2048 .bf16) (x8 : Vec Ideal S512x2048 .bf16) (y : S8x512x256.Idx) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y
      = qT (qAll x0 x5 x7) x3 x4 (y 0) (y 1) (y 2) := by
  frame_out
  canon_tiles x h
  case piece0 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 7 3 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece1 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 6 3 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece2 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 5 2 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece3 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 4 2 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece4 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 3 1 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece5 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 2 1 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece6 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 1 0 a b (y 0) (y 1) (y 2) (h0.trans (one_add _ z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece7 =>
    obtain ⟨z, a, b, rfl⟩ : ∃ (z : Fin 1) (a : Fin 512) (b : Fin 128), x = ix3 z a b := ⟨x 0, x 1, x 2, eq_ix3 x⟩
    refine Eq.trans ?_ (q_turned (qAll x0 x5 x7) x3 x4 0 0 a b (y 0) (y 1) (y 2) (h0.trans (one_only z)) rfl h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece8 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 7 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece9 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 6 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece10 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 5 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece11 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 4 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece12 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 3 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece13 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 2 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece14 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 1 a b (y 0) (y 1) (y 2) (h0.trans (one_add _ z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]
  case piece15 =>
    obtain ⟨z, a, b, rfl⟩ : ∃ (z : Fin 1) (a : Fin 512) (b : Fin 128), x = ix3 z a b := ⟨x 0, x 1, x 2, eq_ix3 x⟩
    refine Eq.trans ?_ (q_plain (qAll x0 x5 x7) x3 x4 0 a b (y 0) (y 1) (y 2) (h0.trans (one_only z)) h1 h2)
    pointwise [k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, scale]

/-- What the stores of a grid point leave in the block of keys. -/
theorem out_10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x512x256 .bf16) (harg10 : arg10.IsWhole) (arg11 : Memref sig .tc .vmem S8x512x256 .bf16) (harg11 : arg11.IsWhole) (arg12 : Memref sig .tc .vmem S8x2x144x256 .bf16) (harg12 : arg12.IsWhole)
    (x0 : Vec Ideal S512x512 .bf16) (x1 : Vec Ideal S512x512 .bf16) (x2 : Vec Ideal S512x256 .bf16) (x3 : Vec Ideal S512x128 .f32) (x4 : Vec Ideal S512x128 .f32) (x5 : Vec Ideal S1x512 .f32) (x6 : Vec Ideal S1x512 .f32) (x7 : Vec Ideal S512x2048 .bf16) (x8 : Vec Ideal S512x2048 .bf16) (y : S8x512x256.Idx) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y
      = kT (kvAll x1 x6 x8) x2 x3 x4 (y 0) (y 1) (y 2) := by
  frame_out
  canon_tiles x h
  case piece0 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 7 a b (y 0) (y 1) (y 2) (h0.trans (one_add _ z)) h1 h2)
    refine Eq.trans ?_ (high x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece1 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 7 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece2 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 6 a b (y 0) (y 1) (y 2) (h0.trans (one_add _ z)) h1 h2)
    refine Eq.trans ?_ (low x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece3 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 6 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece4 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 5 a b (y 0) (y 1) (y 2) (h0.trans (one_add _ z)) h1 h2)
    refine Eq.trans ?_ (high x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece5 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 5 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece6 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 4 a b (y 0) (y 1) (y 2) (h0.trans (one_add _ z)) h1 h2)
    refine Eq.trans ?_ (low x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece7 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 4 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece8 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 3 a b (y 0) (y 1) (y 2) (h0.trans (one_add _ z)) h1 h2)
    refine Eq.trans ?_ (high x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece9 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 3 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece10 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 2 a b (y 0) (y 1) (y 2) (h0.trans (one_add _ z)) h1 h2)
    refine Eq.trans ?_ (low x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece11 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 2 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece12 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 1 a b (y 0) (y 1) (y 2) (h0.trans (one_add _ z)) h1 h2)
    refine Eq.trans ?_ (high x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece13 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 1 a b (y 0) (y 1) (y 2) (h0.trans (one_add _ z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]
  case piece14 =>
    obtain ⟨z, a, b, rfl⟩ : ∃ (z : Fin 1) (a : Fin 512) (b : Fin 128), x = ix3 z a b := ⟨x 0, x 1, x 2, eq_ix3 x⟩
    refine Eq.trans ?_ (k_turned (kvAll x1 x6 x8) x2 x3 x4 0 a b (y 0) (y 1) (y 2) (h0.trans (one_only z)) h1 h2)
    refine Eq.trans ?_ (low x3 x4 x2 a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece15 =>
    obtain ⟨z, a, b, rfl⟩ : ∃ (z : Fin 1) (a : Fin 512) (b : Fin 128), x = ix3 z a b := ⟨x 0, x 1, x 2, eq_ix3 x⟩
    refine Eq.trans ?_ (k_plain (kvAll x1 x6 x8) x2 x3 x4 0 a b (y 0) (y 1) (y 2) (h0.trans (one_only z)) h1 h2)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay36]

/-- What the stores of a grid point leave in the block of values. -/
theorem out_11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x512x256 .bf16) (harg10 : arg10.IsWhole) (arg11 : Memref sig .tc .vmem S8x512x256 .bf16) (harg11 : arg11.IsWhole) (arg12 : Memref sig .tc .vmem S8x2x144x256 .bf16) (harg12 : arg12.IsWhole)
    (x0 : Vec Ideal S512x512 .bf16) (x1 : Vec Ideal S512x512 .bf16) (x2 : Vec Ideal S512x256 .bf16) (x3 : Vec Ideal S512x128 .f32) (x4 : Vec Ideal S512x128 .f32) (x5 : Vec Ideal S1x512 .f32) (x6 : Vec Ideal S1x512 .f32) (x7 : Vec Ideal S512x2048 .bf16) (x8 : Vec Ideal S512x2048 .bf16) (y : S8x2x144x256.Idx) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y
      = vT (kvAll x1 x6 x8) (y 0) (y 1) (y 2) (y 3) := by
  frame_out
  canon_tiles x h using (View.cover_of_tiledBy _ ![1, 1, 16, 256] (by sl_kernel_rfl) y)
  case piece0 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece1 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 7 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece2 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece3 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 7 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece4 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece5 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 6 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece6 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece7 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 6 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece8 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece9 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 5 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece10 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece11 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 5 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece12 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece13 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 4 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece14 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece15 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 4 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece16 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece17 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 3 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece18 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece19 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 3 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece20 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece21 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 2 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece22 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece23 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 2 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece24 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece25 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 1 1 a b (y 0) (y 1) (y 2) (y 3) (h0.trans (one_add _ z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece26 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece27 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 1 0 a b (y 0) (y 1) (y 2) (y 3) (h0.trans (one_add _ z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece28 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece29 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 0 1 a b (y 0) (y 1) (y 2) (y 3) (h0.trans (one_only z)) (h1.trans (one_add _ w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece30 =>
    obtain ⟨z, w, a, b, rfl⟩ : ∃ (z : Fin 1) (w : Fin 1) (a : Fin 16) (b : Fin 256), x = ix4 z w a b := ⟨x 0, x 1, x 2, x 3, eq_ix4 x⟩
    refine Eq.trans ?_ (v_ones (kvAll x1 x6 x8) a (y 0) (y 1) (y 2) (y 3) h2)
    refine Eq.trans ?_ (ones a b)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  case piece31 =>
    obtain ⟨z, w, a, b, rfl⟩ : ∃ (z : Fin 1) (w : Fin 1) (a : Fin 128) (b : Fin 256), x = ix4 z w a b := ⟨x 0, x 1, x 2, x 3, eq_ix4 x⟩
    refine Eq.trans ?_ (v_plain (kvAll x1 x6 x8) 0 0 a b (y 0) (y 1) (y 2) (y 3) (h0.trans (one_only z)) (h1.trans (one_only w)) h2 h3)
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay32, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]

end Cert.UpProj
-- ==== Proof.UpPack.lean ====
/- What the up-projection's operands hold when it starts, and their entries. -/
module

public import proofs.«01_k».proof.Proof.UpBlock

@[expose] public section

set_option maxRecDepth 16384

noncomputable section

namespace Cert.UpProj

open Idealize.ShloMosaic Cert.UpKernelIdeal Cert.UpKernelIdeal.Gen Idealize.SL.Sem Idealize.ShloMosaic.Pipeline Idealize.ShloMosaic.TcCoe

section Ops
variable {F : FTy → Type} [FloatOps F]

/-- The cosines of every position, one column to an entry, each angle twice. -/
def cosines (a3 a4 : FVec F S4096x16 .f32) : FVec F S4096x64 .f32 :=
  concatenate S4096x64 1 [⟨S4096x16, Host.cos a3⟩, ⟨S4096x16, Host.cos a3⟩, ⟨S4096x16, Host.cos a4⟩, ⟨S4096x16, Host.cos a4⟩]
    concatenates_S4096x16_S4096x16_S4096x16_S4096x16_S4096x64_d1

/-- The signed sines of every position. -/
def sines (a3 a4 : FVec F S4096x16 .f32) : FVec F S4096x64 .f32 :=
  concatenate S4096x64 1 [⟨S4096x16, Host.negf (Host.sin a3)⟩, ⟨S4096x16, Host.sin a3⟩, ⟨S4096x16, Host.negf (Host.sin a4)⟩, ⟨S4096x16, Host.sin a4⟩]
    concatenates_S4096x16_S4096x16_S4096x16_S4096x16_S4096x64_d1

/-- A table of every position, with rows of a constant after it. -/
def tall (u : FVec F S4096x64 .f32) (w : BitVec 32) : FVec F S4608x64 .f32 :=
  concatenate S4608x64 0 [⟨S4096x64, u⟩, ⟨S512x64, broadcastInDim S512x64 ![] bcast_S_S512x64 (constant S_ .f32 w)⟩]
    concatenates_S4096x64_S512x64_S4608x64_d0

/-- A table twice side by side. -/
def wide (u : FVec F S4608x64 .f32) : FVec F S4608x128 .f32 :=
  concatenate S4608x128 1 [⟨S4608x64, u⟩, ⟨S4608x64, u⟩] concatenates_S4608x64_S4608x64_S4608x128_d1

/-- The position part of the keys with the halves of each half swapped. -/
def swapped (a2 : FVec F S8704x64 .bf16) : FVec F S8704x64 .bf16 :=
  concatenate S8704x64 1 [⟨S8704x16, extractStridedSlice S8704x16 ![0, 16] a2 slices_S8704x64_S8704x16_0_16⟩,
    ⟨S8704x16, extractStridedSlice S8704x16 ![0, 0] a2 slices_S8704x64_S8704x16_0_0⟩,
    ⟨S8704x16, extractStridedSlice S8704x16 ![0, 48] a2 slices_S8704x64_S8704x16_0_48⟩,
    ⟨S8704x16, extractStridedSlice S8704x16 ![0, 32] a2 slices_S8704x64_S8704x16_0_32⟩]
    concatenates_S8704x16_S8704x16_S8704x16_S8704x16_S8704x64_d1

/-- The packed activations. -/
def packed (a0 a1 : FVec F S8704x512 .bf16) (a2 : FVec F S8704x64 .bf16) : FVec F S8704x4352 .bf16 :=
  concatenate S8704x4352 1 [⟨S8704x512, a0⟩, ⟨S8704x512, a1⟩,
    ⟨S8704x3072, broadcastInDim S8704x3072 ![] bcast_S_S8704x3072 (constant S_ .bf16 0x0000#16)⟩,
    ⟨S8704x64, a2⟩, ⟨S8704x64, a2⟩, ⟨S8704x64, swapped a2⟩, ⟨S8704x64, swapped a2⟩]
    concatenates_S8704x512_S8704x512_S8704x3072_S8704x64_S8704x64_S8704x64_S8704x64_S8704x4352_d1

/-- The rotated columns of the query weights. -/
def turned (a7 : FVec F S512x1536 .f32) : FVec F S512x8x64 .f32 :=
  extractStridedSlice S512x8x64 ![0, 0, 128] (shapeCast S512x8x192 a7 shapeCasts_S512x1536_S512x8x192) slices_S512x8x192_S512x8x64_0_0_128

/-- The rotated columns of the query weights with the halves of each half swapped. -/
def turnedSwapped (a7 : FVec F S512x1536 .f32) : FVec F S512x8x64 .f32 :=
  concatenate S512x8x64 2 [⟨S512x8x16, extractStridedSlice S512x8x16 ![0, 0, 16] (turned a7) slices_S512x8x64_S512x8x16_0_0_16⟩,
    ⟨S512x8x16, extractStridedSlice S512x8x16 ![0, 0, 0] (turned a7) slices_S512x8x64_S512x8x16_0_0_0⟩,
    ⟨S512x8x16, extractStridedSlice S512x8x16 ![0, 0, 48] (turned a7) slices_S512x8x64_S512x8x16_0_0_48⟩,
    ⟨S512x8x16, extractStridedSlice S512x8x16 ![0, 0, 32] (turned a7) slices_S512x8x64_S512x8x16_0_0_32⟩]
    concatenates_S512x8x16_S512x8x16_S512x8x16_S512x8x16_S512x8x64_d2

/-- The packed query weights. -/
def weightsQ (a7 : FVec F S512x1536 .f32) : FVec F S512x2048 .bf16 :=
  truncf .bf16 (concatenate S512x2048 1 [⟨S512x1024, shapeCast S512x1024 (extractStridedSlice S512x8x128 ![0, 0, 0]
      (shapeCast S512x8x192 a7 shapeCasts_S512x1536_S512x8x192) slices_S512x8x192_S512x8x128_0_0_0) shapeCasts_S512x8x128_S512x1024⟩,
    ⟨S512x512, shapeCast S512x512 (turned a7) shapeCasts_S512x8x64_S512x512⟩,
    ⟨S512x512, shapeCast S512x512 (turnedSwapped a7) shapeCasts_S512x8x64_S512x512⟩]
    concatenates_S512x1024_S512x512_S512x512_S512x2048_d1) bitsLt_bf16_f32

/-- The packed key and value weights. -/
def weightsKV (a8 : FVec F S512x2048 .f32) : FVec F S512x2048 .bf16 :=
  truncf .bf16 (concatenate S512x2048 1 [⟨S512x1024, shapeCast S512x1024 (extractStridedSlice S512x8x128 ![0, 0, 0]
      (shapeCast S512x8x256 a8 shapeCasts_S512x2048_S512x8x256) slices_S512x8x256_S512x8x128_0_0_0) shapeCasts_S512x8x128_S512x1024⟩,
    ⟨S512x1024, shapeCast S512x1024 (extractStridedSlice S512x8x128 ![0, 0, 128]
      (shapeCast S512x8x256 a8 shapeCasts_S512x2048_S512x8x256) slices_S512x8x256_S512x8x128_0_0_128) shapeCasts_S512x8x128_S512x1024⟩]
    concatenates_S512x1024_S512x1024_S512x2048_d1) bitsLt_bf16_f32

variable (m : (ℓ : Loc nD τ sig) → Buf (Elt F) ℓ)

theorem entry_cos (c : Dev nD) : V m c main_v12
    = wide (tall (cosines (m ((c : Thread nD τ).loc main_arg3)) (m ((c : Thread nD τ).loc main_arg4))) 0x3F800000#32) := by
  sl_kernel_rfl

theorem entry_sin (c : Dev nD) : V m c main_v13
    = wide (tall (sines (m ((c : Thread nD τ).loc main_arg3)) (m ((c : Thread nD τ).loc main_arg4))) 0x00000000#32) := by
  sl_kernel_rfl

theorem entry_z (c : Dev nD) : V m c main_v20
    = packed (m ((c : Thread nD τ).loc main_arg0)) (m ((c : Thread nD τ).loc main_arg1)) (m ((c : Thread nD τ).loc main_arg2)) := by
  sl_kernel_rfl

theorem entry_wq (c : Dev nD) : V m c main_v33 = weightsQ (m ((c : Thread nD τ).loc main_arg7)) := by
  sl_kernel_rfl

theorem entry_wkv (c : Dev nD) : V m c main_v40 = weightsKV (m ((c : Thread nD τ).loc main_arg8)) := by
  sl_kernel_rfl

theorem entry_gq (c : Dev nD) : V m c main_v41
    = shapeCast S1x512 (m ((c : Thread nD τ).loc main_arg5) : FVec F S512 .f32) shapeCasts_S512_S1x512 := by
  sl_kernel_rfl

theorem entry_gkv (c : Dev nD) : V m c main_v42
    = shapeCast S1x512 (m ((c : Thread nD τ).loc main_arg6) : FVec F S512 .f32) shapeCasts_S512_S1x512 := by
  sl_kernel_rfl

end Ops

theorem at2 {s t : ℕ} (f : Fin s → Fin t → EReal) (k : Fin s) (x y : Fin t) (h : (x : ℕ) = y) : f k x = f k y := by
  rw [Fin.ext h]

theorem cosines_read (a3 a4 : FVec Ideal S4096x16 .f32) (s : Fin 4096) (l : Fin 64) :
    cosines a3 a4 (ix2 s l) = Ideal.cos (if (l : ℕ) < 32 then a3 (ix2 s ⟨(l : ℕ) % 16, by omega⟩) else a4 (ix2 s ⟨(l : ℕ) % 16, by omega⟩)) := by
  pointwise [cosines]
  have hl := l.isLt
  by_cases h0 : (l : ℕ) < 16
  · simp only [dif_pos h0, if_pos (show (l : ℕ) < 32 by omega)]
    exact congrArg Ideal.cos (at2 (fun a b => a3 (ix2 a b)) _ _ _ (by simp only; omega))
  by_cases h1 : (l : ℕ) - 16 < 16
  · simp only [dif_neg h0, dif_pos h1, if_pos (show (l : ℕ) < 32 by omega)]
    exact congrArg Ideal.cos (at2 (fun a b => a3 (ix2 a b)) _ _ _ (by simp only; omega))
  by_cases h2 : (l : ℕ) - 16 - 16 < 16
  · simp only [dif_neg h0, dif_neg h1, dif_pos h2, if_neg (show ¬ (l : ℕ) < 32 by omega)]
    exact congrArg Ideal.cos (at2 (fun a b => a4 (ix2 a b)) _ _ _ (by simp only; omega))
  simp only [dif_neg h0, dif_neg h1, dif_neg h2, if_neg (show ¬ (l : ℕ) < 32 by omega)]
  exact congrArg Ideal.cos (at2 (fun a b => a4 (ix2 a b)) _ _ _ (by simp only; omega))

theorem sines_read (a3 a4 : FVec Ideal S4096x16 .f32) (s : Fin 4096) (l : Fin 64) :
    sines a3 a4 (ix2 s l) = if (l : ℕ) / 16 % 2 = 0
      then -Ideal.sin (if (l : ℕ) < 32 then a3 (ix2 s ⟨(l : ℕ) % 16, by omega⟩) else a4 (ix2 s ⟨(l : ℕ) % 16, by omega⟩))
      else Ideal.sin (if (l : ℕ) < 32 then a3 (ix2 s ⟨(l : ℕ) % 16, by omega⟩) else a4 (ix2 s ⟨(l : ℕ) % 16, by omega⟩)) := by
  pointwise [sines]
  have hl := l.isLt
  by_cases h0 : (l : ℕ) < 16
  · simp only [dif_pos h0, if_pos (show (l : ℕ) < 32 by omega), if_pos (show (l : ℕ) / 16 % 2 = 0 by omega)]
    exact congrArg (fun v => -Ideal.sin v) (at2 (fun a b => a3 (ix2 a b)) _ _ _ (by simp only; omega))
  by_cases h1 : (l : ℕ) - 16 < 16
  · simp only [dif_neg h0, dif_pos h1, if_pos (show (l : ℕ) < 32 by omega), if_neg (show ¬ (l : ℕ) / 16 % 2 = 0 by omega)]
    exact congrArg Ideal.sin (at2 (fun a b => a3 (ix2 a b)) _ _ _ (by simp only; omega))
  by_cases h2 : (l : ℕ) - 16 - 16 < 16
  · simp only [dif_neg h0, dif_neg h1, dif_pos h2, if_neg (show ¬ (l : ℕ) < 32 by omega), if_pos (show (l : ℕ) / 16 % 2 = 0 by omega)]
    exact congrArg (fun v => -Ideal.sin v) (at2 (fun a b => a4 (ix2 a b)) _ _ _ (by simp only; omega))
  simp only [dif_neg h0, dif_neg h1, dif_neg h2, if_neg (show ¬ (l : ℕ) < 32 by omega), if_neg (show ¬ (l : ℕ) / 16 % 2 = 0 by omega)]
  exact congrArg Ideal.sin (at2 (fun a b => a4 (ix2 a b)) _ _ _ (by simp only; omega))

theorem tall_first (u : FVec Ideal S4096x64 .f32) (w : BitVec 32) (s : Fin 4608) (l : Fin 64) (h : (s : ℕ) < 4096) :
    tall u w (ix2 s l) = u (ix2 ⟨s, h⟩ l) := by
  pointwise [tall]
  rw [dif_pos h]

theorem tall_second (u : FVec Ideal S4096x64 .f32) (w : BitVec 32) (s : Fin 4608) (l : Fin 64) (h : ¬ (s : ℕ) < 4096) :
    tall u w (ix2 s l) = Ideal.ofBits .f32 w := by
  pointwise [tall]
  rw [dif_neg h]

theorem wide_read (u : FVec Ideal S4608x64 .f32) (s : Fin 4608) (b : Fin 128) :
    wide u (ix2 s b) = u (ix2 s ⟨(b : ℕ) % 64, by omega⟩) := by
  pointwise [wide]
  have hb := b.isLt
  by_cases h : (b : ℕ) < 64
  · rw [dif_pos h]
    exact at2 (fun x y => u (ix2 x y)) _ _ _ (by simp only; omega)
  · rw [dif_neg h]
    exact at2 (fun x y => u (ix2 x y)) _ _ _ (by simp only; omega)

theorem partner_of (l : Fin 64) : ((partner l : Fin 64) : ℕ) = if (l : ℕ) / 16 % 2 = 0 then (l : ℕ) + 16 else (l : ℕ) - 16 := by
  unfold partner
  split_ifs <;> rfl

theorem swapped_read (a2 : FVec Ideal S8704x64 .bf16) (n : Fin 8704) (l : Fin 64) : swapped a2 (ix2 n l) = a2 (ix2 n (partner l)) := by
  pointwise [swapped]
  have hl := l.isLt
  by_cases h0 : (l : ℕ) < 16
  · simp only [dif_pos h0]
    exact at2 (fun x y => a2 (ix2 x y)) _ _ _ (by rw [partner_of]; simp only; split_ifs <;> omega)
  by_cases h1 : (l : ℕ) - 16 < 16
  · simp only [dif_pos h1, dif_neg h0]
    exact at2 (fun x y => a2 (ix2 x y)) _ _ _ (by rw [partner_of]; simp only; split_ifs <;> omega)
  by_cases h2 : (l : ℕ) - 16 - 16 < 16
  · simp only [dif_pos h2, dif_neg h0, dif_neg h1]
    exact at2 (fun x y => a2 (ix2 x y)) _ _ _ (by rw [partner_of]; simp only; split_ifs <;> omega)
  simp only [dif_neg h0, dif_neg h1, dif_neg h2]
  exact at2 (fun x y => a2 (ix2 x y)) _ _ _ (by rw [partner_of]; simp only; split_ifs <;> omega)

theorem packed_q (a0 a1 : FVec Ideal S8704x512 .bf16) (a2 : FVec Ideal S8704x64 .bf16) (n : Fin 8704) (k : Fin 512) (j : Fin 4352)
    (e : (j : ℕ) = k) : packed a0 a1 a2 (ix2 n j) = a0 (ix2 n k) := by
  pointwise [packed]
  rw [dif_pos (by omega)]
  exact at2 (fun x y => a0 (ix2 x y)) _ _ _ (by simp only; omega)

theorem packed_kv (a0 a1 : FVec Ideal S8704x512 .bf16) (a2 : FVec Ideal S8704x64 .bf16) (n : Fin 8704) (k : Fin 512) (j : Fin 4352)
    (e : (j : ℕ) = 512 + k) : packed a0 a1 a2 (ix2 n j) = a1 (ix2 n k) := by
  pointwise [packed]
  rw [dif_neg (by omega), dif_pos (by omega)]
  exact at2 (fun x y => a1 (ix2 x y)) _ _ _ (by simp only; omega)

theorem packed_kr (a0 a1 : FVec Ideal S8704x512 .bf16) (a2 : FVec Ideal S8704x64 .bf16) (n : Fin 8704) (b : Fin 128) (j : Fin 4352)
    (e : (j : ℕ) = 4096 + b) : packed a0 a1 a2 (ix2 n j) = a2 (ix2 n ⟨(b : ℕ) % 64, by omega⟩) := by
  have hb := b.isLt
  pointwise [packed]
  rw [dif_neg (by omega), dif_neg (by omega), dif_neg (by omega)]
  by_cases h : (b : ℕ) < 64
  · rw [dif_pos (by omega)]
    exact at2 (fun x y => a2 (ix2 x y)) _ _ _ (by simp only; omega)
  · rw [dif_neg (by omega), dif_pos (by omega)]
    exact at2 (fun x y => a2 (ix2 x y)) _ _ _ (by simp only; omega)

theorem packed_swapped (a0 a1 : FVec Ideal S8704x512 .bf16) (a2 : FVec Ideal S8704x64 .bf16) (n : Fin 8704) (b : Fin 128) (j : Fin 4352)
    (e : (j : ℕ) = 4224 + b) : packed a0 a1 a2 (ix2 n j) = a2 (ix2 n (partner ⟨(b : ℕ) % 64, by omega⟩)) := by
  have hb := b.isLt
  refine Eq.trans ?_ (swapped_read a2 n _)
  pointwise [packed]
  rw [dif_neg (by omega), dif_neg (by omega), dif_neg (by omega), dif_neg (by omega), dif_neg (by omega)]
  by_cases h : (b : ℕ) < 64
  · rw [dif_pos (by omega)]
    exact at2 (fun x y => swapped a2 (ix2 x y)) _ _ _ (by simp only; omega)
  · rw [dif_neg (by omega)]
    exact at2 (fun x y => swapped a2 (ix2 x y)) _ _ _ (by simp only; omega)

theorem turned_read (a7 : FVec Ideal S512x1536 .f32) (k : Fin 512) (h : Fin 8) (l : Fin 64) :
    turned a7 (ix3 k h l) = a7 (ix2 k ⟨192 * (h : ℕ) + (128 + (l : ℕ)), by omega⟩) := by
  pointwise [turned]
  exact at2 (fun x y => a7 (ix2 x y)) _ _ _ (by simp only; omega)

theorem turnedSwapped_read (a7 : FVec Ideal S512x1536 .f32) (k : Fin 512) (h : Fin 8) (l : Fin 64) :
    turnedSwapped a7 (ix3 k h l) = turned a7 (ix3 k h (partner l)) := by
  pointwise [turnedSwapped]
  have hl := l.isLt
  by_cases h0 : (l : ℕ) < 16
  · simp only [dif_pos h0]
    exact at2 (fun x y => turned a7 (ix3 x h y)) _ _ _ (by rw [partner_of]; simp only; split_ifs <;> omega)
  by_cases h1 : (l : ℕ) - 16 < 16
  · simp only [dif_pos h1, dif_neg h0]
    exact at2 (fun x y => turned a7 (ix3 x h y)) _ _ _ (by rw [partner_of]; simp only; split_ifs <;> omega)
  by_cases h2 : (l : ℕ) - 16 - 16 < 16
  · simp only [dif_pos h2, dif_neg h0, dif_neg h1]
    exact at2 (fun x y => turned a7 (ix3 x h y)) _ _ _ (by rw [partner_of]; simp only; split_ifs <;> omega)
  simp only [dif_neg h0, dif_neg h1, dif_neg h2]
  exact at2 (fun x y => turned a7 (ix3 x h y)) _ _ _ (by rw [partner_of]; simp only; split_ifs <;> omega)

theorem at3 {s t u : ℕ} (f : Fin s → Fin t → Fin u → EReal) (k : Fin s) (x x' : Fin t) (y y' : Fin u) (h : (x : ℕ) = x') (h' : (y : ℕ) = y') :
    f k x y = f k x' y' := by
  rw [Fin.ext h, Fin.ext h']

theorem weightsQ_plain (a7 : FVec Ideal S512x1536 .f32) (k : Fin 512) (h : Fin 8) (b : Fin 128) (j : Fin 2048)
    (e : (j : ℕ) = 128 * (h : ℕ) + b) : weightsQ a7 (ix2 k j) = a7 (ix2 k ⟨192 * (h : ℕ) + b, by omega⟩) := by
  pointwise [weightsQ]
  rw [dif_pos (by omega)]
  exact at2 (fun x y => a7 (ix2 x y)) _ _ _ (by simp only; omega)

theorem weightsQ_turned (a7 : FVec Ideal S512x1536 .f32) (k : Fin 512) (h : Fin 8) (l : Fin 64) (j : Fin 2048)
    (e : (j : ℕ) = 1024 + (64 * (h : ℕ) + l)) : weightsQ a7 (ix2 k j) = a7 (ix2 k ⟨192 * (h : ℕ) + (128 + (l : ℕ)), by omega⟩) := by
  refine Eq.trans ?_ (turned_read a7 k h l)
  pointwise [weightsQ]
  rw [dif_neg (by omega), dif_pos (by omega)]
  exact at3 (fun x y z => turned a7 (ix3 x y z)) _ _ _ _ _ (by simp only; omega) (by simp only; omega)

theorem weightsQ_swapped (a7 : FVec Ideal S512x1536 .f32) (k : Fin 512) (h : Fin 8) (l : Fin 64) (j : Fin 2048)
    (e : (j : ℕ) = 1536 + (64 * (h : ℕ) + l)) : weightsQ a7 (ix2 k j) = a7 (ix2 k ⟨192 * (h : ℕ) + (128 + (partner l : ℕ)), by omega⟩) := by
  refine Eq.trans ?_ ((turnedSwapped_read a7 k h l).trans (turned_read a7 k h (partner l)))
  pointwise [weightsQ]
  rw [dif_neg (by omega), dif_neg (by omega)]
  exact at3 (fun x y z => turnedSwapped a7 (ix3 x y z)) _ _ _ _ _ (by simp only; omega) (by simp only; omega)

theorem weightsKV_key (a8 : FVec Ideal S512x2048 .f32) (k : Fin 512) (h : Fin 8) (b : Fin 128) (j : Fin 2048)
    (e : (j : ℕ) = 128 * (h : ℕ) + b) : weightsKV a8 (ix2 k j) = a8 (ix2 k ⟨256 * (h : ℕ) + b, by omega⟩) := by
  pointwise [weightsKV]
  rw [dif_pos (by omega)]
  exact at2 (fun x y => a8 (ix2 x y)) _ _ _ (by simp only; omega)

theorem weightsKV_value (a8 : FVec Ideal S512x2048 .f32) (k : Fin 512) (h : Fin 8) (b : Fin 128) (j : Fin 2048)
    (e : (j : ℕ) = 1024 + 128 * (h : ℕ) + b) : weightsKV a8 (ix2 k j) = a8 (ix2 k ⟨256 * (h : ℕ) + (128 + (b : ℕ)), by omega⟩) := by
  pointwise [weightsKV]
  rw [dif_neg (by omega)]
  exact at2 (fun x y => a8 (ix2 x y)) _ _ _ (by simp only; omega)

end Cert.UpProj
-- ==== Proof.UpFinal.lean ====
/- The blocks the up-projection reads, and its three result arrays. -/
module

public import proofs.«01_k».proof.Proof.UpPack

@[expose] public section

set_option maxRecDepth 16384

noncomputable section

namespace Cert.UpProj

open Idealize.ShloMosaic Cert.UpKernelIdeal Cert.UpKernelIdeal.Gen Idealize.SL.Sem Idealize.ShloMosaic.Pipeline Idealize.ShloMosaic.TcCoe

variable (m : (ℓ : Loc nD τ sig) → Buf (Elt Ideal) ℓ)

/-- Where each window's block lies. -/
theorem idx : ∀ t : Fin cfg0.N,
    win0_0.index t = ![(grid0.coords t 0).val, 0]
    ∧ win0_1.index t = ![(grid0.coords t 0).val, 1]
    ∧ win0_2.index t = ![(grid0.coords t 0).val, 16]
    ∧ win0_3.index t = ![if (grid0.coords t 0).val < 16 then (grid0.coords t 0).val % 8 else 8, 0]
    ∧ win0_4.index t = ![if (grid0.coords t 0).val < 16 then (grid0.coords t 0).val % 8 else 8, 0]
    ∧ win0_5.index t = ![0, 0] ∧ win0_6.index t = ![0, 0] ∧ win0_7.index t = ![0, 0] ∧ win0_8.index t = ![0, 0]
    ∧ win0_9.index t = ![0, (grid0.coords t 0).val, 0]
    ∧ win0_10.index t = ![0, (grid0.coords t 0).val, 0]
    ∧ win0_11.index t = ![0, (grid0.coords t 0).val, 0, 0] :=
  (by decide +kernel : ∀ t : Fin grid0.N, _)

/-- The arguments of a core. -/
def argsOf (c : Dev nD) : Args where
  cq n k := (m ((c : Thread nD τ).loc main_arg0) : FVec Ideal S8704x512 .bf16) (ix2 n k)
  ckv n k := (m ((c : Thread nD τ).loc main_arg1) : FVec Ideal S8704x512 .bf16) (ix2 n k)
  kr n k := (m ((c : Thread nD τ).loc main_arg2) : FVec Ideal S8704x64 .bf16) (ix2 n k)
  angr s k := (m ((c : Thread nD τ).loc main_arg3) : FVec Ideal S4096x16 .f32) (ix2 s k)
  angc s k := (m ((c : Thread nD τ).loc main_arg4) : FVec Ideal S4096x16 .f32) (ix2 s k)
  gq k := (m ((c : Thread nD τ).loc main_arg5) : FVec Ideal S512 .f32) (ix1 k)
  gkv k := (m ((c : Thread nD τ).loc main_arg6) : FVec Ideal S512 .f32) (ix1 k)
  wq j k := (m ((c : Thread nD τ).loc main_arg7) : FVec Ideal S512x1536 .f32) (ix2 j k)
  wkv j k := (m ((c : Thread nD τ).loc main_arg8) : FVec Ideal S512x2048 .f32) (ix2 j k)

/-- The windows' blocks. -/
abbrev blockA (c : Dev nD) (t : Fin cfg0.N) : Vec Ideal S512x512 .bf16 := X0_0 m c t
abbrev blockB (c : Dev nD) (t : Fin cfg0.N) : Vec Ideal S512x512 .bf16 := X0_1 m c t
abbrev blockZ (c : Dev nD) (t : Fin cfg0.N) : Vec Ideal S512x256 .bf16 := iblk m c 2 t
abbrev blockC (c : Dev nD) (t : Fin cfg0.N) : Vec Ideal S512x128 .f32 := iblk m c 3 t
abbrev blockS (c : Dev nD) (t : Fin cfg0.N) : Vec Ideal S512x128 .f32 := iblk m c 4 t
abbrev blockG (c : Dev nD) (t : Fin cfg0.N) : Vec Ideal S1x512 .f32 := iblk m c 5 t
abbrev blockH (c : Dev nD) (t : Fin cfg0.N) : Vec Ideal S1x512 .f32 := iblk m c 6 t
abbrev blockQ (c : Dev nD) (t : Fin cfg0.N) : Vec Ideal S512x2048 .bf16 := iblk m c 7 t
abbrev blockK (c : Dev nD) (t : Fin cfg0.N) : Vec Ideal S512x2048 .bf16 := iblk m c 8 t

theorem window_a (c : Dev nD) (t : Fin cfg0.N) (r : Fin 512) (k : Fin 512) (n : Fin 8704)
    (en : (n : ℕ) = 512 * (grid0.coords t 0).val + r) : blockA m c t (ix2 r k) = (argsOf m c).cq n k := by
  show X0_0 m c t _ = _
  unfold X0_0 Pipeline.Window.fill
  rw [dif_pos (moved0_0 t _)]
  blk_simp [iblk]
  refine (congrFun (entry_z m c) _).trans ((congrArg _ (?_ : _ = ix2 n (⟨k, by omega⟩ : Fin 4352))).trans ?_)
  · blk_ext [idx t]
  · exact packed_q _ _ _ n k _ rfl

theorem window_b (c : Dev nD) (t : Fin cfg0.N) (r : Fin 512) (k : Fin 512) (n : Fin 8704)
    (en : (n : ℕ) = 512 * (grid0.coords t 0).val + r) : blockB m c t (ix2 r k) = (argsOf m c).ckv n k := by
  show X0_1 m c t _ = _
  unfold X0_1 Pipeline.Window.fill
  rw [dif_pos (moved0_1 t _)]
  blk_simp [iblk]
  refine (congrFun (entry_z m c) _).trans ((congrArg _ (?_ : _ = ix2 n (⟨512 + (k : ℕ), by omega⟩ : Fin 4352))).trans ?_)
  · blk_ext [idx t]
  · exact packed_kv _ _ _ n k _ rfl

theorem window_z (c : Dev nD) (t : Fin cfg0.N) (r : Fin 512) (k : Fin 256) (n : Fin 8704)
    (en : (n : ℕ) = 512 * (grid0.coords t 0).val + r) :
    blockZ m c t (ix2 r k) = packed (F := Ideal) (m ((c : Thread nD τ).loc main_arg0)) (m ((c : Thread nD τ).loc main_arg1))
      (m ((c : Thread nD τ).loc main_arg2)) (ix2 n ⟨4096 + (k : ℕ), by omega⟩) := by
  show iblk m c 2 t _ = _
  blk_simp [iblk]
  refine (congrFun (entry_z m c) _).trans (congrArg _ (?_ : _ = ix2 n (⟨4096 + (k : ℕ), by omega⟩ : Fin 4352)))
  blk_ext [idx t]

theorem ofBits_one : Ideal.ofBits .f32 0x3F800000#32 = 1 := Ideal.ofBits_one_f32

theorem window_c (c : Dev nD) (t : Fin cfg0.N) (r : Fin 512) (b : Fin 128) (n : Fin 8704)
    (en : (n : ℕ) = 512 * (grid0.coords t 0).val + r) :
    blockC m c t (ix2 r b) = (argsOf m c).cosT n ⟨(b : ℕ) % 64, by omega⟩ := by
  have ht : (grid0.coords t 0).val < 17 := (grid0.coords t 0).isLt
  show iblk m c 3 t _ = _
  blk_simp [iblk]
  by_cases h : (grid0.coords t 0).val < 16
  · have hn : (n : ℕ) < 8192 := by omega
    refine (congrFun (entry_cos m c) _).trans ((congrArg _ (?_ : _ = ix2 (⟨(n : ℕ) % 4096, by omega⟩ : Fin 4608) b)).trans ?_)
    · blk_ext [idx t, if_pos h]
    · rw [wide_read, tall_first _ _ _ _ (by show (n : ℕ) % 4096 < 4096; omega), cosines_read]
      unfold Args.cosT
      rw [if_pos hn]
      rfl
  · have hn : ¬ (n : ℕ) < 8192 := by omega
    refine (congrFun (entry_cos m c) _).trans ((congrArg _ (?_ : _ = ix2 (⟨4096 + (r : ℕ), by omega⟩ : Fin 4608) b)).trans ?_)
    · blk_ext [idx t, if_neg h]
    · rw [wide_read, tall_second _ _ _ _ (by show ¬ 4096 + (r : ℕ) < 4096; omega)]
      unfold Args.cosT
      rw [if_neg hn]
      exact ofBits_one

theorem window_s (c : Dev nD) (t : Fin cfg0.N) (r : Fin 512) (b : Fin 128) (n : Fin 8704)
    (en : (n : ℕ) = 512 * (grid0.coords t 0).val + r) :
    blockS m c t (ix2 r b) = (argsOf m c).sinT n ⟨(b : ℕ) % 64, by omega⟩ := by
  have ht : (grid0.coords t 0).val < 17 := (grid0.coords t 0).isLt
  show iblk m c 4 t _ = _
  blk_simp [iblk]
  by_cases h : (grid0.coords t 0).val < 16
  · have hn : (n : ℕ) < 8192 := by omega
    refine (congrFun (entry_sin m c) _).trans ((congrArg _ (?_ : _ = ix2 (⟨(n : ℕ) % 4096, by omega⟩ : Fin 4608) b)).trans ?_)
    · blk_ext [idx t, if_pos h]
    · rw [wide_read, tall_first _ _ _ _ (by show (n : ℕ) % 4096 < 4096; omega), sines_read]
      unfold Args.sinT
      rw [if_pos hn]
      rfl
  · have hn : ¬ (n : ℕ) < 8192 := by omega
    refine (congrFun (entry_sin m c) _).trans ((congrArg _ (?_ : _ = ix2 (⟨4096 + (r : ℕ), by omega⟩ : Fin 4608) b)).trans ?_)
    · blk_ext [idx t, if_neg h]
    · rw [wide_read, tall_second _ _ _ _ (by show ¬ 4096 + (r : ℕ) < 4096; omega)]
      unfold Args.sinT
      rw [if_neg hn]
      exact Ideal.ofBits_zero_f32

theorem window_g (c : Dev nD) (t : Fin cfg0.N) (k : Fin 512) : blockG m c t (ix2 0 k) = (argsOf m c).gq k := by
  show iblk m c 5 t _ = _
  blk_simp [iblk]
  refine (congrFun (entry_gq m c) _).trans ((congrArg _ (?_ : _ = ix2 (0 : Fin 1) k)).trans ?_)
  · blk_ext [idx t]
  · pointwise
    rfl

theorem window_h (c : Dev nD) (t : Fin cfg0.N) (k : Fin 512) : blockH m c t (ix2 0 k) = (argsOf m c).gkv k := by
  show iblk m c 6 t _ = _
  blk_simp [iblk]
  refine (congrFun (entry_gkv m c) _).trans ((congrArg _ (?_ : _ = ix2 (0 : Fin 1) k)).trans ?_)
  · blk_ext [idx t]
  · pointwise
    rfl

theorem window_wq (c : Dev nD) (t : Fin cfg0.N) (k : Fin 512) (j : Fin 2048) :
    blockQ m c t (ix2 k j) = weightsQ (F := Ideal) (m ((c : Thread nD τ).loc main_arg7)) (ix2 k j) := by
  show iblk m c 7 t _ = _
  blk_simp [iblk]
  refine (congrFun (entry_wq m c) _).trans (congrArg _ (?_ : _ = ix2 k j))
  blk_ext [idx t]

theorem window_wkv (c : Dev nD) (t : Fin cfg0.N) (k : Fin 512) (j : Fin 2048) :
    blockK m c t (ix2 k j) = weightsKV (F := Ideal) (m ((c : Thread nD τ).loc main_arg8)) (ix2 k j) := by
  show iblk m c 8 t _ = _
  blk_simp [iblk]
  refine (congrFun (entry_wkv m c) _).trans (congrArg _ (?_ : _ = ix2 k j))
  blk_ext [idx t]

/-- The projections of a block. -/
abbrev allQ (c : Dev nD) (t : Fin cfg0.N) : FVec Ideal S512x2048 .f32 := qAll (blockA m c t) (blockG m c t) (blockQ m c t)
abbrev allK (c : Dev nD) (t : Fin cfg0.N) : FVec Ideal S512x2048 .f32 := kvAll (blockB m c t) (blockH m c t) (blockK m c t)

theorem q_of (c : Dev nD) (t : Fin cfg0.N) (r : Fin 512) (n : Fin 8704) (en : (n : ℕ) = 512 * (grid0.coords t 0).val + r)
    (j : Fin 2048) (h : Fin 8) (i : Fin 192)
    (e : ∀ k : Fin 512, weightsQ (F := Ideal) (m ((c : Thread nD τ).loc main_arg7)) (ix2 k j) = (argsOf m c).wq k ⟨192 * (h : ℕ) + i, by omega⟩) :
    allQ m c t (ix2 r j) = (argsOf m c).qp n h i := by
  refine (qAll_read _ _ _ r j).trans ?_
  unfold Args.qp
  rw [funext fun k => window_a m c t r k n en, funext fun k => window_g m c t k,
    funext fun k => (window_wq m c t k j).trans (e k)]

theorem k_of (c : Dev nD) (t : Fin cfg0.N) (r : Fin 512) (n : Fin 8704) (en : (n : ℕ) = 512 * (grid0.coords t 0).val + r)
    (j : Fin 2048) (h : Fin 8) (i : Fin 256)
    (e : ∀ k : Fin 512, weightsKV (F := Ideal) (m ((c : Thread nD τ).loc main_arg8)) (ix2 k j) = (argsOf m c).wkv k ⟨256 * (h : ℕ) + i, by omega⟩) :
    allK m c t (ix2 r j) = (argsOf m c).kvp n h i := by
  refine (kvAll_read _ _ _ r j).trans ?_
  unfold Args.kvp
  rw [funext fun k => window_b m c t r k n en, funext fun k => window_h m c t k,
    funext fun k => (window_wkv m c t k j).trans (e k)]

theorem point_q (c : Dev nD) (t : Fin cfg0.N) (h : Fin 8) (r : Fin 512) (x : Fin 256) (n : Fin 8704)
    (en : (n : ℕ) = 512 * (grid0.coords t 0).val + r) :
    qT (allQ m c t) (blockC m c t) (blockS m c t) h r x = (argsOf m c).q h n x := by
  unfold qT Args.q
  by_cases hx : (x : ℕ) < 128
  · rw [dif_pos hx, dif_pos hx]
    exact congrArg (· * scale) (q_of m c t r n en _ h ⟨x, by omega⟩ fun k => weightsQ_plain _ k h ⟨x, hx⟩ _ rfl)
  · rw [dif_neg hx, dif_neg hx]
    have hp : 2 * ((h : ℕ) / 2) + ((x : ℕ) - 128) / 64 < 8 := by omega
    have hl : (x : ℕ) % 64 < 64 := by omega
    have e0 := q_of m c t r n en ⟨1024 + 128 * ((h : ℕ) / 2) + ((x : ℕ) - 128), by omega⟩
      ⟨2 * ((h : ℕ) / 2) + ((x : ℕ) - 128) / 64, hp⟩ ⟨128 + (x : ℕ) % 64, by omega⟩
      (fun k => weightsQ_turned _ k ⟨2 * ((h : ℕ) / 2) + ((x : ℕ) - 128) / 64, hp⟩ ⟨(x : ℕ) % 64, hl⟩ _ (by simp only; omega))
    have e1 := q_of m c t r n en ⟨1536 + 128 * ((h : ℕ) / 2) + ((x : ℕ) - 128), by omega⟩
      ⟨2 * ((h : ℕ) / 2) + ((x : ℕ) - 128) / 64, hp⟩ ⟨128 + (partner ⟨(x : ℕ) % 64, hl⟩ : ℕ), by omega⟩
      (fun k => weightsQ_swapped _ k ⟨2 * ((h : ℕ) / 2) + ((x : ℕ) - 128) / 64, hp⟩ ⟨(x : ℕ) % 64, hl⟩ _ (by simp only; omega))
    have e2 := window_c m c t r ⟨(x : ℕ) - 128, by omega⟩ n en
    have e3 := window_s m c t r ⟨(x : ℕ) - 128, by omega⟩ n en
    have e4 : (⟨((x : ℕ) - 128) % 64, by omega⟩ : Fin 64) = ⟨(x : ℕ) % 64, hl⟩ := Fin.ext (by simp only; omega)
    rw [e0, e1, e2, e3]
    simp only [e4]
    rfl

theorem point_k (c : Dev nD) (t : Fin cfg0.N) (h : Fin 8) (r : Fin 512) (x : Fin 256) (n : Fin 8704)
    (en : (n : ℕ) = 512 * (grid0.coords t 0).val + r) :
    kT (allK m c t) (blockZ m c t) (blockC m c t) (blockS m c t) h r x = (argsOf m c).k h n x := by
  unfold kT Args.k
  by_cases hx : (x : ℕ) < 128
  · rw [dif_pos hx, dif_pos hx]
    exact k_of m c t r n en _ h ⟨x, by omega⟩ fun k => weightsKV_key _ k h ⟨x, hx⟩ _ rfl
  · rw [dif_neg hx, dif_neg hx]
    by_cases hh : ((x : ℕ) - 128) / 64 = (h : ℕ) % 2
    · rw [if_pos hh, if_pos hh]
      have hl : (x : ℕ) % 64 < 64 := by omega
      have e0 := (window_z m c t r ⟨(x : ℕ) - 128, by omega⟩ n en).trans (packed_kr _ _ _ n ⟨(x : ℕ) - 128, by omega⟩ _ rfl)
      have e1 := (window_z m c t r ⟨128 + ((x : ℕ) - 128), by omega⟩ n en).trans
        (packed_swapped _ _ _ n ⟨(x : ℕ) - 128, by omega⟩ _ (by simp only; omega))
      have e2 := window_c m c t r ⟨(x : ℕ) - 128, by omega⟩ n en
      have e3 := window_s m c t r ⟨(x : ℕ) - 128, by omega⟩ n en
      have e4 : (⟨((x : ℕ) - 128) % 64, by omega⟩ : Fin 64) = ⟨(x : ℕ) % 64, hl⟩ := Fin.ext (by simp only; omega)
      rw [e0, e1, e2, e3]
      simp only [e4]
      rfl
    · rw [if_neg hh, if_neg hh]

theorem point_v (c : Dev nD) (t : Fin cfg0.N) (h : Fin 8) (b : Fin 2) (r : Fin 144) (x : Fin 256) (n : Fin 34)
    (en : (n : ℕ) = 2 * (grid0.coords t 0).val + b) :
    vT (allK m c t) h b r x = (argsOf m c).vt h n r x := by
  unfold vT Args.vt
  by_cases hr : (r : ℕ) < 128
  · rw [dif_pos hr, dif_pos hr]
    exact k_of m c t ⟨256 * (b : ℕ) + x, by omega⟩ ⟨256 * (n : ℕ) + x, by omega⟩ (by simp only; omega) _ h ⟨128 + (r : ℕ), by omega⟩
      fun k => weightsKV_value _ k h ⟨r, hr⟩ _ rfl
  · rw [dif_neg hr, dif_neg hr]

/-- The result arrays. -/
def resultQ (A : Args) : FVec Ideal S8x8704x256 .bf16 := fun j => A.q (j 0) (j 1) (j 2)
def resultK (A : Args) : FVec Ideal S8x8704x256 .bf16 := fun j => A.k (j 0) (j 1) (j 2)
def resultV (A : Args) : FVec Ideal S8x34x144x256 .bf16 := fun j => A.vt (j 0) (j 1) (j 2) (j 3)

theorem after_q (c : Dev nD) (t : Fin cfg0.N) (y : S8x512x256.Idx) (h : Fin 8) (n : Fin 8704) (x : Fin 256)
    (eh : h = (y 0 : Fin 8)) (en : (n : ℕ) = 512 * (grid0.coords t 0).val + (y 1 : ℕ)) (ex : x = (y 2 : Fin 256)) :
    (outsAt0 m c t).1 y = (argsOf m c).q h n x := by
  subst eh
  subst ex
  simp only [outsAt0]
  refine (out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t) (iblk m c 4 t) (iblk m c 5 t) (iblk m c 6 t) (iblk m c 7 t) (iblk m c 8 t) y).trans ?_
  exact point_q m c t (y 0) (y 1) (y 2) n en

theorem after_k (c : Dev nD) (t : Fin cfg0.N) (y : S8x512x256.Idx) (h : Fin 8) (n : Fin 8704) (x : Fin 256)
    (eh : h = (y 0 : Fin 8)) (en : (n : ℕ) = 512 * (grid0.coords t 0).val + (y 1 : ℕ)) (ex : x = (y 2 : Fin 256)) :
    (outsAt0 m c t).2.1 y = (argsOf m c).k h n x := by
  subst eh
  subst ex
  simp only [outsAt0]
  refine (out_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t) (iblk m c 4 t) (iblk m c 5 t) (iblk m c 6 t) (iblk m c 7 t) (iblk m c 8 t) y).trans ?_
  exact point_k m c t (y 0) (y 1) (y 2) n en

theorem after_v (c : Dev nD) (t : Fin cfg0.N) (y : S8x2x144x256.Idx) (h : Fin 8) (n : Fin 34) (r : Fin 144) (x : Fin 256)
    (eh : h = (y 0 : Fin 8)) (en : (n : ℕ) = 2 * (grid0.coords t 0).val + (y 1 : ℕ)) (er : r = (y 2 : Fin 144)) (ex : x = (y 3 : Fin 256)) :
    (outsAt0 m c t).2.2 y = (argsOf m c).vt h n r x := by
  subst eh er ex
  simp only [outsAt0]
  refine (out_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t) (iblk m c 4 t) (iblk m c 5 t) (iblk m c 6 t) (iblk m c 7 t) (iblk m c 8 t) y).trans ?_
  exact point_v m c t (y 0) (y 1) (y 2) (y 3) n en

theorem final_q (c : Dev nD) : (dats m 0 c).arrAt 9 (cfgs 0).N = resultQ (argsOf m c) := by
  refine (dats m 0 c).arrAt_eq_of_covers 9 _ (by decide +kernel) fun t _ y => ?_
  blk_simp
  rw [after0_9]
  refine after_q m c t y ((((cfg0.win 9).blk t).view.emb y) 0) ((((cfg0.win 9).blk t).view.emb y) 1) ((((cfg0.win 9).blk t).view.emb y) 2) ?_ ?_ ?_
  · refine Fin.ext ?_
    blk_simp [idx t]
  · blk_simp [idx t]
    omega
  · refine Fin.ext ?_
    blk_simp [idx t]

theorem final_k (c : Dev nD) : (dats m 0 c).arrAt 10 (cfgs 0).N = resultK (argsOf m c) := by
  refine (dats m 0 c).arrAt_eq_of_covers 10 _ (by decide +kernel) fun t _ y => ?_
  blk_simp
  rw [after0_10]
  refine after_k m c t y ((((cfg0.win 10).blk t).view.emb y) 0) ((((cfg0.win 10).blk t).view.emb y) 1) ((((cfg0.win 10).blk t).view.emb y) 2) ?_ ?_ ?_
  · refine Fin.ext ?_
    blk_simp [idx t]
  · blk_simp [idx t]
    omega
  · refine Fin.ext ?_
    blk_simp [idx t]

theorem final_v (c : Dev nD) : (dats m 0 c).arrAt 11 (cfgs 0).N = resultV (argsOf m c) := by
  refine (dats m 0 c).arrAt_eq_of_covers 11 _ (by decide +kernel) fun t _ y => ?_
  blk_simp
  rw [after0_11]
  refine after_v m c t y ((((cfg0.win 11).blk t).view.emb y) 0) ((((cfg0.win 11).blk t).view.emb y) 1) ((((cfg0.win 11).blk t).view.emb y) 2)
    ((((cfg0.win 11).blk t).view.emb y) 3) ?_ ?_ ?_ ?_
  · refine Fin.ext ?_
    blk_simp [idx t]
  · blk_simp [idx t]
    omega
  · refine Fin.ext ?_
    blk_simp [idx t]
  · refine Fin.ext ?_
    blk_simp [idx t]

end Cert.UpProj
-- ==== Proof.UpReference.lean ====
/- The reference of the up-projection, entry by entry. -/
module

public import proofs.«01_k».proof.Proof.Gen.UpReferenceIdeal.Run
public import proofs.«01_k».proof.Proof.UpMath
public import Idealize.ShloMosaic.Lib.Pointwise

@[expose] public section

set_option maxRecDepth 16384

noncomputable section

namespace Cert.UpProjRef

open Idealize.ShloMosaic Cert.UpReferenceIdeal Cert.UpReferenceIdeal.Gen Cert.UpProj Idealize.ShloMosaic.TcCoe

section Ops
variable {F : FTy → Type} [FloatOps F]

/-- Rows scaled to unit mean square, times a gain. -/
def normed (a : FVec F S8704x512 .bf16) (g : FVec F S512 .f32) : FVec F S8704x512 .f32 :=
  mulf (mulf (extf .f32 a bitsLt_bf16_f32) (broadcastInDim S8704x512 ![0, 1] bcast_S8704x1_S8704x512_0_1 (Host.rsqrt (addf (Host.divf (broadcastInDim S8704x1 ![0] bcast_S8704_S8704x1_0 (Host.reduceAdd (mulf (extf .f32 a bitsLt_bf16_f32) (extf .f32 a bitsLt_bf16_f32)) (constant S_ .f32 0x00000000#32) reducesTo_S8704x512_S8704_d1 h_S_)) (broadcastInDim S8704x1 ![] bcast_S_S8704x1 (constant S_ .f32 0x44000000#32))) (broadcastInDim S8704x1 ![] bcast_S_S8704x1 (constant S_ .f32 0x358637BD#32))))))
    (broadcastInDim S8704x512 ![0, 1] bcast_S1x512_S8704x512_0_1 (broadcastInDim S1x512 ![1] bcast_S512_S1x512_1 g))

/-- The query projection by heads. -/
def heads (a : FVec F S8704x512 .bf16) (g : FVec F S512 .f32) (w : FVec F S512x1536 .f32) : FVec F S8704x8x192 .f32 :=
  shapeCast _ (Host.dotGeneral dot_S8704x512_S512x1536_S8704x1536_1_0_0_1_n_n none (normed a g) w) shapeCasts_S8704x1536_S8704x8x192

/-- The key and value projection by heads. -/
def headsKV (a : FVec F S8704x512 .bf16) (g : FVec F S512 .f32) (w : FVec F S512x2048 .f32) : FVec F S8704x8x256 .f32 :=
  shapeCast _ (Host.dotGeneral dot_S8704x512_S512x2048_S8704x2048_1_0_0_1_n_n none (normed a g) w) shapeCasts_S8704x2048_S8704x8x256

/-- The cosines and sines of the angles, over batches and heads. -/
def cosQ (a : FVec F S4096x16 .f32) : FVec F S2x4096x8x16 .f32 :=
  broadcastInDim S2x4096x8x16 ![0, 1, 2, 3] bcast_S1x4096x1x16_S2x4096x8x16_0_1_2_3 (broadcastInDim S1x4096x1x16 ![1, 2, 3] bcast_S4096x1x16_S1x4096x1x16_1_2_3 (Host.cos (broadcastInDim S4096x1x16 ![0, 2] bcast_S4096x16_S4096x1x16_0_2 a)))
def sinQ (a : FVec F S4096x16 .f32) : FVec F S2x4096x8x16 .f32 :=
  broadcastInDim S2x4096x8x16 ![0, 1, 2, 3] bcast_S1x4096x1x16_S2x4096x8x16_0_1_2_3 (broadcastInDim S1x4096x1x16 ![1, 2, 3] bcast_S4096x1x16_S1x4096x1x16_1_2_3 (Host.sin (broadcastInDim S4096x1x16 ![0, 2] bcast_S4096x16_S4096x1x16_0_2 a)))
def cosK (a : FVec F S4096x16 .f32) : FVec F S2x4096x1x16 .f32 :=
  broadcastInDim S2x4096x1x16 ![0, 1, 2, 3] bcast_S1x4096x1x16_S2x4096x1x16_0_1_2_3 (broadcastInDim S1x4096x1x16 ![1, 2, 3] bcast_S4096x1x16_S1x4096x1x16_1_2_3 (Host.cos (broadcastInDim S4096x1x16 ![0, 2] bcast_S4096x16_S4096x1x16_0_2 a)))
def sinK (a : FVec F S4096x16 .f32) : FVec F S2x4096x1x16 .f32 :=
  broadcastInDim S2x4096x1x16 ![0, 1, 2, 3] bcast_S1x4096x1x16_S2x4096x1x16_0_1_2_3 (broadcastInDim S1x4096x1x16 ![1, 2, 3] bcast_S4096x1x16_S1x4096x1x16_1_2_3 (Host.sin (broadcastInDim S4096x1x16 ![0, 2] bcast_S4096x16_S4096x1x16_0_2 a)))

/-- Two halves rotated by their angles. -/
def halfQ (x : FVec F S2x4096x8x32 .f32) (a : FVec F S4096x16 .f32) : FVec F S2x4096x8x32 .f32 :=
  concatenate S2x4096x8x32 3 [
    ⟨S2x4096x8x16, subf (mulf (extractStridedSlice S2x4096x8x16 ![0, 0, 0, 0] x slices_S2x4096x8x32_S2x4096x8x16_0_0_0_0) (cosQ a))
      (mulf (extractStridedSlice S2x4096x8x16 ![0, 0, 0, 16] x slices_S2x4096x8x32_S2x4096x8x16_0_0_0_16) (sinQ a))⟩,
    ⟨S2x4096x8x16, addf (mulf (extractStridedSlice S2x4096x8x16 ![0, 0, 0, 16] x slices_S2x4096x8x32_S2x4096x8x16_0_0_0_16) (cosQ a))
      (mulf (extractStridedSlice S2x4096x8x16 ![0, 0, 0, 0] x slices_S2x4096x8x32_S2x4096x8x16_0_0_0_0) (sinQ a))⟩]
    concatenates_S2x4096x8x16_S2x4096x8x16_S2x4096x8x32_d3
def halfK (x : FVec F S2x4096x1x32 .f32) (a : FVec F S4096x16 .f32) : FVec F S2x4096x1x32 .f32 :=
  concatenate S2x4096x1x32 3 [
    ⟨S2x4096x1x16, subf (mulf (extractStridedSlice S2x4096x1x16 ![0, 0, 0, 0] x slices_S2x4096x1x32_S2x4096x1x16_0_0_0_0) (cosK a))
      (mulf (extractStridedSlice S2x4096x1x16 ![0, 0, 0, 16] x slices_S2x4096x1x32_S2x4096x1x16_0_0_0_16) (sinK a))⟩,
    ⟨S2x4096x1x16, addf (mulf (extractStridedSlice S2x4096x1x16 ![0, 0, 0, 16] x slices_S2x4096x1x32_S2x4096x1x16_0_0_0_16) (cosK a))
      (mulf (extractStridedSlice S2x4096x1x16 ![0, 0, 0, 0] x slices_S2x4096x1x32_S2x4096x1x16_0_0_0_0) (sinK a))⟩]
    concatenates_S2x4096x1x16_S2x4096x1x16_S2x4096x1x32_d3

/-- Rows of latents rotated, the first half by the row angles, the second by the column angles. -/
def fullQ (x : FVec F S2x4096x8x64 .f32) (a3 a4 : FVec F S4096x16 .f32) : FVec F S2x4096x8x64 .f32 :=
  concatenate S2x4096x8x64 3 [
    ⟨S2x4096x8x32, halfQ (extractStridedSlice S2x4096x8x32 ![0, 0, 0, 0] x slices_S2x4096x8x64_S2x4096x8x32_0_0_0_0) a3⟩,
    ⟨S2x4096x8x32, halfQ (extractStridedSlice S2x4096x8x32 ![0, 0, 0, 32] x slices_S2x4096x8x64_S2x4096x8x32_0_0_0_32) a4⟩]
    concatenates_S2x4096x8x32_S2x4096x8x32_S2x4096x8x64_d3
def fullK (x : FVec F S2x4096x1x64 .f32) (a3 a4 : FVec F S4096x16 .f32) : FVec F S2x4096x1x64 .f32 :=
  concatenate S2x4096x1x64 3 [
    ⟨S2x4096x1x32, halfK (extractStridedSlice S2x4096x1x32 ![0, 0, 0, 0] x slices_S2x4096x1x64_S2x4096x1x32_0_0_0_0) a3⟩,
    ⟨S2x4096x1x32, halfK (extractStridedSlice S2x4096x1x32 ![0, 0, 0, 32] x slices_S2x4096x1x64_S2x4096x1x32_0_0_0_32) a4⟩]
    concatenates_S2x4096x1x32_S2x4096x1x32_S2x4096x1x64_d3

/-- The latents' rows rotated, the context's kept. -/
def spunQ (x : FVec F S8704x8x64 .f32) (a3 a4 : FVec F S4096x16 .f32) : FVec F S8704x8x64 .f32 :=
  concatenate S8704x8x64 0 [⟨S8192x8x64, shapeCast S8192x8x64 (fullQ (shapeCast S2x4096x8x64 (extractStridedSlice S8192x8x64 ![0, 0, 0] x
      slices_S8704x8x64_S8192x8x64_0_0_0) shapeCasts_S8192x8x64_S2x4096x8x64) a3 a4) shapeCasts_S2x4096x8x64_S8192x8x64⟩,
    ⟨S512x8x64, extractStridedSlice S512x8x64 ![8192, 0, 0] x slices_S8704x8x64_S512x8x64_8192_0_0⟩]
    concatenates_S8192x8x64_S512x8x64_S8704x8x64_d0
def spunK (x : FVec F S8704x1x64 .f32) (a3 a4 : FVec F S4096x16 .f32) : FVec F S8704x1x64 .f32 :=
  concatenate S8704x1x64 0 [⟨S8192x1x64, shapeCast S8192x1x64 (fullK (shapeCast S2x4096x1x64 (extractStridedSlice S8192x1x64 ![0, 0, 0] x
      slices_S8704x1x64_S8192x1x64_0_0_0) shapeCasts_S8192x1x64_S2x4096x1x64) a3 a4) shapeCasts_S2x4096x1x64_S8192x1x64⟩,
    ⟨S512x1x64, extractStridedSlice S512x1x64 ![8192, 0, 0] x slices_S8704x1x64_S512x1x64_8192_0_0⟩]
    concatenates_S8192x1x64_S512x1x64_S8704x1x64_d0

/-- The queries. -/
def resQ (a0 : FVec F S8704x512 .bf16) (a3 a4 : FVec F S4096x16 .f32) (a5 : FVec F S512 .f32) (a7 : FVec F S512x1536 .f32) :
    FVec F S8x8704x256 .bf16 :=
  truncf .bf16 (transpose S8x8704x256 [1, 0, 2] (mulf (concatenate S8704x8x256 2 [
      ⟨S8704x8x128, extractStridedSlice S8704x8x128 ![0, 0, 0] (heads a0 a5 a7) slices_S8704x8x192_S8704x8x128_0_0_0⟩,
      ⟨S8704x8x128, shapeCast S8704x8x128 (broadcastInDim S8704x4x2x128 ![0, 1, 2, 3] bcast_S8704x4x1x128_S8704x4x2x128_0_1_2_3
        (shapeCast S8704x4x1x128 (spunQ (extractStridedSlice S8704x8x64 ![0, 0, 128] (heads a0 a5 a7) slices_S8704x8x192_S8704x8x64_0_0_128) a3 a4)
          shapeCasts_S8704x8x64_S8704x4x1x128)) shapeCasts_S8704x4x2x128_S8704x8x128⟩]
      concatenates_S8704x8x128_S8704x8x128_S8704x8x256_d2)
    (broadcastInDim S8704x8x256 ![] bcast_S_S8704x8x256 (constant S_ .f32 0x3DD53B95#32))) transposes_S8704x8x256_S8x8704x256_1_0_2) bitsLt_bf16_f32

/-- The rotated position part of the keys. -/
def spun (a2 : FVec F S8704x64 .bf16) (a3 a4 : FVec F S4096x16 .f32) : FVec F S8704x64 .f32 :=
  shapeCast S8704x64 (spunK (broadcastInDim S8704x1x64 ![0, 2] bcast_S8704x64_S8704x1x64_0_2 (extf .f32 a2 bitsLt_bf16_f32)) a3 a4) shapeCasts_S8704x1x64_S8704x64

/-- The keys' position part by the place of the head in its pair. -/
def placed (u : FVec F S8704x64 .f32) : FVec F S8704x2x128 .f32 :=
  concatenate S8704x2x128 1 [
    ⟨S8704x1x128, broadcastInDim S8704x1x128 ![0, 2] bcast_S8704x128_S8704x1x128_0_2 (concatenate S8704x128 1 [⟨S8704x64, u⟩,
      ⟨S8704x64, broadcastInDim S8704x64 ![] bcast_S_S8704x64 (constant S_ .f32 0x00000000#32)⟩] concatenates_S8704x64_S8704x64_S8704x128_d1)⟩,
    ⟨S8704x1x128, broadcastInDim S8704x1x128 ![0, 2] bcast_S8704x128_S8704x1x128_0_2 (concatenate S8704x128 1 [
      ⟨S8704x64, broadcastInDim S8704x64 ![] bcast_S_S8704x64 (constant S_ .f32 0x00000000#32)⟩, ⟨S8704x64, u⟩] concatenates_S8704x64_S8704x64_S8704x128_d1)⟩]
    concatenates_S8704x1x128_S8704x1x128_S8704x2x128_d1

/-- The keys. -/
def resK (a1 : FVec F S8704x512 .bf16) (a2 : FVec F S8704x64 .bf16) (a3 a4 : FVec F S4096x16 .f32) (a6 : FVec F S512 .f32) (a8 : FVec F S512x2048 .f32) :
    FVec F S8x8704x256 .bf16 :=
  truncf .bf16 (transpose S8x8704x256 [1, 0, 2] (concatenate S8704x8x256 2 [
      ⟨S8704x8x128, extractStridedSlice S8704x8x128 ![0, 0, 0] (headsKV a1 a6 a8) slices_S8704x8x256_S8704x8x128_0_0_0⟩,
      ⟨S8704x8x128, shapeCast S8704x8x128 (broadcastInDim S8704x4x2x128 ![0, 1, 2, 3] bcast_S8704x1x2x128_S8704x4x2x128_0_1_2_3
        (broadcastInDim S8704x1x2x128 ![0, 2, 3] bcast_S8704x2x128_S8704x1x2x128_0_2_3 (placed (spun a2 a3 a4)))) shapeCasts_S8704x4x2x128_S8704x8x128⟩]
      concatenates_S8704x8x128_S8704x8x128_S8704x8x256_d2) transposes_S8704x8x256_S8x8704x256_1_0_2) bitsLt_bf16_f32

/-- The transposed values. -/
def resV (a1 : FVec F S8704x512 .bf16) (a6 : FVec F S512 .f32) (a8 : FVec F S512x2048 .f32) : FVec F S8x34x144x256 .bf16 :=
  truncf .bf16 (concatenate S8x34x144x256 2 [
      ⟨S8x34x128x256, transpose S8x34x128x256 [2, 0, 3, 1] (shapeCast S34x256x8x128 (extractStridedSlice S8704x8x128 ![0, 0, 128] (headsKV a1 a6 a8)
        slices_S8704x8x256_S8704x8x128_0_0_128) shapeCasts_S8704x8x128_S34x256x8x128) transposes_S34x256x8x128_S8x34x128x256_2_0_3_1⟩,
      ⟨S8x34x1x256, broadcastInDim S8x34x1x256 ![] bcast_S_S8x34x1x256 (constant S_ .f32 0x3F800000#32)⟩,
      ⟨S8x34x15x256, broadcastInDim S8x34x15x256 ![] bcast_S_S8x34x15x256 (constant S_ .f32 0x00000000#32)⟩]
      concatenates_S8x34x128x256_S8x34x1x256_S8x34x15x256_S8x34x144x256_d2) bitsLt_bf16_f32

end Ops

/-- The arguments. -/
def argsRef (a0 a1 : FVec Ideal S8704x512 .bf16) (a2 : FVec Ideal S8704x64 .bf16) (a3 a4 : FVec Ideal S4096x16 .f32)
    (a5 a6 : FVec Ideal S512 .f32) (a7 : FVec Ideal S512x1536 .f32) (a8 : FVec Ideal S512x2048 .f32) : Args where
  cq n k := a0 (ix2 n k)
  ckv n k := a1 (ix2 n k)
  kr n k := a2 (ix2 n k)
  angr s k := a3 (ix2 s k)
  angc s k := a4 (ix2 s k)
  gq k := a5 (ix1 k)
  gkv k := a6 (ix1 k)
  wq j k := a7 (ix2 j k)
  wkv j k := a8 (ix2 j k)

theorem heads_read (a : FVec Ideal S8704x512 .bf16) (g : FVec Ideal S512 .f32) (w : FVec Ideal S512x1536 .f32) (n : Fin 8704) (h : Fin 8) (j : Fin 192) :
    heads a g w (ix3 n h j) = proj (fun k => a (ix2 n k)) (fun k => g (ix1 k)) (fun k => w (ix2 k ⟨192 * (h : ℕ) + j, by omega⟩)) := by
  pointwise [heads, normed, proj]
  simp only [Nat.mul_comm 192]

theorem headsKV_read (a : FVec Ideal S8704x512 .bf16) (g : FVec Ideal S512 .f32) (w : FVec Ideal S512x2048 .f32) (n : Fin 8704) (h : Fin 8) (j : Fin 256) :
    headsKV a g w (ix3 n h j) = proj (fun k => a (ix2 n k)) (fun k => g (ix1 k)) (fun k => w (ix2 k ⟨256 * (h : ℕ) + j, by omega⟩)) := by
  pointwise [headsKV, normed, proj]
  simp only [Nat.mul_comm 256]

theorem at2 {s t : ℕ} (f : Fin s → Fin t → EReal) (k : Fin s) (x y : Fin t) (h : (x : ℕ) = y) : f k x = f k y := by
  rw [Fin.ext h]

/-- Entry `l` of a half: the halves rotated with each other. -/
def half (x : Fin 32 → EReal) (a : Fin 16 → EReal) (l : Fin 32) : EReal :=
  if h : (l : ℕ) < 16 then x ⟨l, by omega⟩ * Ideal.cos (a ⟨l, h⟩) - x ⟨16 + l, by omega⟩ * Ideal.sin (a ⟨l, h⟩)
  else x ⟨l, by omega⟩ * Ideal.cos (a ⟨l - 16, by omega⟩) + x ⟨l - 16, by omega⟩ * Ideal.sin (a ⟨l - 16, by omega⟩)

theorem halfQ_read (x : FVec Ideal S2x4096x8x32 .f32) (a : FVec Ideal S4096x16 .f32) (b : Fin 2) (s : Fin 4096) (h : Fin 8) (l : Fin 32) :
    halfQ x a (ix4 b s h l) = half (fun k => x (ix4 b s h k)) (fun k => a (ix2 s k)) l := by
  pointwise [halfQ, cosQ, sinQ, half]
  by_cases hl : (l : ℕ) < 16
  · simp only [dif_pos hl]
  · simp only [dif_neg hl]
    rw [show (⟨16 + ((l : ℕ) - 16), by omega⟩ : Fin 32) = l from Fin.ext (by simp only; omega)]

theorem halfK_read (x : FVec Ideal S2x4096x1x32 .f32) (a : FVec Ideal S4096x16 .f32) (b : Fin 2) (s : Fin 4096) (l : Fin 32) :
    halfK x a (ix4 b s 0 l) = half (fun k => x (ix4 b s 0 k)) (fun k => a (ix2 s k)) l := by
  pointwise [halfK, cosK, sinK, half]
  by_cases hl : (l : ℕ) < 16
  · simp only [dif_pos hl]
  · simp only [dif_neg hl]
    rw [show (⟨16 + ((l : ℕ) - 16), by omega⟩ : Fin 32) = l from Fin.ext (by simp only; omega)]

/-- Entry `l` of a rotated row, by halves. -/
def full (x : Fin 64 → EReal) (a a' : Fin 16 → EReal) (l : Fin 64) : EReal :=
  if h : (l : ℕ) < 32 then half (fun k => x ⟨k, by omega⟩) a ⟨l, h⟩ else half (fun k => x ⟨32 + k, by omega⟩) a' ⟨l - 32, by omega⟩

theorem fullQ_read (x : FVec Ideal S2x4096x8x64 .f32) (a3 a4 : FVec Ideal S4096x16 .f32) (b : Fin 2) (s : Fin 4096) (h : Fin 8) (l : Fin 64) :
    fullQ x a3 a4 (ix4 b s h l) = full (fun k => x (ix4 b s h k)) (fun k => a3 (ix2 s k)) (fun k => a4 (ix2 s k)) l := by
  pointwise [fullQ]
  unfold full
  by_cases hl : (l : ℕ) < 32
  · simp only [dif_pos hl]
    rw [halfQ_read]
    pointwise
  · simp only [dif_neg hl]
    rw [halfQ_read]
    pointwise

theorem fullK_read (x : FVec Ideal S2x4096x1x64 .f32) (a3 a4 : FVec Ideal S4096x16 .f32) (b : Fin 2) (s : Fin 4096) (l : Fin 64) :
    fullK x a3 a4 (ix4 b s 0 l) = full (fun k => x (ix4 b s 0 k)) (fun k => a3 (ix2 s k)) (fun k => a4 (ix2 s k)) l := by
  pointwise [fullK]
  unfold full
  by_cases hl : (l : ℕ) < 32
  · simp only [dif_pos hl]
    rw [halfK_read]
    pointwise
  · simp only [dif_neg hl]
    rw [halfK_read]
    pointwise

/-- A row rotated by halves is the row rotated with signed sines. -/
theorem full_rot (A : Args) (n : Fin 8704) (hn : (n : ℕ) < 8192) (x : Fin 64 → EReal) (l : Fin 64) :
    full x (A.angr ⟨(n : ℕ) % 4096, by omega⟩) (A.angc ⟨(n : ℕ) % 4096, by omega⟩) l = A.rot n x l := by
  unfold full Args.rot Args.cosT Args.sinT Args.ang half
  have hl := l.isLt
  rw [if_pos hn, if_pos hn]
  by_cases h0 : (l : ℕ) < 32
  · rw [dif_pos h0, if_pos h0]
    have em : ∀ (i : ℕ) (hi : i < 16), i = (l : ℕ) % 16 → (⟨i, hi⟩ : Fin 16) = ⟨(l : ℕ) % 16, by omega⟩ := fun i hi e => Fin.ext e
    by_cases h1 : (l : ℕ) < 16
    · have hp : (l : ℕ) / 16 % 2 = 0 := by omega
      rw [dif_pos h1, if_pos hp, em (l : ℕ) h1 (by omega), sub_eq_add_neg, mul_neg]
      unfold partner
      rw [dif_pos hp]
      simp only [Nat.add_comm 16]
    · have hp : ¬ (l : ℕ) / 16 % 2 = 0 := by omega
      rw [dif_neg h1, if_neg hp]
      simp only
      rw [em ((l : ℕ) - 16) (by omega) (by omega)]
      unfold partner
      rw [dif_neg hp]
  · rw [dif_neg h0, if_neg h0]
    have em : ∀ (i : ℕ) (hi : i < 16), i = (l : ℕ) % 16 → (⟨i, hi⟩ : Fin 16) = ⟨(l : ℕ) % 16, by omega⟩ := fun i hi e => Fin.ext e
    have ex : ∀ (i : ℕ) (hi : i < 64), i = (l : ℕ) → x ⟨i, hi⟩ = x l := fun i hi e => congrArg x (Fin.ext e)
    by_cases h1 : (l : ℕ) - 32 < 16
    · have hp : (l : ℕ) / 16 % 2 = 0 := by omega
      rw [dif_pos h1, if_pos hp]
      simp only
      rw [em ((l : ℕ) - 32) h1 (by omega), sub_eq_add_neg, mul_neg, ex (32 + ((l : ℕ) - 32)) (by omega) (by omega)]
      have ep : (⟨32 + (16 + ((l : ℕ) - 32)), by omega⟩ : Fin 64) = partner l := by
        unfold partner
        rw [dif_pos hp]
        exact Fin.ext (by simp only; omega)
      rw [ep]
    · have hp : ¬ (l : ℕ) / 16 % 2 = 0 := by omega
      rw [dif_neg h1, if_neg hp]
      simp only
      rw [em ((l : ℕ) - 32 - 16) (by omega) (by omega), ex (32 + ((l : ℕ) - 32)) (by omega) (by omega)]
      have ep : (⟨32 + ((l : ℕ) - 32 - 16), by omega⟩ : Fin 64) = partner l := by
        unfold partner
        rw [dif_neg hp]
        exact Fin.ext (by simp only; omega)
      rw [ep]

/-- A context row is kept. -/
theorem kept_rot (A : Args) (n : Fin 8704) (hn : ¬ (n : ℕ) < 8192) (x : Fin 64 → EReal) (l : Fin 64) : x l = A.rot n x l := by
  unfold Args.rot Args.cosT Args.sinT
  rw [if_neg hn, if_neg hn, mul_one, mul_zero, add_zero]

theorem spunQ_first (x : FVec Ideal S8704x8x64 .f32) (a3 a4 : FVec Ideal S4096x16 .f32) (n : Fin 8704) (hn : (n : ℕ) < 8192) (h : Fin 8) (l : Fin 64) :
    spunQ x a3 a4 (ix3 n h l) = fullQ (shapeCast S2x4096x8x64 (extractStridedSlice S8192x8x64 ![0, 0, 0] x
      slices_S8704x8x64_S8192x8x64_0_0_0) shapeCasts_S8192x8x64_S2x4096x8x64) a3 a4 (ix4 ⟨(n : ℕ) / 4096, by omega⟩ ⟨(n : ℕ) % 4096, by omega⟩ h l) := by
  pointwise [spunQ]
  rw [dif_pos hn]

theorem spunQ_read (A : Args) (x : FVec Ideal S8704x8x64 .f32) (a3 a4 : FVec Ideal S4096x16 .f32) (e3 : A.angr = fun s k => a3 (ix2 s k))
    (e4 : A.angc = fun s k => a4 (ix2 s k)) (n : Fin 8704) (h : Fin 8) (l : Fin 64) :
    spunQ x a3 a4 (ix3 n h l) = A.rot n (fun k => x (ix3 n h k)) l := by
  by_cases hn : (n : ℕ) < 8192
  · rw [spunQ_first x a3 a4 n hn h l, fullQ_read, ← full_rot A n hn, e3, e4]
    refine congrArg (fun u => full u _ _ l) (funext fun k => ?_)
    pointwise
    exact congrArg (fun r : Fin 8704 => x (ix3 r h k)) (Fin.ext (by simp only; omega))
  · rw [← kept_rot A n hn]
    pointwise [spunQ]
    rw [dif_neg hn]
    exact congrArg (fun r : Fin 8704 => x (ix3 r h l)) (Fin.ext (by simp only; omega))

theorem spunK_first (x : FVec Ideal S8704x1x64 .f32) (a3 a4 : FVec Ideal S4096x16 .f32) (n : Fin 8704) (hn : (n : ℕ) < 8192) (l : Fin 64) :
    spunK x a3 a4 (ix3 n 0 l) = fullK (shapeCast S2x4096x1x64 (extractStridedSlice S8192x1x64 ![0, 0, 0] x
      slices_S8704x1x64_S8192x1x64_0_0_0) shapeCasts_S8192x1x64_S2x4096x1x64) a3 a4 (ix4 ⟨(n : ℕ) / 4096, by omega⟩ ⟨(n : ℕ) % 4096, by omega⟩ 0 l) := by
  pointwise [spunK]
  rw [dif_pos hn]

theorem spunK_read (A : Args) (x : FVec Ideal S8704x1x64 .f32) (a3 a4 : FVec Ideal S4096x16 .f32) (e3 : A.angr = fun s k => a3 (ix2 s k))
    (e4 : A.angc = fun s k => a4 (ix2 s k)) (n : Fin 8704) (l : Fin 64) :
    spunK x a3 a4 (ix3 n 0 l) = A.rot n (fun k => x (ix3 n 0 k)) l := by
  by_cases hn : (n : ℕ) < 8192
  · rw [spunK_first x a3 a4 n hn l, fullK_read, ← full_rot A n hn, e3, e4]
    refine congrArg (fun u => full u _ _ l) (funext fun k => ?_)
    pointwise
    exact congrArg (fun r : Fin 8704 => x (ix3 r 0 k)) (Fin.ext (by simp only; omega))
  · rw [← kept_rot A n hn]
    pointwise [spunK]
    rw [dif_neg hn]
    exact congrArg (fun r : Fin 8704 => x (ix3 r 0 l)) (Fin.ext (by simp only; omega))

theorem spun_read (A : Args) (a2 : FVec Ideal S8704x64 .bf16) (a3 a4 : FVec Ideal S4096x16 .f32) (e3 : A.angr = fun s k => a3 (ix2 s k))
    (e4 : A.angc = fun s k => a4 (ix2 s k)) (n : Fin 8704) (l : Fin 64) :
    spun a2 a3 a4 (ix2 n l) = A.rot n (fun k => a2 (ix2 n k)) l := by
  have h : spun a2 a3 a4 (ix2 n l) = spunK (broadcastInDim S8704x1x64 ![0, 2] bcast_S8704x64_S8704x1x64_0_2 (extf .f32 a2 bitsLt_bf16_f32)) a3 a4 (ix3 n 0 l) := by
    pointwise [spun]
  rw [h, spunK_read A _ _ _ e3 e4]
  refine congrArg (fun u => A.rot n u l) (funext fun k => ?_)
  pointwise

theorem placed_read (u : FVec Ideal S8704x64 .f32) (n : Fin 8704) (p : Fin 2) (b : Fin 128) :
    placed u (ix3 n p b) = if (b : ℕ) / 64 = p then u (ix2 n ⟨(b : ℕ) % 64, by omega⟩) else 0 := by
  have hb := b.isLt
  have hp2 := p.isLt
  pointwise [placed]
  by_cases hp : (p : ℕ) < 1
  · by_cases h : (b : ℕ) < 64
    · rw [dif_pos hp, dif_pos h, if_pos (by omega)]
      exact at2 (fun x y => u (ix2 x y)) _ _ _ (by simp only; omega)
    · rw [dif_pos hp, dif_neg h, if_neg (by omega)]
  · by_cases h : (b : ℕ) < 64
    · rw [dif_neg hp, dif_pos h, if_neg (by omega)]
    · rw [dif_neg hp, dif_neg h]
      refine Eq.trans ?_ (if_pos (by omega)).symm
      exact at2 (fun x y => u (ix2 x y)) _ _ _ (by simp only; omega)

variable (a0 a1 : FVec Ideal S8704x512 .bf16) (a2 : FVec Ideal S8704x64 .bf16) (a3 a4 : FVec Ideal S4096x16 .f32)
  (a5 a6 : FVec Ideal S512 .f32) (a7 : FVec Ideal S512x1536 .f32) (a8 : FVec Ideal S512x2048 .f32)

theorem resQ_first (h : Fin 8) (n : Fin 8704) (x : Fin 256) (hx : (x : ℕ) < 128) :
    resQ a0 a3 a4 a5 a7 (ix3 h n x) = heads a0 a5 a7 (ix3 n h ⟨x, by omega⟩) * scale := by
  pointwise [resQ, scale]
  rw [dif_pos hx]

theorem resQ_second (h : Fin 8) (n : Fin 8704) (x : Fin 256) (hx : ¬ (x : ℕ) < 128) :
    resQ a0 a3 a4 a5 a7 (ix3 h n x) = spunQ (extractStridedSlice S8704x8x64 ![0, 0, 128] (heads a0 a5 a7) slices_S8704x8x192_S8704x8x64_0_0_128) a3 a4
      (ix3 n ⟨2 * ((h : ℕ) / 2) + ((x : ℕ) - 128) / 64, by omega⟩ ⟨(x : ℕ) % 64, by omega⟩) * scale := by
  pointwise [resQ, scale]
  rw [dif_neg hx]
  refine congrArg (· * _) ?_
  refine congrArg _ ?_
  refine congrArg₂ (fun p q => ix3 n p q) (Fin.ext ?_) (Fin.ext ?_)
  · simp only
    omega
  · simp only
    omega

theorem resQ_eq (h : Fin 8) (n : Fin 8704) (x : Fin 256) :
    resQ a0 a3 a4 a5 a7 (ix3 h n x) = (argsRef a0 a1 a2 a3 a4 a5 a6 a7 a8).q h n x := by
  unfold Args.q
  by_cases hx : (x : ℕ) < 128
  · rw [dif_pos hx, resQ_first _ _ _ _ _ h n x hx, heads_read]
    rfl
  · rw [dif_neg hx, resQ_second _ _ _ _ _ h n x hx, spunQ_read (argsRef a0 a1 a2 a3 a4 a5 a6 a7 a8) _ _ _ rfl rfl]
    refine congrArg (fun u => (argsRef a0 a1 a2 a3 a4 a5 a6 a7 a8).rot n u _ * scale) (funext fun l => ?_)
    refine Eq.trans ?_ (heads_read a0 a5 a7 n ⟨2 * ((h : ℕ) / 2) + ((x : ℕ) - 128) / 64, by omega⟩ ⟨128 + (l : ℕ), by omega⟩)
    pointwise

theorem resK_first (h : Fin 8) (n : Fin 8704) (x : Fin 256) (hx : (x : ℕ) < 128) :
    resK a1 a2 a3 a4 a6 a8 (ix3 h n x) = headsKV a1 a6 a8 (ix3 n h ⟨x, by omega⟩) := by
  pointwise [resK]
  rw [dif_pos hx]

theorem resK_second (h : Fin 8) (n : Fin 8704) (x : Fin 256) (hx : ¬ (x : ℕ) < 128) :
    resK a1 a2 a3 a4 a6 a8 (ix3 h n x) = placed (spun a2 a3 a4) (ix3 n ⟨(h : ℕ) % 2, by omega⟩ ⟨(x : ℕ) - 128, by omega⟩) := by
  pointwise [resK]
  rw [dif_neg hx]

theorem resK_eq (h : Fin 8) (n : Fin 8704) (x : Fin 256) :
    resK a1 a2 a3 a4 a6 a8 (ix3 h n x) = (argsRef a0 a1 a2 a3 a4 a5 a6 a7 a8).k h n x := by
  unfold Args.k
  by_cases hx : (x : ℕ) < 128
  · rw [dif_pos hx, resK_first _ _ _ _ _ _ h n x hx, headsKV_read]
    rfl
  · rw [dif_neg hx, resK_second _ _ _ _ _ _ h n x hx, placed_read, spun_read (argsRef a0 a1 a2 a3 a4 a5 a6 a7 a8) _ _ _ rfl rfl]
    have e4 : (⟨((x : ℕ) - 128) % 64, by omega⟩ : Fin 64) = ⟨(x : ℕ) % 64, by omega⟩ := Fin.ext (by simp only; omega)
    simp only [e4]
    rfl

theorem resV_first (h : Fin 8) (b : Fin 34) (r : Fin 144) (t : Fin 256) (hr : (r : ℕ) < 128) :
    resV a1 a6 a8 (ix4 h b r t) = headsKV a1 a6 a8 (ix3 ⟨256 * (b : ℕ) + t, by omega⟩ h ⟨128 + r, by omega⟩) := by
  pointwise [resV]
  rw [dif_pos hr]
  simp only [Nat.mul_comm 256]

theorem resV_second (h : Fin 8) (b : Fin 34) (r : Fin 144) (t : Fin 256) (hr : ¬ (r : ℕ) < 128) :
    resV a1 a6 a8 (ix4 h b r t) = if (r : ℕ) = 128 then 1 else 0 := by
  have hr2 := r.isLt
  pointwise [resV]
  by_cases h1 : (r : ℕ) = 128
  · rw [dif_neg hr, dif_pos (by omega), if_pos h1]
  · rw [dif_neg hr, dif_neg (by omega), if_neg h1]

theorem resV_eq (h : Fin 8) (b : Fin 34) (r : Fin 144) (t : Fin 256) :
    resV a1 a6 a8 (ix4 h b r t) = (argsRef a0 a1 a2 a3 a4 a5 a6 a7 a8).vt h b r t := by
  unfold Args.vt
  by_cases hr : (r : ℕ) < 128
  · rw [dif_pos hr, resV_first _ _ _ h b r t hr, headsKV_read]
    rfl
  · rw [dif_neg hr, resV_second _ _ _ h b r t hr]

section Terms
variable {F : FTy → Type} [FloatOps F] (m : (ℓ : Loc nD τ sig) → Buf (Elt F) ℓ)

theorem term_q (c : Dev nD) : Cert.UpReferenceIdeal.Value.res_main_v165 m c
    = resQ (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg7)) := by
  unfold Cert.UpReferenceIdeal.Value.res_main_v165
  rfl

theorem term_k (c : Dev nD) : Cert.UpReferenceIdeal.Value.res_main_v167 m c
    = resK (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg8)) := by
  unfold Cert.UpReferenceIdeal.Value.res_main_v167
  rfl

end Terms

end Cert.UpProjRef
-- ==== Proof.lean ====
module

public import proofs.«01_k».proof.Proof.Finite
public import proofs.«01_k».proof.Proof.ReferenceRead
public import proofs.«01_k».proof.Proof.InFinal
public import proofs.«01_k».proof.Proof.InReference
public import proofs.«01_k».proof.Proof.LateFinal
public import proofs.«01_k».proof.Proof.OutFinal
public import proofs.«01_k».proof.Proof.OutReference
public import proofs.«01_k».proof.Proof.MidFinal
public import proofs.«01_k».proof.Proof.MidReference
public import proofs.«01_k».proof.Proof.UpFinal
public import proofs.«01_k».proof.Proof.UpReference
public import Idealize.ShloMosaic.Lib.Claim
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import Idealize.ShloMosaic.Adequacy
public import Idealize.ShloMosaic.Init
public import proofs.«01_k».proof.Proof.Gen.MidKernel
public import proofs.«01_k».proof.Proof.Gen.MidKernel.Skeleton
public import proofs.«01_k».proof.Proof.Gen.MidKernel.Launch
public import proofs.«01_k».proof.Proof.Gen.MidKernel.Points
public import proofs.«01_k».proof.Proof.Gen.MidKernel.Frame
public import proofs.«01_k».proof.Proof.Gen.MidKernelIdeal
public import proofs.«01_k».proof.Proof.Gen.MidKernelIdeal.Skeleton
public import proofs.«01_k».proof.Proof.Gen.MidKernelIdeal.Launch
public import proofs.«01_k».proof.Proof.Gen.MidKernelIdeal.Points
public import proofs.«01_k».proof.Proof.Gen.MidKernelIdeal.Frame
public import proofs.«01_k».proof.Proof.Gen.MidKernelIdeal.Value
public import proofs.«01_k».proof.Proof.Gen.MidReferenceIdeal
public import proofs.«01_k».proof.Proof.Gen.MidReferenceIdeal.Run
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.LateKernel
public import proofs.«01_k».proof.Proof.Gen.LateKernel.Skeleton
public import proofs.«01_k».proof.Proof.Gen.LateKernel.Launch
public import proofs.«01_k».proof.Proof.Gen.LateKernel.Points
public import proofs.«01_k».proof.Proof.Gen.LateKernel.Frame
public import proofs.«01_k».proof.Proof.Gen.LateKernelIdeal
public import proofs.«01_k».proof.Proof.Gen.LateKernelIdeal.Skeleton
public import proofs.«01_k».proof.Proof.Gen.LateKernelIdeal.Launch
public import proofs.«01_k».proof.Proof.Gen.LateKernelIdeal.Points
public import proofs.«01_k».proof.Proof.Gen.LateKernelIdeal.Frame
public import proofs.«01_k».proof.Proof.Gen.LateKernelIdeal.Value
public import proofs.«01_k».proof.Proof.Gen.LateReferenceIdeal
public import proofs.«01_k».proof.Proof.Gen.LateReferenceIdeal.Run

@[expose] public section

noncomputable section

namespace Cert.Proof

open Idealize.ShloMosaic Idealize.SL.Sem

/-- The reference leaves the array the kernel leaves. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (A : Cert.Mla.Reals) (c : Dev Cert.KernelIdeal.nD) (H : Cert.Mla.Held m A c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_out0 m' c = Cert.Mla.resultArray A := by
  rw [Cert.MlaRef.result_eq, h0, h1, h2, h3, h4, h5, h6, h7, h8]
  funext j
  obtain ⟨n, d, rfl⟩ : ∃ (n : Fin 8192) (d : Fin 1024), j = ix2 n d := ⟨j 0, j 1, eq_ix2 j⟩
  exact Cert.MlaRef.result_real H.qn H.qr H.kn H.kr H.v H.knc H.krc H.vc H.g n d ⟨(n : ℕ) / 4096, by omega⟩
    ⟨(n : ℕ) % 4096, by omega⟩ ⟨(d : ℕ) / 128, by omega⟩ ⟨(d : ℕ) % 128, by omega⟩ (by simp only; omega) (by simp only; omega)

/-- The real parts of what the arguments hold on core `c`. -/
def realsAt (m : (ℓ : Loc Cert.KernelIdeal.nD Cert.KernelIdeal.τ Cert.KernelIdeal.sig) → Buf (Elt Ideal) ℓ)
    (c : Dev Cert.KernelIdeal.nD) : Cert.Mla.Reals :=
  Cert.Mla.realsOf
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))

/-- At finite arguments kernel and reference leave the same array. -/
theorem values_agree : Cert.algebraic_KernelIdeal_ReferenceIdeal_pre_finite (hPre_finite := Cert.Mla.preFacts) := by
  intro m g m' g' hpre hagree
  have : Cert.Pre_finite.Facts := Cert.Mla.preFacts
  have H := fun c => Cert.Mla.holding_of_finite _ _ _ _ _ _ _ _ _ (hpre c)
  refine ⟨fun c => Cert.Mla.resultArray (realsAt m c), ?_, ?_⟩
  · refine (θ_run _ _ _).mono (fun r h c => ?_) (Cert.KernelIdeal.Value.run_blocks m g)
    exact ⟨(h c).1.trans (Cert.Mla.final m c (H c)), (h c).2⟩
  · refine (θ_run _ _ _).mono (fun r h c => ?_) (Cert.ReferenceIdeal.Value.run m' g')
    obtain ⟨h0, h1, h2, h3, h4, h5, h6, h7, h8⟩ := hagree c
    exact ⟨(h c).1.trans (results_agree m m' _ c (H c) h0 h1 h2 h3 h4 h5 h6 h7 h8), (h c).2⟩

/-- The reference is host code without a semaphore: its run leaves its arguments as they were. -/
theorem frame_reference : Cert.quiescent_ReferenceIdeal := by
  intro m g _
  exact (θ_run _ _ _).mono (fun r h => ⟨fun c => (h c).2, sem_eq_zero_of_no_sems (by decide) r.2⟩)
    (Cert.ReferenceIdeal.Value.run m g)

/-- The arguments the input projection's reference holds are those its kernel holds. -/
theorem in_args (m : (ℓ : Loc Cert.InKernelIdeal.nD Cert.InKernelIdeal.τ Cert.InKernelIdeal.sig) → Buf (Elt Ideal) ℓ)
    (m' : (ℓ : Loc Cert.InReferenceIdeal.nD Cert.InReferenceIdeal.τ Cert.InReferenceIdeal.sig) → Buf (Elt Ideal) ℓ) (c : Dev Cert.InKernelIdeal.nD)
    (h0 : m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0))
    (h1 : m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1))
    (h2 : m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2))
    (h3 : m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3))
    (h4 : m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4))
    (h5 : m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5))
    (h6 : m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6))
    (h7 : m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7))
    (h8 : m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)) :
    Cert.InProjRef.argsAt
      (m' ((c.tc : Thread Cert.InReferenceIdeal.nD Cert.InReferenceIdeal.τ).loc Cert.InReferenceIdeal.main_arg0))
      (m' ((c.tc : Thread Cert.InReferenceIdeal.nD Cert.InReferenceIdeal.τ).loc Cert.InReferenceIdeal.main_arg1))
      (m' ((c.tc : Thread Cert.InReferenceIdeal.nD Cert.InReferenceIdeal.τ).loc Cert.InReferenceIdeal.main_arg2))
      (m' ((c.tc : Thread Cert.InReferenceIdeal.nD Cert.InReferenceIdeal.τ).loc Cert.InReferenceIdeal.main_arg3))
      (m' ((c.tc : Thread Cert.InReferenceIdeal.nD Cert.InReferenceIdeal.τ).loc Cert.InReferenceIdeal.main_arg4))
      (m' ((c.tc : Thread Cert.InReferenceIdeal.nD Cert.InReferenceIdeal.τ).loc Cert.InReferenceIdeal.main_arg5))
      (m' ((c.tc : Thread Cert.InReferenceIdeal.nD Cert.InReferenceIdeal.τ).loc Cert.InReferenceIdeal.main_arg6))
      (m' ((c.tc : Thread Cert.InReferenceIdeal.nD Cert.InReferenceIdeal.τ).loc Cert.InReferenceIdeal.main_arg7))
      (m' ((c.tc : Thread Cert.InReferenceIdeal.nD Cert.InReferenceIdeal.τ).loc Cert.InReferenceIdeal.main_arg8))
      = Cert.InProj.argsOf m c := by
  rw [h0, h1, h2, h3, h4, h5, h6, h7, h8]
  rfl

theorem in_z (m' : (ℓ : Loc Cert.InReferenceIdeal.nD Cert.InReferenceIdeal.τ Cert.InReferenceIdeal.sig) → Buf (Elt Ideal) ℓ) (c : Dev Cert.InReferenceIdeal.nD) :
    Cert.InProjRef.resZ (F := Ideal) (Cert.InProjRef.prodL (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)))
      (Cert.InProjRef.prodC (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg3)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)))
      = Cert.InProj.resultZ (Cert.InProjRef.argsAt (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg3)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)) (m' ((c.tc : Thread Cert.InReferenceIdeal.nD Cert.InReferenceIdeal.τ).loc Cert.InReferenceIdeal.main_arg6)) (m' ((c.tc : Thread Cert.InReferenceIdeal.nD Cert.InReferenceIdeal.τ).loc Cert.InReferenceIdeal.main_arg7)) (m' ((c.tc : Thread Cert.InReferenceIdeal.nD Cert.InReferenceIdeal.τ).loc Cert.InReferenceIdeal.main_arg8))) := by
  funext j
  obtain ⟨n, k, rfl⟩ : ∃ (n : Fin 8704) (k : Fin 4352), j = ix2 n k := ⟨j 0, j 1, eq_ix2 j⟩
  exact Cert.InProjRef.resultZ_eq _ _ _ _ _ _ _ _ _ n k

theorem in_a (m' : (ℓ : Loc Cert.InReferenceIdeal.nD Cert.InReferenceIdeal.τ Cert.InReferenceIdeal.sig) → Buf (Elt Ideal) ℓ) (c : Dev Cert.InReferenceIdeal.nD) :
    Cert.InProjRef.resA (F := Ideal) (Cert.InProjRef.prodL (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)))
      (Cert.InProjRef.prodC (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg3)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)))
      (m' ((c.tc : Thread Cert.InReferenceIdeal.nD Cert.InReferenceIdeal.τ).loc Cert.InReferenceIdeal.main_arg6)) (m' ((c.tc : Thread Cert.InReferenceIdeal.nD Cert.InReferenceIdeal.τ).loc Cert.InReferenceIdeal.main_arg7)) (m' ((c.tc : Thread Cert.InReferenceIdeal.nD Cert.InReferenceIdeal.τ).loc Cert.InReferenceIdeal.main_arg8))
      = Cert.InProj.resultA (Cert.InProjRef.argsAt (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg3)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)) (m' ((c.tc : Thread Cert.InReferenceIdeal.nD Cert.InReferenceIdeal.τ).loc Cert.InReferenceIdeal.main_arg6)) (m' ((c.tc : Thread Cert.InReferenceIdeal.nD Cert.InReferenceIdeal.τ).loc Cert.InReferenceIdeal.main_arg7)) (m' ((c.tc : Thread Cert.InReferenceIdeal.nD Cert.InReferenceIdeal.τ).loc Cert.InReferenceIdeal.main_arg8))) := by
  funext j
  obtain ⟨n, k, rfl⟩ : ∃ (n : Fin 8704) (k : Fin 512), j = ix2 n k := ⟨j 0, j 1, eq_ix2 j⟩
  exact Cert.InProjRef.resultA_eq _ _ _ _ _ _ _ _ _ n k

/-- The input projection and its reference leave the same two arrays. -/
theorem in_agree : Cert.algebraic_InKernelIdeal_InReferenceIdeal := by
  intro m g m' g' _ hagree
  refine ⟨fun c => Cert.InProj.resultZ (Cert.InProj.argsOf m c), fun c => Cert.InProj.resultA (Cert.InProj.argsOf m c), ?_, ?_⟩
  · refine (θ_run _ _ _).mono (fun r h c => ?_) (Cert.InKernelIdeal.Value.run_blocks m g)
    exact ⟨(h c).1.trans (Cert.InProj.final_z m c), (h c).2.1.trans (Cert.InProj.final_a m c), (h c).2.2⟩
  · refine (θ_run _ _ _).mono (fun r h c => ?_) (Cert.InReferenceIdeal.Value.run m' g')
    obtain ⟨h0, h1, h2, h3, h4, h5, h6, h7, h8⟩ := hagree c
    have ea := in_args m m' c h0 h1 h2 h3 h4 h5 h6 h7 h8
    exact ⟨(h c).1.trans ((in_z m' c).trans (congrArg _ ea)), (h c).2.1.trans ((in_a m' c).trans (congrArg _ ea)), (h c).2.2⟩

theorem frame_in_reference : Cert.quiescent_InReferenceIdeal := by
  intro m g _
  exact (θ_run _ _ _).mono (fun r h => ⟨fun c => (h c).2.2, sem_eq_zero_of_no_sems (by decide) r.2⟩)
    (Cert.InReferenceIdeal.Value.run m g)

/-- The last output projection's reference leaves the array its kernel leaves. -/
theorem out_value (m : (ℓ : Loc Cert.OutKernelIdeal.nD Cert.OutKernelIdeal.τ Cert.OutKernelIdeal.sig) → Buf (Elt Ideal) ℓ)
    (m' : (ℓ : Loc Cert.OutReferenceIdeal.nD Cert.OutReferenceIdeal.τ Cert.OutReferenceIdeal.sig) → Buf (Elt Ideal) ℓ) (c : Dev Cert.OutKernelIdeal.nD)
    (h0 : m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0))
    (h1 : m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1))
    (h2 : m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2))
    (h3 : m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3))
    (h4 : m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4))
    (h5 : m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5))
    (h6 : m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) :
    Cert.OutProjRef.res (F := Ideal)
      (m' ((c.tc : Thread Cert.OutReferenceIdeal.nD Cert.OutReferenceIdeal.τ).loc Cert.OutReferenceIdeal.main_arg0))
      (m' ((c.tc : Thread Cert.OutReferenceIdeal.nD Cert.OutReferenceIdeal.τ).loc Cert.OutReferenceIdeal.main_arg1))
      (m' ((c.tc : Thread Cert.OutReferenceIdeal.nD Cert.OutReferenceIdeal.τ).loc Cert.OutReferenceIdeal.main_arg2))
      (m' ((c.tc : Thread Cert.OutReferenceIdeal.nD Cert.OutReferenceIdeal.τ).loc Cert.OutReferenceIdeal.main_arg3))
      (m' ((c.tc : Thread Cert.OutReferenceIdeal.nD Cert.OutReferenceIdeal.τ).loc Cert.OutReferenceIdeal.main_arg4))
      (m' ((c.tc : Thread Cert.OutReferenceIdeal.nD Cert.OutReferenceIdeal.τ).loc Cert.OutReferenceIdeal.main_arg5))
      (m' ((c.tc : Thread Cert.OutReferenceIdeal.nD Cert.OutReferenceIdeal.τ).loc Cert.OutReferenceIdeal.main_arg6))
      = Cert.OutProj.result (Cert.OutProj.argsOf m c) := by
  rw [h0, h1, h2, h3, h4, h5, h6]
  funext j
  obtain ⟨n, k, rfl⟩ : ∃ (n : Fin 8192) (k : Fin 2048), j = ix2 n k := ⟨j 0, j 1, eq_ix2 j⟩
  exact Cert.OutProjRef.res_eq _ _ _ _ _ _ _ n k

/-- The last output projection and its reference leave the same array. -/
theorem out_agree : Cert.algebraic_OutKernelIdeal_OutReferenceIdeal := by
  intro m g m' g' _ hagree
  refine ⟨fun c => Cert.OutProj.result (Cert.OutProj.argsOf m c), ?_, ?_⟩
  · refine (θ_run _ _ _).mono (fun r h c => ?_) (Cert.OutKernelIdeal.Value.run_blocks m g)
    exact ⟨(h c).1.trans (Cert.OutProj.final m c), (h c).2⟩
  · refine (θ_run _ _ _).mono (fun r h c => ?_) (Cert.OutReferenceIdeal.Value.run m' g')
    obtain ⟨h0, h1, h2, h3, h4, h5, h6⟩ := hagree c
    exact ⟨(h c).1.trans (out_value m m' c h0 h1 h2 h3 h4 h5 h6), (h c).2⟩

theorem frame_out_reference : Cert.quiescent_OutReferenceIdeal := by
  intro m g _
  exact (θ_run _ _ _).mono (fun r h => ⟨fun c => (h c).2, sem_eq_zero_of_no_sems (by decide) r.2⟩)
    (Cert.OutReferenceIdeal.Value.run m g)

/-- The reference of the first layer's output projection leaves the array its kernel leaves. -/
theorem mid_value (m : (ℓ : Loc Cert.MidKernelIdeal.nD Cert.MidKernelIdeal.τ Cert.MidKernelIdeal.sig) → Buf (Elt Ideal) ℓ)
    (m' : (ℓ : Loc Cert.MidReferenceIdeal.nD Cert.MidReferenceIdeal.τ Cert.MidReferenceIdeal.sig) → Buf (Elt Ideal) ℓ) (c : Dev Cert.MidKernelIdeal.nD)
    (h0 : m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0))
    (h1 : m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1))
    (h2 : m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2))
    (h3 : m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3))
    (h4 : m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4))
    (h5 : m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5))
    (h6 : m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6))
    (h7 : m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7))
    (h8 : m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8))
    (h9 : m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)) :
    Cert.MidProjRef.res (F := Ideal)
      (m' ((c.tc : Thread Cert.MidReferenceIdeal.nD Cert.MidReferenceIdeal.τ).loc Cert.MidReferenceIdeal.main_arg0))
      (m' ((c.tc : Thread Cert.MidReferenceIdeal.nD Cert.MidReferenceIdeal.τ).loc Cert.MidReferenceIdeal.main_arg1))
      (m' ((c.tc : Thread Cert.MidReferenceIdeal.nD Cert.MidReferenceIdeal.τ).loc Cert.MidReferenceIdeal.main_arg2))
      (m' ((c.tc : Thread Cert.MidReferenceIdeal.nD Cert.MidReferenceIdeal.τ).loc Cert.MidReferenceIdeal.main_arg3))
      (m' ((c.tc : Thread Cert.MidReferenceIdeal.nD Cert.MidReferenceIdeal.τ).loc Cert.MidReferenceIdeal.main_arg4))
      (m' ((c.tc : Thread Cert.MidReferenceIdeal.nD Cert.MidReferenceIdeal.τ).loc Cert.MidReferenceIdeal.main_arg5))
      (m' ((c.tc : Thread Cert.MidReferenceIdeal.nD Cert.MidReferenceIdeal.τ).loc Cert.MidReferenceIdeal.main_arg6))
      (m' ((c.tc : Thread Cert.MidReferenceIdeal.nD Cert.MidReferenceIdeal.τ).loc Cert.MidReferenceIdeal.main_arg7))
      (m' ((c.tc : Thread Cert.MidReferenceIdeal.nD Cert.MidReferenceIdeal.τ).loc Cert.MidReferenceIdeal.main_arg8))
      (m' ((c.tc : Thread Cert.MidReferenceIdeal.nD Cert.MidReferenceIdeal.τ).loc Cert.MidReferenceIdeal.main_arg9))
      = Cert.MidProj.result (Cert.MidProj.argsOf m c) := by
  rw [h0, h1, h2, h3, h4, h5, h6, h7, h8, h9]
  funext j
  obtain ⟨n, k, rfl⟩ : ∃ (n : Fin 8704) (k : Fin 2048), j = ix2 n k := ⟨j 0, j 1, eq_ix2 j⟩
  exact Cert.MidProjRef.res_eq _ _ _ _ _ _ _ _ _ _ n k

/-- The first layer's output projection and its reference leave the same array. -/
theorem mid_agree : Cert.algebraic_MidKernelIdeal_MidReferenceIdeal := by
  intro m g m' g' _ hagree
  refine ⟨fun c => Cert.MidProj.result (Cert.MidProj.argsOf m c), ?_, ?_⟩
  · refine (θ_run _ _ _).mono (fun r h c => ?_) (Cert.MidKernelIdeal.Value.run_blocks m g)
    exact ⟨(h c).1.trans (Cert.MidProj.final m c), (h c).2⟩
  · refine (θ_run _ _ _).mono (fun r h c => ?_) (Cert.MidReferenceIdeal.Value.run m' g')
    obtain ⟨h0, h1, h2, h3, h4, h5, h6, h7, h8, h9⟩ := hagree c
    exact ⟨(h c).1.trans (mid_value m m' c h0 h1 h2 h3 h4 h5 h6 h7 h8 h9), (h c).2⟩

theorem frame_mid_reference : Cert.quiescent_MidReferenceIdeal := by
  intro m g _
  exact (θ_run _ _ _).mono (fun r h => ⟨fun c => (h c).2, sem_eq_zero_of_no_sems (by decide) r.2⟩)
    (Cert.MidReferenceIdeal.Value.run m g)

/-- The reference of the up-projection leaves the queries its kernel leaves. -/
theorem up_value_q (m : (ℓ : Loc Cert.UpKernelIdeal.nD Cert.UpKernelIdeal.τ Cert.UpKernelIdeal.sig) → Buf (Elt Ideal) ℓ)
    (m' : (ℓ : Loc Cert.UpReferenceIdeal.nD Cert.UpReferenceIdeal.τ Cert.UpReferenceIdeal.sig) → Buf (Elt Ideal) ℓ) (c : Dev Cert.UpKernelIdeal.nD)
    (h0 : m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0))
    (h1 : m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1))
    (h2 : m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2))
    (h3 : m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3))
    (h4 : m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4))
    (h5 : m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5))
    (h6 : m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6))
    (h7 : m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7))
    (h8 : m' ((c.tc : Thread Cert.UpReferenceIdeal.nD Cert.UpReferenceIdeal.τ).loc Cert.UpReferenceIdeal.main_arg8) = m ((c.tc : Thread Cert.UpKernelIdeal.nD Cert.UpKernelIdeal.τ).loc Cert.UpKernelIdeal.main_arg8)) :
    Cert.UpProjRef.resQ (F := Ideal)
      (m' ((c.tc : Thread Cert.UpReferenceIdeal.nD Cert.UpReferenceIdeal.τ).loc Cert.UpReferenceIdeal.main_arg0))
      (m' ((c.tc : Thread Cert.UpReferenceIdeal.nD Cert.UpReferenceIdeal.τ).loc Cert.UpReferenceIdeal.main_arg3))
      (m' ((c.tc : Thread Cert.UpReferenceIdeal.nD Cert.UpReferenceIdeal.τ).loc Cert.UpReferenceIdeal.main_arg4))
      (m' ((c.tc : Thread Cert.UpReferenceIdeal.nD Cert.UpReferenceIdeal.τ).loc Cert.UpReferenceIdeal.main_arg5))
      (m' ((c.tc : Thread Cert.UpReferenceIdeal.nD Cert.UpReferenceIdeal.τ).loc Cert.UpReferenceIdeal.main_arg7))
      = Cert.UpProj.resultQ (Cert.UpProj.argsOf m c) := by
  rw [h0, h3, h4, h5, h7]
  funext j
  obtain ⟨h, n, x, rfl⟩ : ∃ (h : Fin 8) (n : Fin 8704) (x : Fin 256), j = ix3 h n x := ⟨j 0, j 1, j 2, eq_ix3 j⟩
  exact Cert.UpProjRef.resQ_eq (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)) (m ((c.tc : Thread Cert.UpKernelIdeal.nD Cert.UpKernelIdeal.τ).loc Cert.UpKernelIdeal.main_arg8)) h n x

/-- The reference of the up-projection leaves the keys its kernel leaves. -/
theorem up_value_k (m : (ℓ : Loc Cert.UpKernelIdeal.nD Cert.UpKernelIdeal.τ Cert.UpKernelIdeal.sig) → Buf (Elt Ideal) ℓ)
    (m' : (ℓ : Loc Cert.UpReferenceIdeal.nD Cert.UpReferenceIdeal.τ Cert.UpReferenceIdeal.sig) → Buf (Elt Ideal) ℓ) (c : Dev Cert.UpKernelIdeal.nD)
    (h0 : m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0))
    (h1 : m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1))
    (h2 : m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2))
    (h3 : m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3))
    (h4 : m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4))
    (h5 : m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5))
    (h6 : m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6))
    (h7 : m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7))
    (h8 : m' ((c.tc : Thread Cert.UpReferenceIdeal.nD Cert.UpReferenceIdeal.τ).loc Cert.UpReferenceIdeal.main_arg8) = m ((c.tc : Thread Cert.UpKernelIdeal.nD Cert.UpKernelIdeal.τ).loc Cert.UpKernelIdeal.main_arg8)) :
    Cert.UpProjRef.resK (F := Ideal)
      (m' ((c.tc : Thread Cert.UpReferenceIdeal.nD Cert.UpReferenceIdeal.τ).loc Cert.UpReferenceIdeal.main_arg1))
      (m' ((c.tc : Thread Cert.UpReferenceIdeal.nD Cert.UpReferenceIdeal.τ).loc Cert.UpReferenceIdeal.main_arg2))
      (m' ((c.tc : Thread Cert.UpReferenceIdeal.nD Cert.UpReferenceIdeal.τ).loc Cert.UpReferenceIdeal.main_arg3))
      (m' ((c.tc : Thread Cert.UpReferenceIdeal.nD Cert.UpReferenceIdeal.τ).loc Cert.UpReferenceIdeal.main_arg4))
      (m' ((c.tc : Thread Cert.UpReferenceIdeal.nD Cert.UpReferenceIdeal.τ).loc Cert.UpReferenceIdeal.main_arg6))
      (m' ((c.tc : Thread Cert.UpReferenceIdeal.nD Cert.UpReferenceIdeal.τ).loc Cert.UpReferenceIdeal.main_arg8))
      = Cert.UpProj.resultK (Cert.UpProj.argsOf m c) := by
  rw [h1, h2, h3, h4, h6, h8]
  funext j
  obtain ⟨h, n, x, rfl⟩ : ∃ (h : Fin 8) (n : Fin 8704) (x : Fin 256), j = ix3 h n x := ⟨j 0, j 1, j 2, eq_ix3 j⟩
  exact Cert.UpProjRef.resK_eq (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)) (m ((c.tc : Thread Cert.UpKernelIdeal.nD Cert.UpKernelIdeal.τ).loc Cert.UpKernelIdeal.main_arg8)) h n x

/-- The reference of the up-projection leaves the values its kernel leaves. -/
theorem up_value_v (m : (ℓ : Loc Cert.UpKernelIdeal.nD Cert.UpKernelIdeal.τ Cert.UpKernelIdeal.sig) → Buf (Elt Ideal) ℓ)
    (m' : (ℓ : Loc Cert.UpReferenceIdeal.nD Cert.UpReferenceIdeal.τ Cert.UpReferenceIdeal.sig) → Buf (Elt Ideal) ℓ) (c : Dev Cert.UpKernelIdeal.nD)
    (h0 : m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0))
    (h1 : m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1))
    (h2 : m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2))
    (h3 : m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3))
    (h4 : m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4))
    (h5 : m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5))
    (h6 : m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6))
    (h7 : m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7))
    (h8 : m' ((c.tc : Thread Cert.UpReferenceIdeal.nD Cert.UpReferenceIdeal.τ).loc Cert.UpReferenceIdeal.main_arg8) = m ((c.tc : Thread Cert.UpKernelIdeal.nD Cert.UpKernelIdeal.τ).loc Cert.UpKernelIdeal.main_arg8)) :
    Cert.UpProjRef.resV (F := Ideal)
      (m' ((c.tc : Thread Cert.UpReferenceIdeal.nD Cert.UpReferenceIdeal.τ).loc Cert.UpReferenceIdeal.main_arg1))
      (m' ((c.tc : Thread Cert.UpReferenceIdeal.nD Cert.UpReferenceIdeal.τ).loc Cert.UpReferenceIdeal.main_arg6))
      (m' ((c.tc : Thread Cert.UpReferenceIdeal.nD Cert.UpReferenceIdeal.τ).loc Cert.UpReferenceIdeal.main_arg8))
      = Cert.UpProj.resultV (Cert.UpProj.argsOf m c) := by
  rw [h1, h6, h8]
  funext j
  obtain ⟨h, b, r, t, rfl⟩ : ∃ (h : Fin 8) (b : Fin 34) (r : Fin 144) (t : Fin 256), j = ix4 h b r t := ⟨j 0, j 1, j 2, j 3, eq_ix4 j⟩
  exact Cert.UpProjRef.resV_eq (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)) (m ((c.tc : Thread Cert.UpKernelIdeal.nD Cert.UpKernelIdeal.τ).loc Cert.UpKernelIdeal.main_arg8)) h b r t

/-- The up-projection and its reference leave the same three arrays. -/
theorem up_agree : Cert.algebraic_UpKernelIdeal_UpReferenceIdeal := by
  intro m g m' g' _ hagree
  refine ⟨fun c => Cert.UpProj.resultQ (Cert.UpProj.argsOf m c), fun c => Cert.UpProj.resultK (Cert.UpProj.argsOf m c),
    fun c => Cert.UpProj.resultV (Cert.UpProj.argsOf m c), ?_, ?_⟩
  · refine (θ_run _ _ _).mono (fun r h c => ?_) (Cert.UpKernelIdeal.Value.run_blocks m g)
    exact ⟨(h c).1.trans (Cert.UpProj.final_q m c), (h c).2.1.trans (Cert.UpProj.final_k m c),
      (h c).2.2.1.trans (Cert.UpProj.final_v m c), (h c).2.2.2⟩
  · refine (θ_run _ _ _).mono (fun r h c => ?_) (Cert.UpReferenceIdeal.Value.run m' g')
    obtain ⟨h0, h1, h2, h3, h4, h5, h6, h7, h8⟩ := hagree c
    exact ⟨(h c).1.trans ((Cert.UpProjRef.term_q m' c).trans (up_value_q m m' c h0 h1 h2 h3 h4 h5 h6 h7 h8)),
      (h c).2.1.trans ((Cert.UpProjRef.term_k m' c).trans (up_value_k m m' c h0 h1 h2 h3 h4 h5 h6 h7 h8)),
      (h c).2.2.1.trans (up_value_v m m' c h0 h1 h2 h3 h4 h5 h6 h7 h8), (h c).2.2.2⟩

theorem frame_up_reference : Cert.quiescent_UpReferenceIdeal := by
  intro m g _
  exact (θ_run _ _ _).mono (fun r h => ⟨fun c => (h c).2.2.2, sem_eq_zero_of_no_sems (by decide) r.2⟩)
    (Cert.UpReferenceIdeal.Value.run m g)

open Cert.LateReferenceIdeal Cert.LateReferenceIdeal.Gen in
/-- The latents' rows of the second layer's rows. -/
def late_latents {F : FTy → Type} [FloatOps F] (a : FVec F S8704x2048 .f32) : FVec F S2x4096x2048 .f32 :=
  shapeCast _ (extractStridedSlice S8192x2048 ![0, 0] a slices_S8704x2048_S8192x2048_0_0) shapeCasts_S8192x2048_S2x4096x2048

open Cert.LateReferenceIdeal Cert.LateReferenceIdeal.Gen in
/-- The context's rows of the second layer's rows. -/
def late_context {F : FTy → Type} [FloatOps F] (a : FVec F S8704x2048 .f32) : FVec F S2x256x2048 .f32 :=
  shapeCast _ (extractStridedSlice S512x2048 ![8192, 0] a slices_S8704x2048_S512x2048_8192_0) shapeCasts_S512x2048_S2x256x2048

open Cert.LateReferenceIdeal in
theorem late_latents_read (a : FVec Ideal S8704x2048 .f32) (b : Fin 2) (i : Fin 4096) (k : Fin 2048) :
    late_latents a (ix3 b i k) = a (ix2 ⟨4096 * (b : ℕ) + i, by omega⟩ k) := by
  pointwise [late_latents]
  simp only [Nat.mul_comm 4096]

open Cert.LateReferenceIdeal in
theorem late_context_read (a : FVec Ideal S8704x2048 .f32) (b : Fin 2) (i : Fin 256) (k : Fin 2048) :
    late_context a (ix3 b i k) = a (ix2 ⟨8192 + (256 * (b : ℕ) + i), by omega⟩ k) := by
  pointwise [late_context]
  simp only [Nat.mul_comm 256]

/-- The arguments the second layer's input projection's reference holds are those its kernel holds. -/
theorem late_args (m : (ℓ : Loc Cert.LateKernelIdeal.nD Cert.LateKernelIdeal.τ Cert.LateKernelIdeal.sig) → Buf (Elt Ideal) ℓ)
    (m' : (ℓ : Loc Cert.LateReferenceIdeal.nD Cert.LateReferenceIdeal.τ Cert.LateReferenceIdeal.sig) → Buf (Elt Ideal) ℓ) (c : Dev Cert.LateKernelIdeal.nD)
    (h0 : m' ((c.tc : Thread Cert.LateReferenceIdeal.nD Cert.LateReferenceIdeal.τ).loc Cert.LateReferenceIdeal.main_arg0) = m ((c.tc : Thread Cert.LateKernelIdeal.nD Cert.LateKernelIdeal.τ).loc Cert.LateKernelIdeal.main_arg0))
    (h1 : m' ((c.tc : Thread Cert.LateReferenceIdeal.nD Cert.LateReferenceIdeal.τ).loc Cert.LateReferenceIdeal.main_arg1) = m ((c.tc : Thread Cert.LateKernelIdeal.nD Cert.LateKernelIdeal.τ).loc Cert.LateKernelIdeal.main_arg1))
    (h2 : m' ((c.tc : Thread Cert.LateReferenceIdeal.nD Cert.LateReferenceIdeal.τ).loc Cert.LateReferenceIdeal.main_arg2) = m ((c.tc : Thread Cert.LateKernelIdeal.nD Cert.LateKernelIdeal.τ).loc Cert.LateKernelIdeal.main_arg2))
    (h3 : m' ((c.tc : Thread Cert.LateReferenceIdeal.nD Cert.LateReferenceIdeal.τ).loc Cert.LateReferenceIdeal.main_arg3) = m ((c.tc : Thread Cert.LateKernelIdeal.nD Cert.LateKernelIdeal.τ).loc Cert.LateKernelIdeal.main_arg3))
    (h4 : m' ((c.tc : Thread Cert.LateReferenceIdeal.nD Cert.LateReferenceIdeal.τ).loc Cert.LateReferenceIdeal.main_arg4) = m ((c.tc : Thread Cert.LateKernelIdeal.nD Cert.LateKernelIdeal.τ).loc Cert.LateKernelIdeal.main_arg4))
    (h5 : m' ((c.tc : Thread Cert.LateReferenceIdeal.nD Cert.LateReferenceIdeal.τ).loc Cert.LateReferenceIdeal.main_arg5) = m ((c.tc : Thread Cert.LateKernelIdeal.nD Cert.LateKernelIdeal.τ).loc Cert.LateKernelIdeal.main_arg5))
    (h6 : m' ((c.tc : Thread Cert.LateReferenceIdeal.nD Cert.LateReferenceIdeal.τ).loc Cert.LateReferenceIdeal.main_arg6) = m ((c.tc : Thread Cert.LateKernelIdeal.nD Cert.LateKernelIdeal.τ).loc Cert.LateKernelIdeal.main_arg6))
    (h7 : m' ((c.tc : Thread Cert.LateReferenceIdeal.nD Cert.LateReferenceIdeal.τ).loc Cert.LateReferenceIdeal.main_arg7) = m ((c.tc : Thread Cert.LateKernelIdeal.nD Cert.LateKernelIdeal.τ).loc Cert.LateKernelIdeal.main_arg7)) :
    Cert.InProjRef.argsAt (late_latents (m' ((c.tc : Thread Cert.LateReferenceIdeal.nD Cert.LateReferenceIdeal.τ).loc Cert.LateReferenceIdeal.main_arg0))) (late_context (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg1)) (m' ((c.tc : Thread Cert.LateReferenceIdeal.nD Cert.LateReferenceIdeal.τ).loc Cert.LateReferenceIdeal.main_arg2)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4)) (m' ((c.tc : Thread Cert.LateReferenceIdeal.nD Cert.LateReferenceIdeal.τ).loc Cert.LateReferenceIdeal.main_arg5)) (m' ((c.tc : Thread Cert.LateReferenceIdeal.nD Cert.LateReferenceIdeal.τ).loc Cert.LateReferenceIdeal.main_arg6)) (m' ((c.tc : Thread Cert.LateReferenceIdeal.nD Cert.LateReferenceIdeal.τ).loc Cert.LateReferenceIdeal.main_arg7))
      = Cert.LateProj.argsOf m c := by
  rw [h0, h1, h2, h3, h4, h5, h6, h7]
  unfold Cert.InProjRef.argsAt Cert.LateProj.argsOf
  simp only [late_latents_read, late_context_read]

theorem late_z (m' : (ℓ : Loc Cert.LateReferenceIdeal.nD Cert.LateReferenceIdeal.τ Cert.LateReferenceIdeal.sig) → Buf (Elt Ideal) ℓ) (c : Dev Cert.LateReferenceIdeal.nD) :
    Cert.InProjRef.resZ (F := Ideal) (Cert.InProjRef.prodL (late_latents (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg1)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4))) (Cert.InProjRef.prodC (late_context (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg2)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4)))
      = Cert.LateProj.resultZ (Cert.InProjRef.argsAt (late_latents (m' ((c.tc : Thread Cert.LateReferenceIdeal.nD Cert.LateReferenceIdeal.τ).loc Cert.LateReferenceIdeal.main_arg0))) (late_context (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg1)) (m' ((c.tc : Thread Cert.LateReferenceIdeal.nD Cert.LateReferenceIdeal.τ).loc Cert.LateReferenceIdeal.main_arg2)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4)) (m' ((c.tc : Thread Cert.LateReferenceIdeal.nD Cert.LateReferenceIdeal.τ).loc Cert.LateReferenceIdeal.main_arg5)) (m' ((c.tc : Thread Cert.LateReferenceIdeal.nD Cert.LateReferenceIdeal.τ).loc Cert.LateReferenceIdeal.main_arg6)) (m' ((c.tc : Thread Cert.LateReferenceIdeal.nD Cert.LateReferenceIdeal.τ).loc Cert.LateReferenceIdeal.main_arg7))) := by
  funext j
  obtain ⟨n, k, rfl⟩ : ∃ (n : Fin 8704) (k : Fin 4352), j = ix2 n k := ⟨j 0, j 1, eq_ix2 j⟩
  exact Cert.InProjRef.resultZ_eq _ _ _ _ _ _ _ _ _ n k

theorem late_a (m' : (ℓ : Loc Cert.LateReferenceIdeal.nD Cert.LateReferenceIdeal.τ Cert.LateReferenceIdeal.sig) → Buf (Elt Ideal) ℓ) (c : Dev Cert.LateReferenceIdeal.nD) :
    Cert.InProjRef.resA (F := Ideal) (Cert.InProjRef.prodL (late_latents (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg1)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4))) (Cert.InProjRef.prodC (late_context (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg2)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4))) (m' ((c.tc : Thread Cert.LateReferenceIdeal.nD Cert.LateReferenceIdeal.τ).loc Cert.LateReferenceIdeal.main_arg5)) (m' ((c.tc : Thread Cert.LateReferenceIdeal.nD Cert.LateReferenceIdeal.τ).loc Cert.LateReferenceIdeal.main_arg6)) (m' ((c.tc : Thread Cert.LateReferenceIdeal.nD Cert.LateReferenceIdeal.τ).loc Cert.LateReferenceIdeal.main_arg7))
      = Cert.LateProj.resultA (Cert.InProjRef.argsAt (late_latents (m' ((c.tc : Thread Cert.LateReferenceIdeal.nD Cert.LateReferenceIdeal.τ).loc Cert.LateReferenceIdeal.main_arg0))) (late_context (m' ((c.tc : Thread Cert.LateReferenceIdeal.nD Cert.LateReferenceIdeal.τ).loc Cert.LateReferenceIdeal.main_arg0))) (m' ((c.tc : Thread Cert.LateReferenceIdeal.nD Cert.LateReferenceIdeal.τ).loc Cert.LateReferenceIdeal.main_arg1)) (m' ((c.tc : Thread Cert.LateReferenceIdeal.nD Cert.LateReferenceIdeal.τ).loc Cert.LateReferenceIdeal.main_arg2)) (m' ((c.tc : Thread Cert.LateReferenceIdeal.nD Cert.LateReferenceIdeal.τ).loc Cert.LateReferenceIdeal.main_arg3)) (m' ((c.tc : Thread Cert.LateReferenceIdeal.nD Cert.LateReferenceIdeal.τ).loc Cert.LateReferenceIdeal.main_arg4)) (m' ((c.tc : Thread Cert.LateReferenceIdeal.nD Cert.LateReferenceIdeal.τ).loc Cert.LateReferenceIdeal.main_arg5)) (m' ((c.tc : Thread Cert.LateReferenceIdeal.nD Cert.LateReferenceIdeal.τ).loc Cert.LateReferenceIdeal.main_arg6)) (m' ((c.tc : Thread Cert.LateReferenceIdeal.nD Cert.LateReferenceIdeal.τ).loc Cert.LateReferenceIdeal.main_arg7))) := by
  funext j
  obtain ⟨n, k, rfl⟩ : ∃ (n : Fin 8704) (k : Fin 512), j = ix2 n k := ⟨j 0, j 1, eq_ix2 j⟩
  exact Cert.InProjRef.resultA_eq _ _ _ _ _ _ _ _ _ n k

/-- The second layer's input projection and its reference leave the same two arrays. -/
theorem late_agree : Cert.algebraic_LateKernelIdeal_LateReferenceIdeal := by
  intro m g m' g' _ hagree
  refine ⟨fun c => Cert.LateProj.resultZ (Cert.LateProj.argsOf m c), fun c => Cert.LateProj.resultA (Cert.LateProj.argsOf m c), ?_, ?_⟩
  · refine (θ_run _ _ _).mono (fun r h c => ?_) (Cert.LateKernelIdeal.Value.run_blocks m g)
    exact ⟨(h c).1.trans (Cert.LateProj.final_z m c), (h c).2.1.trans (Cert.LateProj.final_a m c), (h c).2.2⟩
  · refine (θ_run _ _ _).mono (fun r h c => ?_) (Cert.LateReferenceIdeal.Value.run m' g')
    obtain ⟨h0, h1, h2, h3, h4, h5, h6, h7⟩ := hagree c
    have ea := late_args m m' c h0 h1 h2 h3 h4 h5 h6 h7
    exact ⟨(h c).1.trans ((late_z m' c).trans (congrArg _ ea)), (h c).2.1.trans ((late_a m' c).trans (congrArg _ ea)), (h c).2.2⟩

theorem frame_late_reference : Cert.quiescent_LateReferenceIdeal := by
  intro m g _
  exact (θ_run _ _ _).mono (fun r h => ⟨fun c => (h c).2.2, sem_eq_zero_of_no_sems (by decide) r.2⟩)
    (Cert.LateReferenceIdeal.Value.run m g)

/-- Everything the certificate claims. -/
theorem claim : Cert.Claim :=
  ⟨Cert.Kernel.Gen.facts, Cert.KernelIdeal.Gen.facts, Cert.ReferenceIdeal.Gen.facts,
    Cert.OutKernel.Gen.facts, Cert.OutKernelIdeal.Gen.facts, Cert.OutReferenceIdeal.Gen.facts,
    Cert.InKernel.Gen.facts, Cert.InKernelIdeal.Gen.facts, Cert.InReferenceIdeal.Gen.facts,
    Cert.MidKernel.Gen.facts, Cert.MidKernelIdeal.Gen.facts, Cert.MidReferenceIdeal.Gen.facts,
    Cert.UpKernel.Gen.facts, Cert.UpKernelIdeal.Gen.facts, Cert.UpReferenceIdeal.Gen.facts,
    Cert.LateKernel.Gen.facts, Cert.LateKernelIdeal.Gen.facts, Cert.LateReferenceIdeal.Gen.facts, Cert.Mla.preFacts,
    fun m g _ => Cert.Kernel.Gen.frame m g, fun m g _ => Cert.KernelIdeal.Gen.frame m g,
    fun m g _ => Cert.KernelIdeal.Gen.frame m g, frame_reference, fun m g _ => frame_reference m g trivial,
    fun m g _ => Cert.OutKernel.Gen.frame m g, fun m g _ => Cert.OutKernelIdeal.Gen.frame m g, frame_out_reference,
    fun m g _ => Cert.InKernel.Gen.frame m g, fun m g _ => Cert.InKernelIdeal.Gen.frame m g, frame_in_reference,
    fun m g _ => Cert.MidKernel.Gen.frame m g, fun m g _ => Cert.MidKernelIdeal.Gen.frame m g, frame_mid_reference,
    fun m g _ => Cert.UpKernel.Gen.frame m g, fun m g _ => Cert.UpKernelIdeal.Gen.frame m g, frame_up_reference,
    fun m g _ => Cert.LateKernel.Gen.frame m g, fun m g _ => Cert.LateKernelIdeal.Gen.frame m g, frame_late_reference,
    trivial, values_agree, trivial, out_agree, trivial, in_agree, trivial, mid_agree, trivial, up_agree,
    trivial, late_agree⟩

end Cert.Proof

end
